-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InSamp (m : (ℓ : Loc Cert.InSamp.nD Cert.InSamp.τ Cert.InSamp.sig) → Buf (Elt Bits) ℓ) : Prop :=
  True

def Pre_InSampIdeal (m : (ℓ : Loc Cert.InSampIdeal.nD Cert.InSampIdeal.τ Cert.InSampIdeal.sig) → Buf (Elt Ideal) ℓ) : Prop :=
  True

def Pre_InSampRefIdeal (m : (ℓ : Loc Cert.InSampRefIdeal.nD Cert.InSampRefIdeal.τ Cert.InSampRefIdeal.sig) → Buf (Elt Ideal) ℓ) : Prop :=
  True

def Pre_MergeSamp (m : (ℓ : Loc Cert.MergeSamp.nD Cert.MergeSamp.τ Cert.MergeSamp.sig) → Buf (Elt Bits) ℓ) : Prop :=
  True

def Pre_MergeSampIdeal (m : (ℓ : Loc Cert.MergeSampIdeal.nD Cert.MergeSampIdeal.τ Cert.MergeSampIdeal.sig) → Buf (Elt Ideal) ℓ) : Prop :=
  True

def Pre_MergeSampRefIdeal (m : (ℓ : Loc Cert.MergeSampRefIdeal.nD Cert.MergeSampRefIdeal.τ Cert.MergeSampRefIdeal.sig) → Buf (Elt Ideal) ℓ) : Prop :=
  True

def Pre_FfnSamp (m : (ℓ : Loc Cert.FfnSamp.nD Cert.FfnSamp.τ Cert.FfnSamp.sig) → Buf (Elt Bits) ℓ) : Prop :=
  True

def Pre_FfnSampIdeal (m : (ℓ : Loc Cert.FfnSampIdeal.nD Cert.FfnSampIdeal.τ Cert.FfnSampIdeal.sig) → Buf (Elt Ideal) ℓ) : Prop :=
  True

def Pre_FfnSampRefIdeal (m : (ℓ : Loc Cert.FfnSampRefIdeal.nD Cert.FfnSampRefIdeal.τ Cert.FfnSampRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InSamp [hInSamp : Cert.InSamp.Facts] : Prop :=
  ∀ (m : (ℓ : Loc Cert.InSamp.nD Cert.InSamp.τ Cert.InSamp.sig) → Buf (Elt Bits) ℓ) (g : Dev Cert.InSamp.nD → PrngReg), Pre_InSamp m →
    θ_run (Cert.InSamp.defs (F := Bits)) (onTc (τ := Cert.InSamp.τ) (Cert.InSamp.main (F := Bits))) ⟨m, fun _ => 0, g⟩ (fun r => (∀ c : Dev Cert.InSamp.nD,
      r.2.mem ((c.tc : Thread Cert.InSamp.nD Cert.InSamp.τ).loc Cert.InSamp.main_arg0) = m ((c.tc : Thread Cert.InSamp.nD Cert.InSamp.τ).loc Cert.InSamp.main_arg0)
      ∧ r.2.mem ((c.tc : Thread Cert.InSamp.nD Cert.InSamp.τ).loc Cert.InSamp.main_arg1) = m ((c.tc : Thread Cert.InSamp.nD Cert.InSamp.τ).loc Cert.InSamp.main_arg1)
      ∧ r.2.mem ((c.tc : Thread Cert.InSamp.nD Cert.InSamp.τ).loc Cert.InSamp.main_arg2) = m ((c.tc : Thread Cert.InSamp.nD Cert.InSamp.τ).loc Cert.InSamp.main_arg2)
      ∧ r.2.mem ((c.tc : Thread Cert.InSamp.nD Cert.InSamp.τ).loc Cert.InSamp.main_arg3) = m ((c.tc : Thread Cert.InSamp.nD Cert.InSamp.τ).loc Cert.InSamp.main_arg3))
      ∧ r.2.sem = fun _ => 0)

def quiescent_InSampIdeal [hInSampIdeal : Cert.InSampIdeal.Facts] : Prop :=
  ∀ (m : (ℓ : Loc Cert.InSampIdeal.nD Cert.InSampIdeal.τ Cert.InSampIdeal.sig) → Buf (Elt Ideal) ℓ) (g : Dev Cert.InSampIdeal.nD → PrngReg), Pre_InSampIdeal m →
    θ_run (Cert.InSampIdeal.defs (F := Ideal)) (onTc (τ := Cert.InSampIdeal.τ) (Cert.InSampIdeal.main (F := Ideal))) ⟨m, fun _ => 0, g⟩ (fun r => (∀ c : Dev Cert.InSampIdeal.nD,
      r.2.mem ((c.tc : Thread Cert.InSampIdeal.nD Cert.InSampIdeal.τ).loc Cert.InSampIdeal.main_arg0) = m ((c.tc : Thread Cert.InSampIdeal.nD Cert.InSampIdeal.τ).loc Cert.InSampIdeal.main_arg0)
      ∧ r.2.mem ((c.tc : Thread Cert.InSampIdeal.nD Cert.InSampIdeal.τ).loc Cert.InSampIdeal.main_arg1) = m ((c.tc : Thread Cert.InSampIdeal.nD Cert.InSampIdeal.τ).loc Cert.InSampIdeal.main_arg1)
      ∧ r.2.mem ((c.tc : Thread Cert.InSampIdeal.nD Cert.InSampIdeal.τ).loc Cert.InSampIdeal.main_arg2) = m ((c.tc : Thread Cert.InSampIdeal.nD Cert.InSampIdeal.τ).loc Cert.InSampIdeal.main_arg2)
      ∧ r.2.mem ((c.tc : Thread Cert.InSampIdeal.nD Cert.InSampIdeal.τ).loc Cert.InSampIdeal.main_arg3) = m ((c.tc : Thread Cert.InSampIdeal.nD Cert.InSampIdeal.τ).loc Cert.InSampIdeal.main_arg3))
      ∧ r.2.sem = fun _ => 0)

def quiescent_InSampRefIdeal [hInSampRefIdeal : Cert.InSampRefIdeal.Facts] : Prop :=
  ∀ (m : (ℓ : Loc Cert.InSampRefIdeal.nD Cert.InSampRefIdeal.τ Cert.InSampRefIdeal.sig) → Buf (Elt Ideal) ℓ) (g : Dev Cert.InSampRefIdeal.nD → PrngReg), Pre_InSampRefIdeal m →
    θ_run (Cert.InSampRefIdeal.defs (F := Ideal)) (onTc (τ := Cert.InSampRefIdeal.τ) (Cert.InSampRefIdeal.main (F := Ideal))) ⟨m, fun _ => 0, g⟩ (fun r => (∀ c : Dev Cert.InSampRefIdeal.nD,
      r.2.mem ((c.tc : Thread Cert.InSampRefIdeal.nD Cert.InSampRefIdeal.τ).loc Cert.InSampRefIdeal.main_arg0) = m ((c.tc : Thread Cert.InSampRefIdeal.nD Cert.InSampRefIdeal.τ).loc Cert.InSampRefIdeal.main_arg0)
      ∧ r.2.mem ((c.tc : Thread Cert.InSampRefIdeal.nD Cert.InSampRefIdeal.τ).loc Cert.InSampRefIdeal.main_arg1) = m ((c.tc : Thread Cert.InSampRefIdeal.nD Cert.InSampRefIdeal.τ).loc Cert.InSampRefIdeal.main_arg1)
      ∧ r.2.mem ((c.tc : Thread Cert.InSampRefIdeal.nD Cert.InSampRefIdeal.τ).loc Cert.InSampRefIdeal.main_arg2) = m ((c.tc : Thread Cert.InSampRefIdeal.nD Cert.InSampRefIdeal.τ).loc Cert.InSampRefIdeal.main_arg2)
      ∧ r.2.mem ((c.tc : Thread Cert.InSampRefIdeal.nD Cert.InSampRefIdeal.τ).loc Cert.InSampRefIdeal.main_arg3) = m ((c.tc : Thread Cert.InSampRefIdeal.nD Cert.InSampRefIdeal.τ).loc Cert.InSampRefIdeal.main_arg3))
      ∧ r.2.sem = fun _ => 0)

def quiescent_MergeSamp [hMergeSamp : Cert.MergeSamp.Facts] : Prop :=
  ∀ (m : (ℓ : Loc Cert.MergeSamp.nD Cert.MergeSamp.τ Cert.MergeSamp.sig) → Buf (Elt Bits) ℓ) (g : Dev Cert.MergeSamp.nD → PrngReg), Pre_MergeSamp m →
    θ_run (Cert.MergeSamp.defs (F := Bits)) (onTc (τ := Cert.MergeSamp.τ) (Cert.MergeSamp.main (F := Bits))) ⟨m, fun _ => 0, g⟩ (fun r => (∀ c : Dev Cert.MergeSamp.nD,
      r.2.mem ((c.tc : Thread Cert.MergeSamp.nD Cert.MergeSamp.τ).loc Cert.MergeSamp.main_arg0) = m ((c.tc : Thread Cert.MergeSamp.nD Cert.MergeSamp.τ).loc Cert.MergeSamp.main_arg0)
      ∧ r.2.mem ((c.tc : Thread Cert.MergeSamp.nD Cert.MergeSamp.τ).loc Cert.MergeSamp.main_arg1) = m ((c.tc : Thread Cert.MergeSamp.nD Cert.MergeSamp.τ).loc Cert.MergeSamp.main_arg1)
      ∧ r.2.mem ((c.tc : Thread Cert.MergeSamp.nD Cert.MergeSamp.τ).loc Cert.MergeSamp.main_arg2) = m ((c.tc : Thread Cert.MergeSamp.nD Cert.MergeSamp.τ).loc Cert.MergeSamp.main_arg2)
      ∧ r.2.mem ((c.tc : Thread Cert.MergeSamp.nD Cert.MergeSamp.τ).loc Cert.MergeSamp.main_arg3) = m ((c.tc : Thread Cert.MergeSamp.nD Cert.MergeSamp.τ).loc Cert.MergeSamp.main_arg3)
      ∧ r.2.mem ((c.tc : Thread Cert.MergeSamp.nD Cert.MergeSamp.τ).loc Cert.MergeSamp.main_arg4) = m ((c.tc : Thread Cert.MergeSamp.nD Cert.MergeSamp.τ).loc Cert.MergeSamp.main_arg4)
      ∧ r.2.mem ((c.tc : Thread Cert.MergeSamp.nD Cert.MergeSamp.τ).loc Cert.MergeSamp.main_arg5) = m ((c.tc : Thread Cert.MergeSamp.nD Cert.MergeSamp.τ).loc Cert.MergeSamp.main_arg5)
      ∧ r.2.mem ((c.tc : Thread Cert.MergeSamp.nD Cert.MergeSamp.τ).loc Cert.MergeSamp.main_arg6) = m ((c.tc : Thread Cert.MergeSamp.nD Cert.MergeSamp.τ).loc Cert.MergeSamp.main_arg6)
      ∧ r.2.mem ((c.tc : Thread Cert.MergeSamp.nD Cert.MergeSamp.τ).loc Cert.MergeSamp.main_arg7) = m ((c.tc : Thread Cert.MergeSamp.nD Cert.MergeSamp.τ).loc Cert.MergeSamp.main_arg7)
      ∧ r.2.mem ((c.tc : Thread Cert.MergeSamp.nD Cert.MergeSamp.τ).loc Cert.MergeSamp.main_arg8) = m ((c.tc : Thread Cert.MergeSamp.nD Cert.MergeSamp.τ).loc Cert.MergeSamp.main_arg8)
      ∧ r.2.mem ((c.tc : Thread Cert.MergeSamp.nD Cert.MergeSamp.τ).loc Cert.MergeSamp.main_arg9) = m ((c.tc : Thread Cert.MergeSamp.nD Cert.MergeSamp.τ).loc Cert.MergeSamp.main_arg9))
      ∧ r.2.sem = fun _ => 0)

def quiescent_MergeSampIdeal [hMergeSampIdeal : Cert.MergeSampIdeal.Facts] : Prop :=
  ∀ (m : (ℓ : Loc Cert.MergeSampIdeal.nD Cert.MergeSampIdeal.τ Cert.MergeSampIdeal.sig) → Buf (Elt Ideal) ℓ) (g : Dev Cert.MergeSampIdeal.nD → PrngReg), Pre_MergeSampIdeal m →
    θ_run (Cert.MergeSampIdeal.defs (F := Ideal)) (onTc (τ := Cert.MergeSampIdeal.τ) (Cert.MergeSampIdeal.main (F := Ideal))) ⟨m, fun _ => 0, g⟩ (fun r => (∀ c : Dev Cert.MergeSampIdeal.nD,
      r.2.mem ((c.tc : Thread Cert.MergeSampIdeal.nD Cert.MergeSampIdeal.τ).loc Cert.MergeSampIdeal.main_arg0) = m ((c.tc : Thread Cert.MergeSampIdeal.nD Cert.MergeSampIdeal.τ).loc Cert.MergeSampIdeal.main_arg0)
      ∧ r.2.mem ((c.tc : Thread Cert.MergeSampIdeal.nD Cert.MergeSampIdeal.τ).loc Cert.MergeSampIdeal.main_arg1) = m ((c.tc : Thread Cert.MergeSampIdeal.nD Cert.MergeSampIdeal.τ).loc Cert.MergeSampIdeal.main_arg1)
      ∧ r.2.mem ((c.tc : Thread Cert.MergeSampIdeal.nD Cert.MergeSampIdeal.τ).loc Cert.MergeSampIdeal.main_arg2) = m ((c.tc : Thread Cert.MergeSampIdeal.nD Cert.MergeSampIdeal.τ).loc Cert.MergeSampIdeal.main_arg2)
      ∧ r.2.mem ((c.tc : Thread Cert.MergeSampIdeal.nD Cert.MergeSampIdeal.τ).loc Cert.MergeSampIdeal.main_arg3) = m ((c.tc : Thread Cert.MergeSampIdeal.nD Cert.MergeSampIdeal.τ).loc Cert.MergeSampIdeal.main_arg3)
      ∧ r.2.mem ((c.tc : Thread Cert.MergeSampIdeal.nD Cert.MergeSampIdeal.τ).loc Cert.MergeSampIdeal.main_arg4) = m ((c.tc : Thread Cert.MergeSampIdeal.nD Cert.MergeSampIdeal.τ).loc Cert.MergeSampIdeal.main_arg4)
      ∧ r.2.mem ((c.tc : Thread Cert.MergeSampIdeal.nD Cert.MergeSampIdeal.τ).loc Cert.MergeSampIdeal.main_arg5) = m ((c.tc : Thread Cert.MergeSampIdeal.nD Cert.MergeSampIdeal.τ).loc Cert.MergeSampIdeal.main_arg5)
      ∧ r.2.mem ((c.tc : Thread Cert.MergeSampIdeal.nD Cert.MergeSampIdeal.τ).loc Cert.MergeSampIdeal.main_arg6) = m ((c.tc : Thread Cert.MergeSampIdeal.nD Cert.MergeSampIdeal.τ).loc Cert.MergeSampIdeal.main_arg6)
      ∧ r.2.mem ((c.tc : Thread Cert.MergeSampIdeal.nD Cert.MergeSampIdeal.τ).loc Cert.MergeSampIdeal.main_arg7) = m ((c.tc : Thread Cert.MergeSampIdeal.nD Cert.MergeSampIdeal.τ).loc Cert.MergeSampIdeal.main_arg7)
      ∧ r.2.mem ((c.tc : Thread Cert.MergeSampIdeal.nD Cert.MergeSampIdeal.τ).loc Cert.MergeSampIdeal.main_arg8) = m ((c.tc : Thread Cert.MergeSampIdeal.nD Cert.MergeSampIdeal.τ).loc Cert.MergeSampIdeal.main_arg8)
      ∧ r.2.mem ((c.tc : Thread Cert.MergeSampIdeal.nD Cert.MergeSampIdeal.τ).loc Cert.MergeSampIdeal.main_arg9) = m ((c.tc : Thread Cert.MergeSampIdeal.nD Cert.MergeSampIdeal.τ).loc Cert.MergeSampIdeal.main_arg9))
      ∧ r.2.sem = fun _ => 0)

def quiescent_MergeSampRefIdeal [hMergeSampRefIdeal : Cert.MergeSampRefIdeal.Facts] : Prop :=
  ∀ (m : (ℓ : Loc Cert.MergeSampRefIdeal.nD Cert.MergeSampRefIdeal.τ Cert.MergeSampRefIdeal.sig) → Buf (Elt Ideal) ℓ) (g : Dev Cert.MergeSampRefIdeal.nD → PrngReg), Pre_MergeSampRefIdeal m →
    θ_run (Cert.MergeSampRefIdeal.defs (F := Ideal)) (onTc (τ := Cert.MergeSampRefIdeal.τ) (Cert.MergeSampRefIdeal.main (F := Ideal))) ⟨m, fun _ => 0, g⟩ (fun r => (∀ c : Dev Cert.MergeSampRefIdeal.nD,
      r.2.mem ((c.tc : Thread Cert.MergeSampRefIdeal.nD Cert.MergeSampRefIdeal.τ).loc Cert.MergeSampRefIdeal.main_arg0) = m ((c.tc : Thread Cert.MergeSampRefIdeal.nD Cert.MergeSampRefIdeal.τ).loc Cert.MergeSampRefIdeal.main_arg0)
      ∧ r.2.mem ((c.tc : Thread Cert.MergeSampRefIdeal.nD Cert.MergeSampRefIdeal.τ).loc Cert.MergeSampRefIdeal.main_arg1) = m ((c.tc : Thread Cert.MergeSampRefIdeal.nD Cert.MergeSampRefIdeal.τ).loc Cert.MergeSampRefIdeal.main_arg1)
      ∧ r.2.mem ((c.tc : Thread Cert.MergeSampRefIdeal.nD Cert.MergeSampRefIdeal.τ).loc Cert.MergeSampRefIdeal.main_arg2) = m ((c.tc : Thread Cert.MergeSampRefIdeal.nD Cert.MergeSampRefIdeal.τ).loc Cert.MergeSampRefIdeal.main_arg2)
      ∧ r.2.mem ((c.tc : Thread Cert.MergeSampRefIdeal.nD Cert.MergeSampRefIdeal.τ).loc Cert.MergeSampRefIdeal.main_arg3) = m ((c.tc : Thread Cert.MergeSampRefIdeal.nD Cert.MergeSampRefIdeal.τ).loc Cert.MergeSampRefIdeal.main_arg3)
      ∧ r.2.mem ((c.tc : Thread Cert.MergeSampRefIdeal.nD Cert.MergeSampRefIdeal.τ).loc Cert.MergeSampRefIdeal.main_arg4) = m ((c.tc : Thread Cert.MergeSampRefIdeal.nD Cert.MergeSampRefIdeal.τ).loc Cert.MergeSampRefIdeal.main_arg4)
      ∧ r.2.mem ((c.tc : Thread Cert.MergeSampRefIdeal.nD Cert.MergeSampRefIdeal.τ).loc Cert.MergeSampRefIdeal.main_arg5) = m ((c.tc : Thread Cert.MergeSampRefIdeal.nD Cert.MergeSampRefIdeal.τ).loc Cert.MergeSampRefIdeal.main_arg5)
      ∧ r.2.mem ((c.tc : Thread Cert.MergeSampRefIdeal.nD Cert.MergeSampRefIdeal.τ).loc Cert.MergeSampRefIdeal.main_arg6) = m ((c.tc : Thread Cert.MergeSampRefIdeal.nD Cert.MergeSampRefIdeal.τ).loc Cert.MergeSampRefIdeal.main_arg6)
      ∧ r.2.mem ((c.tc : Thread Cert.MergeSampRefIdeal.nD Cert.MergeSampRefIdeal.τ).loc Cert.MergeSampRefIdeal.main_arg7) = m ((c.tc : Thread Cert.MergeSampRefIdeal.nD Cert.MergeSampRefIdeal.τ).loc Cert.MergeSampRefIdeal.main_arg7)
      ∧ r.2.mem ((c.tc : Thread Cert.MergeSampRefIdeal.nD Cert.MergeSampRefIdeal.τ).loc Cert.MergeSampRefIdeal.main_arg8) = m ((c.tc : Thread Cert.MergeSampRefIdeal.nD Cert.MergeSampRefIdeal.τ).loc Cert.MergeSampRefIdeal.main_arg8)
      ∧ r.2.mem ((c.tc : Thread Cert.MergeSampRefIdeal.nD Cert.MergeSampRefIdeal.τ).loc Cert.MergeSampRefIdeal.main_arg9) = m ((c.tc : Thread Cert.MergeSampRefIdeal.nD Cert.MergeSampRefIdeal.τ).loc Cert.MergeSampRefIdeal.main_arg9))
      ∧ r.2.sem = fun _ => 0)

def quiescent_FfnSamp [hFfnSamp : Cert.FfnSamp.Facts] : Prop :=
  ∀ (m : (ℓ : Loc Cert.FfnSamp.nD Cert.FfnSamp.τ Cert.FfnSamp.sig) → Buf (Elt Bits) ℓ) (g : Dev Cert.FfnSamp.nD → PrngReg), Pre_FfnSamp m →
    θ_run (Cert.FfnSamp.defs (F := Bits)) (onTc (τ := Cert.FfnSamp.τ) (Cert.FfnSamp.main (F := Bits))) ⟨m, fun _ => 0, g⟩ (fun r => (∀ c : Dev Cert.FfnSamp.nD,
      r.2.mem ((c.tc : Thread Cert.FfnSamp.nD Cert.FfnSamp.τ).loc Cert.FfnSamp.main_arg0) = m ((c.tc : Thread Cert.FfnSamp.nD Cert.FfnSamp.τ).loc Cert.FfnSamp.main_arg0)
      ∧ r.2.mem ((c.tc : Thread Cert.FfnSamp.nD Cert.FfnSamp.τ).loc Cert.FfnSamp.main_arg1) = m ((c.tc : Thread Cert.FfnSamp.nD Cert.FfnSamp.τ).loc Cert.FfnSamp.main_arg1)
      ∧ r.2.mem ((c.tc : Thread Cert.FfnSamp.nD Cert.FfnSamp.τ).loc Cert.FfnSamp.main_arg2) = m ((c.tc : Thread Cert.FfnSamp.nD Cert.FfnSamp.τ).loc Cert.FfnSamp.main_arg2)
      ∧ r.2.mem ((c.tc : Thread Cert.FfnSamp.nD Cert.FfnSamp.τ).loc Cert.FfnSamp.main_arg3) = m ((c.tc : Thread Cert.FfnSamp.nD Cert.FfnSamp.τ).loc Cert.FfnSamp.main_arg3)
      ∧ r.2.mem ((c.tc : Thread Cert.FfnSamp.nD Cert.FfnSamp.τ).loc Cert.FfnSamp.main_arg4) = m ((c.tc : Thread Cert.FfnSamp.nD Cert.FfnSamp.τ).loc Cert.FfnSamp.main_arg4)
      ∧ r.2.mem ((c.tc : Thread Cert.FfnSamp.nD Cert.FfnSamp.τ).loc Cert.FfnSamp.main_arg5) = m ((c.tc : Thread Cert.FfnSamp.nD Cert.FfnSamp.τ).loc Cert.FfnSamp.main_arg5))
      ∧ r.2.sem = fun _ => 0)

def quiescent_FfnSampIdeal [hFfnSampIdeal : Cert.FfnSampIdeal.Facts] : Prop :=
  ∀ (m : (ℓ : Loc Cert.FfnSampIdeal.nD Cert.FfnSampIdeal.τ Cert.FfnSampIdeal.sig) → Buf (Elt Ideal) ℓ) (g : Dev Cert.FfnSampIdeal.nD → PrngReg), Pre_FfnSampIdeal m →
    θ_run (Cert.FfnSampIdeal.defs (F := Ideal)) (onTc (τ := Cert.FfnSampIdeal.τ) (Cert.FfnSampIdeal.main (F := Ideal))) ⟨m, fun _ => 0, g⟩ (fun r => (∀ c : Dev Cert.FfnSampIdeal.nD,
      r.2.mem ((c.tc : Thread Cert.FfnSampIdeal.nD Cert.FfnSampIdeal.τ).loc Cert.FfnSampIdeal.main_arg0) = m ((c.tc : Thread Cert.FfnSampIdeal.nD Cert.FfnSampIdeal.τ).loc Cert.FfnSampIdeal.main_arg0)
      ∧ r.2.mem ((c.tc : Thread Cert.FfnSampIdeal.nD Cert.FfnSampIdeal.τ).loc Cert.FfnSampIdeal.main_arg1) = m ((c.tc : Thread Cert.FfnSampIdeal.nD Cert.FfnSampIdeal.τ).loc Cert.FfnSampIdeal.main_arg1)
      ∧ r.2.mem ((c.tc : Thread Cert.FfnSampIdeal.nD Cert.FfnSampIdeal.τ).loc Cert.FfnSampIdeal.main_arg2) = m ((c.tc : Thread Cert.FfnSampIdeal.nD Cert.FfnSampIdeal.τ).loc Cert.FfnSampIdeal.main_arg2)
      ∧ r.2.mem ((c.tc : Thread Cert.FfnSampIdeal.nD Cert.FfnSampIdeal.τ).loc Cert.FfnSampIdeal.main_arg3) = m ((c.tc : Thread Cert.FfnSampIdeal.nD Cert.FfnSampIdeal.τ).loc Cert.FfnSampIdeal.main_arg3)
      ∧ r.2.mem ((c.tc : Thread Cert.FfnSampIdeal.nD Cert.FfnSampIdeal.τ).loc Cert.FfnSampIdeal.main_arg4) = m ((c.tc : Thread Cert.FfnSampIdeal.nD Cert.FfnSampIdeal.τ).loc Cert.FfnSampIdeal.main_arg4)
      ∧ r.2.mem ((c.tc : Thread Cert.FfnSampIdeal.nD Cert.FfnSampIdeal.τ).loc Cert.FfnSampIdeal.main_arg5) = m ((c.tc : Thread Cert.FfnSampIdeal.nD Cert.FfnSampIdeal.τ).loc Cert.FfnSampIdeal.main_arg5))
      ∧ r.2.sem = fun _ => 0)

def quiescent_FfnSampRefIdeal [hFfnSampRefIdeal : Cert.FfnSampRefIdeal.Facts] : Prop :=
  ∀ (m : (ℓ : Loc Cert.FfnSampRefIdeal.nD Cert.FfnSampRefIdeal.τ Cert.FfnSampRefIdeal.sig) → Buf (Elt Ideal) ℓ) (g : Dev Cert.FfnSampRefIdeal.nD → PrngReg), Pre_FfnSampRefIdeal m →
    θ_run (Cert.FfnSampRefIdeal.defs (F := Ideal)) (onTc (τ := Cert.FfnSampRefIdeal.τ) (Cert.FfnSampRefIdeal.main (F := Ideal))) ⟨m, fun _ => 0, g⟩ (fun r => (∀ c : Dev Cert.FfnSampRefIdeal.nD,
      r.2.mem ((c.tc : Thread Cert.FfnSampRefIdeal.nD Cert.FfnSampRefIdeal.τ).loc Cert.FfnSampRefIdeal.main_arg0) = m ((c.tc : Thread Cert.FfnSampRefIdeal.nD Cert.FfnSampRefIdeal.τ).loc Cert.FfnSampRefIdeal.main_arg0)
      ∧ r.2.mem ((c.tc : Thread Cert.FfnSampRefIdeal.nD Cert.FfnSampRefIdeal.τ).loc Cert.FfnSampRefIdeal.main_arg1) = m ((c.tc : Thread Cert.FfnSampRefIdeal.nD Cert.FfnSampRefIdeal.τ).loc Cert.FfnSampRefIdeal.main_arg1)
      ∧ r.2.mem ((c.tc : Thread Cert.FfnSampRefIdeal.nD Cert.FfnSampRefIdeal.τ).loc Cert.FfnSampRefIdeal.main_arg2) = m ((c.tc : Thread Cert.FfnSampRefIdeal.nD Cert.FfnSampRefIdeal.τ).loc Cert.FfnSampRefIdeal.main_arg2)
      ∧ r.2.mem ((c.tc : Thread Cert.FfnSampRefIdeal.nD Cert.FfnSampRefIdeal.τ).loc Cert.FfnSampRefIdeal.main_arg3) = m ((c.tc : Thread Cert.FfnSampRefIdeal.nD Cert.FfnSampRefIdeal.τ).loc Cert.FfnSampRefIdeal.main_arg3)
      ∧ r.2.mem ((c.tc : Thread Cert.FfnSampRefIdeal.nD Cert.FfnSampRefIdeal.τ).loc Cert.FfnSampRefIdeal.main_arg4) = m ((c.tc : Thread Cert.FfnSampRefIdeal.nD Cert.FfnSampRefIdeal.τ).loc Cert.FfnSampRefIdeal.main_arg4)
      ∧ r.2.mem ((c.tc : Thread Cert.FfnSampRefIdeal.nD Cert.FfnSampRefIdeal.τ).loc Cert.FfnSampRefIdeal.main_arg5) = m ((c.tc : Thread Cert.FfnSampRefIdeal.nD Cert.FfnSampRefIdeal.τ).loc Cert.FfnSampRefIdeal.main_arg5))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_InProj_InProjIdeal : Prop :=
  IdealRules.named_const.Statement Cert.InProjIdeal.κ "qscale" .f32 0x3E38AA3B#32 ((8⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v39_0)) (v1 : (c : Dev Cert.InProjIdeal.nD) → Buf (Elt Ideal) ((c.tc : Thread Cert.InProjIdeal.nD Cert.InProjIdeal.τ).loc Cert.InProjIdeal.main_v39_1)) (v2 : (c : Dev Cert.InProjIdeal.nD) → Buf (Elt Ideal) ((c.tc : Thread Cert.InProjIdeal.nD Cert.InProjIdeal.τ).loc Cert.InProjIdeal.main_v39_2)) (v3 : (c : Dev Cert.InProjIdeal.nD) → Buf (Elt Ideal) ((c.tc : Thread Cert.InProjIdeal.nD Cert.InProjIdeal.τ).loc Cert.InProjIdeal.main_v39_3)) (v4 : (c : Dev Cert.InProjIdeal.nD) → Buf (Elt Ideal) ((c.tc : Thread Cert.InProjIdeal.nD Cert.InProjIdeal.τ).loc Cert.InProjIdeal.main_v39_4)) (v5 : (c : Dev Cert.InProjIdeal.nD) → Buf (Elt Ideal) ((c.tc : Thread Cert.InProjIdeal.nD Cert.InProjIdeal.τ).loc Cert.InProjIdeal.main_v39_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v39_0) = v0 c
          ∧ r.2.mem ((c.tc : Thread Cert.InProjIdeal.nD Cert.InProjIdeal.τ).loc Cert.InProjIdeal.main_v39_1) = v1 c
          ∧ r.2.mem ((c.tc : Thread Cert.InProjIdeal.nD Cert.InProjIdeal.τ).loc Cert.InProjIdeal.main_v39_2) = v2 c
          ∧ r.2.mem ((c.tc : Thread Cert.InProjIdeal.nD Cert.InProjIdeal.τ).loc Cert.InProjIdeal.main_v39_3) = v3 c
          ∧ r.2.mem ((c.tc : Thread Cert.InProjIdeal.nD Cert.InProjIdeal.τ).loc Cert.InProjIdeal.main_v39_4) = v4 c
          ∧ r.2.mem ((c.tc : Thread Cert.InProjIdeal.nD Cert.InProjIdeal.τ).loc Cert.InProjIdeal.main_v39_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v115) = v0 c
          ∧ r.2.mem ((c.tc : Thread Cert.InProjRefIdeal.nD Cert.InProjRefIdeal.τ).loc Cert.InProjRefIdeal.main_v117) = v1 c
          ∧ r.2.mem ((c.tc : Thread Cert.InProjRefIdeal.nD Cert.InProjRefIdeal.τ).loc Cert.InProjRefIdeal.main_v118) = v2 c
          ∧ r.2.mem ((c.tc : Thread Cert.InProjRefIdeal.nD Cert.InProjRefIdeal.τ).loc Cert.InProjRefIdeal.main_v101) = v3 c
          ∧ r.2.mem ((c.tc : Thread Cert.InProjRefIdeal.nD Cert.InProjRefIdeal.τ).loc Cert.InProjRefIdeal.main_v119) = v4 c
          ∧ r.2.mem ((c.tc : Thread Cert.InProjRefIdeal.nD Cert.InProjRefIdeal.τ).loc Cert.InProjRefIdeal.main_v120) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InSamp_InSampIdeal : Prop :=
  IdealRules.named_const.Statement Cert.InSampIdeal.κ "qscale" .f32 0x3E38AA3B#32 ((8⁻¹ * (Real.log 2)⁻¹ : ℝ) : EReal)

def algebraic_InSampIdeal_InSampRefIdeal [hInSampIdeal : Cert.InSampIdeal.Facts] [hInSampRefIdeal : Cert.InSampRefIdeal.Facts] : Prop :=
  ∀ (m : (ℓ : Loc Cert.InSampIdeal.nD Cert.InSampIdeal.τ Cert.InSampIdeal.sig) → Buf (Elt Ideal) ℓ) (g : Dev Cert.InSampIdeal.nD → PrngReg)
    (m' : (ℓ : Loc Cert.InSampRefIdeal.nD Cert.InSampRefIdeal.τ Cert.InSampRefIdeal.sig) → Buf (Elt Ideal) ℓ) (g' : Dev Cert.InSampRefIdeal.nD → PrngReg), Pre_InSampIdeal m →
    (∀ c : Dev Cert.InSampIdeal.nD,
      m' ((c.tc : Thread Cert.InSampRefIdeal.nD Cert.InSampRefIdeal.τ).loc Cert.InSampRefIdeal.main_arg0) = m ((c.tc : Thread Cert.InSampIdeal.nD Cert.InSampIdeal.τ).loc Cert.InSampIdeal.main_arg0)
      ∧ m' ((c.tc : Thread Cert.InSampRefIdeal.nD Cert.InSampRefIdeal.τ).loc Cert.InSampRefIdeal.main_arg1) = m ((c.tc : Thread Cert.InSampIdeal.nD Cert.InSampIdeal.τ).loc Cert.InSampIdeal.main_arg1)
      ∧ m' ((c.tc : Thread Cert.InSampRefIdeal.nD Cert.InSampRefIdeal.τ).loc Cert.InSampRefIdeal.main_arg2) = m ((c.tc : Thread Cert.InSampIdeal.nD Cert.InSampIdeal.τ).loc Cert.InSampIdeal.main_arg2)
      ∧ m' ((c.tc : Thread Cert.InSampRefIdeal.nD Cert.InSampRefIdeal.τ).loc Cert.InSampRefIdeal.main_arg3) = m ((c.tc : Thread Cert.InSampIdeal.nD Cert.InSampIdeal.τ).loc Cert.InSampIdeal.main_arg3)) →
    ∃ (v0 : (c : Dev Cert.InSampIdeal.nD) → Buf (Elt Ideal) ((c.tc : Thread Cert.InSampIdeal.nD Cert.InSampIdeal.τ).loc Cert.InSampIdeal.main_v39_0)) (v1 : (c : Dev Cert.InSampIdeal.nD) → Buf (Elt Ideal) ((c.tc : Thread Cert.InSampIdeal.nD Cert.InSampIdeal.τ).loc Cert.InSampIdeal.main_v39_1)) (v2 : (c : Dev Cert.InSampIdeal.nD) → Buf (Elt Ideal) ((c.tc : Thread Cert.InSampIdeal.nD Cert.InSampIdeal.τ).loc Cert.InSampIdeal.main_v39_2)) (v3 : (c : Dev Cert.InSampIdeal.nD) → Buf (Elt Ideal) ((c.tc : Thread Cert.InSampIdeal.nD Cert.InSampIdeal.τ).loc Cert.InSampIdeal.main_v39_3)) (v4 : (c : Dev Cert.InSampIdeal.nD) → Buf (Elt Ideal) ((c.tc : Thread Cert.InSampIdeal.nD Cert.InSampIdeal.τ).loc Cert.InSampIdeal.main_v39_4)) (v5 : (c : Dev Cert.InSampIdeal.nD) → Buf (Elt Ideal) ((c.tc : Thread Cert.InSampIdeal.nD Cert.InSampIdeal.τ).loc Cert.InSampIdeal.main_v39_5)),
      θ_run (Cert.InSampIdeal.defs (F := Ideal)) (onTc (τ := Cert.InSampIdeal.τ) (Cert.InSampIdeal.main (F := Ideal))) ⟨m, fun _ => 0, g⟩ (fun r => ∀ c : Dev Cert.InSampIdeal.nD,
          r.2.mem ((c.tc : Thread Cert.InSampIdeal.nD Cert.InSampIdeal.τ).loc Cert.InSampIdeal.main_v39_0) = v0 c
          ∧ r.2.mem ((c.tc : Thread Cert.InSampIdeal.nD Cert.InSampIdeal.τ).loc Cert.InSampIdeal.main_v39_1) = v1 c
          ∧ r.2.mem ((c.tc : Thread Cert.InSampIdeal.nD Cert.InSampIdeal.τ).loc Cert.InSampIdeal.main_v39_2) = v2 c
          ∧ r.2.mem ((c.tc : Thread Cert.InSampIdeal.nD Cert.InSampIdeal.τ).loc Cert.InSampIdeal.main_v39_3) = v3 c
          ∧ r.2.mem ((c.tc : Thread Cert.InSampIdeal.nD Cert.InSampIdeal.τ).loc Cert.InSampIdeal.main_v39_4) = v4 c
          ∧ r.2.mem ((c.tc : Thread Cert.InSampIdeal.nD Cert.InSampIdeal.τ).loc Cert.InSampIdeal.main_v39_5) = v5 c
          ∧ r.2.mem ((c.tc : Thread Cert.InSampIdeal.nD Cert.InSampIdeal.τ).loc Cert.InSampIdeal.main_arg0) = m ((c.tc : Thread Cert.InSampIdeal.nD Cert.InSampIdeal.τ).loc Cert.InSampIdeal.main_arg0)
          ∧ r.2.mem ((c.tc : Thread Cert.InSampIdeal.nD Cert.InSampIdeal.τ).loc Cert.InSampIdeal.main_arg1) = m ((c.tc : Thread Cert.InSampIdeal.nD Cert.InSampIdeal.τ).loc Cert.InSampIdeal.main_arg1)
          ∧ r.2.mem ((c.tc : Thread Cert.InSampIdeal.nD Cert.InSampIdeal.τ).loc Cert.InSampIdeal.main_arg2) = m ((c.tc : Thread Cert.InSampIdeal.nD Cert.InSampIdeal.τ).loc Cert.InSampIdeal.main_arg2)
          ∧ r.2.mem ((c.tc : Thread Cert.InSampIdeal.nD Cert.InSampIdeal.τ).loc Cert.InSampIdeal.main_arg3) = m ((c.tc : Thread Cert.InSampIdeal.nD Cert.InSampIdeal.τ).loc Cert.InSampIdeal.main_arg3))
      ∧ θ_run (Cert.InSampRefIdeal.defs (F := Ideal)) (onTc (τ := Cert.InSampRefIdeal.τ) (Cert.InSampRefIdeal.main (F := Ideal))) ⟨m', fun _ => 0, g'⟩ (fun r => ∀ c : Dev Cert.InSampRefIdeal.nD,
          r.2.mem ((c.tc : Thread Cert.InSampRefIdeal.nD Cert.InSampRefIdeal.τ).loc Cert.InSampRefIdeal.main_v114) = v0 c
          ∧ r.2.mem ((c.tc : Thread Cert.InSampRefIdeal.nD Cert.InSampRefIdeal.τ).loc Cert.InSampRefIdeal.main_v100) = v1 c
          ∧ r.2.mem ((c.tc : Thread Cert.InSampRefIdeal.nD Cert.InSampRefIdeal.τ).loc Cert.InSampRefIdeal.main_v115) = v2 c
          ∧ r.2.mem ((c.tc : Thread Cert.InSampRefIdeal.nD Cert.InSampRefIdeal.τ).loc Cert.InSampRefIdeal.main_v102) = v3 c
          ∧ r.2.mem ((c.tc : Thread Cert.InSampRefIdeal.nD Cert.InSampRefIdeal.τ).loc Cert.InSampRefIdeal.main_v116) = v4 c
          ∧ r.2.mem ((c.tc : Thread Cert.InSampRefIdeal.nD Cert.InSampRefIdeal.τ).loc Cert.InSampRefIdeal.main_v117) = v5 c
          ∧ r.2.mem ((c.tc : Thread Cert.InSampRefIdeal.nD Cert.InSampRefIdeal.τ).loc Cert.InSampRefIdeal.main_arg0) = m' ((c.tc : Thread Cert.InSampRefIdeal.nD Cert.InSampRefIdeal.τ).loc Cert.InSampRefIdeal.main_arg0)
          ∧ r.2.mem ((c.tc : Thread Cert.InSampRefIdeal.nD Cert.InSampRefIdeal.τ).loc Cert.InSampRefIdeal.main_arg1) = m' ((c.tc : Thread Cert.InSampRefIdeal.nD Cert.InSampRefIdeal.τ).loc Cert.InSampRefIdeal.main_arg1)
          ∧ r.2.mem ((c.tc : Thread Cert.InSampRefIdeal.nD Cert.InSampRefIdeal.τ).loc Cert.InSampRefIdeal.main_arg2) = m' ((c.tc : Thread Cert.InSampRefIdeal.nD Cert.InSampRefIdeal.τ).loc Cert.InSampRefIdeal.main_arg2)
          ∧ r.2.mem ((c.tc : Thread Cert.InSampRefIdeal.nD Cert.InSampRefIdeal.τ).loc Cert.InSampRefIdeal.main_arg3) = m' ((c.tc : Thread Cert.InSampRefIdeal.nD Cert.InSampRefIdeal.τ).loc Cert.InSampRefIdeal.main_arg3))

def preserves_MergeSamp_MergeSampIdeal : Prop :=
  True

def algebraic_MergeSampIdeal_MergeSampRefIdeal [hMergeSampIdeal : Cert.MergeSampIdeal.Facts] [hMergeSampRefIdeal : Cert.MergeSampRefIdeal.Facts] : Prop :=
  ∀ (m : (ℓ : Loc Cert.MergeSampIdeal.nD Cert.MergeSampIdeal.τ Cert.MergeSampIdeal.sig) → Buf (Elt Ideal) ℓ) (g : Dev Cert.MergeSampIdeal.nD → PrngReg)
    (m' : (ℓ : Loc Cert.MergeSampRefIdeal.nD Cert.MergeSampRefIdeal.τ Cert.MergeSampRefIdeal.sig) → Buf (Elt Ideal) ℓ) (g' : Dev Cert.MergeSampRefIdeal.nD → PrngReg), Pre_MergeSampIdeal m →
    (∀ c : Dev Cert.MergeSampIdeal.nD,
      m' ((c.tc : Thread Cert.MergeSampRefIdeal.nD Cert.MergeSampRefIdeal.τ).loc Cert.MergeSampRefIdeal.main_arg0) = m ((c.tc : Thread Cert.MergeSampIdeal.nD Cert.MergeSampIdeal.τ).loc Cert.MergeSampIdeal.main_arg0)
      ∧ m' ((c.tc : Thread Cert.MergeSampRefIdeal.nD Cert.MergeSampRefIdeal.τ).loc Cert.MergeSampRefIdeal.main_arg1) = m ((c.tc : Thread Cert.MergeSampIdeal.nD Cert.MergeSampIdeal.τ).loc Cert.MergeSampIdeal.main_arg1)
      ∧ m' ((c.tc : Thread Cert.MergeSampRefIdeal.nD Cert.MergeSampRefIdeal.τ).loc Cert.MergeSampRefIdeal.main_arg2) = m ((c.tc : Thread Cert.MergeSampIdeal.nD Cert.MergeSampIdeal.τ).loc Cert.MergeSampIdeal.main_arg2)
      ∧ m' ((c.tc : Thread Cert.MergeSampRefIdeal.nD Cert.MergeSampRefIdeal.τ).loc Cert.MergeSampRefIdeal.main_arg3) = m ((c.tc : Thread Cert.MergeSampIdeal.nD Cert.MergeSampIdeal.τ).loc Cert.MergeSampIdeal.main_arg3)
      ∧ m' ((c.tc : Thread Cert.MergeSampRefIdeal.nD Cert.MergeSampRefIdeal.τ).loc Cert.MergeSampRefIdeal.main_arg4) = m ((c.tc : Thread Cert.MergeSampIdeal.nD Cert.MergeSampIdeal.τ).loc Cert.MergeSampIdeal.main_arg4)
      ∧ m' ((c.tc : Thread Cert.MergeSampRefIdeal.nD Cert.MergeSampRefIdeal.τ).loc Cert.MergeSampRefIdeal.main_arg5) = m ((c.tc : Thread Cert.MergeSampIdeal.nD Cert.MergeSampIdeal.τ).loc Cert.MergeSampIdeal.main_arg5)
      ∧ m' ((c.tc : Thread Cert.MergeSampRefIdeal.nD Cert.MergeSampRefIdeal.τ).loc Cert.MergeSampRefIdeal.main_arg6) = m ((c.tc : Thread Cert.MergeSampIdeal.nD Cert.MergeSampIdeal.τ).loc Cert.MergeSampIdeal.main_arg6)
      ∧ m' ((c.tc : Thread Cert.MergeSampRefIdeal.nD Cert.MergeSampRefIdeal.τ).loc Cert.MergeSampRefIdeal.main_arg7) = m ((c.tc : Thread Cert.MergeSampIdeal.nD Cert.MergeSampIdeal.τ).loc Cert.MergeSampIdeal.main_arg7)
      ∧ m' ((c.tc : Thread Cert.MergeSampRefIdeal.nD Cert.MergeSampRefIdeal.τ).loc Cert.MergeSampRefIdeal.main_arg8) = m ((c.tc : Thread Cert.MergeSampIdeal.nD Cert.MergeSampIdeal.τ).loc Cert.MergeSampIdeal.main_arg8)
      ∧ m' ((c.tc : Thread Cert.MergeSampRefIdeal.nD Cert.MergeSampRefIdeal.τ).loc Cert.MergeSampRefIdeal.main_arg9) = m ((c.tc : Thread Cert.MergeSampIdeal.nD Cert.MergeSampIdeal.τ).loc Cert.MergeSampIdeal.main_arg9)) →
    ∃ (v0 : (c : Dev Cert.MergeSampIdeal.nD) → Buf (Elt Ideal) ((c.tc : Thread Cert.MergeSampIdeal.nD Cert.MergeSampIdeal.τ).loc Cert.MergeSampIdeal.main_v13)),
      θ_run (Cert.MergeSampIdeal.defs (F := Ideal)) (onTc (τ := Cert.MergeSampIdeal.τ) (Cert.MergeSampIdeal.main (F := Ideal))) ⟨m, fun _ => 0, g⟩ (fun r => ∀ c : Dev Cert.MergeSampIdeal.nD,
          r.2.mem ((c.tc : Thread Cert.MergeSampIdeal.nD Cert.MergeSampIdeal.τ).loc Cert.MergeSampIdeal.main_v13) = v0 c
          ∧ r.2.mem ((c.tc : Thread Cert.MergeSampIdeal.nD Cert.MergeSampIdeal.τ).loc Cert.MergeSampIdeal.main_arg0) = m ((c.tc : Thread Cert.MergeSampIdeal.nD Cert.MergeSampIdeal.τ).loc Cert.MergeSampIdeal.main_arg0)
          ∧ r.2.mem ((c.tc : Thread Cert.MergeSampIdeal.nD Cert.MergeSampIdeal.τ).loc Cert.MergeSampIdeal.main_arg1) = m ((c.tc : Thread Cert.MergeSampIdeal.nD Cert.MergeSampIdeal.τ).loc Cert.MergeSampIdeal.main_arg1)
          ∧ r.2.mem ((c.tc : Thread Cert.MergeSampIdeal.nD Cert.MergeSampIdeal.τ).loc Cert.MergeSampIdeal.main_arg2) = m ((c.tc : Thread Cert.MergeSampIdeal.nD Cert.MergeSampIdeal.τ).loc Cert.MergeSampIdeal.main_arg2)
          ∧ r.2.mem ((c.tc : Thread Cert.MergeSampIdeal.nD Cert.MergeSampIdeal.τ).loc Cert.MergeSampIdeal.main_arg3) = m ((c.tc : Thread Cert.MergeSampIdeal.nD Cert.MergeSampIdeal.τ).loc Cert.MergeSampIdeal.main_arg3)
          ∧ r.2.mem ((c.tc : Thread Cert.MergeSampIdeal.nD Cert.MergeSampIdeal.τ).loc Cert.MergeSampIdeal.main_arg4) = m ((c.tc : Thread Cert.MergeSampIdeal.nD Cert.MergeSampIdeal.τ).loc Cert.MergeSampIdeal.main_arg4)
          ∧ r.2.mem ((c.tc : Thread Cert.MergeSampIdeal.nD Cert.MergeSampIdeal.τ).loc Cert.MergeSampIdeal.main_arg5) = m ((c.tc : Thread Cert.MergeSampIdeal.nD Cert.MergeSampIdeal.τ).loc Cert.MergeSampIdeal.main_arg5)
          ∧ r.2.mem ((c.tc : Thread Cert.MergeSampIdeal.nD Cert.MergeSampIdeal.τ).loc Cert.MergeSampIdeal.main_arg6) = m ((c.tc : Thread Cert.MergeSampIdeal.nD Cert.MergeSampIdeal.τ).loc Cert.MergeSampIdeal.main_arg6)
          ∧ r.2.mem ((c.tc : Thread Cert.MergeSampIdeal.nD Cert.MergeSampIdeal.τ).loc Cert.MergeSampIdeal.main_arg7) = m ((c.tc : Thread Cert.MergeSampIdeal.nD Cert.MergeSampIdeal.τ).loc Cert.MergeSampIdeal.main_arg7)
          ∧ r.2.mem ((c.tc : Thread Cert.MergeSampIdeal.nD Cert.MergeSampIdeal.τ).loc Cert.MergeSampIdeal.main_arg8) = m ((c.tc : Thread Cert.MergeSampIdeal.nD Cert.MergeSampIdeal.τ).loc Cert.MergeSampIdeal.main_arg8)
          ∧ r.2.mem ((c.tc : Thread Cert.MergeSampIdeal.nD Cert.MergeSampIdeal.τ).loc Cert.MergeSampIdeal.main_arg9) = m ((c.tc : Thread Cert.MergeSampIdeal.nD Cert.MergeSampIdeal.τ).loc Cert.MergeSampIdeal.main_arg9))
      ∧ θ_run (Cert.MergeSampRefIdeal.defs (F := Ideal)) (onTc (τ := Cert.MergeSampRefIdeal.τ) (Cert.MergeSampRefIdeal.main (F := Ideal))) ⟨m', fun _ => 0, g'⟩ (fun r => ∀ c : Dev Cert.MergeSampRefIdeal.nD,
          r.2.mem ((c.tc : Thread Cert.MergeSampRefIdeal.nD Cert.MergeSampRefIdeal.τ).loc Cert.MergeSampRefIdeal.main_v53) = v0 c
          ∧ r.2.mem ((c.tc : Thread Cert.MergeSampRefIdeal.nD Cert.MergeSampRefIdeal.τ).loc Cert.MergeSampRefIdeal.main_arg0) = m' ((c.tc : Thread Cert.MergeSampRefIdeal.nD Cert.MergeSampRefIdeal.τ).loc Cert.MergeSampRefIdeal.main_arg0)
          ∧ r.2.mem ((c.tc : Thread Cert.MergeSampRefIdeal.nD Cert.MergeSampRefIdeal.τ).loc Cert.MergeSampRefIdeal.main_arg1) = m' ((c.tc : Thread Cert.MergeSampRefIdeal.nD Cert.MergeSampRefIdeal.τ).loc Cert.MergeSampRefIdeal.main_arg1)
          ∧ r.2.mem ((c.tc : Thread Cert.MergeSampRefIdeal.nD Cert.MergeSampRefIdeal.τ).loc Cert.MergeSampRefIdeal.main_arg2) = m' ((c.tc : Thread Cert.MergeSampRefIdeal.nD Cert.MergeSampRefIdeal.τ).loc Cert.MergeSampRefIdeal.main_arg2)
          ∧ r.2.mem ((c.tc : Thread Cert.MergeSampRefIdeal.nD Cert.MergeSampRefIdeal.τ).loc Cert.MergeSampRefIdeal.main_arg3) = m' ((c.tc : Thread Cert.MergeSampRefIdeal.nD Cert.MergeSampRefIdeal.τ).loc Cert.MergeSampRefIdeal.main_arg3)
          ∧ r.2.mem ((c.tc : Thread Cert.MergeSampRefIdeal.nD Cert.MergeSampRefIdeal.τ).loc Cert.MergeSampRefIdeal.main_arg4) = m' ((c.tc : Thread Cert.MergeSampRefIdeal.nD Cert.MergeSampRefIdeal.τ).loc Cert.MergeSampRefIdeal.main_arg4)
          ∧ r.2.mem ((c.tc : Thread Cert.MergeSampRefIdeal.nD Cert.MergeSampRefIdeal.τ).loc Cert.MergeSampRefIdeal.main_arg5) = m' ((c.tc : Thread Cert.MergeSampRefIdeal.nD Cert.MergeSampRefIdeal.τ).loc Cert.MergeSampRefIdeal.main_arg5)
          ∧ r.2.mem ((c.tc : Thread Cert.MergeSampRefIdeal.nD Cert.MergeSampRefIdeal.τ).loc Cert.MergeSampRefIdeal.main_arg6) = m' ((c.tc : Thread Cert.MergeSampRefIdeal.nD Cert.MergeSampRefIdeal.τ).loc Cert.MergeSampRefIdeal.main_arg6)
          ∧ r.2.mem ((c.tc : Thread Cert.MergeSampRefIdeal.nD Cert.MergeSampRefIdeal.τ).loc Cert.MergeSampRefIdeal.main_arg7) = m' ((c.tc : Thread Cert.MergeSampRefIdeal.nD Cert.MergeSampRefIdeal.τ).loc Cert.MergeSampRefIdeal.main_arg7)
          ∧ r.2.mem ((c.tc : Thread Cert.MergeSampRefIdeal.nD Cert.MergeSampRefIdeal.τ).loc Cert.MergeSampRefIdeal.main_arg8) = m' ((c.tc : Thread Cert.MergeSampRefIdeal.nD Cert.MergeSampRefIdeal.τ).loc Cert.MergeSampRefIdeal.main_arg8)
          ∧ r.2.mem ((c.tc : Thread Cert.MergeSampRefIdeal.nD Cert.MergeSampRefIdeal.τ).loc Cert.MergeSampRefIdeal.main_arg9) = m' ((c.tc : Thread Cert.MergeSampRefIdeal.nD Cert.MergeSampRefIdeal.τ).loc Cert.MergeSampRefIdeal.main_arg9))

def preserves_FfnSamp_FfnSampIdeal : Prop :=
  True

def algebraic_FfnSampIdeal_FfnSampRefIdeal [hFfnSampIdeal : Cert.FfnSampIdeal.Facts] [hFfnSampRefIdeal : Cert.FfnSampRefIdeal.Facts] : Prop :=
  ∀ (m : (ℓ : Loc Cert.FfnSampIdeal.nD Cert.FfnSampIdeal.τ Cert.FfnSampIdeal.sig) → Buf (Elt Ideal) ℓ) (g : Dev Cert.FfnSampIdeal.nD → PrngReg)
    (m' : (ℓ : Loc Cert.FfnSampRefIdeal.nD Cert.FfnSampRefIdeal.τ Cert.FfnSampRefIdeal.sig) → Buf (Elt Ideal) ℓ) (g' : Dev Cert.FfnSampRefIdeal.nD → PrngReg), Pre_FfnSampIdeal m →
    (∀ c : Dev Cert.FfnSampIdeal.nD,
      m' ((c.tc : Thread Cert.FfnSampRefIdeal.nD Cert.FfnSampRefIdeal.τ).loc Cert.FfnSampRefIdeal.main_arg0) = m ((c.tc : Thread Cert.FfnSampIdeal.nD Cert.FfnSampIdeal.τ).loc Cert.FfnSampIdeal.main_arg0)
      ∧ m' ((c.tc : Thread Cert.FfnSampRefIdeal.nD Cert.FfnSampRefIdeal.τ).loc Cert.FfnSampRefIdeal.main_arg1) = m ((c.tc : Thread Cert.FfnSampIdeal.nD Cert.FfnSampIdeal.τ).loc Cert.FfnSampIdeal.main_arg1)
      ∧ m' ((c.tc : Thread Cert.FfnSampRefIdeal.nD Cert.FfnSampRefIdeal.τ).loc Cert.FfnSampRefIdeal.main_arg2) = m ((c.tc : Thread Cert.FfnSampIdeal.nD Cert.FfnSampIdeal.τ).loc Cert.FfnSampIdeal.main_arg2)
      ∧ m' ((c.tc : Thread Cert.FfnSampRefIdeal.nD Cert.FfnSampRefIdeal.τ).loc Cert.FfnSampRefIdeal.main_arg3) = m ((c.tc : Thread Cert.FfnSampIdeal.nD Cert.FfnSampIdeal.τ).loc Cert.FfnSampIdeal.main_arg3)
      ∧ m' ((c.tc : Thread Cert.FfnSampRefIdeal.nD Cert.FfnSampRefIdeal.τ).loc Cert.FfnSampRefIdeal.main_arg4) = m ((c.tc : Thread Cert.FfnSampIdeal.nD Cert.FfnSampIdeal.τ).loc Cert.FfnSampIdeal.main_arg4)
      ∧ m' ((c.tc : Thread Cert.FfnSampRefIdeal.nD Cert.FfnSampRefIdeal.τ).loc Cert.FfnSampRefIdeal.main_arg5) = m ((c.tc : Thread Cert.FfnSampIdeal.nD Cert.FfnSampIdeal.τ).loc Cert.FfnSampIdeal.main_arg5)) →
    ∃ (v0 : (c : Dev Cert.FfnSampIdeal.nD) → Buf (Elt Ideal) ((c.tc : Thread Cert.FfnSampIdeal.nD Cert.FfnSampIdeal.τ).loc Cert.FfnSampIdeal.main_v6)),
      θ_run (Cert.FfnSampIdeal.defs (F := Ideal)) (onTc (τ := Cert.FfnSampIdeal.τ) (Cert.FfnSampIdeal.main (F := Ideal))) ⟨m, fun _ => 0, g⟩ (fun r => ∀ c : Dev Cert.FfnSampIdeal.nD,
          r.2.mem ((c.tc : Thread Cert.FfnSampIdeal.nD Cert.FfnSampIdeal.τ).loc Cert.FfnSampIdeal.main_v6) = v0 c
          ∧ r.2.mem ((c.tc : Thread Cert.FfnSampIdeal.nD Cert.FfnSampIdeal.τ).loc Cert.FfnSampIdeal.main_arg0) = m ((c.tc : Thread Cert.FfnSampIdeal.nD Cert.FfnSampIdeal.τ).loc Cert.FfnSampIdeal.main_arg0)
          ∧ r.2.mem ((c.tc : Thread Cert.FfnSampIdeal.nD Cert.FfnSampIdeal.τ).loc Cert.FfnSampIdeal.main_arg1) = m ((c.tc : Thread Cert.FfnSampIdeal.nD Cert.FfnSampIdeal.τ).loc Cert.FfnSampIdeal.main_arg1)
          ∧ r.2.mem ((c.tc : Thread Cert.FfnSampIdeal.nD Cert.FfnSampIdeal.τ).loc Cert.FfnSampIdeal.main_arg2) = m ((c.tc : Thread Cert.FfnSampIdeal.nD Cert.FfnSampIdeal.τ).loc Cert.FfnSampIdeal.main_arg2)
          ∧ r.2.mem ((c.tc : Thread Cert.FfnSampIdeal.nD Cert.FfnSampIdeal.τ).loc Cert.FfnSampIdeal.main_arg3) = m ((c.tc : Thread Cert.FfnSampIdeal.nD Cert.FfnSampIdeal.τ).loc Cert.FfnSampIdeal.main_arg3)
          ∧ r.2.mem ((c.tc : Thread Cert.FfnSampIdeal.nD Cert.FfnSampIdeal.τ).loc Cert.FfnSampIdeal.main_arg4) = m ((c.tc : Thread Cert.FfnSampIdeal.nD Cert.FfnSampIdeal.τ).loc Cert.FfnSampIdeal.main_arg4)
          ∧ r.2.mem ((c.tc : Thread Cert.FfnSampIdeal.nD Cert.FfnSampIdeal.τ).loc Cert.FfnSampIdeal.main_arg5) = m ((c.tc : Thread Cert.FfnSampIdeal.nD Cert.FfnSampIdeal.τ).loc Cert.FfnSampIdeal.main_arg5))
      ∧ θ_run (Cert.FfnSampRefIdeal.defs (F := Ideal)) (onTc (τ := Cert.FfnSampRefIdeal.τ) (Cert.FfnSampRefIdeal.main (F := Ideal))) ⟨m', fun _ => 0, g'⟩ (fun r => ∀ c : Dev Cert.FfnSampRefIdeal.nD,
          r.2.mem ((c.tc : Thread Cert.FfnSampRefIdeal.nD Cert.FfnSampRefIdeal.τ).loc Cert.FfnSampRefIdeal.main_v32) = v0 c
          ∧ r.2.mem ((c.tc : Thread Cert.FfnSampRefIdeal.nD Cert.FfnSampRefIdeal.τ).loc Cert.FfnSampRefIdeal.main_arg0) = m' ((c.tc : Thread Cert.FfnSampRefIdeal.nD Cert.FfnSampRefIdeal.τ).loc Cert.FfnSampRefIdeal.main_arg0)
          ∧ r.2.mem ((c.tc : Thread Cert.FfnSampRefIdeal.nD Cert.FfnSampRefIdeal.τ).loc Cert.FfnSampRefIdeal.main_arg1) = m' ((c.tc : Thread Cert.FfnSampRefIdeal.nD Cert.FfnSampRefIdeal.τ).loc Cert.FfnSampRefIdeal.main_arg1)
          ∧ r.2.mem ((c.tc : Thread Cert.FfnSampRefIdeal.nD Cert.FfnSampRefIdeal.τ).loc Cert.FfnSampRefIdeal.main_arg2) = m' ((c.tc : Thread Cert.FfnSampRefIdeal.nD Cert.FfnSampRefIdeal.τ).loc Cert.FfnSampRefIdeal.main_arg2)
          ∧ r.2.mem ((c.tc : Thread Cert.FfnSampRefIdeal.nD Cert.FfnSampRefIdeal.τ).loc Cert.FfnSampRefIdeal.main_arg3) = m' ((c.tc : Thread Cert.FfnSampRefIdeal.nD Cert.FfnSampRefIdeal.τ).loc Cert.FfnSampRefIdeal.main_arg3)
          ∧ r.2.mem ((c.tc : Thread Cert.FfnSampRefIdeal.nD Cert.FfnSampRefIdeal.τ).loc Cert.FfnSampRefIdeal.main_arg4) = m' ((c.tc : Thread Cert.FfnSampRefIdeal.nD Cert.FfnSampRefIdeal.τ).loc Cert.FfnSampRefIdeal.main_arg4)
          ∧ r.2.mem ((c.tc : Thread Cert.FfnSampRefIdeal.nD Cert.FfnSampRefIdeal.τ).loc Cert.FfnSampRefIdeal.main_arg5) = m' ((c.tc : Thread Cert.FfnSampRefIdeal.nD Cert.FfnSampRefIdeal.τ).loc Cert.FfnSampRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hInSamp : Cert.InSamp.Facts) (hInSampIdeal : Cert.InSampIdeal.Facts) (hInSampRefIdeal : Cert.InSampRefIdeal.Facts) (hMergeSamp : Cert.MergeSamp.Facts) (hMergeSampIdeal : Cert.MergeSampIdeal.Facts) (hMergeSampRefIdeal : Cert.MergeSampRefIdeal.Facts) (hFfnSamp : Cert.FfnSamp.Facts) (hFfnSampIdeal : Cert.FfnSampIdeal.Facts) (hFfnSampRefIdeal : Cert.FfnSampRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_InSamp (hInSamp := hInSamp)
    ∧ quiescent_InSampIdeal (hInSampIdeal := hInSampIdeal)
    ∧ quiescent_InSampRefIdeal (hInSampRefIdeal := hInSampRefIdeal)
    ∧ quiescent_MergeSamp (hMergeSamp := hMergeSamp)
    ∧ quiescent_MergeSampIdeal (hMergeSampIdeal := hMergeSampIdeal)
    ∧ quiescent_MergeSampRefIdeal (hMergeSampRefIdeal := hMergeSampRefIdeal)
    ∧ quiescent_FfnSamp (hFfnSamp := hFfnSamp)
    ∧ quiescent_FfnSampIdeal (hFfnSampIdeal := hFfnSampIdeal)
    ∧ quiescent_FfnSampRefIdeal (hFfnSampRefIdeal := hFfnSampRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_InSamp_InSampIdeal
    ∧ algebraic_InSampIdeal_InSampRefIdeal (hInSampIdeal := hInSampIdeal) (hInSampRefIdeal := hInSampRefIdeal)
    ∧ preserves_MergeSamp_MergeSampIdeal
    ∧ algebraic_MergeSampIdeal_MergeSampRefIdeal (hMergeSampIdeal := hMergeSampIdeal) (hMergeSampRefIdeal := hMergeSampRefIdeal)
    ∧ preserves_FfnSamp_FfnSampIdeal
    ∧ algebraic_FfnSampIdeal_FfnSampRefIdeal (hFfnSampIdeal := hFfnSampIdeal) (hFfnSampRefIdeal := hFfnSampRefIdeal)
-- ==== Pre_finite.lean ====
abbrev S32x32x8x2x64 : Shape := ⟨5, ![32, 32, 8, 2, 64]⟩
abbrev S32x32x8x128 : Shape := ⟨4, ![32, 32, 8, 128]⟩
abbrev S32x4096x8x2x64 : Shape := ⟨5, ![32, 4096, 8, 2, 64]⟩
abbrev S32x4096x8x128 : Shape := ⟨4, ![32, 4096, 8, 128]⟩
abbrev S64 : Shape := ⟨1, ![64]⟩
abbrev S128 : Shape := ⟨1, ![128]⟩
abbrev S_ : Shape := ⟨0, ![]⟩

class Facts : Prop where
  bcast_S_S32x32x8x2x64 : S_.BroadcastsInDim S32x32x8x2x64 (![] : Fin 0 → Fin S32x32x8x2x64.rank)
  bcast_S_S32x32x8x128 : S_.BroadcastsInDim S32x32x8x128 (![] : Fin 0 → Fin S32x32x8x128.rank)
  bcast_S_S32x4096x8x2x64 : S_.BroadcastsInDim S32x4096x8x2x64 (![] : Fin 0 → Fin S32x4096x8x2x64.rank)
  bcast_S_S32x4096x8x128 : S_.BroadcastsInDim S32x4096x8x128 (![] : Fin 0 → Fin S32x4096x8x128.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_arg8 : FVec F S64 .f32) (main_v2 : IVec S32x32x8x2x64 1) (main_v5 : IVec S32x32x8x2x64 1) (main_v8 : IVec S32x32x8x128 1) (main_v11 : IVec S32x4096x8x2x64 1) (main_v14 : IVec S32x4096x8x128 1) (main_v17 : IVec S64 1) : IVec S32x32x8x2x64 1 × IVec S32x32x8x2x64 1 × IVec S32x32x8x128 1 × IVec S32x4096x8x2x64 1 × IVec S32x4096x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S32x32x8x2x64 .f32) (main_arg1 : FVec F S32x32x8x2x64 .f32) (main_arg2 : FVec F S32x32x8x128 .f32) (main_arg3 : FVec F S32x4096x8x2x64 .f32) (main_arg4 : FVec F S32x4096x8x128 .f32) (main_arg5 : FVec F S64 .f32) (main_arg6 : FVec F S64 .f32) (main_arg7 : FVec F S64 .f32) (main_arg8 : FVec F S64 .f32) (main_arg9 : FVec F S128 .f32) : IVec S32x32x8x2x64 1 × IVec S32x32x8x2x64 1 × IVec S32x32x8x128 1 × IVec S32x4096x8x2x64 1 × IVec S32x4096x8x128 1 × IVec S64 1 × IVec S64 1 × IVec S64 1 × IVec S64 1 :=
  let main_v0 : FVec F S32x32x8x2x64 .f32 := Host.absf main_arg0
  let main_cst : FVec F S_ .f32 := constant S_ .f32 0x7F800000#32
  let main_v1 : FVec F S32x32x8x2x64 .f32 := broadcastInDim S32x32x8x2x64 ![] bcast_S_S32x32x8x2x64 main_cst
  let main_v2 : IVec S32x32x8x2x64 1 := cmpf .olt main_v0 main_v1
  let main_v3 : FVec F S32x32x8x2x64 .f32 := Host.absf main_arg1
  let main_cst_0 : FVec F S_ .f32 := constant S_ .f32 0x7F800000#32
  let main_v4 : FVec F S32x32x8x2x64 .f32 := broadcastInDim S32x32x8x2x64 ![] bcast_S_S32x32x8x2x64 main_cst_0
  let main_v5 : IVec S32x32x8x2x64 1 := cmpf .olt main_v3 main_v4
  let main_v6 : FVec F S32x32x8x128 .f32 := Host.absf main_arg2
  let main_cst_1 : FVec F S_ .f32 := constant S_ .f32 0x7F800000#32
  let main_v7 : FVec F S32x32x8x128 .f32 := broadcastInDim S32x32x8x128 ![] bcast_S_S32x32x8x128 main_cst_1
  let main_v8 : IVec S32x32x8x128 1 := cmpf .olt main_v6 main_v7
  let main_v9 : FVec F S32x4096x8x2x64 .f32 := Host.absf main_arg3
  let main_cst_2 : FVec F S_ .f32 := constant S_ .f32 0x7F800000#32
  let main_v10 : FVec F S32x4096x8x2x64 .f32 := broadcastInDim S32x4096x8x2x64 ![] bcast_S_S32x4096x8x2x64 main_cst_2
  let main_v11 : IVec S32x4096x8x2x64 1 := cmpf .olt main_v9 main_v10
  let main_v12 : FVec F S32x4096x8x128 .f32 := Host.absf main_arg4
  let main_cst_3 : FVec F S_ .f32 := constant S_ .f32 0x7F800000#32
  let main_v13 : FVec F S32x4096x8x128 .f32 := broadcastInDim S32x4096x8x128 ![] bcast_S_S32x4096x8x128 main_cst_3
  let main_v14 : IVec S32x4096x8x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Kernel.lean ====
abbrev S32x32x8x2x64 : Shape := ⟨5, ![32, 32, 8, 2, 64]⟩
abbrev S32x32x8x128 : Shape := ⟨4, ![32, 32, 8, 128]⟩
abbrev S32x4096x8x2x64 : Shape := ⟨5, ![32, 4096, 8, 2, 64]⟩
abbrev S32x4096x8x128 : Shape := ⟨4, ![32, 4096, 8, 128]⟩
abbrev S64 : Shape := ⟨1, ![64]⟩
abbrev S128 : Shape := ⟨1, ![128]⟩
abbrev S1024x1024 : Shape := ⟨2, ![1024, 1024]⟩
abbrev S1x64 : Shape := ⟨2, ![1, 64]⟩
abbrev S32x8x2x64x4096 : Shape := ⟨5, ![32, 8, 2, 64, 4096]⟩
abbrev S32x8x128x4096 : Shape := ⟨4, ![32, 8, 128, 4096]⟩
abbrev S32x32768x128 : Shape := ⟨3, ![32, 32768, 128]⟩
abbrev S1x128 : Shape := ⟨2, ![1, 128]⟩
abbrev S32x1024 : Shape := ⟨2, ![32, 1024]⟩
abbrev S1x8x128x2048 : Shape := ⟨4, ![1, 8, 128, 2048]⟩
abbrev S1x16384x128 : Shape := ⟨3, ![1, 16384, 128]⟩
abbrev S8x64x128 : Shape := ⟨3, ![8, 64, 128]⟩
abbrev S128x1024 : Shape := ⟨2, ![128, 1024]⟩
abbrev S32x128 : Shape := ⟨2, ![32, 128]⟩
abbrev S1x64x128 : Shape := ⟨3, ![1, 64, 128]⟩
abbrev S64x128 : Shape := ⟨2, ![64, 128]⟩
abbrev S1x32x128 : Shape := ⟨3, ![1, 32, 128]⟩
abbrev S1x1x128x2048 : Shape := ⟨4, ![1, 1, 128, 2048]⟩
abbrev S128x2048 : Shape := ⟨2, ![128, 2048]⟩
abbrev S64x2048 : Shape := ⟨2, ![64, 2048]⟩
abbrev S64x1 : Shape := ⟨2, ![64, 1]⟩
abbrev S1x2048x128 : Shape := ⟨3, ![1, 2048, 128]⟩
abbrev S2048x128 : Shape := ⟨2, ![2048, 128]⟩
abbrev S1 : Shape := ⟨1, ![1]⟩
abbrev S1x1 : Shape := ⟨2, ![1, 1]⟩
abbrev S128x128 : Shape := ⟨2, ![128, 128]⟩
abbrev S32 : Shape := ⟨1, ![32]⟩
abbrev S32x1 : Shape := ⟨2, ![32, 1]⟩

abbrev nBuf : Space → Nat
  | .hbm => 24
  | .vmem => 23
  | .smem => 0
  | _ => 0

abbrev bufTy : (tb : Table) → Fin (tcTables nBuf tb) → BufTy
  | .hbm, ⟨0, _⟩ => ⟨S32x32x8x2x64, .f32⟩
  | .hbm, ⟨1, _⟩ => ⟨S32x32x8x2x64, .f32⟩
  | .hbm, ⟨2, _⟩ => ⟨S32x32x8x128, .f32⟩
  | .hbm, ⟨3, _⟩ => ⟨S32x4096x8x2x64, .f32⟩
  | .hbm, ⟨4, _⟩ => ⟨S32x4096x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S32x8x2x64x4096, .f32⟩
  | .hbm, ⟨20, _⟩ => ⟨S32x8x128x4096, .f32⟩
  | .hbm, ⟨21, _⟩ => ⟨S32x32768x128, .f32⟩
  | .hbm, ⟨22, _⟩ => ⟨S1x128, .f32⟩
  | .hbm, ⟨23, _⟩ => ⟨S1024x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S32x1024, .f32⟩
  | .local _ .vmem, ⟨6, _⟩ => ⟨S32x1024, .f32⟩
  | .local _ .vmem, ⟨7, _⟩ => ⟨S1x8x128x2048, .f32⟩
  | .local _ .vmem, ⟨8, _⟩ => ⟨S1x8x128x2048, .f32⟩
  | .local _ .vmem, ⟨9, _⟩ => ⟨S1x16384x128, .f32⟩
  | .local _ .vmem, ⟨10, _⟩ => ⟨S1x16384x128, .f32⟩
  | .local _ .vmem, ⟨11, _⟩ => ⟨S32x1024, .bf16⟩
  | .local _ .vmem, ⟨12, _⟩ => ⟨S32x1024, .bf16⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S32x1024, .bf16⟩
  | .local _ .vmem, ⟨17, _⟩ => ⟨S8x64x128, .bf16⟩
  | .local _ .vmem, ⟨18, _⟩ => ⟨S128x1024, .bf16⟩
  | .local _ .vmem, ⟨19, _⟩ => ⟨S128x1024, .bf16⟩
  | .local _ .vmem, ⟨20, _⟩ => ⟨S8x64x128, .f32⟩
  | .local _ .vmem, ⟨21, _⟩ => ⟨S8x64x128, .f32⟩
  | .local _ .vmem, ⟨22, _⟩ => ⟨S8x64x128, .f32⟩
  | _, _ => ⟨S32x32x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v1043 : BitVec 1 := Scalar.cmpi .eq arg1 c1_i32
  let v1044 : BitVec 32 := Scalar.extui v1043
  let c0_i32_240 : BitVec 32 := 0#32
  let v1045 : BitVec 1 := Scalar.cmpi .ne v1044 c0_i32_240
  v1045

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | "qscale" => some ((8⁻¹ * (Real.log 2)⁻¹ : ℝ) : EReal)
  | _ => none
-- ==== ReferenceIdeal.lean ====
abbrev S32x32x8x2x64 : Shape := ⟨5, ![32, 32, 8, 2, 64]⟩
abbrev S32x32x8x128 : Shape := ⟨4, ![32, 32, 8, 128]⟩
abbrev S32x4096x8x2x64 : Shape := ⟨5, ![32, 4096, 8, 2, 64]⟩
abbrev S32x4096x8x128 : Shape := ⟨4, ![32, 4096, 8, 128]⟩
abbrev S64 : Shape := ⟨1, ![64]⟩
abbrev S128 : Shape := ⟨1, ![128]⟩
abbrev S32 : Shape := ⟨1, ![32]⟩
abbrev S_ : Shape := ⟨0, ![]⟩
abbrev S32x4128x8x2x64 : Shape := ⟨5, ![32, 4128, 8, 2, 64]⟩
abbrev S32x4128x8x128 : Shape := ⟨4, ![32, 4128, 8, 128]⟩
abbrev S4128 : Shape := ⟨1, ![4128]⟩
abbrev S32x8x2x32x4128 : Shape := ⟨5, ![32, 8, 2, 32, 4128]⟩
abbrev S1x4128 : Shape := ⟨2, ![1, 4128]⟩
abbrev S32x1 : Shape := ⟨2, ![32, 1]⟩
abbrev S32x4128 : Shape := ⟨2, ![32, 4128]⟩
abbrev S32x8x2x32 : Shape := ⟨4, ![32, 8, 2, 32]⟩
abbrev S32x8x2x32x1 : Shape := ⟨5, ![32, 8, 2, 32, 1]⟩
abbrev S32x8x1x32x4128 : Shape := ⟨5, ![32, 8, 1, 32, 4128]⟩
abbrev S32x8x32x4128 : Shape := ⟨4, ![32, 8, 32, 4128]⟩
abbrev S32x8x128x32 : Shape := ⟨4, ![32, 8, 128, 32]⟩
abbrev S32x32x8 : Shape := ⟨3, ![32, 32, 8]⟩
abbrev S32x32x8x1 : Shape := ⟨4, ![32, 32, 8, 1]⟩
abbrev S1x1x1x128 : Shape := ⟨4, ![1, 1, 1, 128]⟩
abbrev S1024x1024 : Shape := ⟨2, ![1024, 1024]⟩

abbrev nBuf : Space → Nat
  | .hbm => 122
  | .vmem => 0
  | .smem => 0
  | _ => 0

abbrev bufTy : (tb : Table) → Fin (tcTables nBuf tb) → BufTy
  | .hbm, ⟨0, _⟩ => ⟨S32x32x8x2x64, .f32⟩
  | .hbm, ⟨1, _⟩ => ⟨S32x32x8x2x64, .f32⟩
  | .hbm, ⟨2, _⟩ => ⟨S32x32x8x128, .f32⟩
  | .hbm, ⟨3, _⟩ => ⟨S32x4096x8x2x64, .f32⟩
  | .hbm, ⟨4, _⟩ => ⟨S32x4096x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x4128x8x2x64, .f32⟩
  | .hbm, ⟨26, _⟩ => ⟨S32x4128x8x128, .f32⟩
  | .hbm, ⟨27, _⟩ => ⟨S4128, .i32⟩
  | .hbm, ⟨28, _⟩ => ⟨S32x8x2x32x4128, .f32⟩
  | .hbm, ⟨29, _⟩ => ⟨S_, .f32⟩
  | .hbm, ⟨30, _⟩ => ⟨S32x8x2x32x4128, .f32⟩
  | .hbm, ⟨31, _⟩ => ⟨S32x8x2x32x4128, .f32⟩
  | .hbm, ⟨32, _⟩ => ⟨S_, .i32⟩
  | .hbm, ⟨33, _⟩ => ⟨S_, .i32⟩
  | .hbm, ⟨34, _⟩ => ⟨S4128, .i32⟩
  | .hbm, ⟨35, _⟩ => ⟨S4128, .i32⟩
  | .hbm, ⟨36, _⟩ => ⟨S4128, .i32⟩
  | .hbm, ⟨37, _⟩ => ⟨S_, .i32⟩
  | .hbm, ⟨38, _⟩ => ⟨S4128, .i32⟩
  | .hbm, ⟨39, _⟩ => ⟨S4128, .i1⟩
  | .hbm, ⟨40, _⟩ => ⟨S4128, .i32⟩
  | .hbm, ⟨41, _⟩ => ⟨S4128, .i32⟩
  | .hbm, ⟨42, _⟩ => ⟨S_, .i32⟩
  | .hbm, ⟨43, _⟩ => ⟨S4128, .i32⟩
  | .hbm, ⟨44, _⟩ => ⟨S4128, .i1⟩
  | .hbm, ⟨45, _⟩ => ⟨S4128, .i1⟩
  | .hbm, ⟨46, _⟩ => ⟨S_, .i32⟩
  | .hbm, ⟨47, _⟩ => ⟨S4128, .i32⟩
  | .hbm, ⟨48, _⟩ => ⟨S4128, .i32⟩
  | .hbm, ⟨49, _⟩ => ⟨S4128, .i32⟩
  | .hbm, ⟨50, _⟩ => ⟨S1x4128, .i32⟩
  | .hbm, ⟨51, _⟩ => ⟨S_, .i32⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S32, .i32⟩
  | .hbm, ⟨58, _⟩ => ⟨S32, .i1⟩
  | .hbm, ⟨59, _⟩ => ⟨S32, .i32⟩
  | .hbm, ⟨60, _⟩ => ⟨S32, .i32⟩
  | .hbm, ⟨61, _⟩ => ⟨S_, .i32⟩
  | .hbm, ⟨62, _⟩ => ⟨S32, .i32⟩
  | .hbm, ⟨63, _⟩ => ⟨S32, .i1⟩
  | .hbm, ⟨64, _⟩ => ⟨S32, .i1⟩
  | .hbm, ⟨65, _⟩ => ⟨S_, .i32⟩
  | .hbm, ⟨66, _⟩ => ⟨S32, .i32⟩
  | .hbm, ⟨67, _⟩ => ⟨S32, .i32⟩
  | .hbm, ⟨68, _⟩ => ⟨S32, .i32⟩
  | .hbm, ⟨69, _⟩ => ⟨S32x1, .i32⟩
  | .hbm, ⟨70, _⟩ => ⟨S32x4128, .i32⟩
  | .hbm, ⟨71, _⟩ => ⟨S32x4128, .i32⟩
  | .hbm, ⟨72, _⟩ => ⟨S32x4128, .i1⟩
  | .hbm, ⟨73, _⟩ => ⟨S_, .f32⟩
  | .hbm, ⟨74, _⟩ => ⟨S_, .f32⟩
  | .hbm, ⟨75, _⟩ => ⟨S32x8x2x32x4128, .i1⟩
  | .hbm, ⟨76, _⟩ => ⟨S32x8x2x32x4128, .f32⟩
  | .hbm, ⟨77, _⟩ => ⟨S32x8x2x32x4128, .f32⟩
  | .hbm, ⟨78, _⟩ => ⟨S_, .f32⟩
  | .hbm, ⟨79, _⟩ => ⟨S32x8x2x32, .f32⟩
  | .hbm, ⟨80, _⟩ => ⟨S_, .f32⟩
  | .hbm, ⟨81, _⟩ => ⟨S32x8x2x32, .f32⟩
  | .hbm, ⟨82, _⟩ => ⟨S32x8x2x32, .f32⟩
  | .hbm, ⟨83, _⟩ => ⟨S32x8x2x32x1, .f32⟩
  | .hbm, ⟨84, _⟩ => ⟨S32x8x2x32x4128, .f32⟩
  | .hbm, ⟨85, _⟩ => ⟨S32x8x2x32x4128, .f32⟩
  | .hbm, ⟨86, _⟩ => ⟨S32x8x2x32x4128, .f32⟩
  | .hbm, ⟨87, _⟩ => ⟨S_, .f32⟩
  | .hbm, ⟨88, _⟩ => ⟨S32x8x2x32, .f32⟩
  | .hbm, ⟨89, _⟩ => ⟨S32x8x2x32x1, .f32⟩
  | .hbm, ⟨90, _⟩ => ⟨S32x8x2x32x4128, .f32⟩
  | .hbm, ⟨91, _⟩ => ⟨S32x8x2x32x4128, .f32⟩
  | .hbm, ⟨92, _⟩ => ⟨S32x8x1x32x4128, .f32⟩
  | .hbm, ⟨93, _⟩ => ⟨S32x8x32x4128, .f32⟩
  | .hbm, ⟨94, _⟩ => ⟨S32x8x1x32x4128, .f32⟩
  | .hbm, ⟨95, _⟩ => ⟨S32x8x32x4128, .f32⟩
  | .hbm, ⟨96, _⟩ => ⟨S32x8x32x4128, .f32⟩
  | .hbm, ⟨97, _⟩ => ⟨S32x8x32x4128, .f32⟩
  | .hbm, ⟨98, _⟩ => ⟨S32x8x32x4128, .f32⟩
  | .hbm, ⟨99, _⟩ => ⟨S32x8x128x32, .f32⟩
  | .hbm, ⟨100, _⟩ => ⟨S32x32x8x128, .f32⟩
  | .hbm, ⟨101, _⟩ => ⟨S32x32x8x128, .f32⟩
  | .hbm, ⟨102, _⟩ => ⟨S_, .f32⟩
  | .hbm, ⟨103, _⟩ => ⟨S32x32x8, .f32⟩
  | .hbm, ⟨104, _⟩ => ⟨S32x32x8x1, .f32⟩
  | .hbm, ⟨105, _⟩ => ⟨S_, .f32⟩
  | .hbm, ⟨106, _⟩ => ⟨S32x32x8x1, .f32⟩
  | .hbm, ⟨107, _⟩ => ⟨S32x32x8x1, .f32⟩
  | .hbm, ⟨108, _⟩ => ⟨S_, .f32⟩
  | .hbm, ⟨109, _⟩ => ⟨S32x32x8x1, .f32⟩
  | .hbm, ⟨110, _⟩ => ⟨S32x32x8x1, .f32⟩
  | .hbm, ⟨111, _⟩ => ⟨S32x32x8x1, .f32⟩
  | .hbm, ⟨112, _⟩ => ⟨S32x32x8x128, .f32⟩
  | .hbm, ⟨113, _⟩ => ⟨S32x32x8x128, .f32⟩
  | .hbm, ⟨114, _⟩ => ⟨S1x1x1x128, .f32⟩
  | .hbm, ⟨115, _⟩ => ⟨S32x32x8x128, .f32⟩
  | .hbm, ⟨116, _⟩ => ⟨S32x32x8x128, .f32⟩
  | .hbm, ⟨117, _⟩ => ⟨S_, .f32⟩
  | .hbm, ⟨118, _⟩ => ⟨S32x32x8x128, .f32⟩
  | .hbm, ⟨119, _⟩ => ⟨S32x32x8x128, .f32⟩
  | .hbm, ⟨120, _⟩ => ⟨S1024x1024, .f32⟩
  | .hbm, ⟨121, _⟩ => ⟨S1024x1024, .bf16⟩
  | _, _ => ⟨S32x32x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v17 : Ref sig .tc := ⟨.hbm, 49, rfl⟩
abbrev main_v18 : Ref sig .tc := ⟨.hbm, 50, rfl⟩
abbrev main_c_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_5 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v24 : Ref sig .tc := ⟨.hbm, 77, rfl⟩
abbrev main_cst_6 : Ref sig .tc := ⟨.hbm, 78, rfl⟩
abbrev main_v25 : Ref sig .tc := ⟨.hbm, 79, rfl⟩
abbrev main_cst_7 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_8 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_cst_10 : Ref sig .tc := ⟨.hbm, 105, rfl⟩
abbrev main_v48 : Ref sig .tc := ⟨.hbm, 106, rfl⟩
abbrev main_v49 : Ref sig .tc := ⟨.hbm, 107, rfl⟩
abbrev main_cst_11 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_12 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩

abbrev nD : Nat := 1
abbrev τ : Topo := Topo.v7x

variable {F : FTy → Type} [FloatOps F]
-- ==== Ffn.lean ====
abbrev S2x8192x2048 : Shape := ⟨3, ![2, 8192, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S2x8192x2048 : Shape := ⟨3, ![2, 8192, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2x8192x2048 : Shape := ⟨3, ![2, 8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x5632 : Shape := ⟨3, ![2, 8192, 5632]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2x8192x5632, .f32⟩
  | .hbm, ⟨23, _⟩ => ⟨S2x8192x5632, .f32⟩
  | .hbm, ⟨24, _⟩ => ⟨S2x8192x5632, .f32⟩
  | .hbm, ⟨25, _⟩ => ⟨S_, .f32⟩
  | .hbm, ⟨26, _⟩ => ⟨S2x8192x5632, .f32⟩
  | .hbm, ⟨27, _⟩ => ⟨S2x8192x5632, .f32⟩
  | .hbm, ⟨28, _⟩ => ⟨S_, .f32⟩
  | .hbm, ⟨29, _⟩ => ⟨S2x8192x5632, .f32⟩
  | .hbm, ⟨30, _⟩ => ⟨S2x8192x5632, .f32⟩
  | .hbm, ⟨31, _⟩ => ⟨S2x8192x5632, .f32⟩
  | .hbm, ⟨32, _⟩ => ⟨S2x8192x5632, .f32⟩
  | .hbm, ⟨33, _⟩ => ⟨S2x8192x5632, .f32⟩
  | .hbm, ⟨34, _⟩ => ⟨S2x8192x2048, .f32⟩
  | .hbm, ⟨35, _⟩ => ⟨S2x8192x2048, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Merge.lean ====
abbrev S2x8192x2048 : Shape := ⟨3, ![2, 8192, 2048]⟩
abbrev S2048 : Shape := ⟨1, ![2048]⟩
abbrev S2048x9216 : Shape := ⟨2, ![2048, 9216]⟩
abbrev S2x8192x8x128 : Shape := ⟨4, ![2, 8192, 8, 128]⟩
abbrev S2x8192x1024 : Shape := ⟨3, ![2, 8192, 1024]⟩
abbrev S1024x2048 : Shape := ⟨2, ![1024, 2048]⟩
abbrev S2048x2048 : Shape := ⟨2, ![2048, 2048]⟩
abbrev S16384x2048 : Shape := ⟨2, ![16384, 2048]⟩
abbrev S1x2048 : Shape := ⟨2, ![1, 2048]⟩
abbrev S2048x4096 : Shape := ⟨2, ![2048, 4096]⟩
abbrev S16384x1024 : Shape := ⟨2, ![16384, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1024x512 : Shape := ⟨2, ![1024, 512]⟩
abbrev S1x512 : Shape := ⟨2, ![1, 512]⟩

abbrev nBuf : Space → Nat
  | .hbm => 24
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x9216, .f32⟩
  | .hbm, ⟨3, _⟩ => ⟨S2x8192x8x128, .f32⟩
  | .hbm, ⟨4, _⟩ => ⟨S2x8192x1024, .f32⟩
  | .hbm, ⟨5, _⟩ => ⟨S1024x2048, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S2048x4096, .f32⟩
  | .hbm, ⟨13, _⟩ => ⟨S2048x4096, .bf16⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S1024x2048, .bf16⟩
  | .hbm, ⟨19, _⟩ => ⟨S1024x2048, .bf16⟩
  | .hbm, ⟨20, _⟩ => ⟨S1x2048, .f32⟩
  | .hbm, ⟨21, _⟩ => ⟨S2048x2048, .bf16⟩
  | .hbm, ⟨22, _⟩ => ⟨S1x2048, .f32⟩
  | .hbm, ⟨23, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeIdeal.lean ====
abbrev S2x8192x2048 : Shape := ⟨3, ![2, 8192, 2048]⟩
abbrev S2048 : Shape := ⟨1, ![2048]⟩
abbrev S2048x9216 : Shape := ⟨2, ![2048, 9216]⟩
abbrev S2x8192x8x128 : Shape := ⟨4, ![2, 8192, 8, 128]⟩
abbrev S2x8192x1024 : Shape := ⟨3, ![2, 8192, 1024]⟩
abbrev S1024x2048 : Shape := ⟨2, ![1024, 2048]⟩
abbrev S2048x2048 : Shape := ⟨2, ![2048, 2048]⟩
abbrev S16384x2048 : Shape := ⟨2, ![16384, 2048]⟩
abbrev S1x2048 : Shape := ⟨2, ![1, 2048]⟩
abbrev S2048x4096 : Shape := ⟨2, ![2048, 4096]⟩
abbrev S16384x1024 : Shape := ⟨2, ![16384, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1024x512 : Shape := ⟨2, ![1024, 512]⟩
abbrev S1x512 : Shape := ⟨2, ![1, 512]⟩

abbrev nBuf : Space → Nat
  | .hbm => 24
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x9216, .f32⟩
  | .hbm, ⟨3, _⟩ => ⟨S2x8192x8x128, .f32⟩
  | .hbm, ⟨4, _⟩ => ⟨S2x8192x1024, .f32⟩
  | .hbm, ⟨5, _⟩ => ⟨S1024x2048, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S2048x4096, .f32⟩
  | .hbm, ⟨13, _⟩ => ⟨S2048x4096, .bf16⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S1024x2048, .bf16⟩
  | .hbm, ⟨19, _⟩ => ⟨S1024x2048, .bf16⟩
  | .hbm, ⟨20, _⟩ => ⟨S1x2048, .f32⟩
  | .hbm, ⟨21, _⟩ => ⟨S2048x2048, .bf16⟩
  | .hbm, ⟨22, _⟩ => ⟨S1x2048, .f32⟩
  | .hbm, ⟨23, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S2x8192x2048 : Shape := ⟨3, ![2, 8192, 2048]⟩
abbrev S2048 : Shape := ⟨1, ![2048]⟩
abbrev S2048x9216 : Shape := ⟨2, ![2048, 9216]⟩
abbrev S2x8192x8x128 : Shape := ⟨4, ![2, 8192, 8, 128]⟩
abbrev S2x8192x1024 : Shape := ⟨3, ![2, 8192, 1024]⟩
abbrev S1024x2048 : Shape := ⟨2, ![1024, 2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x9216 : Shape := ⟨3, ![2, 8192, 9216]⟩
abbrev S2x8192x4096 : Shape := ⟨3, ![2, 8192, 4096]⟩
abbrev S16384x2048 : Shape := ⟨2, ![16384, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x9216, .f32⟩
  | .hbm, ⟨3, _⟩ => ⟨S2x8192x8x128, .f32⟩
  | .hbm, ⟨4, _⟩ => ⟨S2x8192x1024, .f32⟩
  | .hbm, ⟨5, _⟩ => ⟨S1024x2048, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x8192x9216, .f32⟩
  | .hbm, ⟨27, _⟩ => ⟨S2x8192x4096, .f32⟩
  | .hbm, ⟨28, _⟩ => ⟨S2x8192x1024, .f32⟩
  | .hbm, ⟨29, _⟩ => ⟨S2x8192x2048, .f32⟩
  | .hbm, ⟨30, _⟩ => ⟨S2x8192x2048, .f32⟩
  | .hbm, ⟨31, _⟩ => ⟨S1x1x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S_, .f32⟩
  | .hbm, ⟨38, _⟩ => ⟨S2x8192x2048, .f32⟩
  | .hbm, ⟨39, _⟩ => ⟨S2x8192x2048, .f32⟩
  | .hbm, ⟨40, _⟩ => ⟨S_, .f32⟩
  | .hbm, ⟨41, _⟩ => ⟨S2x8192x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S_, .f32⟩
  | .hbm, ⟨48, _⟩ => ⟨S2x8192x2048, .f32⟩
  | .hbm, ⟨49, _⟩ => ⟨S2x8192x2048, .f32⟩
  | .hbm, ⟨50, _⟩ => ⟨S_, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x2048, .f32⟩
  | .hbm, ⟨68, _⟩ => ⟨S2x8192x2048, .f32⟩
  | .hbm, ⟨69, _⟩ => ⟨S1x1x2048, .f32⟩
  | .hbm, ⟨70, _⟩ => ⟨S2x8192x2048, .f32⟩
  | .hbm, ⟨71, _⟩ => ⟨S2x8192x2048, .f32⟩
  | .hbm, ⟨72, _⟩ => ⟨S2x8192x2048, .f32⟩
  | .hbm, ⟨73, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== InProj.lean ====
abbrev S2x8192x2048 : Shape := ⟨3, ![2, 8192, 2048]⟩
abbrev S8192 : Shape := ⟨1, ![8192]⟩
abbrev S2048 : Shape := ⟨1, ![2048]⟩
abbrev S2048x9216 : Shape := ⟨2, ![2048, 9216]⟩
abbrev S128 : Shape := ⟨1, ![128]⟩
abbrev S_ : Shape := ⟨0, ![]⟩
abbrev S8192x1 : Shape := ⟨2, ![8192, 1]⟩
abbrev S8 : Shape := ⟨1, ![8]⟩
abbrev S128x1 : Shape := ⟨2, ![128, 1]⟩
abbrev S1x128 : Shape := ⟨2, ![1, 128]⟩
abbrev S8192x128 : Shape := ⟨2, ![8192, 128]⟩
abbrev S16384x2048 : Shape := ⟨2, ![16384, 2048]⟩
abbrev S1x2048 : Shape := ⟨2, ![1, 2048]⟩
abbrev S2048x5120 : Shape := ⟨2, ![2048, 5120]⟩
abbrev S16384x1024 : Shape := ⟨2, ![16384, 1024]⟩
abbrev S2x8x128x8192 : Shape := ⟨4, ![2, 8, 128, 8192]⟩
abbrev S2x8x8x128x1024 : Shape := ⟨5, ![2, 8, 8, 128, 1024]⟩
abbrev S256x2048 : Shape := ⟨2, ![256, 2048]⟩
abbrev S256x128 : Shape := ⟨2, ![256, 128]⟩
abbrev S256x1024 : Shape := ⟨2, ![256, 1024]⟩
abbrev S1x8x128x256 : Shape := ⟨4, ![1, 8, 128, 256]⟩
abbrev S1x8x1x128x256 : Shape := ⟨5, ![1, 8, 1, 128, 256]⟩
abbrev S256 : Shape := ⟨1, ![256]⟩
abbrev S256x1 : Shape := ⟨2, ![256, 1]⟩
abbrev S2048x1024 : Shape := ⟨2, ![2048, 1024]⟩
abbrev S1024x256 : Shape := ⟨2, ![1024, 256]⟩
abbrev S8x128x256 : Shape := ⟨3, ![8, 128, 256]⟩

abbrev nBuf : Space → Nat
  | .hbm => 65
  | .vmem => 22
  | .smem => 0
  | _ => 0

abbrev bufTy : (tb : Table) → Fin (tcTables nBuf tb) → BufTy
  | .hbm, ⟨0, _⟩ => ⟨S2x8192x2048, .f32⟩
  | .hbm, ⟨1, _⟩ => ⟨S8192, .i32⟩
  | .hbm, ⟨2, _⟩ => ⟨S2048, .f32⟩
  | .hbm, ⟨3, _⟩ => ⟨S2048x9216, .f32⟩
  | .hbm, ⟨4, _⟩ => ⟨S8192, .i32⟩
  | .hbm, ⟨5, _⟩ => ⟨S8192, .i1⟩
  | .hbm, ⟨6, _⟩ => ⟨S128, .i32⟩
  | .hbm, ⟨7, _⟩ => ⟨S128, .i1⟩
  | .hbm, ⟨8, _⟩ => ⟨S128, .i1⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S8192, .f32⟩
  | .hbm, ⟨42, _⟩ => ⟨S8192x1, .f32⟩
  | .hbm, ⟨43, _⟩ => ⟨S1x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S16384x2048, .f32⟩
  | .hbm, ⟨56, _⟩ => ⟨S1x2048, .f32⟩
  | .hbm, ⟨57, _⟩ => ⟨S2048x5120, .f32⟩
  | .hbm, ⟨58, _⟩ => ⟨S2048x5120, .bf16⟩
  | .hbm, ⟨59, _⟩ => ⟨S16384x1024, .bf16⟩
  | .hbm, ⟨60, _⟩ => ⟨S2x8x128x8192, .f32⟩
  | .hbm, ⟨61, _⟩ => ⟨S2x8x8x128x1024, .bf16⟩
  | .hbm, ⟨62, _⟩ => ⟨S16384x1024, .f32⟩
  | .hbm, ⟨63, _⟩ => ⟨S16384x1024, .bf16⟩
  | .hbm, ⟨64, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5120, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S1x8x128x256, .f32⟩
  | .local _ .vmem, ⟨13, _⟩ => ⟨S1x8x128x256, .f32⟩
  | .local _ .vmem, ⟨14, _⟩ => ⟨S1x8x1x128x256, .bf16⟩
  | .local _ .vmem, ⟨15, _⟩ => ⟨S1x8x1x128x256, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_cst : Ref sig .tc := ⟨.hbm, 9, rfl⟩
abbrev main_cst_4 : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_6 : Ref sig .tc := ⟨.hbm, 18, rfl⟩
abbrev main_v6 : Ref sig .tc := ⟨.hbm, 19, rfl⟩
abbrev main_v7 : Ref sig .tc := ⟨.hbm, 20, rfl⟩
abbrev main_cst_7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_8 : Ref sig .tc := ⟨.hbm, 25, rfl⟩
abbrev main_v11 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_v14 : Ref sig .tc := ⟨.hbm, 30, rfl⟩
abbrev main_c_10 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_11 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, c0_i32_22.toNat, v43.toNat, c0_i32_23.toNat, v53.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjIdeal.lean ====
variable {F : FTy → Type} [FloatOps F] [Named F]
def κ : String → Option EReal := fun
  | "qscale" => some ((8⁻¹ * (Real.log 2)⁻¹ : ℝ) : EReal)
  | _ => none
-- ==== InProjRefIdeal.lean ====
abbrev S2x8192x2048 : Shape := ⟨3, ![2, 8192, 2048]⟩
abbrev S8192 : Shape := ⟨1, ![8192]⟩
abbrev S2048 : Shape := ⟨1, ![2048]⟩
abbrev S2048x9216 : Shape := ⟨2, ![2048, 9216]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x9216 : Shape := ⟨3, ![2, 8192, 9216]⟩
abbrev S2x8192x1024 : Shape := ⟨3, ![2, 8192, 1024]⟩
abbrev S2x8192x8x2x64 : Shape := ⟨5, ![2, 8192, 8, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x8x2x8 : Shape := ⟨5, ![2, 8192, 8, 2, 8]⟩
abbrev S1x8192x1x1x8 : Shape := ⟨5, ![1, 8192, 1, 1, 8]⟩
abbrev S2x8192x8x2x48 : Shape := ⟨5, ![2, 8192, 8, 2, 48]⟩
abbrev S16384x1024 : Shape := ⟨2, ![16384, 1024]⟩
abbrev S2x8x1024x8x128 : Shape := ⟨5, ![2, 8, 1024, 8, 128]⟩
abbrev S2x8x2x64x8192 : Shape := ⟨5, ![2, 8, 2, 64, 8192]⟩
abbrev S2x8x128x8192 : Shape := ⟨4, ![2, 8, 128, 8192]⟩
abbrev S2x8x8x128x1024 : Shape := ⟨5, ![2, 8, 8, 128, 1024]⟩

abbrev nBuf : Space → Nat
  | .hbm => 140
  | .vmem => 0
  | .smem => 0
  | _ => 0

abbrev hbmTy0_0 (i : Nat) : BufTy := match i % 128 with
  | 0 => ⟨S2x8192x2048, .f32⟩
  | 1 => ⟨S8192, .i32⟩
  | 2 => ⟨S2048, .f32⟩
  | 3 => ⟨S2048x9216, .f32⟩
  | 4 => ⟨S2x8192x2048, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x2048, .f32⟩
  | 16 => ⟨S2x8192x2048, .f32⟩
  | 17 => ⟨S1x1x2048, .f32⟩
  | 18 => ⟨S2x8192x2048, .f32⟩
  | 19 => ⟨S2x8192x2048, .f32⟩
  | 20 => ⟨S2x8192x9216, .f32⟩
  | 21 => ⟨S2x8192x1024, .f32⟩
  | 22 => ⟨S2x8192x8x2x64, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8192, .f32⟩
  | 38 => ⟨S8192x1, .f32⟩
  | 39 => ⟨S1x8, .f32⟩
  | 40 => ⟨S8192x8, .f32⟩
  | 41 => ⟨S8192x8, .f32⟩
  | 42 => ⟨S8192x8, .f32⟩
  | 43 => ⟨S8192x8, .f32⟩
  | 44 => ⟨S8192x1x1x8, .f32⟩
  | 45 => ⟨S8192x8, .f32⟩
  | 46 => ⟨S8192x1x1x8, .f32⟩
  | 47 => ⟨S2x8192x8x2x8, .f32⟩
  | 48 => ⟨S2x8192x8x2x8, .f32⟩
  | 49 => ⟨S1x8192x1x1x8, .f32⟩
  | 50 => ⟨S2x8192x8x2x8, .f32⟩
  | 51 => ⟨S2x8192x8x2x8, .f32⟩
  | 52 => ⟨S1x8192x1x1x8, .f32⟩
  | 53 => ⟨S2x8192x8x2x8, .f32⟩
  | 54 => ⟨S2x8192x8x2x8, .f32⟩
  | 55 => ⟨S2x8192x8x2x8, .f32⟩
  | 56 => ⟨S1x8192x1x1x8, .f32⟩
  | 57 => ⟨S2x8192x8x2x8, .f32⟩
  | 58 => ⟨S2x8192x8x2x8, .f32⟩
  | 59 => ⟨S1x8192x1x1x8, .f32⟩
  | 60 => ⟨S2x8192x8x2x8, .f32⟩
  | 61 => ⟨S2x8192x8x2x8, .f32⟩
  | 62 => ⟨S2x8192x8x2x8, .f32⟩
  | 63 => ⟨S2x8192x8x2x48, .f32⟩
  | 64 => ⟨S2x8192x8x2x64, .f32⟩
  | 65 => ⟨S_, .f32⟩
  | 66 => ⟨S2x8192x8x2x64, .f32⟩
  | 67 => ⟨S2x8192x8x2x64, .f32⟩
  | 68 => ⟨S_, .f32⟩
  | 69 => ⟨S_, .f32⟩
  | 70 => ⟨S_, .f32⟩
  | 71 => ⟨S2x8192x8x2x64, .f32⟩
  | 72 => ⟨S2x8192x8x2x64, .f32⟩
  | 73 => ⟨S2x8192x1024, .f32⟩
  | 74 => ⟨S2x8192x8x2x64, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S8192, .f32⟩
  | 90 => ⟨S8192x1, .f32⟩
  | 91 => ⟨S1x8, .f32⟩
  | 92 => ⟨S8192x8, .f32⟩
  | 93 => ⟨S8192x8, .f32⟩
  | 94 => ⟨S8192x8, .f32⟩
  | 95 => ⟨S8192x8, .f32⟩
  | 96 => ⟨S8192x1x1x8, .f32⟩
  | 97 => ⟨S8192x8, .f32⟩
  | 98 => ⟨S8192x1x1x8, .f32⟩
  | 99 => ⟨S2x8192x8x2x8, .f32⟩
  | 100 => ⟨S2x8192x8x2x8, .f32⟩
  | 101 => ⟨S1x8192x1x1x8, .f32⟩
  | 102 => ⟨S2x8192x8x2x8, .f32⟩
  | 103 => ⟨S2x8192x8x2x8, .f32⟩
  | 104 => ⟨S1x8192x1x1x8, .f32⟩
  | 105 => ⟨S2x8192x8x2x8, .f32⟩
  | 106 => ⟨S2x8192x8x2x8, .f32⟩
  | 107 => ⟨S2x8192x8x2x8, .f32⟩
  | 108 => ⟨S1x8192x1x1x8, .f32⟩
  | 109 => ⟨S2x8192x8x2x8, .f32⟩
  | 110 => ⟨S2x8192x8x2x8, .f32⟩
  | 111 => ⟨S1x8192x1x1x8, .f32⟩
  | 112 => ⟨S2x8192x8x2x8, .f32⟩
  | 113 => ⟨S2x8192x8x2x8, .f32⟩
  | 114 => ⟨S2x8192x8x2x8, .f32⟩
  | 115 => ⟨S2x8192x8x2x48, .f32⟩
  | 116 => ⟨S2x8192x8x2x64, .f32⟩
  | 117 => ⟨S2x8192x1024, .f32⟩
  | 118 => ⟨S16384x1024, .f32⟩
  | 119 => ⟨S2x8192x2048, .f32⟩
  | 120 => ⟨S2x8192x1024, .f32⟩
  | 121 => ⟨S2x8192x1024, .f32⟩
  | 122 => ⟨S2x8192x1024, .f32⟩
  | 123 => ⟨S2x8192x1024, .f32⟩
  | 124 => ⟨S_, .f32⟩
  | 125 => ⟨S2x8192x1024, .f32⟩
  | 126 => ⟨S2x8192x1024, .f32⟩
  | 127 => ⟨S_, .f32⟩
  | _ => ⟨S2x8192x2048, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S2x8192x8x2x64, .bf16⟩
  | 4 => ⟨S2x8x1024x8x128, .bf16⟩
  | 5 => ⟨S2x8192x8x2x64, .bf16⟩
  | 6 => ⟨S16384x1024, .bf16⟩
  | 7 => ⟨S2x8x2x64x8192, .f32⟩
  | 8 => ⟨S2x8x128x8192, .f32⟩
  | 9 => ⟨S2x8x8x128x1024, .bf16⟩
  | 10 => ⟨S16384x1024, .bf16⟩
  | 11 => ⟨S16384x1024, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_12 : Ref sig .tc := ⟨.hbm, 124, rfl⟩
abbrev main_v107 : Ref sig .tc := ⟨.hbm, 125, rfl⟩
abbrev main_v108 : Ref sig .tc := ⟨.hbm, 126, rfl⟩
abbrev main_cst_13 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]
-- ==== InSamp.lean ====
abbrev S32x32x2048 : Shape := ⟨3, ![32, 32, 2048]⟩
abbrev S32 : Shape := ⟨1, ![32]⟩
abbrev S2048 : Shape := ⟨1, ![2048]⟩
abbrev S2048x9216 : Shape := ⟨2, ![2048, 9216]⟩
abbrev S256 : Shape := ⟨1, ![256]⟩
abbrev S128 : Shape := ⟨1, ![128]⟩
abbrev S_ : Shape := ⟨0, ![]⟩
abbrev S256x1 : Shape := ⟨2, ![256, 1]⟩
abbrev S8 : Shape := ⟨1, ![8]⟩
abbrev S128x1 : Shape := ⟨2, ![128, 1]⟩
abbrev S1x128 : Shape := ⟨2, ![1, 128]⟩
abbrev S256x128 : Shape := ⟨2, ![256, 128]⟩
abbrev S1024x2048 : Shape := ⟨2, ![1024, 2048]⟩
abbrev S1x2048 : Shape := ⟨2, ![1, 2048]⟩
abbrev S2048x5120 : Shape := ⟨2, ![2048, 5120]⟩
abbrev S1024x1024 : Shape := ⟨2, ![1024, 1024]⟩
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 65
  | .vmem => 19
  | .smem => 0
  | _ => 0

abbrev bufTy : (tb : Table) → Fin (tcTables nBuf tb) → BufTy
  | .hbm, ⟨0, _⟩ => ⟨S32x32x2048, .f32⟩
  | .hbm, ⟨1, _⟩ => ⟨S32, .i32⟩
  | .hbm, ⟨2, _⟩ => ⟨S2048, .f32⟩
  | .hbm, ⟨3, _⟩ => ⟨S2048x9216, .f32⟩
  | .hbm, ⟨4, _⟩ => ⟨S256, .i32⟩
  | .hbm, ⟨5, _⟩ => ⟨S256, .i1⟩
  | .hbm, ⟨6, _⟩ => ⟨S128, .i32⟩
  | .hbm, ⟨7, _⟩ => ⟨S128, .i1⟩
  | .hbm, ⟨8, _⟩ => ⟨S128, .i1⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S256, .i32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S256, .f32⟩
  | .hbm, ⟨42, _⟩ => ⟨S256x1, .f32⟩
  | .hbm, ⟨43, _⟩ => ⟨S1x128, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S1x128, .f32⟩
  | .hbm, ⟨49, _⟩ => ⟨S256x128, .f32⟩
  | .hbm, ⟨50, _⟩ => ⟨S256x128, .f32⟩
  | .hbm, ⟨51, _⟩ => ⟨S1x128, .f32⟩
  | .hbm, ⟨52, _⟩ => ⟨S256x128, .f32⟩
  | .hbm, ⟨53, _⟩ => ⟨S256x128, .f32⟩
  | .hbm, ⟨54, _⟩ => ⟨S256x128, .f32⟩
  | .hbm, ⟨55, _⟩ => ⟨S1024x2048, .f32⟩
  | .hbm, ⟨56, _⟩ => ⟨S1x2048, .f32⟩
  | .hbm, ⟨57, _⟩ => ⟨S2048x5120, .f32⟩
  | .hbm, ⟨58, _⟩ => ⟨S2048x5120, .bf16⟩
  | .hbm, ⟨59, _⟩ => ⟨S1024x1024, .bf16⟩
  | .hbm, ⟨60, _⟩ => ⟨S1024x1024, .f32⟩
  | .hbm, ⟨61, _⟩ => ⟨S1024x1024, .bf16⟩
  | .hbm, ⟨62, _⟩ => ⟨S1024x1024, .f32⟩
  | .hbm, ⟨63, _⟩ => ⟨S1024x1024, .bf16⟩
  | .hbm, ⟨64, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5120, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_cst : Ref sig .tc := ⟨.hbm, 9, rfl⟩
abbrev main_cst_4 : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_6 : Ref sig .tc := ⟨.hbm, 18, rfl⟩
abbrev main_v6 : Ref sig .tc := ⟨.hbm, 19, rfl⟩
abbrev main_v7 : Ref sig .tc := ⟨.hbm, 20, rfl⟩
abbrev main_cst_7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_8 : Ref sig .tc := ⟨.hbm, 25, rfl⟩
abbrev main_v11 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_v14 : Ref sig .tc := ⟨.hbm, 30, rfl⟩
abbrev main_c_10 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_11 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InSampIdeal.lean ====
variable {F : FTy → Type} [FloatOps F] [Named F]
def κ : String → Option EReal := fun
  | "qscale" => some ((8⁻¹ * (Real.log 2)⁻¹ : ℝ) : EReal)
  | _ => none
-- ==== InSampRefIdeal.lean ====
abbrev S32x32x2048 : Shape := ⟨3, ![32, 32, 2048]⟩
abbrev S32 : Shape := ⟨1, ![32]⟩
abbrev S2048 : Shape := ⟨1, ![2048]⟩
abbrev S2048x9216 : Shape := ⟨2, ![2048, 9216]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S32x32x9216 : Shape := ⟨3, ![32, 32, 9216]⟩
abbrev S32x32x1024 : Shape := ⟨3, ![32, 32, 1024]⟩
abbrev S32x32x8x2x64 : Shape := ⟨5, ![32, 32, 8, 2, 64]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x1x1x8 : Shape := ⟨4, ![32, 1, 1, 8]⟩
abbrev S32x32x8x2x8 : Shape := ⟨5, ![32, 32, 8, 2, 8]⟩
abbrev S1x32x1x1x8 : Shape := ⟨5, ![1, 32, 1, 1, 8]⟩
abbrev S32x32x8x2x48 : Shape := ⟨5, ![32, 32, 8, 2, 48]⟩
abbrev S1024x1024 : Shape := ⟨2, ![1024, 1024]⟩

abbrev nBuf : Space → Nat
  | .hbm => 137
  | .vmem => 0
  | .smem => 0
  | _ => 0

abbrev hbmTy0_0 (i : Nat) : BufTy := match i % 128 with
  | 0 => ⟨S32x32x2048, .f32⟩
  | 1 => ⟨S32, .i32⟩
  | 2 => ⟨S2048, .f32⟩
  | 3 => ⟨S2048x9216, .f32⟩
  | 4 => ⟨S32x32x2048, .f32⟩
  | 5 => ⟨S_, .f32⟩
  | 6 => ⟨S32x32, .f32⟩
  | 7 => ⟨S32x32x1, .f32⟩
  | 8 => ⟨S_, .f32⟩
  | 9 => ⟨S32x32x1, .f32⟩
  | 10 => ⟨S32x32x1, .f32⟩
  | 11 => ⟨S_, .f32⟩
  | 12 => ⟨S32x32x1, .f32⟩
  | 13 => ⟨S32x32x1, .f32⟩
  | 14 => ⟨S32x32x1, .f32⟩
  | 15 => ⟨S32x32x2048, .f32⟩
  | 16 => ⟨S32x32x2048, .f32⟩
  | 17 => ⟨S1x1x2048, .f32⟩
  | 18 => ⟨S32x32x2048, .f32⟩
  | 19 => ⟨S32x32x2048, .f32⟩
  | 20 => ⟨S32x32x9216, .f32⟩
  | 21 => ⟨S32x32x1024, .f32⟩
  | 22 => ⟨S32x32x8x2x64, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S32, .f32⟩
  | 38 => ⟨S32x1, .f32⟩
  | 39 => ⟨S1x8, .f32⟩
  | 40 => ⟨S32x8, .f32⟩
  | 41 => ⟨S32x8, .f32⟩
  | 42 => ⟨S32x8, .f32⟩
  | 43 => ⟨S32x8, .f32⟩
  | 44 => ⟨S32x1x1x8, .f32⟩
  | 45 => ⟨S32x8, .f32⟩
  | 46 => ⟨S32x1x1x8, .f32⟩
  | 47 => ⟨S32x32x8x2x8, .f32⟩
  | 48 => ⟨S32x32x8x2x8, .f32⟩
  | 49 => ⟨S1x32x1x1x8, .f32⟩
  | 50 => ⟨S32x32x8x2x8, .f32⟩
  | 51 => ⟨S32x32x8x2x8, .f32⟩
  | 52 => ⟨S1x32x1x1x8, .f32⟩
  | 53 => ⟨S32x32x8x2x8, .f32⟩
  | 54 => ⟨S32x32x8x2x8, .f32⟩
  | 55 => ⟨S32x32x8x2x8, .f32⟩
  | 56 => ⟨S1x32x1x1x8, .f32⟩
  | 57 => ⟨S32x32x8x2x8, .f32⟩
  | 58 => ⟨S32x32x8x2x8, .f32⟩
  | 59 => ⟨S1x32x1x1x8, .f32⟩
  | 60 => ⟨S32x32x8x2x8, .f32⟩
  | 61 => ⟨S32x32x8x2x8, .f32⟩
  | 62 => ⟨S32x32x8x2x8, .f32⟩
  | 63 => ⟨S32x32x8x2x48, .f32⟩
  | 64 => ⟨S32x32x8x2x64, .f32⟩
  | 65 => ⟨S_, .f32⟩
  | 66 => ⟨S32x32x8x2x64, .f32⟩
  | 67 => ⟨S32x32x8x2x64, .f32⟩
  | 68 => ⟨S_, .f32⟩
  | 69 => ⟨S_, .f32⟩
  | 70 => ⟨S_, .f32⟩
  | 71 => ⟨S32x32x8x2x64, .f32⟩
  | 72 => ⟨S32x32x8x2x64, .f32⟩
  | 73 => ⟨S32x32x1024, .f32⟩
  | 74 => ⟨S32x32x8x2x64, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S32, .f32⟩
  | 90 => ⟨S32x1, .f32⟩
  | 91 => ⟨S1x8, .f32⟩
  | 92 => ⟨S32x8, .f32⟩
  | 93 => ⟨S32x8, .f32⟩
  | 94 => ⟨S32x8, .f32⟩
  | 95 => ⟨S32x8, .f32⟩
  | 96 => ⟨S32x1x1x8, .f32⟩
  | 97 => ⟨S32x8, .f32⟩
  | 98 => ⟨S32x1x1x8, .f32⟩
  | 99 => ⟨S32x32x8x2x8, .f32⟩
  | 100 => ⟨S32x32x8x2x8, .f32⟩
  | 101 => ⟨S1x32x1x1x8, .f32⟩
  | 102 => ⟨S32x32x8x2x8, .f32⟩
  | 103 => ⟨S32x32x8x2x8, .f32⟩
  | 104 => ⟨S1x32x1x1x8, .f32⟩
  | 105 => ⟨S32x32x8x2x8, .f32⟩
  | 106 => ⟨S32x32x8x2x8, .f32⟩
  | 107 => ⟨S32x32x8x2x8, .f32⟩
  | 108 => ⟨S1x32x1x1x8, .f32⟩
  | 109 => ⟨S32x32x8x2x8, .f32⟩
  | 110 => ⟨S32x32x8x2x8, .f32⟩
  | 111 => ⟨S1x32x1x1x8, .f32⟩
  | 112 => ⟨S32x32x8x2x8, .f32⟩
  | 113 => ⟨S32x32x8x2x8, .f32⟩
  | 114 => ⟨S32x32x8x2x8, .f32⟩
  | 115 => ⟨S32x32x8x2x48, .f32⟩
  | 116 => ⟨S32x32x8x2x64, .f32⟩
  | 117 => ⟨S1024x1024, .f32⟩
  | 118 => ⟨S32x32x1024, .f32⟩
  | 119 => ⟨S1024x1024, .f32⟩
  | 120 => ⟨S32x32x2048, .f32⟩
  | 121 => ⟨S32x32x1024, .f32⟩
  | 122 => ⟨S32x32x1024, .f32⟩
  | 123 => ⟨S32x32x1024, .f32⟩
  | 124 => ⟨S32x32x1024, .f32⟩
  | 125 => ⟨S_, .f32⟩
  | 126 => ⟨S32x32x1024, .f32⟩
  | 127 => ⟨S32x32x1024, .f32⟩
  | _ => ⟨S32x32x2048, .f32⟩

abbrev hbmTy0_1 (i : Nat) : BufTy := match i % 128 with
  | 0 => ⟨S_, .f32⟩
  | 1 => ⟨S32x32x1024, .f32⟩
  | 2 => ⟨S32x32x1024, .f32⟩
  | 3 => ⟨S32x32x1024, .f32⟩
  | 4 => ⟨S32x32x8x2x64, .bf16⟩
  | 5 => ⟨S1024x1024, .bf16⟩
  | 6 => ⟨S1024x1024, .bf16⟩
  | 7 => ⟨S1024x1024, .bf16⟩
  | 8 => ⟨S1024x1024, .f32⟩
  | _ => ⟨S32x32x2048, .f32⟩

abbrev hbmTy (i : Nat) : BufTy := match i / 128 with
  | 0 => hbmTy0_0 i
  | 1 => hbmTy0_1 i
  | _ => ⟨S32x32x2048, .f32⟩

abbrev bufTy : (tb : Table) → Fin (tcTables nBuf tb) → BufTy
  | .hbm, ⟨i, _⟩ => hbmTy i
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_12 : Ref sig .tc := ⟨.hbm, 125, rfl⟩
abbrev main_v108 : Ref sig .tc := ⟨.hbm, 126, rfl⟩
abbrev main_v109 : Ref sig .tc := ⟨.hbm, 127, rfl⟩
abbrev main_cst_13 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩

abbrev nD : Nat := 1
abbrev τ : Topo := Topo.v7x

variable {F : FTy → Type} [FloatOps F]
-- ==== MergeSamp.lean ====
abbrev S32x32x2048 : Shape := ⟨3, ![32, 32, 2048]⟩
abbrev S2048 : Shape := ⟨1, ![2048]⟩
abbrev S2048x9216 : Shape := ⟨2, ![2048, 9216]⟩
abbrev S32x32x8x128 : Shape := ⟨4, ![32, 32, 8, 128]⟩
abbrev S32x32x1024 : Shape := ⟨3, ![32, 32, 1024]⟩
abbrev S1024x2048 : Shape := ⟨2, ![1024, 2048]⟩
abbrev S2048x2048 : Shape := ⟨2, ![2048, 2048]⟩
abbrev S1x2048 : Shape := ⟨2, ![1, 2048]⟩
abbrev S2048x4096 : Shape := ⟨2, ![2048, 4096]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1024x512 : Shape := ⟨2, ![1024, 512]⟩
abbrev S1x512 : Shape := ⟨2, ![1, 512]⟩

abbrev nBuf : Space → Nat
  | .hbm => 24
  | .vmem => 15
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S2048x9216, .f32⟩
  | .hbm, ⟨3, _⟩ => ⟨S32x32x8x128, .f32⟩
  | .hbm, ⟨4, _⟩ => ⟨S32x32x1024, .f32⟩
  | .hbm, ⟨5, _⟩ => ⟨S1024x2048, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S1024x2048, .f32⟩
  | .hbm, ⟨11, _⟩ => ⟨S1x2048, .f32⟩
  | .hbm, ⟨12, _⟩ => ⟨S2048x4096, .f32⟩
  | .hbm, ⟨13, _⟩ => ⟨S2048x4096, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x2048, .bf16⟩
  | .hbm, ⟨19, _⟩ => ⟨S1024x2048, .bf16⟩
  | .hbm, ⟨20, _⟩ => ⟨S1x2048, .f32⟩
  | .hbm, ⟨21, _⟩ => ⟨S2048x2048, .bf16⟩
  | .hbm, ⟨22, _⟩ => ⟨S1x2048, .f32⟩
  | .hbm, ⟨23, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeSampRefIdeal.lean ====
abbrev S32x32x2048 : Shape := ⟨3, ![32, 32, 2048]⟩
abbrev S2048 : Shape := ⟨1, ![2048]⟩
abbrev S2048x9216 : Shape := ⟨2, ![2048, 9216]⟩
abbrev S32x32x8x128 : Shape := ⟨4, ![32, 32, 8, 128]⟩
abbrev S32x32x1024 : Shape := ⟨3, ![32, 32, 1024]⟩
abbrev S1024x2048 : Shape := ⟨2, ![1024, 2048]⟩
abbrev S2048x2048 : Shape := ⟨2, ![2048, 2048]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S32x32x9216 : Shape := ⟨3, ![32, 32, 9216]⟩
abbrev S32x32x4096 : Shape := ⟨3, ![32, 32, 4096]⟩

abbrev nBuf : Space → Nat
  | .hbm => 74
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S2048x9216, .f32⟩
  | .hbm, ⟨3, _⟩ => ⟨S32x32x8x128, .f32⟩
  | .hbm, ⟨4, _⟩ => ⟨S32x32x1024, .f32⟩
  | .hbm, ⟨5, _⟩ => ⟨S1024x2048, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S32x32x2048, .f32⟩
  | .hbm, ⟨11, _⟩ => ⟨S_, .f32⟩
  | .hbm, ⟨12, _⟩ => ⟨S32x32, .f32⟩
  | .hbm, ⟨13, _⟩ => ⟨S32x32x1, .f32⟩
  | .hbm, ⟨14, _⟩ => ⟨S_, .f32⟩
  | .hbm, ⟨15, _⟩ => ⟨S32x32x1, .f32⟩
  | .hbm, ⟨16, _⟩ => ⟨S32x32x1, .f32⟩
  | .hbm, ⟨17, _⟩ => ⟨S_, .f32⟩
  | .hbm, ⟨18, _⟩ => ⟨S32x32x1, .f32⟩
  | .hbm, ⟨19, _⟩ => ⟨S32x32x1, .f32⟩
  | .hbm, ⟨20, _⟩ => ⟨S32x32x1, .f32⟩
  | .hbm, ⟨21, _⟩ => ⟨S32x32x2048, .f32⟩
  | .hbm, ⟨22, _⟩ => ⟨S32x32x2048, .f32⟩
  | .hbm, ⟨23, _⟩ => ⟨S1x1x2048, .f32⟩
  | .hbm, ⟨24, _⟩ => ⟨S32x32x2048, .f32⟩
  | .hbm, ⟨25, _⟩ => ⟨S32x32x2048, .f32⟩
  | .hbm, ⟨26, _⟩ => ⟨S32x32x9216, .f32⟩
  | .hbm, ⟨27, _⟩ => ⟨S32x32x4096, .f32⟩
  | .hbm, ⟨28, _⟩ => ⟨S32x32x1024, .f32⟩
  | .hbm, ⟨29, _⟩ => ⟨S32x32x2048, .f32⟩
  | .hbm, ⟨30, _⟩ => ⟨S32x32x2048, .f32⟩
  | .hbm, ⟨31, _⟩ => ⟨S1x1x2048, .f32⟩
  | .hbm, ⟨32, _⟩ => ⟨S32x32x2048, .f32⟩
  | .hbm, ⟨33, _⟩ => ⟨S32x32x2048, .f32⟩
  | .hbm, ⟨34, _⟩ => ⟨S32x32x2048, .f32⟩
  | .hbm, ⟨35, _⟩ => ⟨S32x32x2048, .f32⟩
  | .hbm, ⟨36, _⟩ => ⟨S32x32x2048, .f32⟩
  | .hbm, ⟨37, _⟩ => ⟨S_, .f32⟩
  | .hbm, ⟨38, _⟩ => ⟨S32x32x2048, .f32⟩
  | .hbm, ⟨39, _⟩ => ⟨S32x32x2048, .f32⟩
  | .hbm, ⟨40, _⟩ => ⟨S_, .f32⟩
  | .hbm, ⟨41, _⟩ => ⟨S32x32x2048, .f32⟩
  | .hbm, ⟨42, _⟩ => ⟨S32x32x2048, .f32⟩
  | .hbm, ⟨43, _⟩ => ⟨S32x32x2048, .f32⟩
  | .hbm, ⟨44, _⟩ => ⟨S32x32x2048, .f32⟩
  | .hbm, ⟨45, _⟩ => ⟨S32x32x2048, .f32⟩
  | .hbm, ⟨46, _⟩ => ⟨S32x32x2048, .f32⟩
  | .hbm, ⟨47, _⟩ => ⟨S_, .f32⟩
  | .hbm, ⟨48, _⟩ => ⟨S32x32x2048, .f32⟩
  | .hbm, ⟨49, _⟩ => ⟨S32x32x2048, .f32⟩
  | .hbm, ⟨50, _⟩ => ⟨S_, .f32⟩
  | .hbm, ⟨51, _⟩ => ⟨S32x32x2048, .f32⟩
  | .hbm, ⟨52, _⟩ => ⟨S32x32x2048, .f32⟩
  | .hbm, ⟨53, _⟩ => ⟨S32x32x2048, .f32⟩
  | .hbm, ⟨54, _⟩ => ⟨S32x32x2048, .f32⟩
  | .hbm, ⟨55, _⟩ => ⟨S32x32x2048, .f32⟩
  | .hbm, ⟨56, _⟩ => ⟨S32x32x2048, .f32⟩
  | .hbm, ⟨57, _⟩ => ⟨S_, .f32⟩
  | .hbm, ⟨58, _⟩ => ⟨S32x32, .f32⟩
  | .hbm, ⟨59, _⟩ => ⟨S32x32x1, .f32⟩
  | .hbm, ⟨60, _⟩ => ⟨S_, .f32⟩
  | .hbm, ⟨61, _⟩ => ⟨S32x32x1, .f32⟩
  | .hbm, ⟨62, _⟩ => ⟨S32x32x1, .f32⟩
  | .hbm, ⟨63, _⟩ => ⟨S_, .f32⟩
  | .hbm, ⟨64, _⟩ => ⟨S32x32x1, .f32⟩
  | .hbm, ⟨65, _⟩ => ⟨S32x32x1, .f32⟩
  | .hbm, ⟨66, _⟩ => ⟨S32x32x1, .f32⟩
  | .hbm, ⟨67, _⟩ => ⟨S32x32x2048, .f32⟩
  | .hbm, ⟨68, _⟩ => ⟨S32x32x2048, .f32⟩
  | .hbm, ⟨69, _⟩ => ⟨S1x1x2048, .f32⟩
  | .hbm, ⟨70, _⟩ => ⟨S32x32x2048, .f32⟩
  | .hbm, ⟨71, _⟩ => ⟨S32x32x2048, .f32⟩
  | .hbm, ⟨72, _⟩ => ⟨S32x32x2048, .f32⟩
  | .hbm, ⟨73, _⟩ => ⟨S1024x2048, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== FfnSamp.lean ====
abbrev S32x32x2048 : Shape := ⟨3, ![32, 32, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1024x2048, .f32⟩
  | .hbm, ⟨7, _⟩ => ⟨S1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnSampRefIdeal.lean ====
abbrev S32x32x2048 : Shape := ⟨3, ![32, 32, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S32x32x5632 : Shape := ⟨3, ![32, 32, 5632]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32x32x2048, .f32⟩
  | .hbm, ⟨7, _⟩ => ⟨S_, .f32⟩
  | .hbm, ⟨8, _⟩ => ⟨S32x32, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S_, .f32⟩
  | .hbm, ⟨14, _⟩ => ⟨S32x32x1, .f32⟩
  | .hbm, ⟨15, _⟩ => ⟨S32x32x1, .f32⟩
  | .hbm, ⟨16, _⟩ => ⟨S32x32x1, .f32⟩
  | .hbm, ⟨17, _⟩ => ⟨S32x32x2048, .f32⟩
  | .hbm, ⟨18, _⟩ => ⟨S32x32x2048, .f32⟩
  | .hbm, ⟨19, _⟩ => ⟨S1x1x2048, .f32⟩
  | .hbm, ⟨20, _⟩ => ⟨S32x32x2048, .f32⟩
  | .hbm, ⟨21, _⟩ => ⟨S32x32x2048, .f32⟩
  | .hbm, ⟨22, _⟩ => ⟨S32x32x5632, .f32⟩
  | .hbm, ⟨23, _⟩ => ⟨S32x32x5632, .f32⟩
  | .hbm, ⟨24, _⟩ => ⟨S32x32x5632, .f32⟩
  | .hbm, ⟨25, _⟩ => ⟨S_, .f32⟩
  | .hbm, ⟨26, _⟩ => ⟨S32x32x5632, .f32⟩
  | .hbm, ⟨27, _⟩ => ⟨S32x32x5632, .f32⟩
  | .hbm, ⟨28, _⟩ => ⟨S_, .f32⟩
  | .hbm, ⟨29, _⟩ => ⟨S32x32x5632, .f32⟩
  | .hbm, ⟨30, _⟩ => ⟨S32x32x5632, .f32⟩
  | .hbm, ⟨31, _⟩ => ⟨S32x32x5632, .f32⟩
  | .hbm, ⟨32, _⟩ => ⟨S32x32x5632, .f32⟩
  | .hbm, ⟨33, _⟩ => ⟨S32x32x5632, .f32⟩
  | .hbm, ⟨34, _⟩ => ⟨S32x32x2048, .f32⟩
  | .hbm, ⟨35, _⟩ => ⟨S32x32x2048, .f32⟩
  | .hbm, ⟨36, _⟩ => ⟨S_, .f32⟩
  | .hbm, ⟨37, _⟩ => ⟨S32x32, .f32⟩
  | .hbm, ⟨38, _⟩ => ⟨S32x32x1, .f32⟩
  | .hbm, ⟨39, _⟩ => ⟨S_, .f32⟩
  | .hbm, ⟨40, _⟩ => ⟨S32x32x1, .f32⟩
  | .hbm, ⟨41, _⟩ => ⟨S32x32x1, .f32⟩
  | .hbm, ⟨42, _⟩ => ⟨S_, .f32⟩
  | .hbm, ⟨43, _⟩ => ⟨S32x32x1, .f32⟩
  | .hbm, ⟨44, _⟩ => ⟨S32x32x1, .f32⟩
  | .hbm, ⟨45, _⟩ => ⟨S32x32x1, .f32⟩
  | .hbm, ⟨46, _⟩ => ⟨S32x32x2048, .f32⟩
  | .hbm, ⟨47, _⟩ => ⟨S32x32x2048, .f32⟩
  | .hbm, ⟨48, _⟩ => ⟨S1x1x2048, .f32⟩
  | .hbm, ⟨49, _⟩ => ⟨S32x32x2048, .f32⟩
  | .hbm, ⟨50, _⟩ => ⟨S32x32x2048, .f32⟩
  | .hbm, ⟨51, _⟩ => ⟨S32x32x2048, .f32⟩
  | .hbm, ⟨52, _⟩ => ⟨S1024x2048, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Attn.Defs.lean ====
/- The attention's tile step, head by head: what a sweep over a cache tile stores for each head, as one function of
   the head's queries, keys and running statistics. -/
module

public import proofs.«01_k».proof.Proof.Gen.KernelIdeal.Value
public import Idealize.ShloMosaic.Lib.Pipeline.ReadBack
public import Idealize.ShloMosaic.Lib.ValueIdx

@[expose] public section

set_option maxRecDepth 16384

noncomputable section

namespace Cert.KernelIdeal.Attn

open Idealize.ShloMosaic Idealize.ShloMosaic.ValueIdx Idealize.ShloMosaic.TcCoe Idealize.ShloMosaic.Tactic Cert.KernelIdeal Cert.KernelIdeal.Gen

variable {F : FTy → Type} [FloatOps F] [Named F]

/-- The scores of a head's 64 rows against a cache tile's 2048 keys. -/
def tS (q : Vec F S1x64x128 .bf16) (k : Vec F S1x1x128x2048 .f32) : FVec F S64x2048 .f32 := k0_pay140 q k

/-- The running maximum after the tile. -/
def tM (s : FVec F S64x2048 .f32) (m : Vec F S1x64x128 .f32) : FVec F S1x64x128 .f32 := k0_pay186 (k0_pay166 s m)

/-- The running lane sums after the tile. -/
def tL (s : FVec F S64x2048 .f32) (m l : Vec F S1x64x128 .f32) : FVec F S1x64x128 .f32 :=
  k0_pay185 (k0_pay158 s) (k0_pay159 s) (k0_pay160 s) (k0_pay161 s) (k0_pay162 s) (k0_pay163 s) (k0_pay164 s)
    (k0_pay166 s m) (k0_pay167 s m) (k0_pay168 s m) (k0_pay169 s m) (k0_pay170 s m) (k0_pay171 s m) (k0_pay172 s
    m) (k0_pay173 s m) (k0_pay174 s m) (k0_pay175 s m) (k0_pay176 s m) l

/-- The running weighted sum of values after the tile. -/
def tA (s : FVec F S64x2048 .f32) (m : Vec F S1x64x128 .f32) (v : Vec F S1x2048x128 .f32) (a : Vec F S1x64x128 .f32) :
    FVec F S1x64x128 .f32 :=
  k0_pay500 (k0_pay167 s m) (k0_pay196 (k0_pay178 (k0_pay158 s) (k0_pay166 s m)) (k0_pay179 (k0_pay159 s)
    (k0_pay166 s m)) (k0_pay180 (k0_pay160 s) (k0_pay166 s m)) (k0_pay181 (k0_pay161 s) (k0_pay166 s m))
    (k0_pay182 (k0_pay162 s) (k0_pay166 s m)) (k0_pay183 (k0_pay163 s) (k0_pay166 s m)) (k0_pay184 (k0_pay164 s)
    (k0_pay166 s m)) (k0_pay187 (k0_pay168 s m)) (k0_pay188 (k0_pay169 s m)) (k0_pay189 (k0_pay170 s m))
    (k0_pay190 (k0_pay171 s m)) (k0_pay191 (k0_pay172 s m)) (k0_pay192 (k0_pay173 s m)) (k0_pay193 (k0_pay174 s
    m)) (k0_pay194 (k0_pay175 s m)) (k0_pay195 (k0_pay176 s m))) v a

/-- The scores of a head's 64 rows against the padded new keys, the padding masked. -/
def nS (q : Vec F S1x64x128 .bf16) (k : Vec F S128x128 .bf16) : FVec F S64x128 .f32 := k0_pay46 q k

/-- The running maximum after the new keys. -/
def nM (q : Vec F S1x64x128 .bf16) (k : Vec F S128x128 .bf16) (m : Vec F S1x64x128 .f32) : FVec F S1x64x128 .f32 := k0_pay52 q k m

/-- The running lane sums after the new keys. -/
def nL (q : Vec F S1x64x128 .bf16) (k : Vec F S128x128 .bf16) (m l : Vec F S1x64x128 .f32) : FVec F S1x64x128 .f32 := k0_pay51 q k m l

/-- The running weighted sum of values after the new keys. -/
def nA (q : Vec F S1x64x128 .bf16) (k : Vec F S128x128 .bf16) (m : Vec F S1x64x128 .f32) (v : Vec F S128x128 .bf16)
    (a : Vec F S1x64x128 .f32) : FVec F S1x64x128 .f32 := k0_pay53 v (k0_pay49 q k m) (k0_pay50 q k m) a

/-- The weight of the second map, from the four vectors. -/
def lamV (x0 x1 x2 x3 : Vec F S1x64 .f32) : FVec F S1x1 .f32 := k0_pay45 (k0_pay43 x0 x1) (k0_pay44 x2 x3)

/-- A head's output: the two maps' quotients, their weighted difference, its norm. -/
def oH (lam : FVec F S1x1 .f32) (a1 l1 a2 l2 : Vec F S1x32x128 .f32) (g : Vec F S1x128 .f32) : FVec F S32x128 .bf16 :=
  k0_pay57 (k0_pay54 g) (k0_pay55 lam a1 l1 a2 l2) (k0_pay56 lam a1 l1 a2 l2) (FloatOps.ofBits .f32 0x43000000#32)

/-- The rectangle of a head in a stacked buffer. -/
def rH (h : Fin 8) : Rect S8x64x128 :=
  Rect.unit ![h.val, 0, 0] S1x64x128.size (by intro a; fin_cases a <;> simp [S1x64x128, S8x64x128] <;> omega)

/-- A head of a stacked buffer. -/
def hd {e : EltTy} (X : Vec F S8x64x128 e) (h : Fin 8) : Vec F S1x64x128 e := View.ld X (rH h)

/-- A head's keys in a cache tile. -/
def kT (X : Vec F S1x8x128x2048 .f32) (h : Fin 8) : Vec F S1x1x128x2048 .f32 :=
  View.ld X (Rect.unit ![0, h.val, 0, 0] S1x1x128x2048.size (by intro a; fin_cases a <;> simp [S1x1x128x2048, S1x8x128x2048] <;> omega))

/-- A head's values in a cache tile: every eighth row. -/
def vT (X : Vec F S1x16384x128 .f32) (h : Fin 8) : Vec F S1x2048x128 .f32 :=
  View.ld X { off := ![0, h.val, 0], size := S1x2048x128.size, stride := ![1, 8, 1], inb := by intro a; fin_cases a <;> simp [S1x2048x128, S1x16384x128] <;> omega, stride_pos := by intro a; fin_cases a <;> simp }

/-- Eight heads stored one after another, the last first. -/
def stack {e : EltTy} (G : Fin 8 → Vec F S1x64x128 e) : List (View.Piece (Elt F) S8x64x128 e) :=
  [⟨rH 7, G 7⟩, ⟨rH 6, G 6⟩, ⟨rH 5, G 5⟩, ⟨rH 4, G 4⟩, ⟨rH 3, G 3⟩, ⟨rH 2, G 2⟩, ⟨rH 1, G 1⟩, ⟨rH 0, G 0⟩]

/-- The maxima, head by head, after a tile. -/
def tileM (Q : Vec F S8x64x128 .bf16) (K : Vec F S1x8x128x2048 .f32) (m : Vec F S8x64x128 .f32) (h : Fin 8) : FVec F S1x64x128 .f32 :=
  tM (tS (hd Q h) (kT K h)) (hd m h)

/-- The lane sums, head by head, after a tile. -/
def tileL (Q : Vec F S8x64x128 .bf16) (K : Vec F S1x8x128x2048 .f32) (m l : Vec F S8x64x128 .f32) (h : Fin 8) : FVec F S1x64x128 .f32 :=
  tL (tS (hd Q h) (kT K h)) (hd m h) (hd l h)

/-- The weighted sums, head by head, after a tile. -/
def tileA (Q : Vec F S8x64x128 .bf16) (K : Vec F S1x8x128x2048 .f32) (m : Vec F S8x64x128 .f32) (V : Vec F S1x16384x128 .f32)
    (a : Vec F S8x64x128 .f32) (h : Fin 8) : FVec F S1x64x128 .f32 :=
  tA (tS (hd Q h) (kT K h)) (hd m h) (vT V h) (hd a h)

/-- A head's columns of the padded new keys or values. -/
def kN (X : Vec F S128x1024 .bf16) (h : Fin 8) : Vec F S128x128 .bf16 :=
  View.ld X (Rect.unit ![0, 128 * h.val] S128x128.size (by intro a; fin_cases a <;> simp [S128x128, S128x1024] <;> omega))

/-- The new keys, padded with zero rows. -/
def kPad (X : Vec F S32x1024 .bf16) : Vec F S128x1024 .bf16 :=
  View.canon [⟨Rect.unit ![0, 0] S32x1024.size inb_S128x1024_S32x1024_0_0, k0_pay41 X⟩, ⟨Rect.unit ![0, 0] S128x1024.size inb_S128x1024_S128x1024_0_0, k0_pay39⟩]

/-- The new values, padded with zero rows. -/
def vPad (X : Vec F S32x1024 .bf16) : Vec F S128x1024 .bf16 :=
  View.canon [⟨Rect.unit ![0, 0] S32x1024.size inb_S128x1024_S32x1024_0_0, k0_pay42 X⟩, ⟨Rect.unit ![0, 0] S128x1024.size inb_S128x1024_S128x1024_0_0, k0_pay40⟩]

/-- The first map's rows. -/
def lo (w : Vec F S1x64x128 .f32) : Vec F S1x32x128 .f32 := fun j => w (ix3 0 ⟨(j 1).val, by have := (j 1).isLt; simp [S1x32x128] at this; omega⟩ (j 2))

/-- The second map's rows. -/
def hi (w : Vec F S1x64x128 .f32) : Vec F S1x32x128 .f32 := fun j => w (ix3 0 ⟨32 + (j 1).val, by have := (j 1).isLt; simp [S1x32x128] at this; omega⟩ (j 2))

/-- A head's columns of the output block. -/
def rO (h : Fin 8) : Rect S32x1024 :=
  Rect.unit ![0, 128 * h.val] S32x128.size (by intro a; fin_cases a <;> simp [S32x128, S32x1024] <;> omega)

/-- Eight heads' columns of the output block, the last first. -/
def outStack {e : EltTy} (G : Fin 8 → Vec F S32x128 e) : List (View.Piece (Elt F) S32x1024 e) :=
  [⟨rO 7, G 7⟩, ⟨rO 6, G 6⟩, ⟨rO 5, G 5⟩, ⟨rO 4, G 4⟩, ⟨rO 3, G 3⟩, ⟨rO 2, G 2⟩, ⟨rO 1, G 1⟩, ⟨rO 0, G 0⟩]

theorem readCov_lo {sig : RefSig} {κ : Kind} {sp : Space} (v : View sig κ sp S8x64x128 .f32) (h : Fin 8) (w : Vec F S1x64x128 .f32) (L) (inb) :
    v.readCov (⟨rH h, w⟩ :: L) (Rect.unit (s := S8x64x128) ![h.val, 0, 0] S1x32x128.size inb).toLoadRect = lo w := by
  rw [View.readCov_eq_canon']
  funext j
  have h0 : (j 0).val = 0 := by have : (j 0).val < 1 := (j 0).isLt; omega
  have h1 : (j 1).val < 32 := (j 1).isLt
  let x : S1x64x128.Idx := ix3 0 ⟨(j 1).val, by omega⟩ (j 2)
  have e : (Rect.unit (s := S8x64x128) ![h.val, 0, 0] S1x32x128.size inb).toLoadRect.idx j = (rH h).emb x := by
    funext a; apply Fin.ext
    refine (LoadRect.idx_apply _ _ _).trans (Eq.trans ?_ (Rect.emb_apply _ _ _).symm)
    match a with
    | ⟨0, _⟩ => show h.val + 1 * (j 0).val = h.val + 1 * 0; omega
    | ⟨1, _⟩ => show 0 + 1 * (j 1).val = 0 + 1 * (j 1).val; omega
    | ⟨2, _⟩ => rfl
  exact (congrArg _ e).trans (View.canon_cons_emb (rH h) w L x)

theorem readCov_hi {sig : RefSig} {κ : Kind} {sp : Space} (v : View sig κ sp S8x64x128 .f32) (h : Fin 8) (w : Vec F S1x64x128 .f32) (L) (inb) :
    v.readCov (⟨rH h, w⟩ :: L) (Rect.unit (s := S8x64x128) ![h.val, 32, 0] S1x32x128.size inb).toLoadRect = hi w := by
  rw [View.readCov_eq_canon']
  funext j
  have h0 : (j 0).val = 0 := by have : (j 0).val < 1 := (j 0).isLt; omega
  have h1 : (j 1).val < 32 := (j 1).isLt
  let x : S1x64x128.Idx := ix3 0 ⟨32 + (j 1).val, by omega⟩ (j 2)
  have e : (Rect.unit (s := S8x64x128) ![h.val, 32, 0] S1x32x128.size inb).toLoadRect.idx j = (rH h).emb x := by
    funext a; apply Fin.ext
    refine (LoadRect.idx_apply _ _ _).trans (Eq.trans ?_ (Rect.emb_apply _ _ _).symm)
    match a with
    | ⟨0, _⟩ => show h.val + 1 * (j 0).val = h.val + 1 * 0; omega
    | ⟨1, _⟩ => show 32 + 1 * (j 1).val = 0 + 1 * (32 + (j 1).val); omega
    | ⟨2, _⟩ => rfl
  exact (congrArg _ e).trans (View.canon_cons_emb (rH h) w L x)

/-- A head's columns of a block of queries. -/
def cQ (X : Vec F S32x1024 .f32) (h : Fin 8) : Vec F S32x128 .f32 :=
  View.ld X (Rect.unit ![0, 128 * h.val] S32x128.size (by intro a; fin_cases a <;> simp [S32x128, S32x1024] <;> omega))

/-- The first map's queries: the lower half of the lanes, zero in the upper. -/
def qLo (X : Vec F S32x128 .f32) : Vec F S1x32x128 .bf16 := k0_pay4 X

/-- The second map's queries: the upper half of the lanes, zero in the lower. -/
def qHi (X : Vec F S32x128 .f32) : Vec F S1x32x128 .bf16 := k0_pay5 X

/-- The rows of a head's first or second map in a stacked buffer. -/
def rQ (h : Fin 8) (p : Fin 2) : Rect S8x64x128 :=
  Rect.unit ![h.val, 32 * p.val, 0] S1x32x128.size (by intro a; fin_cases a <;> simp [S1x32x128, S8x64x128] <;> omega)

/-- The stacked queries: for every head the first map's rows over the second's. -/
def qStack (X : Vec F S32x1024 .f32) : List (View.Piece (Elt F) S8x64x128 .bf16) :=
  [⟨rQ 7 1, qHi (cQ X 7)⟩, ⟨rQ 7 0, qLo (cQ X 7)⟩, ⟨rQ 6 1, qHi (cQ X 6)⟩, ⟨rQ 6 0, qLo (cQ X 6)⟩, ⟨rQ 5 1, qHi (cQ X 5)⟩, ⟨rQ 5 0, qLo (cQ X 5)⟩, ⟨rQ 4 1, qHi (cQ X 4)⟩, ⟨rQ 4 0, qLo (cQ X 4)⟩, ⟨rQ 3 1, qHi (cQ X 3)⟩, ⟨rQ 3 0, qLo (cQ X 3)⟩, ⟨rQ 2 1, qHi (cQ X 2)⟩, ⟨rQ 2 0, qLo (cQ X 2)⟩, ⟨rQ 1 1, qHi (cQ X 1)⟩, ⟨rQ 1 0, qLo (cQ X 1)⟩, ⟨rQ 0 1, qHi (cQ X 0)⟩, ⟨rQ 0 0, qLo (cQ X 0)⟩]

/-- A head of a stack is what was stored for it. -/
theorem hd_canon_stack (G : Fin 8 → Vec F S1x64x128 .f32) (L : List (View.Piece (Elt F) S8x64x128 .f32)) (h : Fin 8) :
    hd (View.canon (stack G ++ L)) h = G h := by
  funext j
  have key : ∀ (n : Fin 8) (w) (L' : List (View.Piece (Elt F) S8x64x128 .f32)), LoadRect.disj (rH n) (rH h).toLoadRect = true →
      View.canon (⟨rH n, w⟩ :: L') ((rH h).emb j) = View.canon L' ((rH h).emb j) :=
    fun n w L' hd => View.canon_cons_of_not_mem ⟨rH n, w⟩ L' (LoadRect.idx_not_mem_of_disj hd j)
  show View.canon (stack G ++ L) ((rH h).emb j) = G h j
  unfold stack
  fin_cases h
  · refine (key 7 _ _ (by decide)).trans ?_; refine (key 6 _ _ (by decide)).trans ?_; refine (key 5 _ _ (by decide)).trans ?_; refine (key 4 _ _ (by decide)).trans ?_; refine (key 3 _ _ (by decide)).trans ?_; refine (key 2 _ _ (by decide)).trans ?_; refine (key 1 _ _ (by decide)).trans ?_; exact View.canon_cons_emb (rH 0) _ _ j
  · refine (key 7 _ _ (by decide)).trans ?_; refine (key 6 _ _ (by decide)).trans ?_; refine (key 5 _ _ (by decide)).trans ?_; refine (key 4 _ _ (by decide)).trans ?_; refine (key 3 _ _ (by decide)).trans ?_; refine (key 2 _ _ (by decide)).trans ?_; exact View.canon_cons_emb (rH 1) _ _ j
  · refine (key 7 _ _ (by decide)).trans ?_; refine (key 6 _ _ (by decide)).trans ?_; refine (key 5 _ _ (by decide)).trans ?_; refine (key 4 _ _ (by decide)).trans ?_; refine (key 3 _ _ (by decide)).trans ?_; exact View.canon_cons_emb (rH 2) _ _ j
  · refine (key 7 _ _ (by decide)).trans ?_; refine (key 6 _ _ (by decide)).trans ?_; refine (key 5 _ _ (by decide)).trans ?_; refine (key 4 _ _ (by decide)).trans ?_; exact View.canon_cons_emb (rH 3) _ _ j
  · refine (key 7 _ _ (by decide)).trans ?_; refine (key 6 _ _ (by decide)).trans ?_; refine (key 5 _ _ (by decide)).trans ?_; exact View.canon_cons_emb (rH 4) _ _ j
  · refine (key 7 _ _ (by decide)).trans ?_; refine (key 6 _ _ (by decide)).trans ?_; exact View.canon_cons_emb (rH 5) _ _ j
  · refine (key 7 _ _ (by decide)).trans ?_; exact View.canon_cons_emb (rH 6) _ _ j
  · exact View.canon_cons_emb (rH 7) _ _ j

end Cert.KernelIdeal.Attn
-- ==== Proof.Attn.CaseA.lean ====
module

public import proofs.«01_k».proof.Proof.Attn.Defs

@[expose] public section

set_option maxRecDepth 16384

noncomputable section

namespace Cert.KernelIdeal.Attn

open Idealize.ShloMosaic Idealize.ShloMosaic.ValueIdx Idealize.ShloMosaic.TcCoe Idealize.ShloMosaic.Tactic Cert.KernelIdeal Cert.KernelIdeal.Gen

variable {F : FTy → Type} [FloatOps F] [Named F]

set_option maxHeartbeats 4000000 in
theorem LS3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.1 =
      ⟨rH 7, tM (tS (kernelRun0_A.sl.v45 (F := F) c arg7 harg7 arg13 x5) (kT (arg8.view.read (Elt F) (harg8.unread x6)) 7)) (kernelRun0_A.sl.v858 (F := F) c arg7 harg7 arg8 harg8 arg13 arg16 x5 x6)⟩ ::
      ⟨rH 6, tM (tS (kernelRun0_A.sl.v39 (F := F) c arg7 harg7 arg13 x5) (kT (arg8.view.read (Elt F) (harg8.unread x6)) 6)) (kernelRun0_A.sl.v745 (F := F) c arg7 harg7 arg8 harg8 arg13 arg16 x5 x6)⟩ ::
      ⟨rH 5, tM (tS (kernelRun0_A.sl.v33 (F := F) c arg7 harg7 arg13 x5) (kT (arg8.view.read (Elt F) (harg8.unread x6)) 5)) (kernelRun0_A.sl.v632 (F := F) c arg7 harg7 arg8 harg8 arg13 arg16 x5 x6)⟩ ::
      ⟨rH 4, tM (tS (kernelRun0_A.sl.v27 (F := F) c arg7 harg7 arg13 x5) (kT (arg8.view.read (Elt F) (harg8.unread x6)) 4)) (kernelRun0_A.sl.v519 (F := F) c arg7 harg7 arg8 harg8 arg13 arg16 x5 x6)⟩ ::
      ⟨rH 3, tM (tS (kernelRun0_A.sl.v21 (F := F) c arg7 harg7 arg13 x5) (kT (arg8.view.read (Elt F) (harg8.unread x6)) 3)) (kernelRun0_A.sl.v406 (F := F) c arg7 harg7 arg8 harg8 arg13 arg16 x5 x6)⟩ ::
      ⟨rH 2, tM (tS (kernelRun0_A.sl.v15 (F := F) c arg7 harg7 arg13 x5) (kT (arg8.view.read (Elt F) (harg8.unread x6)) 2)) (kernelRun0_A.sl.v293 (F := F) c arg7 harg7 arg8 harg8 arg13 arg16 x5 x6)⟩ ::
      ⟨rH 1, tM (tS (kernelRun0_A.sl.v9 (F := F) c arg7 harg7 arg13 x5) (kT (arg8.view.read (Elt F) (harg8.unread x6)) 1)) (kernelRun0_A.sl.v180 (F := F) c arg7 harg7 arg8 harg8 arg13 arg16 x5 x6)⟩ ::
      ⟨rH 0, tM (tS (kernelRun0_A.sl.v3 (F := F) c arg7 harg7 arg13 x5) (kT (arg8.view.read (Elt F) (harg8.unread x6)) 0)) (kernelRun0_A.sl.v67 (F := F) c arg16)⟩ :: kernelRun0_A.sl.HS3_1 := rfl

set_option maxHeartbeats 4000000 in
theorem LS4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1 =
      ⟨rH 7, tL (tS (kernelRun0_A.sl.v45 (F := F) c arg7 harg7 arg13 x5) (kT (arg8.view.read (Elt F) (harg8.unread x6)) 7)) (kernelRun0_A.sl.v858 (F := F) c arg7 harg7 arg8 harg8 arg13 arg16 x5 x6) (kernelRun0_A.sl.v913 (F := F) c arg7 harg7 arg8 harg8 arg13 arg16 arg17 x5 x6)⟩ ::
      ⟨rH 6, tL (tS (kernelRun0_A.sl.v39 (F := F) c arg7 harg7 arg13 x5) (kT (arg8.view.read (Elt F) (harg8.unread x6)) 6)) (kernelRun0_A.sl.v745 (F := F) c arg7 harg7 arg8 harg8 arg13 arg16 x5 x6) (kernelRun0_A.sl.v800 (F := F) c arg7 harg7 arg8 harg8 arg13 arg16 arg17 x5 x6)⟩ ::
      ⟨rH 5, tL (tS (kernelRun0_A.sl.v33 (F := F) c arg7 harg7 arg13 x5) (kT (arg8.view.read (Elt F) (harg8.unread x6)) 5)) (kernelRun0_A.sl.v632 (F := F) c arg7 harg7 arg8 harg8 arg13 arg16 x5 x6) (kernelRun0_A.sl.v687 (F := F) c arg7 harg7 arg8 harg8 arg13 arg16 arg17 x5 x6)⟩ ::
      ⟨rH 4, tL (tS (kernelRun0_A.sl.v27 (F := F) c arg7 harg7 arg13 x5) (kT (arg8.view.read (Elt F) (harg8.unread x6)) 4)) (kernelRun0_A.sl.v519 (F := F) c arg7 harg7 arg8 harg8 arg13 arg16 x5 x6) (kernelRun0_A.sl.v574 (F := F) c arg7 harg7 arg8 harg8 arg13 arg16 arg17 x5 x6)⟩ ::
      ⟨rH 3, tL (tS (kernelRun0_A.sl.v21 (F := F) c arg7 harg7 arg13 x5) (kT (arg8.view.read (Elt F) (harg8.unread x6)) 3)) (kernelRun0_A.sl.v406 (F := F) c arg7 harg7 arg8 harg8 arg13 arg16 x5 x6) (kernelRun0_A.sl.v461 (F := F) c arg7 harg7 arg8 harg8 arg13 arg16 arg17 x5 x6)⟩ ::
      ⟨rH 2, tL (tS (kernelRun0_A.sl.v15 (F := F) c arg7 harg7 arg13 x5) (kT (arg8.view.read (Elt F) (harg8.unread x6)) 2)) (kernelRun0_A.sl.v293 (F := F) c arg7 harg7 arg8 harg8 arg13 arg16 x5 x6) (kernelRun0_A.sl.v348 (F := F) c arg7 harg7 arg8 harg8 arg13 arg16 arg17 x5 x6)⟩ ::
      ⟨rH 1, tL (tS (kernelRun0_A.sl.v9 (F := F) c arg7 harg7 arg13 x5) (kT (arg8.view.read (Elt F) (harg8.unread x6)) 1)) (kernelRun0_A.sl.v180 (F := F) c arg7 harg7 arg8 harg8 arg13 arg16 x5 x6) (kernelRun0_A.sl.v235 (F := F) c arg7 harg7 arg8 harg8 arg13 arg16 arg17 x5 x6)⟩ ::
      ⟨rH 0, tL (tS (kernelRun0_A.sl.v3 (F := F) c arg7 harg7 arg13 x5) (kT (arg8.view.read (Elt F) (harg8.unread x6)) 0)) (kernelRun0_A.sl.v67 (F := F) c arg16) (kernelRun0_A.sl.v122 (F := F) c arg17)⟩ :: kernelRun0_A.sl.HS4_1 := rfl

set_option maxHeartbeats 4000000 in
theorem LS5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1 =
      ⟨rH 7, tA (tS (kernelRun0_A.sl.v45 (F := F) c arg7 harg7 arg13 x5) (kT (arg8.view.read (Elt F) (harg8.unread x6)) 7)) (kernelRun0_A.sl.v858 (F := F) c arg7 harg7 arg8 harg8 arg13 arg16 x5 x6) (vT (arg9.view.read (Elt F) (harg9.unread x7)) 7) (kernelRun0_A.sl.v1035 (F := F) c arg7 harg7 arg8 harg8 arg9 harg9 arg13 arg16 arg18 x5 x6 x7)⟩ ::
      ⟨rH 6, tA (tS (kernelRun0_A.sl.v39 (F := F) c arg7 harg7 arg13 x5) (kT (arg8.view.read (Elt F) (harg8.unread x6)) 6)) (kernelRun0_A.sl.v745 (F := F) c arg7 harg7 arg8 harg8 arg13 arg16 x5 x6) (vT (arg9.view.read (Elt F) (harg9.unread x7)) 6) (kernelRun0_A.sl.v1024 (F := F) c arg7 harg7 arg8 harg8 arg9 harg9 arg13 arg16 arg18 x5 x6 x7)⟩ ::
      ⟨rH 5, tA (tS (kernelRun0_A.sl.v33 (F := F) c arg7 harg7 arg13 x5) (kT (arg8.view.read (Elt F) (harg8.unread x6)) 5)) (kernelRun0_A.sl.v632 (F := F) c arg7 harg7 arg8 harg8 arg13 arg16 x5 x6) (vT (arg9.view.read (Elt F) (harg9.unread x7)) 5) (kernelRun0_A.sl.v1013 (F := F) c arg7 harg7 arg8 harg8 arg9 harg9 arg13 arg16 arg18 x5 x6 x7)⟩ ::
      ⟨rH 4, tA (tS (kernelRun0_A.sl.v27 (F := F) c arg7 harg7 arg13 x5) (kT (arg8.view.read (Elt F) (harg8.unread x6)) 4)) (kernelRun0_A.sl.v519 (F := F) c arg7 harg7 arg8 harg8 arg13 arg16 x5 x6) (vT (arg9.view.read (Elt F) (harg9.unread x7)) 4) (kernelRun0_A.sl.v1002 (F := F) c arg7 harg7 arg8 harg8 arg9 harg9 arg13 arg16 arg18 x5 x6 x7)⟩ ::
      ⟨rH 3, tA (tS (kernelRun0_A.sl.v21 (F := F) c arg7 harg7 arg13 x5) (kT (arg8.view.read (Elt F) (harg8.unread x6)) 3)) (kernelRun0_A.sl.v406 (F := F) c arg7 harg7 arg8 harg8 arg13 arg16 x5 x6) (vT (arg9.view.read (Elt F) (harg9.unread x7)) 3) (kernelRun0_A.sl.v991 (F := F) c arg7 harg7 arg8 harg8 arg9 harg9 arg13 arg16 arg18 x5 x6 x7)⟩ ::
      ⟨rH 2, tA (tS (kernelRun0_A.sl.v15 (F := F) c arg7 harg7 arg13 x5) (kT (arg8.view.read (Elt F) (harg8.unread x6)) 2)) (kernelRun0_A.sl.v293 (F := F) c arg7 harg7 arg8 harg8 arg13 arg16 x5 x6) (vT (arg9.view.read (Elt F) (harg9.unread x7)) 2) (kernelRun0_A.sl.v980 (F := F) c arg7 harg7 arg8 harg8 arg9 harg9 arg13 arg16 arg18 x5 x6 x7)⟩ ::
      ⟨rH 1, tA (tS (kernelRun0_A.sl.v9 (F := F) c arg7 harg7 arg13 x5) (kT (arg8.view.read (Elt F) (harg8.unread x6)) 1)) (kernelRun0_A.sl.v180 (F := F) c arg7 harg7 arg8 harg8 arg13 arg16 x5 x6) (vT (arg9.view.read (Elt F) (harg9.unread x7)) 1) (kernelRun0_A.sl.v969 (F := F) c arg7 harg7 arg8 harg8 arg9 harg9 arg13 arg16 arg18 x5 x6 x7)⟩ ::
      ⟨rH 0, tA (tS (kernelRun0_A.sl.v3 (F := F) c arg7 harg7 arg13 x5) (kT (arg8.view.read (Elt F) (harg8.unread x6)) 0)) (kernelRun0_A.sl.v67 (F := F) c arg16) (vT (arg9.view.read (Elt F) (harg9.unread x7)) 0) (kernelRun0_A.sl.v958 (F := F) c arg18)⟩ :: kernelRun0_A.sl.HS5_1 := rfl

theorem m0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v67 (F := F) c arg16) = hd k0_pay37 0 := by
  unfold kernelRun0_A.sl.v67
  simp only [kernelRun0_A.sl.HS3_1]
  exact View.readCov_fill _ _ _ _ _ (by decide)

theorem m1_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v180 (F := F) c arg7 harg7 arg8 harg8 arg13 arg16 x5 x6) = hd k0_pay37 1 := by
  unfold kernelRun0_A.sl.v180
  simp only [kernelRun0_A.sl.HS3_2, kernelRun0_A.sl.HS3_1]
  iterate 1 refine (View.readCov_skip _ _ _ _ _ (by decide)).trans ?_
  exact View.readCov_fill _ _ _ _ _ (by decide)

theorem m2_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v293 (F := F) c arg7 harg7 arg8 harg8 arg13 arg16 x5 x6) = hd k0_pay37 2 := by
  unfold kernelRun0_A.sl.v293
  simp only [kernelRun0_A.sl.HS3_3, kernelRun0_A.sl.HS3_2, kernelRun0_A.sl.HS3_1]
  iterate 2 refine (View.readCov_skip _ _ _ _ _ (by decide)).trans ?_
  exact View.readCov_fill _ _ _ _ _ (by decide)

theorem m3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v406 (F := F) c arg7 harg7 arg8 harg8 arg13 arg16 x5 x6) = hd k0_pay37 3 := by
  unfold kernelRun0_A.sl.v406
  simp only [kernelRun0_A.sl.HS3_4, kernelRun0_A.sl.HS3_3, kernelRun0_A.sl.HS3_2, kernelRun0_A.sl.HS3_1]
  iterate 3 refine (View.readCov_skip _ _ _ _ _ (by decide)).trans ?_
  exact View.readCov_fill _ _ _ _ _ (by decide)

theorem m4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v519 (F := F) c arg7 harg7 arg8 harg8 arg13 arg16 x5 x6) = hd k0_pay37 4 := by
  unfold kernelRun0_A.sl.v519
  simp only [kernelRun0_A.sl.HS3_5, kernelRun0_A.sl.HS3_4, kernelRun0_A.sl.HS3_3, kernelRun0_A.sl.HS3_2, kernelRun0_A.sl.HS3_1]
  iterate 4 refine (View.readCov_skip _ _ _ _ _ (by decide)).trans ?_
  exact View.readCov_fill _ _ _ _ _ (by decide)

theorem m5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v632 (F := F) c arg7 harg7 arg8 harg8 arg13 arg16 x5 x6) = hd k0_pay37 5 := by
  unfold kernelRun0_A.sl.v632
  simp only [kernelRun0_A.sl.HS3_6, kernelRun0_A.sl.HS3_5, kernelRun0_A.sl.HS3_4, kernelRun0_A.sl.HS3_3, kernelRun0_A.sl.HS3_2, kernelRun0_A.sl.HS3_1]
  iterate 5 refine (View.readCov_skip _ _ _ _ _ (by decide)).trans ?_
  exact View.readCov_fill _ _ _ _ _ (by decide)

theorem m6_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v745 (F := F) c arg7 harg7 arg8 harg8 arg13 arg16 x5 x6) = hd k0_pay37 6 := by
  unfold kernelRun0_A.sl.v745
  simp only [kernelRun0_A.sl.HS3_7, kernelRun0_A.sl.HS3_6, kernelRun0_A.sl.HS3_5, kernelRun0_A.sl.HS3_4, kernelRun0_A.sl.HS3_3, kernelRun0_A.sl.HS3_2, kernelRun0_A.sl.HS3_1]
  iterate 6 refine (View.readCov_skip _ _ _ _ _ (by decide)).trans ?_
  exact View.readCov_fill _ _ _ _ _ (by decide)

theorem m7_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v858 (F := F) c arg7 harg7 arg8 harg8 arg13 arg16 x5 x6) = hd k0_pay37 7 := by
  unfold kernelRun0_A.sl.v858
  simp only [kernelRun0_A.sl.HS3_8, kernelRun0_A.sl.HS3_7, kernelRun0_A.sl.HS3_6, kernelRun0_A.sl.HS3_5, kernelRun0_A.sl.HS3_4, kernelRun0_A.sl.HS3_3, kernelRun0_A.sl.HS3_2, kernelRun0_A.sl.HS3_1]
  iterate 7 refine (View.readCov_skip _ _ _ _ _ (by decide)).trans ?_
  exact View.readCov_fill _ _ _ _ _ (by decide)

theorem l0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v122 (F := F) c arg17) = hd (k0_pay138 k0_pay38) 0 := by
  unfold kernelRun0_A.sl.v122
  simp only [kernelRun0_A.sl.HS4_1]
  exact View.readCov_fill _ _ _ _ _ (by decide)

theorem l1_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v235 (F := F) c arg7 harg7 arg8 harg8 arg13 arg16 arg17 x5 x6) = hd (k0_pay138 k0_pay38) 1 := by
  unfold kernelRun0_A.sl.v235
  simp only [kernelRun0_A.sl.HS4_2, kernelRun0_A.sl.HS4_1]
  iterate 1 refine (View.readCov_skip _ _ _ _ _ (by decide)).trans ?_
  exact View.readCov_fill _ _ _ _ _ (by decide)

theorem l2_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v348 (F := F) c arg7 harg7 arg8 harg8 arg13 arg16 arg17 x5 x6) = hd (k0_pay138 k0_pay38) 2 := by
  unfold kernelRun0_A.sl.v348
  simp only [kernelRun0_A.sl.HS4_3, kernelRun0_A.sl.HS4_2, kernelRun0_A.sl.HS4_1]
  iterate 2 refine (View.readCov_skip _ _ _ _ _ (by decide)).trans ?_
  exact View.readCov_fill _ _ _ _ _ (by decide)

theorem l3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v461 (F := F) c arg7 harg7 arg8 harg8 arg13 arg16 arg17 x5 x6) = hd (k0_pay138 k0_pay38) 3 := by
  unfold kernelRun0_A.sl.v461
  simp only [kernelRun0_A.sl.HS4_4, kernelRun0_A.sl.HS4_3, kernelRun0_A.sl.HS4_2, kernelRun0_A.sl.HS4_1]
  iterate 3 refine (View.readCov_skip _ _ _ _ _ (by decide)).trans ?_
  exact View.readCov_fill _ _ _ _ _ (by decide)

theorem l4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v574 (F := F) c arg7 harg7 arg8 harg8 arg13 arg16 arg17 x5 x6) = hd (k0_pay138 k0_pay38) 4 := by
  unfold kernelRun0_A.sl.v574
  simp only [kernelRun0_A.sl.HS4_5, kernelRun0_A.sl.HS4_4, kernelRun0_A.sl.HS4_3, kernelRun0_A.sl.HS4_2, kernelRun0_A.sl.HS4_1]
  iterate 4 refine (View.readCov_skip _ _ _ _ _ (by decide)).trans ?_
  exact View.readCov_fill _ _ _ _ _ (by decide)

theorem l5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v687 (F := F) c arg7 harg7 arg8 harg8 arg13 arg16 arg17 x5 x6) = hd (k0_pay138 k0_pay38) 5 := by
  unfold kernelRun0_A.sl.v687
  simp only [kernelRun0_A.sl.HS4_6, kernelRun0_A.sl.HS4_5, kernelRun0_A.sl.HS4_4, kernelRun0_A.sl.HS4_3, kernelRun0_A.sl.HS4_2, kernelRun0_A.sl.HS4_1]
  iterate 5 refine (View.readCov_skip _ _ _ _ _ (by decide)).trans ?_
  exact View.readCov_fill _ _ _ _ _ (by decide)

theorem l6_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v800 (F := F) c arg7 harg7 arg8 harg8 arg13 arg16 arg17 x5 x6) = hd (k0_pay138 k0_pay38) 6 := by
  unfold kernelRun0_A.sl.v800
  simp only [kernelRun0_A.sl.HS4_7, kernelRun0_A.sl.HS4_6, kernelRun0_A.sl.HS4_5, kernelRun0_A.sl.HS4_4, kernelRun0_A.sl.HS4_3, kernelRun0_A.sl.HS4_2, kernelRun0_A.sl.HS4_1]
  iterate 6 refine (View.readCov_skip _ _ _ _ _ (by decide)).trans ?_
  exact View.readCov_fill _ _ _ _ _ (by decide)

theorem l7_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v913 (F := F) c arg7 harg7 arg8 harg8 arg13 arg16 arg17 x5 x6) = hd (k0_pay138 k0_pay38) 7 := by
  unfold kernelRun0_A.sl.v913
  simp only [kernelRun0_A.sl.HS4_8, kernelRun0_A.sl.HS4_7, kernelRun0_A.sl.HS4_6, kernelRun0_A.sl.HS4_5, kernelRun0_A.sl.HS4_4, kernelRun0_A.sl.HS4_3, kernelRun0_A.sl.HS4_2, kernelRun0_A.sl.HS4_1]
  iterate 7 refine (View.readCov_skip _ _ _ _ _ (by decide)).trans ?_
  exact View.readCov_fill _ _ _ _ _ (by decide)

theorem a0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v958 (F := F) c arg18) = hd k0_pay139 0 := by
  unfold kernelRun0_A.sl.v958
  simp only [kernelRun0_A.sl.HS5_1]
  exact View.readCov_fill _ _ _ _ _ (by decide)

theorem a1_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v969 (F := F) c arg7 harg7 arg8 harg8 arg9 harg9 arg13 arg16 arg18 x5 x6 x7) = hd k0_pay139 1 := by
  unfold kernelRun0_A.sl.v969
  simp only [kernelRun0_A.sl.HS5_2, kernelRun0_A.sl.HS5_1]
  iterate 1 refine (View.readCov_skip _ _ _ _ _ (by decide)).trans ?_
  exact View.readCov_fill _ _ _ _ _ (by decide)

theorem a2_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v980 (F := F) c arg7 harg7 arg8 harg8 arg9 harg9 arg13 arg16 arg18 x5 x6 x7) = hd k0_pay139 2 := by
  unfold kernelRun0_A.sl.v980
  simp only [kernelRun0_A.sl.HS5_3, kernelRun0_A.sl.HS5_2, kernelRun0_A.sl.HS5_1]
  iterate 2 refine (View.readCov_skip _ _ _ _ _ (by decide)).trans ?_
  exact View.readCov_fill _ _ _ _ _ (by decide)

theorem a3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v991 (F := F) c arg7 harg7 arg8 harg8 arg9 harg9 arg13 arg16 arg18 x5 x6 x7) = hd k0_pay139 3 := by
  unfold kernelRun0_A.sl.v991
  simp only [kernelRun0_A.sl.HS5_4, kernelRun0_A.sl.HS5_3, kernelRun0_A.sl.HS5_2, kernelRun0_A.sl.HS5_1]
  iterate 3 refine (View.readCov_skip _ _ _ _ _ (by decide)).trans ?_
  exact View.readCov_fill _ _ _ _ _ (by decide)

theorem a4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v1002 (F := F) c arg7 harg7 arg8 harg8 arg9 harg9 arg13 arg16 arg18 x5 x6 x7) = hd k0_pay139 4 := by
  unfold kernelRun0_A.sl.v1002
  simp only [kernelRun0_A.sl.HS5_5, kernelRun0_A.sl.HS5_4, kernelRun0_A.sl.HS5_3, kernelRun0_A.sl.HS5_2, kernelRun0_A.sl.HS5_1]
  iterate 4 refine (View.readCov_skip _ _ _ _ _ (by decide)).trans ?_
  exact View.readCov_fill _ _ _ _ _ (by decide)

theorem a5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v1013 (F := F) c arg7 harg7 arg8 harg8 arg9 harg9 arg13 arg16 arg18 x5 x6 x7) = hd k0_pay139 5 := by
  unfold kernelRun0_A.sl.v1013
  simp only [kernelRun0_A.sl.HS5_6, kernelRun0_A.sl.HS5_5, kernelRun0_A.sl.HS5_4, kernelRun0_A.sl.HS5_3, kernelRun0_A.sl.HS5_2, kernelRun0_A.sl.HS5_1]
  iterate 5 refine (View.readCov_skip _ _ _ _ _ (by decide)).trans ?_
  exact View.readCov_fill _ _ _ _ _ (by decide)

theorem a6_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v1024 (F := F) c arg7 harg7 arg8 harg8 arg9 harg9 arg13 arg16 arg18 x5 x6 x7) = hd k0_pay139 6 := by
  unfold kernelRun0_A.sl.v1024
  simp only [kernelRun0_A.sl.HS5_7, kernelRun0_A.sl.HS5_6, kernelRun0_A.sl.HS5_5, kernelRun0_A.sl.HS5_4, kernelRun0_A.sl.HS5_3, kernelRun0_A.sl.HS5_2, kernelRun0_A.sl.HS5_1]
  iterate 6 refine (View.readCov_skip _ _ _ _ _ (by decide)).trans ?_
  exact View.readCov_fill _ _ _ _ _ (by decide)

theorem a7_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v1035 (F := F) c arg7 harg7 arg8 harg8 arg9 harg9 arg13 arg16 arg18 x5 x6 x7) = hd k0_pay139 7 := by
  unfold kernelRun0_A.sl.v1035
  simp only [kernelRun0_A.sl.HS5_8, kernelRun0_A.sl.HS5_7, kernelRun0_A.sl.HS5_6, kernelRun0_A.sl.HS5_5, kernelRun0_A.sl.HS5_4, kernelRun0_A.sl.HS5_3, kernelRun0_A.sl.HS5_2, kernelRun0_A.sl.HS5_1]
  iterate 7 refine (View.readCov_skip _ _ _ _ _ (by decide)).trans ?_
  exact View.readCov_fill _ _ _ _ _ (by decide)

theorem q0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v3 (F := F) c arg7 harg7 arg13 x5) = hd (View.canon (kernelRun0_A.sl.HS0_16 (F := F) c arg7 harg7 x5)) 0 :=
  View.readCov_eq_canon' _ _ _

theorem q1_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v9 (F := F) c arg7 harg7 arg13 x5) = hd (View.canon (kernelRun0_A.sl.HS0_16 (F := F) c arg7 harg7 x5)) 1 :=
  View.readCov_eq_canon' _ _ _

theorem q2_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v15 (F := F) c arg7 harg7 arg13 x5) = hd (View.canon (kernelRun0_A.sl.HS0_16 (F := F) c arg7 harg7 x5)) 2 :=
  View.readCov_eq_canon' _ _ _

theorem q3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v21 (F := F) c arg7 harg7 arg13 x5) = hd (View.canon (kernelRun0_A.sl.HS0_16 (F := F) c arg7 harg7 x5)) 3 :=
  View.readCov_eq_canon' _ _ _

theorem q4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v27 (F := F) c arg7 harg7 arg13 x5) = hd (View.canon (kernelRun0_A.sl.HS0_16 (F := F) c arg7 harg7 x5)) 4 :=
  View.readCov_eq_canon' _ _ _

theorem q5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v33 (F := F) c arg7 harg7 arg13 x5) = hd (View.canon (kernelRun0_A.sl.HS0_16 (F := F) c arg7 harg7 x5)) 5 :=
  View.readCov_eq_canon' _ _ _

theorem q6_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v39 (F := F) c arg7 harg7 arg13 x5) = hd (View.canon (kernelRun0_A.sl.HS0_16 (F := F) c arg7 harg7 x5)) 6 :=
  View.readCov_eq_canon' _ _ _

theorem q7_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A.sl.v45 (F := F) c arg7 harg7 arg13 x5) = hd (View.canon (kernelRun0_A.sl.HS0_16 (F := F) c arg7 harg7 x5)) 7 :=
  View.readCov_eq_canon' _ _ _

/-- The stacked queries after the first point. -/
theorem LS0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.1 = (kernelRun0_A.sl.HS0_16 (F := F) c arg7 harg7 x5) := rfl

theorem stack3_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.1 =
      stack (fun h => tM (tS (hd (View.canon (kernelRun0_A.sl.HS0_16 (F := F) c arg7 harg7 x5)) h) (kT x6 h)) (hd k0_pay37 h)) ++ kernelRun0_A.sl.HS3_1 := by
  rw [LS3_A, harg8.read_unread, m0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9]
  rfl

theorem stack4_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1 =
      stack (fun h => tL (tS (hd (View.canon (kernelRun0_A.sl.HS0_16 (F := F) c arg7 harg7 x5)) h) (kT x6 h)) (hd k0_pay37 h) (hd (k0_pay138 k0_pay38) h)) ++ kernelRun0_A.sl.HS4_1 := by
  rw [LS4_A, harg8.read_unread, m0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, l7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9]
  rfl

theorem stack5_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)  :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1 =
      stack (fun h => tA (tS (hd (View.canon (kernelRun0_A.sl.HS0_16 (F := F) c arg7 harg7 x5)) h) (kT x6 h)) (hd k0_pay37 h) (vT x7 h) (hd k0_pay139 h)) ++ kernelRun0_A.sl.HS5_1 := by
  rw [LS5_A, harg8.read_unread, harg9.read_unread, m0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, m7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, a7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q3_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q4_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q5_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q6_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9, q7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9]
  rfl

section
variable (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : cond0_0 i) (hc1 : ¬cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16)
theorem queries_A :
    (kernelRun0_A.sl.HS0_16 (F := F) c arg7 harg7 x5) = qStack x5 := by
  conv_rhs => rw [← harg7.read_unread (Val := Elt F) x5]
  rfl
end

end Cert.KernelIdeal.Attn
-- ==== Proof.Attn.CaseB.lean ====
/- The second point of a request's pair: the tile's statistics, then the new keys, then the output of every head. -/
module

public import proofs.«01_k».proof.Proof.Attn.Defs

@[expose] public section

set_option maxRecDepth 16384

noncomputable section

namespace Cert.KernelIdeal.Attn

open Idealize.ShloMosaic Idealize.ShloMosaic.ValueIdx Idealize.ShloMosaic.TcCoe Idealize.ShloMosaic.Tactic Cert.KernelIdeal Cert.KernelIdeal.Gen

variable {F : FTy → Type} [FloatOps F] [Named F]

variable (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S1x8x128x2048 .f32) (harg8 : arg8.IsWhole) (arg9 : Memref sig .tc .vmem S1x16384x128 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1024 .bf16) (harg12 : arg12.IsWhole) (arg13 : Memref sig .tc .vmem S8x64x128 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S8x64x128 .f32) (harg16 : arg16.IsWhole) (arg17 : Memref sig .tc .vmem S8x64x128 .f32) (harg17 : arg17.IsWhole) (arg18 : Memref sig .tc .vmem S8x64x128 .f32) (harg18 : arg18.IsWhole) (hc0 : ¬cond0_0 i) (hc1 : cond0_1 i)
    (x0 : Vec F S1x64 .f32) (x1 : Vec F S1x64 .f32) (x2 : Vec F S1x64 .f32) (x3 : Vec F S1x64 .f32) (x4 : Vec F S1x128 .f32) (x5 : Vec F S32x1024 .f32) (x6 : Vec F S1x8x128x2048 .f32) (x7 : Vec F S1x16384x128 .f32) (x8 : Vec F S32x1024 .bf16) (x9 : Vec F S32x1024 .bf16) (xs0 : Vec F S8x64x128 .bf16) (xs3 : Vec F S8x64x128 .f32) (xs4 : Vec F S8x64x128 .f32) (xs5 : Vec F S8x64x128 .f32)

theorem stk3 : (kernelRun0_B.sl.HS3_8 (F := F) c arg8 harg8 arg13 harg13 arg16 harg16 x6 xs0 xs3) = stack (tileM xs0 x6 xs3) := by
  conv_rhs => rw [← harg13.read_unread (Val := Elt F) xs0, ← harg8.read_unread (Val := Elt F) x6, ← harg16.read_unread (Val := Elt F) xs3]
  rfl

theorem stk4 : (kernelRun0_B.sl.HS4_8 (F := F) c arg8 harg8 arg13 harg13 arg16 harg16 arg17 harg17 x6 xs0 xs3 xs4) = stack (tileL xs0 x6 xs3 xs4) := by
  conv_rhs => rw [← harg13.read_unread (Val := Elt F) xs0, ← harg8.read_unread (Val := Elt F) x6, ← harg16.read_unread (Val := Elt F) xs3, ← harg17.read_unread (Val := Elt F) xs4]
  rfl

theorem stk5 : (kernelRun0_B.sl.HS5_8 (F := F) c arg8 harg8 arg9 harg9 arg13 harg13 arg16 harg16 arg18 harg18 x6 x7 xs0 xs3 xs5) = stack (tileA xs0 x6 xs3 x7 xs5) := by
  conv_rhs => rw [← harg13.read_unread (Val := Elt F) xs0, ← harg8.read_unread (Val := Elt F) x6, ← harg16.read_unread (Val := Elt F) xs3, ← harg9.read_unread (Val := Elt F) x7, ← harg18.read_unread (Val := Elt F) xs5]
  rfl

theorem pad1 : View.canon (kernelRun0_B.sl.HS1_2 (F := F) c arg10 harg10 x8) = kPad x8 := by
  conv_rhs => rw [← harg10.read_unread (Val := Elt F) x8]
  unfold kernelRun0_B.sl.HS1_2
  rw [View.readAt_eq_ld, View.ld_unit_zero (S := S32x1024) (by decide)]; rfl

theorem pad2 : View.canon (kernelRun0_B.sl.HS2_2 (F := F) c arg11 harg11 x9) = vPad x9 := by
  conv_rhs => rw [← harg11.read_unread (Val := Elt F) x9]
  unfold kernelRun0_B.sl.HS2_2
  rw [View.readAt_eq_ld, View.ld_unit_zero (S := S32x1024) (by decide)]; rfl

theorem k0 : (kernelRun0_B.sl.v1086 (F := F) c arg10 harg10 arg14 x8) = kN (kPad x8) 0 := by
  unfold kernelRun0_B.sl.v1086
  rw [View.readCov_eq_canon', pad1 c arg10 harg10 x8]; generalize kPad x8 = X; rfl

theorem v0 : (kernelRun0_B.sl.v1092 (F := F) c arg11 harg11 arg15 x9) = kN (vPad x9) 0 := by
  unfold kernelRun0_B.sl.v1092
  rw [View.readCov_eq_canon', pad2 c arg11 harg11 x9]; generalize vPad x9 = X; rfl

theorem m0 : (kernelRun0_B.sl.v1093 (F := F) c arg8 harg8 arg13 harg13 arg16 harg16 x6 xs0 xs3) = tileM xs0 x6 xs3 0 := by
  unfold kernelRun0_B.sl.v1093
  rw [stk3]
  iterate 7 refine (View.readCov_skip _ _ _ _ _ (by decide)).trans ?_
  exact View.readCov_cons_toLoadRect _ _ _ _

theorem l0 : (kernelRun0_B.sl.v1103 (F := F) c arg8 harg8 arg13 harg13 arg16 harg16 arg17 harg17 x6 xs0 xs3 xs4) = tileL xs0 x6 xs3 xs4 0 := by
  unfold kernelRun0_B.sl.v1103
  rw [stk4]
  iterate 7 refine (View.readCov_skip _ _ _ _ _ (by decide)).trans ?_
  exact View.readCov_cons_toLoadRect _ _ _ _

theorem a0 : (kernelRun0_B.sl.v1114 (F := F) c arg8 harg8 arg9 harg9 arg13 harg13 arg16 harg16 arg18 harg18 x6 x7 xs0 xs3 xs5) = tileA xs0 x6 xs3 x7 xs5 0 := by
  unfold kernelRun0_B.sl.v1114
  rw [stk5]
  iterate 7 refine (View.readCov_skip _ _ _ _ _ (by decide)).trans ?_
  exact View.readCov_cons_toLoadRect _ _ _ _

theorem oa0 : (kernelRun0_B.sl.v1122 (F := F) c arg8 harg8 arg9 harg9 arg10 harg10 arg11 harg11 arg13 harg13 arg14 arg15 arg16 harg16 arg18 harg18 x6 x7 x8 x9 xs0 xs3 xs5) = lo (nA (hd xs0 0) (kN (kPad x8) 0) (tileM xs0 x6 xs3 0) (kN (vPad x9) 0) (tileA xs0 x6 xs3 x7 xs5 0)) := by
  have e : (kernelRun0_B.sl.v1122 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 0) (kernelRun0_B.sl.v1086 (F := F) c arg10 harg10 arg14 x8) (kernelRun0_B.sl.v1093 (F := F) c arg8 harg8 arg13 harg13 arg16 harg16 x6 xs0 xs3) (kernelRun0_B.sl.v1092 (F := F) c arg11 harg11 arg15 x9) (kernelRun0_B.sl.v1114 (F := F) c arg8 harg8 arg9 harg9 arg13 harg13 arg16 harg16 arg18 harg18 x6 x7 xs0 xs3 xs5)) := readCov_lo _ 0 _ _ _
  rw [e, harg13.read_unread, k0, m0, v0, a0]

theorem ol0 : (kernelRun0_B.sl.v1124 (F := F) c arg8 harg8 arg10 harg10 arg13 harg13 arg14 arg16 harg16 arg17 harg17 x6 x8 xs0 xs3 xs4) = lo (nL (hd xs0 0) (kN (kPad x8) 0) (tileM xs0 x6 xs3 0) (tileL xs0 x6 xs3 xs4 0)) := by
  have e : (kernelRun0_B.sl.v1124 (F := F) c arg8 harg8 arg10 harg10 arg13 harg13 arg14 arg16 harg16 arg17 harg17 x6 x8 xs0 xs3 xs4) = lo (nL (hd (arg13.view.read (Elt F) (harg13.unread xs0)) 0) (kernelRun0_B.sl.v1086 (F := F) c arg10 harg10 arg14 x8) (kernelRun0_B.sl.v1093 (F := F) c arg8 harg8 arg13 harg13 arg16 harg16 x6 xs0 xs3) (kernelRun0_B.sl.v1103 (F := F) c arg8 harg8 arg13 harg13 arg16 harg16 arg17 harg17 x6 xs0 xs3 xs4)) := readCov_lo _ 0 _ _ _
  rw [e, harg13.read_unread, k0, m0, l0]

theorem pa0 : (kernelRun0_B.sl.v1130 (F := F) c arg8 harg8 arg9 harg9 arg10 harg10 arg11 harg11 arg13 harg13 arg14 arg15 arg16 harg16 arg18 harg18 x6 x7 x8 x9 xs0 xs3 xs5) = hi (nA (hd xs0 0) (kN (kPad x8) 0) (tileM xs0 x6 xs3 0) (kN (vPad x9) 0) (tileA xs0 x6 xs3 x7 xs5 0)) := by
  have e : (kernelRun0_B.sl.v1130 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 0) (kernelRun0_B.sl.v1086 (F := F) c arg10 harg10 arg14 x8) (kernelRun0_B.sl.v1093 (F := F) c arg8 harg8 arg13 harg13 arg16 harg16 x6 xs0 xs3) (kernelRun0_B.sl.v1092 (F := F) c arg11 harg11 arg15 x9) (kernelRun0_B.sl.v1114 (F := F) c arg8 harg8 arg9 harg9 arg13 harg13 arg16 harg16 arg18 harg18 x6 x7 xs0 xs3 xs5)) := readCov_hi _ 0 _ _ _
  rw [e, harg13.read_unread, k0, m0, v0, a0]

theorem pl0 : (kernelRun0_B.sl.v1132 (F := F) c arg8 harg8 arg10 harg10 arg13 harg13 arg14 arg16 harg16 arg17 harg17 x6 x8 xs0 xs3 xs4) = hi (nL (hd xs0 0) (kN (kPad x8) 0) (tileM xs0 x6 xs3 0) (tileL xs0 x6 xs3 xs4 0)) := by
  have e : (kernelRun0_B.sl.v1132 (F := F) c arg8 harg8 arg10 harg10 arg13 harg13 arg14 arg16 harg16 arg17 harg17 x6 x8 xs0 xs3 xs4) = hi (nL (hd (arg13.view.read (Elt F) (harg13.unread xs0)) 0) (kernelRun0_B.sl.v1086 (F := F) c arg10 harg10 arg14 x8) (kernelRun0_B.sl.v1093 (F := F) c arg8 harg8 arg13 harg13 arg16 harg16 x6 xs0 xs3) (kernelRun0_B.sl.v1103 (F := F) c arg8 harg8 arg13 harg13 arg16 harg16 arg17 harg17 x6 xs0 xs3 xs4)) := readCov_hi _ 0 _ _ _
  rw [e, harg13.read_unread, k0, m0, l0]

theorem k1 : (kernelRun0_B.sl.v1161 (F := F) c arg10 harg10 arg14 x8) = kN (kPad x8) 1 := by
  unfold kernelRun0_B.sl.v1161
  rw [View.readCov_eq_canon', pad1 c arg10 harg10 x8]; generalize kPad x8 = X; rfl

theorem v1 : (kernelRun0_B.sl.v1167 (F := F) c arg11 harg11 arg15 x9) = kN (vPad x9) 1 := by
  unfold kernelRun0_B.sl.v1167
  rw [View.readCov_eq_canon', pad2 c arg11 harg11 x9]; generalize vPad x9 = X; rfl

theorem m1 : (kernelRun0_B.sl.v1168 (F := F) c arg8 harg8 arg10 harg10 arg13 harg13 arg14 arg16 harg16 x6 x8 xs0 xs3) = tileM xs0 x6 xs3 1 := by
  unfold kernelRun0_B.sl.v1168
  simp only [kernelRun0_B.sl.HS3_9]
  iterate 1 refine (View.readCov_skip _ _ _ _ _ (by decide)).trans ?_
  rw [stk3]
  iterate 6 refine (View.readCov_skip _ _ _ _ _ (by decide)).trans ?_
  exact View.readCov_cons_toLoadRect _ _ _ _

theorem l1 : (kernelRun0_B.sl.v1178 (F := F) c arg8 harg8 arg10 harg10 arg13 harg13 arg14 arg16 harg16 arg17 harg17 x6 x8 xs0 xs3 xs4) = tileL xs0 x6 xs3 xs4 1 := by
  unfold kernelRun0_B.sl.v1178
  simp only [kernelRun0_B.sl.HS4_9]
  iterate 1 refine (View.readCov_skip _ _ _ _ _ (by decide)).trans ?_
  rw [stk4]
  iterate 6 refine (View.readCov_skip _ _ _ _ _ (by decide)).trans ?_
  exact View.readCov_cons_toLoadRect _ _ _ _

theorem a1 : (kernelRun0_B.sl.v1189 (F := F) c arg8 harg8 arg9 harg9 arg10 harg10 arg11 harg11 arg13 harg13 arg14 arg15 arg16 harg16 arg18 harg18 x6 x7 x8 x9 xs0 xs3 xs5) = tileA xs0 x6 xs3 x7 xs5 1 := by
  unfold kernelRun0_B.sl.v1189
  simp only [kernelRun0_B.sl.HS5_9]
  iterate 1 refine (View.readCov_skip _ _ _ _ _ (by decide)).trans ?_
  rw [stk5]
  iterate 6 refine (View.readCov_skip _ _ _ _ _ (by decide)).trans ?_
  exact View.readCov_cons_toLoadRect _ _ _ _

theorem oa1 : (kernelRun0_B.sl.v1197 (F := F) c arg8 harg8 arg9 harg9 arg10 harg10 arg11 harg11 arg13 harg13 arg14 arg15 arg16 harg16 arg18 harg18 x6 x7 x8 x9 xs0 xs3 xs5) = lo (nA (hd xs0 1) (kN (kPad x8) 1) (tileM xs0 x6 xs3 1) (kN (vPad x9) 1) (tileA xs0 x6 xs3 x7 xs5 1)) := by
  have e : (kernelRun0_B.sl.v1197 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 1) (kernelRun0_B.sl.v1161 (F := F) c arg10 harg10 arg14 x8) (kernelRun0_B.sl.v1168 (F := F) c arg8 harg8 arg10 harg10 arg13 harg13 arg14 arg16 harg16 x6 x8 xs0 xs3) (kernelRun0_B.sl.v1167 (F := F) c arg11 harg11 arg15 x9) (kernelRun0_B.sl.v1189 (F := F) c arg8 harg8 arg9 harg9 arg10 harg10 arg11 harg11 arg13 harg13 arg14 arg15 arg16 harg16 arg18 harg18 x6 x7 x8 x9 xs0 xs3 xs5)) := readCov_lo _ 1 _ _ _
  rw [e, harg13.read_unread, k1, m1, v1, a1]

theorem ol1 : (kernelRun0_B.sl.v1199 (F := F) c arg8 harg8 arg10 harg10 arg13 harg13 arg14 arg16 harg16 arg17 harg17 x6 x8 xs0 xs3 xs4) = lo (nL (hd xs0 1) (kN (kPad x8) 1) (tileM xs0 x6 xs3 1) (tileL xs0 x6 xs3 xs4 1)) := by
  have e : (kernelRun0_B.sl.v1199 (F := F) c arg8 harg8 arg10 harg10 arg13 harg13 arg14 arg16 harg16 arg17 harg17 x6 x8 xs0 xs3 xs4) = lo (nL (hd (arg13.view.read (Elt F) (harg13.unread xs0)) 1) (kernelRun0_B.sl.v1161 (F := F) c arg10 harg10 arg14 x8) (kernelRun0_B.sl.v1168 (F := F) c arg8 harg8 arg10 harg10 arg13 harg13 arg14 arg16 harg16 x6 x8 xs0 xs3) (kernelRun0_B.sl.v1178 (F := F) c arg8 harg8 arg10 harg10 arg13 harg13 arg14 arg16 harg16 arg17 harg17 x6 x8 xs0 xs3 xs4)) := readCov_lo _ 1 _ _ _
  rw [e, harg13.read_unread, k1, m1, l1]

theorem pa1 : (kernelRun0_B.sl.v1205 (F := F) c arg8 harg8 arg9 harg9 arg10 harg10 arg11 harg11 arg13 harg13 arg14 arg15 arg16 harg16 arg18 harg18 x6 x7 x8 x9 xs0 xs3 xs5) = hi (nA (hd xs0 1) (kN (kPad x8) 1) (tileM xs0 x6 xs3 1) (kN (vPad x9) 1) (tileA xs0 x6 xs3 x7 xs5 1)) := by
  have e : (kernelRun0_B.sl.v1205 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 1) (kernelRun0_B.sl.v1161 (F := F) c arg10 harg10 arg14 x8) (kernelRun0_B.sl.v1168 (F := F) c arg8 harg8 arg10 harg10 arg13 harg13 arg14 arg16 harg16 x6 x8 xs0 xs3) (kernelRun0_B.sl.v1167 (F := F) c arg11 harg11 arg15 x9) (kernelRun0_B.sl.v1189 (F := F) c arg8 harg8 arg9 harg9 arg10 harg10 arg11 harg11 arg13 harg13 arg14 arg15 arg16 harg16 arg18 harg18 x6 x7 x8 x9 xs0 xs3 xs5)) := readCov_hi _ 1 _ _ _
  rw [e, harg13.read_unread, k1, m1, v1, a1]

theorem pl1 : (kernelRun0_B.sl.v1207 (F := F) c arg8 harg8 arg10 harg10 arg13 harg13 arg14 arg16 harg16 arg17 harg17 x6 x8 xs0 xs3 xs4) = hi (nL (hd xs0 1) (kN (kPad x8) 1) (tileM xs0 x6 xs3 1) (tileL xs0 x6 xs3 xs4 1)) := by
  have e : (kernelRun0_B.sl.v1207 (F := F) c arg8 harg8 arg10 harg10 arg13 harg13 arg14 arg16 harg16 arg17 harg17 x6 x8 xs0 xs3 xs4) = hi (nL (hd (arg13.view.read (Elt F) (harg13.unread xs0)) 1) (kernelRun0_B.sl.v1161 (F := F) c arg10 harg10 arg14 x8) (kernelRun0_B.sl.v1168 (F := F) c arg8 harg8 arg10 harg10 arg13 harg13 arg14 arg16 harg16 x6 x8 xs0 xs3) (kernelRun0_B.sl.v1178 (F := F) c arg8 harg8 arg10 harg10 arg13 harg13 arg14 arg16 harg16 arg17 harg17 x6 x8 xs0 xs3 xs4)) := readCov_hi _ 1 _ _ _
  rw [e, harg13.read_unread, k1, m1, l1]

theorem k2 : (kernelRun0_B.sl.v1236 (F := F) c arg10 harg10 arg14 x8) = kN (kPad x8) 2 := by
  unfold kernelRun0_B.sl.v1236
  rw [View.readCov_eq_canon', pad1 c arg10 harg10 x8]; generalize kPad x8 = X; rfl

theorem v2 : (kernelRun0_B.sl.v1242 (F := F) c arg11 harg11 arg15 x9) = kN (vPad x9) 2 := by
  unfold kernelRun0_B.sl.v1242
  rw [View.readCov_eq_canon', pad2 c arg11 harg11 x9]; generalize vPad x9 = X; rfl

theorem m2 : (kernelRun0_B.sl.v1243 (F := F) c arg8 harg8 arg10 harg10 arg13 harg13 arg14 arg16 harg16 x6 x8 xs0 xs3) = tileM xs0 x6 xs3 2 := by
  unfold kernelRun0_B.sl.v1243
  simp only [kernelRun0_B.sl.HS3_10, kernelRun0_B.sl.HS3_9]
  iterate 2 refine (View.readCov_skip _ _ _ _ _ (by decide)).trans ?_
  rw [stk3]
  iterate 5 refine (View.readCov_skip _ _ _ _ _ (by decide)).trans ?_
  exact View.readCov_cons_toLoadRect _ _ _ _

theorem l2 : (kernelRun0_B.sl.v1253 (F := F) c arg8 harg8 arg10 harg10 arg13 harg13 arg14 arg16 harg16 arg17 harg17 x6 x8 xs0 xs3 xs4) = tileL xs0 x6 xs3 xs4 2 := by
  unfold kernelRun0_B.sl.v1253
  simp only [kernelRun0_B.sl.HS4_10, kernelRun0_B.sl.HS4_9]
  iterate 2 refine (View.readCov_skip _ _ _ _ _ (by decide)).trans ?_
  rw [stk4]
  iterate 5 refine (View.readCov_skip _ _ _ _ _ (by decide)).trans ?_
  exact View.readCov_cons_toLoadRect _ _ _ _

theorem a2 : (kernelRun0_B.sl.v1264 (F := F) c arg8 harg8 arg9 harg9 arg10 harg10 arg11 harg11 arg13 harg13 arg14 arg15 arg16 harg16 arg18 harg18 x6 x7 x8 x9 xs0 xs3 xs5) = tileA xs0 x6 xs3 x7 xs5 2 := by
  unfold kernelRun0_B.sl.v1264
  simp only [kernelRun0_B.sl.HS5_10, kernelRun0_B.sl.HS5_9]
  iterate 2 refine (View.readCov_skip _ _ _ _ _ (by decide)).trans ?_
  rw [stk5]
  iterate 5 refine (View.readCov_skip _ _ _ _ _ (by decide)).trans ?_
  exact View.readCov_cons_toLoadRect _ _ _ _

theorem oa2 : (kernelRun0_B.sl.v1272 (F := F) c arg8 harg8 arg9 harg9 arg10 harg10 arg11 harg11 arg13 harg13 arg14 arg15 arg16 harg16 arg18 harg18 x6 x7 x8 x9 xs0 xs3 xs5) = lo (nA (hd xs0 2) (kN (kPad x8) 2) (tileM xs0 x6 xs3 2) (kN (vPad x9) 2) (tileA xs0 x6 xs3 x7 xs5 2)) := by
  have e : (kernelRun0_B.sl.v1272 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 2) (kernelRun0_B.sl.v1236 (F := F) c arg10 harg10 arg14 x8) (kernelRun0_B.sl.v1243 (F := F) c arg8 harg8 arg10 harg10 arg13 harg13 arg14 arg16 harg16 x6 x8 xs0 xs3) (kernelRun0_B.sl.v1242 (F := F) c arg11 harg11 arg15 x9) (kernelRun0_B.sl.v1264 (F := F) c arg8 harg8 arg9 harg9 arg10 harg10 arg11 harg11 arg13 harg13 arg14 arg15 arg16 harg16 arg18 harg18 x6 x7 x8 x9 xs0 xs3 xs5)) := readCov_lo _ 2 _ _ _
  rw [e, harg13.read_unread, k2, m2, v2, a2]

theorem ol2 : (kernelRun0_B.sl.v1274 (F := F) c arg8 harg8 arg10 harg10 arg13 harg13 arg14 arg16 harg16 arg17 harg17 x6 x8 xs0 xs3 xs4) = lo (nL (hd xs0 2) (kN (kPad x8) 2) (tileM xs0 x6 xs3 2) (tileL xs0 x6 xs3 xs4 2)) := by
  have e : (kernelRun0_B.sl.v1274 (F := F) c arg8 harg8 arg10 harg10 arg13 harg13 arg14 arg16 harg16 arg17 harg17 x6 x8 xs0 xs3 xs4) = lo (nL (hd (arg13.view.read (Elt F) (harg13.unread xs0)) 2) (kernelRun0_B.sl.v1236 (F := F) c arg10 harg10 arg14 x8) (kernelRun0_B.sl.v1243 (F := F) c arg8 harg8 arg10 harg10 arg13 harg13 arg14 arg16 harg16 x6 x8 xs0 xs3) (kernelRun0_B.sl.v1253 (F := F) c arg8 harg8 arg10 harg10 arg13 harg13 arg14 arg16 harg16 arg17 harg17 x6 x8 xs0 xs3 xs4)) := readCov_lo _ 2 _ _ _
  rw [e, harg13.read_unread, k2, m2, l2]

theorem pa2 : (kernelRun0_B.sl.v1280 (F := F) c arg8 harg8 arg9 harg9 arg10 harg10 arg11 harg11 arg13 harg13 arg14 arg15 arg16 harg16 arg18 harg18 x6 x7 x8 x9 xs0 xs3 xs5) = hi (nA (hd xs0 2) (kN (kPad x8) 2) (tileM xs0 x6 xs3 2) (kN (vPad x9) 2) (tileA xs0 x6 xs3 x7 xs5 2)) := by
  have e : (kernelRun0_B.sl.v1280 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 2) (kernelRun0_B.sl.v1236 (F := F) c arg10 harg10 arg14 x8) (kernelRun0_B.sl.v1243 (F := F) c arg8 harg8 arg10 harg10 arg13 harg13 arg14 arg16 harg16 x6 x8 xs0 xs3) (kernelRun0_B.sl.v1242 (F := F) c arg11 harg11 arg15 x9) (kernelRun0_B.sl.v1264 (F := F) c arg8 harg8 arg9 harg9 arg10 harg10 arg11 harg11 arg13 harg13 arg14 arg15 arg16 harg16 arg18 harg18 x6 x7 x8 x9 xs0 xs3 xs5)) := readCov_hi _ 2 _ _ _
  rw [e, harg13.read_unread, k2, m2, v2, a2]

theorem pl2 : (kernelRun0_B.sl.v1282 (F := F) c arg8 harg8 arg10 harg10 arg13 harg13 arg14 arg16 harg16 arg17 harg17 x6 x8 xs0 xs3 xs4) = hi (nL (hd xs0 2) (kN (kPad x8) 2) (tileM xs0 x6 xs3 2) (tileL xs0 x6 xs3 xs4 2)) := by
  have e : (kernelRun0_B.sl.v1282 (F := F) c arg8 harg8 arg10 harg10 arg13 harg13 arg14 arg16 harg16 arg17 harg17 x6 x8 xs0 xs3 xs4) = hi (nL (hd (arg13.view.read (Elt F) (harg13.unread xs0)) 2) (kernelRun0_B.sl.v1236 (F := F) c arg10 harg10 arg14 x8) (kernelRun0_B.sl.v1243 (F := F) c arg8 harg8 arg10 harg10 arg13 harg13 arg14 arg16 harg16 x6 x8 xs0 xs3) (kernelRun0_B.sl.v1253 (F := F) c arg8 harg8 arg10 harg10 arg13 harg13 arg14 arg16 harg16 arg17 harg17 x6 x8 xs0 xs3 xs4)) := readCov_hi _ 2 _ _ _
  rw [e, harg13.read_unread, k2, m2, l2]

theorem k3 : (kernelRun0_B.sl.v1311 (F := F) c arg10 harg10 arg14 x8) = kN (kPad x8) 3 := by
  unfold kernelRun0_B.sl.v1311
  rw [View.readCov_eq_canon', pad1 c arg10 harg10 x8]; generalize kPad x8 = X; rfl

theorem v3 : (kernelRun0_B.sl.v1317 (F := F) c arg11 harg11 arg15 x9) = kN (vPad x9) 3 := by
  unfold kernelRun0_B.sl.v1317
  rw [View.readCov_eq_canon', pad2 c arg11 harg11 x9]; generalize vPad x9 = X; rfl

theorem m3 : (kernelRun0_B.sl.v1318 (F := F) c arg8 harg8 arg10 harg10 arg13 harg13 arg14 arg16 harg16 x6 x8 xs0 xs3) = tileM xs0 x6 xs3 3 := by
  unfold kernelRun0_B.sl.v1318
  simp only [kernelRun0_B.sl.HS3_11, kernelRun0_B.sl.HS3_10, kernelRun0_B.sl.HS3_9]
  iterate 3 refine (View.readCov_skip _ _ _ _ _ (by decide)).trans ?_
  rw [stk3]
  iterate 4 refine (View.readCov_skip _ _ _ _ _ (by decide)).trans ?_
  exact View.readCov_cons_toLoadRect _ _ _ _

theorem l3 : (kernelRun0_B.sl.v1328 (F := F) c arg8 harg8 arg10 harg10 arg13 harg13 arg14 arg16 harg16 arg17 harg17 x6 x8 xs0 xs3 xs4) = tileL xs0 x6 xs3 xs4 3 := by
  unfold kernelRun0_B.sl.v1328
  simp only [kernelRun0_B.sl.HS4_11, kernelRun0_B.sl.HS4_10, kernelRun0_B.sl.HS4_9]
  iterate 3 refine (View.readCov_skip _ _ _ _ _ (by decide)).trans ?_
  rw [stk4]
  iterate 4 refine (View.readCov_skip _ _ _ _ _ (by decide)).trans ?_
  exact View.readCov_cons_toLoadRect _ _ _ _

theorem a3 : (kernelRun0_B.sl.v1339 (F := F) c arg8 harg8 arg9 harg9 arg10 harg10 arg11 harg11 arg13 harg13 arg14 arg15 arg16 harg16 arg18 harg18 x6 x7 x8 x9 xs0 xs3 xs5) = tileA xs0 x6 xs3 x7 xs5 3 := by
  unfold kernelRun0_B.sl.v1339
  simp only [kernelRun0_B.sl.HS5_11, kernelRun0_B.sl.HS5_10, kernelRun0_B.sl.HS5_9]
  iterate 3 refine (View.readCov_skip _ _ _ _ _ (by decide)).trans ?_
  rw [stk5]
  iterate 4 refine (View.readCov_skip _ _ _ _ _ (by decide)).trans ?_
  exact View.readCov_cons_toLoadRect _ _ _ _

theorem oa3 : (kernelRun0_B.sl.v1347 (F := F) c arg8 harg8 arg9 harg9 arg10 harg10 arg11 harg11 arg13 harg13 arg14 arg15 arg16 harg16 arg18 harg18 x6 x7 x8 x9 xs0 xs3 xs5) = lo (nA (hd xs0 3) (kN (kPad x8) 3) (tileM xs0 x6 xs3 3) (kN (vPad x9) 3) (tileA xs0 x6 xs3 x7 xs5 3)) := by
  have e : (kernelRun0_B.sl.v1347 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 3) (kernelRun0_B.sl.v1311 (F := F) c arg10 harg10 arg14 x8) (kernelRun0_B.sl.v1318 (F := F) c arg8 harg8 arg10 harg10 arg13 harg13 arg14 arg16 harg16 x6 x8 xs0 xs3) (kernelRun0_B.sl.v1317 (F := F) c arg11 harg11 arg15 x9) (kernelRun0_B.sl.v1339 (F := F) c arg8 harg8 arg9 harg9 arg10 harg10 arg11 harg11 arg13 harg13 arg14 arg15 arg16 harg16 arg18 harg18 x6 x7 x8 x9 xs0 xs3 xs5)) := readCov_lo _ 3 _ _ _
  rw [e, harg13.read_unread, k3, m3, v3, a3]

theorem ol3 : (kernelRun0_B.sl.v1349 (F := F) c arg8 harg8 arg10 harg10 arg13 harg13 arg14 arg16 harg16 arg17 harg17 x6 x8 xs0 xs3 xs4) = lo (nL (hd xs0 3) (kN (kPad x8) 3) (tileM xs0 x6 xs3 3) (tileL xs0 x6 xs3 xs4 3)) := by
  have e : (kernelRun0_B.sl.v1349 (F := F) c arg8 harg8 arg10 harg10 arg13 harg13 arg14 arg16 harg16 arg17 harg17 x6 x8 xs0 xs3 xs4) = lo (nL (hd (arg13.view.read (Elt F) (harg13.unread xs0)) 3) (kernelRun0_B.sl.v1311 (F := F) c arg10 harg10 arg14 x8) (kernelRun0_B.sl.v1318 (F := F) c arg8 harg8 arg10 harg10 arg13 harg13 arg14 arg16 harg16 x6 x8 xs0 xs3) (kernelRun0_B.sl.v1328 (F := F) c arg8 harg8 arg10 harg10 arg13 harg13 arg14 arg16 harg16 arg17 harg17 x6 x8 xs0 xs3 xs4)) := readCov_lo _ 3 _ _ _
  rw [e, harg13.read_unread, k3, m3, l3]

theorem pa3 : (kernelRun0_B.sl.v1355 (F := F) c arg8 harg8 arg9 harg9 arg10 harg10 arg11 harg11 arg13 harg13 arg14 arg15 arg16 harg16 arg18 harg18 x6 x7 x8 x9 xs0 xs3 xs5) = hi (nA (hd xs0 3) (kN (kPad x8) 3) (tileM xs0 x6 xs3 3) (kN (vPad x9) 3) (tileA xs0 x6 xs3 x7 xs5 3)) := by
  have e : (kernelRun0_B.sl.v1355 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 3) (kernelRun0_B.sl.v1311 (F := F) c arg10 harg10 arg14 x8) (kernelRun0_B.sl.v1318 (F := F) c arg8 harg8 arg10 harg10 arg13 harg13 arg14 arg16 harg16 x6 x8 xs0 xs3) (kernelRun0_B.sl.v1317 (F := F) c arg11 harg11 arg15 x9) (kernelRun0_B.sl.v1339 (F := F) c arg8 harg8 arg9 harg9 arg10 harg10 arg11 harg11 arg13 harg13 arg14 arg15 arg16 harg16 arg18 harg18 x6 x7 x8 x9 xs0 xs3 xs5)) := readCov_hi _ 3 _ _ _
  rw [e, harg13.read_unread, k3, m3, v3, a3]

theorem pl3 : (kernelRun0_B.sl.v1357 (F := F) c arg8 harg8 arg10 harg10 arg13 harg13 arg14 arg16 harg16 arg17 harg17 x6 x8 xs0 xs3 xs4) = hi (nL (hd xs0 3) (kN (kPad x8) 3) (tileM xs0 x6 xs3 3) (tileL xs0 x6 xs3 xs4 3)) := by
  have e : (kernelRun0_B.sl.v1357 (F := F) c arg8 harg8 arg10 harg10 arg13 harg13 arg14 arg16 harg16 arg17 harg17 x6 x8 xs0 xs3 xs4) = hi (nL (hd (arg13.view.read (Elt F) (harg13.unread xs0)) 3) (kernelRun0_B.sl.v1311 (F := F) c arg10 harg10 arg14 x8) (kernelRun0_B.sl.v1318 (F := F) c arg8 harg8 arg10 harg10 arg13 harg13 arg14 arg16 harg16 x6 x8 xs0 xs3) (kernelRun0_B.sl.v1328 (F := F) c arg8 harg8 arg10 harg10 arg13 harg13 arg14 arg16 harg16 arg17 harg17 x6 x8 xs0 xs3 xs4)) := readCov_hi _ 3 _ _ _
  rw [e, harg13.read_unread, k3, m3, l3]

theorem k4 : (kernelRun0_B.sl.v1386 (F := F) c arg10 harg10 arg14 x8) = kN (kPad x8) 4 := by
  unfold kernelRun0_B.sl.v1386
  rw [View.readCov_eq_canon', pad1 c arg10 harg10 x8]; generalize kPad x8 = X; rfl

theorem v4 : (kernelRun0_B.sl.v1392 (F := F) c arg11 harg11 arg15 x9) = kN (vPad x9) 4 := by
  unfold kernelRun0_B.sl.v1392
  rw [View.readCov_eq_canon', pad2 c arg11 harg11 x9]; generalize vPad x9 = X; rfl

theorem m4 : (kernelRun0_B.sl.v1393 (F := F) c arg8 harg8 arg10 harg10 arg13 harg13 arg14 arg16 harg16 x6 x8 xs0 xs3) = tileM xs0 x6 xs3 4 := by
  unfold kernelRun0_B.sl.v1393
  simp only [kernelRun0_B.sl.HS3_12, kernelRun0_B.sl.HS3_11, kernelRun0_B.sl.HS3_10, kernelRun0_B.sl.HS3_9]
  iterate 4 refine (View.readCov_skip _ _ _ _ _ (by decide)).trans ?_
  rw [stk3]
  iterate 3 refine (View.readCov_skip _ _ _ _ _ (by decide)).trans ?_
  exact View.readCov_cons_toLoadRect _ _ _ _

theorem l4 : (kernelRun0_B.sl.v1403 (F := F) c arg8 harg8 arg10 harg10 arg13 harg13 arg14 arg16 harg16 arg17 harg17 x6 x8 xs0 xs3 xs4) = tileL xs0 x6 xs3 xs4 4 := by
  unfold kernelRun0_B.sl.v1403
  simp only [kernelRun0_B.sl.HS4_12, kernelRun0_B.sl.HS4_11, kernelRun0_B.sl.HS4_10, kernelRun0_B.sl.HS4_9]
  iterate 4 refine (View.readCov_skip _ _ _ _ _ (by decide)).trans ?_
  rw [stk4]
  iterate 3 refine (View.readCov_skip _ _ _ _ _ (by decide)).trans ?_
  exact View.readCov_cons_toLoadRect _ _ _ _

theorem a4 : (kernelRun0_B.sl.v1414 (F := F) c arg8 harg8 arg9 harg9 arg10 harg10 arg11 harg11 arg13 harg13 arg14 arg15 arg16 harg16 arg18 harg18 x6 x7 x8 x9 xs0 xs3 xs5) = tileA xs0 x6 xs3 x7 xs5 4 := by
  unfold kernelRun0_B.sl.v1414
  simp only [kernelRun0_B.sl.HS5_12, kernelRun0_B.sl.HS5_11, kernelRun0_B.sl.HS5_10, kernelRun0_B.sl.HS5_9]
  iterate 4 refine (View.readCov_skip _ _ _ _ _ (by decide)).trans ?_
  rw [stk5]
  iterate 3 refine (View.readCov_skip _ _ _ _ _ (by decide)).trans ?_
  exact View.readCov_cons_toLoadRect _ _ _ _

theorem oa4 : (kernelRun0_B.sl.v1422 (F := F) c arg8 harg8 arg9 harg9 arg10 harg10 arg11 harg11 arg13 harg13 arg14 arg15 arg16 harg16 arg18 harg18 x6 x7 x8 x9 xs0 xs3 xs5) = lo (nA (hd xs0 4) (kN (kPad x8) 4) (tileM xs0 x6 xs3 4) (kN (vPad x9) 4) (tileA xs0 x6 xs3 x7 xs5 4)) := by
  have e : (kernelRun0_B.sl.v1422 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 4) (kernelRun0_B.sl.v1386 (F := F) c arg10 harg10 arg14 x8) (kernelRun0_B.sl.v1393 (F := F) c arg8 harg8 arg10 harg10 arg13 harg13 arg14 arg16 harg16 x6 x8 xs0 xs3) (kernelRun0_B.sl.v1392 (F := F) c arg11 harg11 arg15 x9) (kernelRun0_B.sl.v1414 (F := F) c arg8 harg8 arg9 harg9 arg10 harg10 arg11 harg11 arg13 harg13 arg14 arg15 arg16 harg16 arg18 harg18 x6 x7 x8 x9 xs0 xs3 xs5)) := readCov_lo _ 4 _ _ _
  rw [e, harg13.read_unread, k4, m4, v4, a4]

theorem ol4 : (kernelRun0_B.sl.v1424 (F := F) c arg8 harg8 arg10 harg10 arg13 harg13 arg14 arg16 harg16 arg17 harg17 x6 x8 xs0 xs3 xs4) = lo (nL (hd xs0 4) (kN (kPad x8) 4) (tileM xs0 x6 xs3 4) (tileL xs0 x6 xs3 xs4 4)) := by
  have e : (kernelRun0_B.sl.v1424 (F := F) c arg8 harg8 arg10 harg10 arg13 harg13 arg14 arg16 harg16 arg17 harg17 x6 x8 xs0 xs3 xs4) = lo (nL (hd (arg13.view.read (Elt F) (harg13.unread xs0)) 4) (kernelRun0_B.sl.v1386 (F := F) c arg10 harg10 arg14 x8) (kernelRun0_B.sl.v1393 (F := F) c arg8 harg8 arg10 harg10 arg13 harg13 arg14 arg16 harg16 x6 x8 xs0 xs3) (kernelRun0_B.sl.v1403 (F := F) c arg8 harg8 arg10 harg10 arg13 harg13 arg14 arg16 harg16 arg17 harg17 x6 x8 xs0 xs3 xs4)) := readCov_lo _ 4 _ _ _
  rw [e, harg13.read_unread, k4, m4, l4]

theorem pa4 : (kernelRun0_B.sl.v1430 (F := F) c arg8 harg8 arg9 harg9 arg10 harg10 arg11 harg11 arg13 harg13 arg14 arg15 arg16 harg16 arg18 harg18 x6 x7 x8 x9 xs0 xs3 xs5) = hi (nA (hd xs0 4) (kN (kPad x8) 4) (tileM xs0 x6 xs3 4) (kN (vPad x9) 4) (tileA xs0 x6 xs3 x7 xs5 4)) := by
  have e : (kernelRun0_B.sl.v1430 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 4) (kernelRun0_B.sl.v1386 (F := F) c arg10 harg10 arg14 x8) (kernelRun0_B.sl.v1393 (F := F) c arg8 harg8 arg10 harg10 arg13 harg13 arg14 arg16 harg16 x6 x8 xs0 xs3) (kernelRun0_B.sl.v1392 (F := F) c arg11 harg11 arg15 x9) (kernelRun0_B.sl.v1414 (F := F) c arg8 harg8 arg9 harg9 arg10 harg10 arg11 harg11 arg13 harg13 arg14 arg15 arg16 harg16 arg18 harg18 x6 x7 x8 x9 xs0 xs3 xs5)) := readCov_hi _ 4 _ _ _
  rw [e, harg13.read_unread, k4, m4, v4, a4]

theorem pl4 : (kernelRun0_B.sl.v1432 (F := F) c arg8 harg8 arg10 harg10 arg13 harg13 arg14 arg16 harg16 arg17 harg17 x6 x8 xs0 xs3 xs4) = hi (nL (hd xs0 4) (kN (kPad x8) 4) (tileM xs0 x6 xs3 4) (tileL xs0 x6 xs3 xs4 4)) := by
  have e : (kernelRun0_B.sl.v1432 (F := F) c arg8 harg8 arg10 harg10 arg13 harg13 arg14 arg16 harg16 arg17 harg17 x6 x8 xs0 xs3 xs4) = hi (nL (hd (arg13.view.read (Elt F) (harg13.unread xs0)) 4) (kernelRun0_B.sl.v1386 (F := F) c arg10 harg10 arg14 x8) (kernelRun0_B.sl.v1393 (F := F) c arg8 harg8 arg10 harg10 arg13 harg13 arg14 arg16 harg16 x6 x8 xs0 xs3) (kernelRun0_B.sl.v1403 (F := F) c arg8 harg8 arg10 harg10 arg13 harg13 arg14 arg16 harg16 arg17 harg17 x6 x8 xs0 xs3 xs4)) := readCov_hi _ 4 _ _ _
  rw [e, harg13.read_unread, k4, m4, l4]

theorem k5 : (kernelRun0_B.sl.v1461 (F := F) c arg10 harg10 arg14 x8) = kN (kPad x8) 5 := by
  unfold kernelRun0_B.sl.v1461
  rw [View.readCov_eq_canon', pad1 c arg10 harg10 x8]; generalize kPad x8 = X; rfl

theorem v5 : (kernelRun0_B.sl.v1467 (F := F) c arg11 harg11 arg15 x9) = kN (vPad x9) 5 := by
  unfold kernelRun0_B.sl.v1467
  rw [View.readCov_eq_canon', pad2 c arg11 harg11 x9]; generalize vPad x9 = X; rfl

theorem m5 : (kernelRun0_B.sl.v1468 (F := F) c arg8 harg8 arg10 harg10 arg13 harg13 arg14 arg16 harg16 x6 x8 xs0 xs3) = tileM xs0 x6 xs3 5 := by
  unfold kernelRun0_B.sl.v1468
  simp only [kernelRun0_B.sl.HS3_13, kernelRun0_B.sl.HS3_12, kernelRun0_B.sl.HS3_11, kernelRun0_B.sl.HS3_10, kernelRun0_B.sl.HS3_9]
  iterate 5 refine (View.readCov_skip _ _ _ _ _ (by decide)).trans ?_
  rw [stk3]
  iterate 2 refine (View.readCov_skip _ _ _ _ _ (by decide)).trans ?_
  exact View.readCov_cons_toLoadRect _ _ _ _

theorem l5 : (kernelRun0_B.sl.v1478 (F := F) c arg8 harg8 arg10 harg10 arg13 harg13 arg14 arg16 harg16 arg17 harg17 x6 x8 xs0 xs3 xs4) = tileL xs0 x6 xs3 xs4 5 := by
  unfold kernelRun0_B.sl.v1478
  simp only [kernelRun0_B.sl.HS4_13, kernelRun0_B.sl.HS4_12, kernelRun0_B.sl.HS4_11, kernelRun0_B.sl.HS4_10, kernelRun0_B.sl.HS4_9]
  iterate 5 refine (View.readCov_skip _ _ _ _ _ (by decide)).trans ?_
  rw [stk4]
  iterate 2 refine (View.readCov_skip _ _ _ _ _ (by decide)).trans ?_
  exact View.readCov_cons_toLoadRect _ _ _ _

theorem a5 : (kernelRun0_B.sl.v1489 (F := F) c arg8 harg8 arg9 harg9 arg10 harg10 arg11 harg11 arg13 harg13 arg14 arg15 arg16 harg16 arg18 harg18 x6 x7 x8 x9 xs0 xs3 xs5) = tileA xs0 x6 xs3 x7 xs5 5 := by
  unfold kernelRun0_B.sl.v1489
  simp only [kernelRun0_B.sl.HS5_13, kernelRun0_B.sl.HS5_12, kernelRun0_B.sl.HS5_11, kernelRun0_B.sl.HS5_10, kernelRun0_B.sl.HS5_9]
  iterate 5 refine (View.readCov_skip _ _ _ _ _ (by decide)).trans ?_
  rw [stk5]
  iterate 2 refine (View.readCov_skip _ _ _ _ _ (by decide)).trans ?_
  exact View.readCov_cons_toLoadRect _ _ _ _

theorem oa5 : (kernelRun0_B.sl.v1497 (F := F) c arg8 harg8 arg9 harg9 arg10 harg10 arg11 harg11 arg13 harg13 arg14 arg15 arg16 harg16 arg18 harg18 x6 x7 x8 x9 xs0 xs3 xs5) = lo (nA (hd xs0 5) (kN (kPad x8) 5) (tileM xs0 x6 xs3 5) (kN (vPad x9) 5) (tileA xs0 x6 xs3 x7 xs5 5)) := by
  have e : (kernelRun0_B.sl.v1497 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 5) (kernelRun0_B.sl.v1461 (F := F) c arg10 harg10 arg14 x8) (kernelRun0_B.sl.v1468 (F := F) c arg8 harg8 arg10 harg10 arg13 harg13 arg14 arg16 harg16 x6 x8 xs0 xs3) (kernelRun0_B.sl.v1467 (F := F) c arg11 harg11 arg15 x9) (kernelRun0_B.sl.v1489 (F := F) c arg8 harg8 arg9 harg9 arg10 harg10 arg11 harg11 arg13 harg13 arg14 arg15 arg16 harg16 arg18 harg18 x6 x7 x8 x9 xs0 xs3 xs5)) := readCov_lo _ 5 _ _ _
  rw [e, harg13.read_unread, k5, m5, v5, a5]

theorem ol5 : (kernelRun0_B.sl.v1499 (F := F) c arg8 harg8 arg10 harg10 arg13 harg13 arg14 arg16 harg16 arg17 harg17 x6 x8 xs0 xs3 xs4) = lo (nL (hd xs0 5) (kN (kPad x8) 5) (tileM xs0 x6 xs3 5) (tileL xs0 x6 xs3 xs4 5)) := by
  have e : (kernelRun0_B.sl.v1499 (F := F) c arg8 harg8 arg10 harg10 arg13 harg13 arg14 arg16 harg16 arg17 harg17 x6 x8 xs0 xs3 xs4) = lo (nL (hd (arg13.view.read (Elt F) (harg13.unread xs0)) 5) (kernelRun0_B.sl.v1461 (F := F) c arg10 harg10 arg14 x8) (kernelRun0_B.sl.v1468 (F := F) c arg8 harg8 arg10 harg10 arg13 harg13 arg14 arg16 harg16 x6 x8 xs0 xs3) (kernelRun0_B.sl.v1478 (F := F) c arg8 harg8 arg10 harg10 arg13 harg13 arg14 arg16 harg16 arg17 harg17 x6 x8 xs0 xs3 xs4)) := readCov_lo _ 5 _ _ _
  rw [e, harg13.read_unread, k5, m5, l5]

theorem pa5 : (kernelRun0_B.sl.v1505 (F := F) c arg8 harg8 arg9 harg9 arg10 harg10 arg11 harg11 arg13 harg13 arg14 arg15 arg16 harg16 arg18 harg18 x6 x7 x8 x9 xs0 xs3 xs5) = hi (nA (hd xs0 5) (kN (kPad x8) 5) (tileM xs0 x6 xs3 5) (kN (vPad x9) 5) (tileA xs0 x6 xs3 x7 xs5 5)) := by
  have e : (kernelRun0_B.sl.v1505 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 5) (kernelRun0_B.sl.v1461 (F := F) c arg10 harg10 arg14 x8) (kernelRun0_B.sl.v1468 (F := F) c arg8 harg8 arg10 harg10 arg13 harg13 arg14 arg16 harg16 x6 x8 xs0 xs3) (kernelRun0_B.sl.v1467 (F := F) c arg11 harg11 arg15 x9) (kernelRun0_B.sl.v1489 (F := F) c arg8 harg8 arg9 harg9 arg10 harg10 arg11 harg11 arg13 harg13 arg14 arg15 arg16 harg16 arg18 harg18 x6 x7 x8 x9 xs0 xs3 xs5)) := readCov_hi _ 5 _ _ _
  rw [e, harg13.read_unread, k5, m5, v5, a5]

theorem pl5 : (kernelRun0_B.sl.v1507 (F := F) c arg8 harg8 arg10 harg10 arg13 harg13 arg14 arg16 harg16 arg17 harg17 x6 x8 xs0 xs3 xs4) = hi (nL (hd xs0 5) (kN (kPad x8) 5) (tileM xs0 x6 xs3 5) (tileL xs0 x6 xs3 xs4 5)) := by
  have e : (kernelRun0_B.sl.v1507 (F := F) c arg8 harg8 arg10 harg10 arg13 harg13 arg14 arg16 harg16 arg17 harg17 x6 x8 xs0 xs3 xs4) = hi (nL (hd (arg13.view.read (Elt F) (harg13.unread xs0)) 5) (kernelRun0_B.sl.v1461 (F := F) c arg10 harg10 arg14 x8) (kernelRun0_B.sl.v1468 (F := F) c arg8 harg8 arg10 harg10 arg13 harg13 arg14 arg16 harg16 x6 x8 xs0 xs3) (kernelRun0_B.sl.v1478 (F := F) c arg8 harg8 arg10 harg10 arg13 harg13 arg14 arg16 harg16 arg17 harg17 x6 x8 xs0 xs3 xs4)) := readCov_hi _ 5 _ _ _
  rw [e, harg13.read_unread, k5, m5, l5]

theorem k6 : (kernelRun0_B.sl.v1536 (F := F) c arg10 harg10 arg14 x8) = kN (kPad x8) 6 := by
  unfold kernelRun0_B.sl.v1536
  rw [View.readCov_eq_canon', pad1 c arg10 harg10 x8]; generalize kPad x8 = X; rfl

theorem v6 : (kernelRun0_B.sl.v1542 (F := F) c arg11 harg11 arg15 x9) = kN (vPad x9) 6 := by
  unfold kernelRun0_B.sl.v1542
  rw [View.readCov_eq_canon', pad2 c arg11 harg11 x9]; generalize vPad x9 = X; rfl

theorem m6 : (kernelRun0_B.sl.v1543 (F := F) c arg8 harg8 arg10 harg10 arg13 harg13 arg14 arg16 harg16 x6 x8 xs0 xs3) = tileM xs0 x6 xs3 6 := by
  unfold kernelRun0_B.sl.v1543
  simp only [kernelRun0_B.sl.HS3_14, kernelRun0_B.sl.HS3_13, kernelRun0_B.sl.HS3_12, kernelRun0_B.sl.HS3_11, kernelRun0_B.sl.HS3_10, kernelRun0_B.sl.HS3_9]
  iterate 6 refine (View.readCov_skip _ _ _ _ _ (by decide)).trans ?_
  rw [stk3]
  iterate 1 refine (View.readCov_skip _ _ _ _ _ (by decide)).trans ?_
  exact View.readCov_cons_toLoadRect _ _ _ _

theorem l6 : (kernelRun0_B.sl.v1553 (F := F) c arg8 harg8 arg10 harg10 arg13 harg13 arg14 arg16 harg16 arg17 harg17 x6 x8 xs0 xs3 xs4) = tileL xs0 x6 xs3 xs4 6 := by
  unfold kernelRun0_B.sl.v1553
  simp only [kernelRun0_B.sl.HS4_14, kernelRun0_B.sl.HS4_13, kernelRun0_B.sl.HS4_12, kernelRun0_B.sl.HS4_11, kernelRun0_B.sl.HS4_10, kernelRun0_B.sl.HS4_9]
  iterate 6 refine (View.readCov_skip _ _ _ _ _ (by decide)).trans ?_
  rw [stk4]
  iterate 1 refine (View.readCov_skip _ _ _ _ _ (by decide)).trans ?_
  exact View.readCov_cons_toLoadRect _ _ _ _

theorem a6 : (kernelRun0_B.sl.v1564 (F := F) c arg8 harg8 arg9 harg9 arg10 harg10 arg11 harg11 arg13 harg13 arg14 arg15 arg16 harg16 arg18 harg18 x6 x7 x8 x9 xs0 xs3 xs5) = tileA xs0 x6 xs3 x7 xs5 6 := by
  unfold kernelRun0_B.sl.v1564
  simp only [kernelRun0_B.sl.HS5_14, kernelRun0_B.sl.HS5_13, kernelRun0_B.sl.HS5_12, kernelRun0_B.sl.HS5_11, kernelRun0_B.sl.HS5_10, kernelRun0_B.sl.HS5_9]
  iterate 6 refine (View.readCov_skip _ _ _ _ _ (by decide)).trans ?_
  rw [stk5]
  iterate 1 refine (View.readCov_skip _ _ _ _ _ (by decide)).trans ?_
  exact View.readCov_cons_toLoadRect _ _ _ _

theorem oa6 : (kernelRun0_B.sl.v1572 (F := F) c arg8 harg8 arg9 harg9 arg10 harg10 arg11 harg11 arg13 harg13 arg14 arg15 arg16 harg16 arg18 harg18 x6 x7 x8 x9 xs0 xs3 xs5) = lo (nA (hd xs0 6) (kN (kPad x8) 6) (tileM xs0 x6 xs3 6) (kN (vPad x9) 6) (tileA xs0 x6 xs3 x7 xs5 6)) := by
  have e : (kernelRun0_B.sl.v1572 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 6) (kernelRun0_B.sl.v1536 (F := F) c arg10 harg10 arg14 x8) (kernelRun0_B.sl.v1543 (F := F) c arg8 harg8 arg10 harg10 arg13 harg13 arg14 arg16 harg16 x6 x8 xs0 xs3) (kernelRun0_B.sl.v1542 (F := F) c arg11 harg11 arg15 x9) (kernelRun0_B.sl.v1564 (F := F) c arg8 harg8 arg9 harg9 arg10 harg10 arg11 harg11 arg13 harg13 arg14 arg15 arg16 harg16 arg18 harg18 x6 x7 x8 x9 xs0 xs3 xs5)) := readCov_lo _ 6 _ _ _
  rw [e, harg13.read_unread, k6, m6, v6, a6]

theorem ol6 : (kernelRun0_B.sl.v1574 (F := F) c arg8 harg8 arg10 harg10 arg13 harg13 arg14 arg16 harg16 arg17 harg17 x6 x8 xs0 xs3 xs4) = lo (nL (hd xs0 6) (kN (kPad x8) 6) (tileM xs0 x6 xs3 6) (tileL xs0 x6 xs3 xs4 6)) := by
  have e : (kernelRun0_B.sl.v1574 (F := F) c arg8 harg8 arg10 harg10 arg13 harg13 arg14 arg16 harg16 arg17 harg17 x6 x8 xs0 xs3 xs4) = lo (nL (hd (arg13.view.read (Elt F) (harg13.unread xs0)) 6) (kernelRun0_B.sl.v1536 (F := F) c arg10 harg10 arg14 x8) (kernelRun0_B.sl.v1543 (F := F) c arg8 harg8 arg10 harg10 arg13 harg13 arg14 arg16 harg16 x6 x8 xs0 xs3) (kernelRun0_B.sl.v1553 (F := F) c arg8 harg8 arg10 harg10 arg13 harg13 arg14 arg16 harg16 arg17 harg17 x6 x8 xs0 xs3 xs4)) := readCov_lo _ 6 _ _ _
  rw [e, harg13.read_unread, k6, m6, l6]

theorem pa6 : (kernelRun0_B.sl.v1580 (F := F) c arg8 harg8 arg9 harg9 arg10 harg10 arg11 harg11 arg13 harg13 arg14 arg15 arg16 harg16 arg18 harg18 x6 x7 x8 x9 xs0 xs3 xs5) = hi (nA (hd xs0 6) (kN (kPad x8) 6) (tileM xs0 x6 xs3 6) (kN (vPad x9) 6) (tileA xs0 x6 xs3 x7 xs5 6)) := by
  have e : (kernelRun0_B.sl.v1580 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 6) (kernelRun0_B.sl.v1536 (F := F) c arg10 harg10 arg14 x8) (kernelRun0_B.sl.v1543 (F := F) c arg8 harg8 arg10 harg10 arg13 harg13 arg14 arg16 harg16 x6 x8 xs0 xs3) (kernelRun0_B.sl.v1542 (F := F) c arg11 harg11 arg15 x9) (kernelRun0_B.sl.v1564 (F := F) c arg8 harg8 arg9 harg9 arg10 harg10 arg11 harg11 arg13 harg13 arg14 arg15 arg16 harg16 arg18 harg18 x6 x7 x8 x9 xs0 xs3 xs5)) := readCov_hi _ 6 _ _ _
  rw [e, harg13.read_unread, k6, m6, v6, a6]

theorem pl6 : (kernelRun0_B.sl.v1582 (F := F) c arg8 harg8 arg10 harg10 arg13 harg13 arg14 arg16 harg16 arg17 harg17 x6 x8 xs0 xs3 xs4) = hi (nL (hd xs0 6) (kN (kPad x8) 6) (tileM xs0 x6 xs3 6) (tileL xs0 x6 xs3 xs4 6)) := by
  have e : (kernelRun0_B.sl.v1582 (F := F) c arg8 harg8 arg10 harg10 arg13 harg13 arg14 arg16 harg16 arg17 harg17 x6 x8 xs0 xs3 xs4) = hi (nL (hd (arg13.view.read (Elt F) (harg13.unread xs0)) 6) (kernelRun0_B.sl.v1536 (F := F) c arg10 harg10 arg14 x8) (kernelRun0_B.sl.v1543 (F := F) c arg8 harg8 arg10 harg10 arg13 harg13 arg14 arg16 harg16 x6 x8 xs0 xs3) (kernelRun0_B.sl.v1553 (F := F) c arg8 harg8 arg10 harg10 arg13 harg13 arg14 arg16 harg16 arg17 harg17 x6 x8 xs0 xs3 xs4)) := readCov_hi _ 6 _ _ _
  rw [e, harg13.read_unread, k6, m6, l6]

theorem k7 : (kernelRun0_B.sl.v1611 (F := F) c arg10 harg10 arg14 x8) = kN (kPad x8) 7 := by
  unfold kernelRun0_B.sl.v1611
  rw [View.readCov_eq_canon', pad1 c arg10 harg10 x8]; generalize kPad x8 = X; rfl

theorem v7 : (kernelRun0_B.sl.v1617 (F := F) c arg11 harg11 arg15 x9) = kN (vPad x9) 7 := by
  unfold kernelRun0_B.sl.v1617
  rw [View.readCov_eq_canon', pad2 c arg11 harg11 x9]; generalize vPad x9 = X; rfl

theorem m7 : (kernelRun0_B.sl.v1618 (F := F) c arg8 harg8 arg10 harg10 arg13 harg13 arg14 arg16 harg16 x6 x8 xs0 xs3) = tileM xs0 x6 xs3 7 := by
  unfold kernelRun0_B.sl.v1618
  simp only [kernelRun0_B.sl.HS3_15, kernelRun0_B.sl.HS3_14, kernelRun0_B.sl.HS3_13, kernelRun0_B.sl.HS3_12, kernelRun0_B.sl.HS3_11, kernelRun0_B.sl.HS3_10, kernelRun0_B.sl.HS3_9]
  iterate 7 refine (View.readCov_skip _ _ _ _ _ (by decide)).trans ?_
  rw [stk3]
  exact View.readCov_cons_toLoadRect _ _ _ _

theorem l7 : (kernelRun0_B.sl.v1628 (F := F) c arg8 harg8 arg10 harg10 arg13 harg13 arg14 arg16 harg16 arg17 harg17 x6 x8 xs0 xs3 xs4) = tileL xs0 x6 xs3 xs4 7 := by
  unfold kernelRun0_B.sl.v1628
  simp only [kernelRun0_B.sl.HS4_15, kernelRun0_B.sl.HS4_14, kernelRun0_B.sl.HS4_13, kernelRun0_B.sl.HS4_12, kernelRun0_B.sl.HS4_11, kernelRun0_B.sl.HS4_10, kernelRun0_B.sl.HS4_9]
  iterate 7 refine (View.readCov_skip _ _ _ _ _ (by decide)).trans ?_
  rw [stk4]
  exact View.readCov_cons_toLoadRect _ _ _ _

theorem a7 : (kernelRun0_B.sl.v1639 (F := F) c arg8 harg8 arg9 harg9 arg10 harg10 arg11 harg11 arg13 harg13 arg14 arg15 arg16 harg16 arg18 harg18 x6 x7 x8 x9 xs0 xs3 xs5) = tileA xs0 x6 xs3 x7 xs5 7 := by
  unfold kernelRun0_B.sl.v1639
  simp only [kernelRun0_B.sl.HS5_15, kernelRun0_B.sl.HS5_14, kernelRun0_B.sl.HS5_13, kernelRun0_B.sl.HS5_12, kernelRun0_B.sl.HS5_11, kernelRun0_B.sl.HS5_10, kernelRun0_B.sl.HS5_9]
  iterate 7 refine (View.readCov_skip _ _ _ _ _ (by decide)).trans ?_
  rw [stk5]
  exact View.readCov_cons_toLoadRect _ _ _ _

theorem oa7 : (kernelRun0_B.sl.v1647 (F := F) c arg8 harg8 arg9 harg9 arg10 harg10 arg11 harg11 arg13 harg13 arg14 arg15 arg16 harg16 arg18 harg18 x6 x7 x8 x9 xs0 xs3 xs5) = lo (nA (hd xs0 7) (kN (kPad x8) 7) (tileM xs0 x6 xs3 7) (kN (vPad x9) 7) (tileA xs0 x6 xs3 x7 xs5 7)) := by
  have e : (kernelRun0_B.sl.v1647 (F := F) c arg8 harg8 arg9 harg9 arg10 harg10 arg11 harg11 arg13 harg13 arg14 arg15 arg16 harg16 arg18 harg18 x6 x7 x8 x9 xs0 xs3 xs5) = lo (nA (hd (arg13.view.read (Elt F) (harg13.unread xs0)) 7) (kernelRun0_B.sl.v1611 (F := F) c arg10 harg10 arg14 x8) (kernelRun0_B.sl.v1618 (F := F) c arg8 harg8 arg10 harg10 arg13 harg13 arg14 arg16 harg16 x6 x8 xs0 xs3) (kernelRun0_B.sl.v1617 (F := F) c arg11 harg11 arg15 x9) (kernelRun0_B.sl.v1639 (F := F) c arg8 harg8 arg9 harg9 arg10 harg10 arg11 harg11 arg13 harg13 arg14 arg15 arg16 harg16 arg18 harg18 x6 x7 x8 x9 xs0 xs3 xs5)) := readCov_lo _ 7 _ _ _
  rw [e, harg13.read_unread, k7, m7, v7, a7]

theorem ol7 : (kernelRun0_B.sl.v1649 (F := F) c arg8 harg8 arg10 harg10 arg13 harg13 arg14 arg16 harg16 arg17 harg17 x6 x8 xs0 xs3 xs4) = lo (nL (hd xs0 7) (kN (kPad x8) 7) (tileM xs0 x6 xs3 7) (tileL xs0 x6 xs3 xs4 7)) := by
  have e : (kernelRun0_B.sl.v1649 (F := F) c arg8 harg8 arg10 harg10 arg13 harg13 arg14 arg16 harg16 arg17 harg17 x6 x8 xs0 xs3 xs4) = lo (nL (hd (arg13.view.read (Elt F) (harg13.unread xs0)) 7) (kernelRun0_B.sl.v1611 (F := F) c arg10 harg10 arg14 x8) (kernelRun0_B.sl.v1618 (F := F) c arg8 harg8 arg10 harg10 arg13 harg13 arg14 arg16 harg16 x6 x8 xs0 xs3) (kernelRun0_B.sl.v1628 (F := F) c arg8 harg8 arg10 harg10 arg13 harg13 arg14 arg16 harg16 arg17 harg17 x6 x8 xs0 xs3 xs4)) := readCov_lo _ 7 _ _ _
  rw [e, harg13.read_unread, k7, m7, l7]

theorem pa7 : (kernelRun0_B.sl.v1655 (F := F) c arg8 harg8 arg9 harg9 arg10 harg10 arg11 harg11 arg13 harg13 arg14 arg15 arg16 harg16 arg18 harg18 x6 x7 x8 x9 xs0 xs3 xs5) = hi (nA (hd xs0 7) (kN (kPad x8) 7) (tileM xs0 x6 xs3 7) (kN (vPad x9) 7) (tileA xs0 x6 xs3 x7 xs5 7)) := by
  have e : (kernelRun0_B.sl.v1655 (F := F) c arg8 harg8 arg9 harg9 arg10 harg10 arg11 harg11 arg13 harg13 arg14 arg15 arg16 harg16 arg18 harg18 x6 x7 x8 x9 xs0 xs3 xs5) = hi (nA (hd (arg13.view.read (Elt F) (harg13.unread xs0)) 7) (kernelRun0_B.sl.v1611 (F := F) c arg10 harg10 arg14 x8) (kernelRun0_B.sl.v1618 (F := F) c arg8 harg8 arg10 harg10 arg13 harg13 arg14 arg16 harg16 x6 x8 xs0 xs3) (kernelRun0_B.sl.v1617 (F := F) c arg11 harg11 arg15 x9) (kernelRun0_B.sl.v1639 (F := F) c arg8 harg8 arg9 harg9 arg10 harg10 arg11 harg11 arg13 harg13 arg14 arg15 arg16 harg16 arg18 harg18 x6 x7 x8 x9 xs0 xs3 xs5)) := readCov_hi _ 7 _ _ _
  rw [e, harg13.read_unread, k7, m7, v7, a7]

theorem pl7 : (kernelRun0_B.sl.v1657 (F := F) c arg8 harg8 arg10 harg10 arg13 harg13 arg14 arg16 harg16 arg17 harg17 x6 x8 xs0 xs3 xs4) = hi (nL (hd xs0 7) (kN (kPad x8) 7) (tileM xs0 x6 xs3 7) (tileL xs0 x6 xs3 xs4 7)) := by
  have e : (kernelRun0_B.sl.v1657 (F := F) c arg8 harg8 arg10 harg10 arg13 harg13 arg14 arg16 harg16 arg17 harg17 x6 x8 xs0 xs3 xs4) = hi (nL (hd (arg13.view.read (Elt F) (harg13.unread xs0)) 7) (kernelRun0_B.sl.v1611 (F := F) c arg10 harg10 arg14 x8) (kernelRun0_B.sl.v1618 (F := F) c arg8 harg8 arg10 harg10 arg13 harg13 arg14 arg16 harg16 x6 x8 xs0 xs3) (kernelRun0_B.sl.v1628 (F := F) c arg8 harg8 arg10 harg10 arg13 harg13 arg14 arg16 harg16 arg17 harg17 x6 x8 xs0 xs3 xs4)) := readCov_hi _ 7 _ _ _
  rw [e, harg13.read_unread, k7, m7, l7]

theorem L10_B : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs3 xs4 xs5).1 = outStack (fun h => oH (lamV x0 x1 x2 x3)
    (lo (nA (hd xs0 h) (kN (kPad x8) h) (tileM xs0 x6 xs3 h) (kN (vPad x9) h) (tileA xs0 x6 xs3 x7 xs5 h)))
    (lo (nL (hd xs0 h) (kN (kPad x8) h) (tileM xs0 x6 xs3 h) (tileL xs0 x6 xs3 xs4 h)))
    (hi (nA (hd xs0 h) (kN (kPad x8) h) (tileM xs0 x6 xs3 h) (kN (vPad x9) h) (tileA xs0 x6 xs3 x7 xs5 h)))
    (hi (nL (hd xs0 h) (kN (kPad x8) h) (tileM xs0 x6 xs3 h) (tileL xs0 x6 xs3 xs4 h))) x4) := by
  have e : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs3 xs4 xs5).1 = [
    ⟨rO 7, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1647 (F := F) c arg8 harg8 arg9 harg9 arg10 harg10 arg11 harg11 arg13 harg13 arg14 arg15 arg16 harg16 arg18 harg18 x6 x7 x8 x9 xs0 xs3 xs5) (kernelRun0_B.sl.v1649 (F := F) c arg8 harg8 arg10 harg10 arg13 harg13 arg14 arg16 harg16 arg17 harg17 x6 x8 xs0 xs3 xs4) (kernelRun0_B.sl.v1655 (F := F) c arg8 harg8 arg9 harg9 arg10 harg10 arg11 harg11 arg13 harg13 arg14 arg15 arg16 harg16 arg18 harg18 x6 x7 x8 x9 xs0 xs3 xs5) (kernelRun0_B.sl.v1657 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 6, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1572 (F := F) c arg8 harg8 arg9 harg9 arg10 harg10 arg11 harg11 arg13 harg13 arg14 arg15 arg16 harg16 arg18 harg18 x6 x7 x8 x9 xs0 xs3 xs5) (kernelRun0_B.sl.v1574 (F := F) c arg8 harg8 arg10 harg10 arg13 harg13 arg14 arg16 harg16 arg17 harg17 x6 x8 xs0 xs3 xs4) (kernelRun0_B.sl.v1580 (F := F) c arg8 harg8 arg9 harg9 arg10 harg10 arg11 harg11 arg13 harg13 arg14 arg15 arg16 harg16 arg18 harg18 x6 x7 x8 x9 xs0 xs3 xs5) (kernelRun0_B.sl.v1582 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 5, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1497 (F := F) c arg8 harg8 arg9 harg9 arg10 harg10 arg11 harg11 arg13 harg13 arg14 arg15 arg16 harg16 arg18 harg18 x6 x7 x8 x9 xs0 xs3 xs5) (kernelRun0_B.sl.v1499 (F := F) c arg8 harg8 arg10 harg10 arg13 harg13 arg14 arg16 harg16 arg17 harg17 x6 x8 xs0 xs3 xs4) (kernelRun0_B.sl.v1505 (F := F) c arg8 harg8 arg9 harg9 arg10 harg10 arg11 harg11 arg13 harg13 arg14 arg15 arg16 harg16 arg18 harg18 x6 x7 x8 x9 xs0 xs3 xs5) (kernelRun0_B.sl.v1507 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 4, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1422 (F := F) c arg8 harg8 arg9 harg9 arg10 harg10 arg11 harg11 arg13 harg13 arg14 arg15 arg16 harg16 arg18 harg18 x6 x7 x8 x9 xs0 xs3 xs5) (kernelRun0_B.sl.v1424 (F := F) c arg8 harg8 arg10 harg10 arg13 harg13 arg14 arg16 harg16 arg17 harg17 x6 x8 xs0 xs3 xs4) (kernelRun0_B.sl.v1430 (F := F) c arg8 harg8 arg9 harg9 arg10 harg10 arg11 harg11 arg13 harg13 arg14 arg15 arg16 harg16 arg18 harg18 x6 x7 x8 x9 xs0 xs3 xs5) (kernelRun0_B.sl.v1432 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 3, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1347 (F := F) c arg8 harg8 arg9 harg9 arg10 harg10 arg11 harg11 arg13 harg13 arg14 arg15 arg16 harg16 arg18 harg18 x6 x7 x8 x9 xs0 xs3 xs5) (kernelRun0_B.sl.v1349 (F := F) c arg8 harg8 arg10 harg10 arg13 harg13 arg14 arg16 harg16 arg17 harg17 x6 x8 xs0 xs3 xs4) (kernelRun0_B.sl.v1355 (F := F) c arg8 harg8 arg9 harg9 arg10 harg10 arg11 harg11 arg13 harg13 arg14 arg15 arg16 harg16 arg18 harg18 x6 x7 x8 x9 xs0 xs3 xs5) (kernelRun0_B.sl.v1357 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 2, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1272 (F := F) c arg8 harg8 arg9 harg9 arg10 harg10 arg11 harg11 arg13 harg13 arg14 arg15 arg16 harg16 arg18 harg18 x6 x7 x8 x9 xs0 xs3 xs5) (kernelRun0_B.sl.v1274 (F := F) c arg8 harg8 arg10 harg10 arg13 harg13 arg14 arg16 harg16 arg17 harg17 x6 x8 xs0 xs3 xs4) (kernelRun0_B.sl.v1280 (F := F) c arg8 harg8 arg9 harg9 arg10 harg10 arg11 harg11 arg13 harg13 arg14 arg15 arg16 harg16 arg18 harg18 x6 x7 x8 x9 xs0 xs3 xs5) (kernelRun0_B.sl.v1282 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 1, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1197 (F := F) c arg8 harg8 arg9 harg9 arg10 harg10 arg11 harg11 arg13 harg13 arg14 arg15 arg16 harg16 arg18 harg18 x6 x7 x8 x9 xs0 xs3 xs5) (kernelRun0_B.sl.v1199 (F := F) c arg8 harg8 arg10 harg10 arg13 harg13 arg14 arg16 harg16 arg17 harg17 x6 x8 xs0 xs3 xs4) (kernelRun0_B.sl.v1205 (F := F) c arg8 harg8 arg9 harg9 arg10 harg10 arg11 harg11 arg13 harg13 arg14 arg15 arg16 harg16 arg18 harg18 x6 x7 x8 x9 xs0 xs3 xs5) (kernelRun0_B.sl.v1207 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩,
    ⟨rO 0, oH (lamV (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (kernelRun0_B.sl.v1122 (F := F) c arg8 harg8 arg9 harg9 arg10 harg10 arg11 harg11 arg13 harg13 arg14 arg15 arg16 harg16 arg18 harg18 x6 x7 x8 x9 xs0 xs3 xs5) (kernelRun0_B.sl.v1124 (F := F) c arg8 harg8 arg10 harg10 arg13 harg13 arg14 arg16 harg16 arg17 harg17 x6 x8 xs0 xs3 xs4) (kernelRun0_B.sl.v1130 (F := F) c arg8 harg8 arg9 harg9 arg10 harg10 arg11 harg11 arg13 harg13 arg14 arg15 arg16 harg16 arg18 harg18 x6 x7 x8 x9 xs0 xs3 xs5) (kernelRun0_B.sl.v1132 (F := F) c arg8 harg8 arg10 harg10 arg13 harg13 arg14 arg16 harg16 arg17 harg17 x6 x8 xs0 xs3 xs4) (View.readAt (Elt F) arg6.view (Rect.unit (s := S1x128) ![0, 0] S1x128.size inb_S1x128_S1x128_0_0).toLoadRect (harg6.unread x4))⟩] := rfl
  rw [e, oa0, ol0, pa0, pl0, oa1, ol1, pa1, pl1, oa2, ol2, pa2, pl2, oa3, ol3, pa3, pl3, oa4, ol4, pa4, pl4, oa5, ol5, pa5, pl5, oa6, ol6, pa6, pl6, oa7, ol7, pa7, pl7]
  have z : (![0, 0] : Fin 2 → ℕ) = fun _ => 0 := by decide
  simp only [View.readAt_eq_ld, View.ld_unit_zero (S := S1x64) z, View.ld_unit_zero (S := S1x128) z, harg2.read_unread, harg3.read_unread, harg4.read_unread, harg5.read_unread, harg6.read_unread]
  rfl

end Cert.KernelIdeal.Attn
-- ==== Proof.Attn.Fold.lean ====
/- What the kernel leaves in a request's output block, from the blocks its two grid points read: every head's output as a
   function of its queries, its keys and its values. -/
module

public import proofs.«01_k».proof.Proof.Attn.CaseA
public import proofs.«01_k».proof.Proof.Attn.CaseB

@[expose] public section

set_option maxRecDepth 16384

noncomputable section

namespace Cert.KernelIdeal.Attn

open Idealize.ShloMosaic Idealize.ShloMosaic.ValueIdx Idealize.ShloMosaic.TcCoe Idealize.ShloMosaic.Tactic Cert.KernelIdeal Cert.KernelIdeal.Gen

variable {F : FTy → Type} [FloatOps F] [Named F]
variable (m : (ℓ : Loc nD τ sig) → Buf (Elt F) ℓ)

/-- The stacked queries of a request. -/
def qs (X : Vec F S32x1024 .f32) : Vec F S8x64x128 .bf16 := View.canon (qStack X)

theorem state_q (c : Dev nD) (t : Fin cfg0.N) (h0 : t.val % 2 = 0) :
    (outsAt0 m c t.val t.isLt).2.1 = qs (iblk m c 5 t) := by
  rw [outsAt0_A m c t h0 (by omega)]
  dsimp only
  unfold sout0_A_0
  rw [View.read_writes_junk_eq_canon, LS0_A, queries_A]
  rfl

theorem state_m (c : Dev nD) (t : Fin cfg0.N) (h0 : t.val % 2 = 0) (h : Fin 8) :
    hd (outsAt0 m c t.val t.isLt).2.2.1 h = tileM (qs (iblk m c 5 t)) (iblk m c 6 t) k0_pay37 h := by
  rw [outsAt0_A m c t h0 (by omega)]
  dsimp only
  unfold sout0_A_3
  rw [View.read_writes_junk_eq_canon, stack3_A, hd_canon_stack, queries_A]
  rfl

theorem state_l (c : Dev nD) (t : Fin cfg0.N) (h0 : t.val % 2 = 0) (h : Fin 8) :
    hd (outsAt0 m c t.val t.isLt).2.2.2.1 h = tileL (qs (iblk m c 5 t)) (iblk m c 6 t) k0_pay37 (k0_pay138 k0_pay38) h := by
  rw [outsAt0_A m c t h0 (by omega)]
  dsimp only
  unfold sout0_A_4
  rw [View.read_writes_junk_eq_canon, stack4_A, hd_canon_stack, queries_A]
  rfl

theorem state_a (c : Dev nD) (t : Fin cfg0.N) (h0 : t.val % 2 = 0) (h : Fin 8) :
    hd (outsAt0 m c t.val t.isLt).2.2.2.2 h = tileA (qs (iblk m c 5 t)) (iblk m c 6 t) k0_pay37 (iblk m c 7 t) k0_pay139 h := by
  rw [outsAt0_A m c t h0 (by omega)]
  dsimp only
  unfold sout0_A_5
  rw [View.read_writes_junk_eq_canon, stack5_A, hd_canon_stack, queries_A]
  rfl

/-- The two cache tiles of a head, then its new keys: the weighted sum and the lane sums it ends with. -/
def headA (q : Vec F S1x64x128 .bf16) (K0 K1 : Vec F S1x1x128x2048 .f32) (V0 V1 : Vec F S1x2048x128 .f32) (kn vn : Vec F S128x128 .bf16)
    (m0 l0 a0 : Vec F S1x64x128 .f32) : FVec F S1x64x128 .f32 :=
  nA q kn (tM (tS q K1) (tM (tS q K0) m0)) vn (tA (tS q K1) (tM (tS q K0) m0) V1 (tA (tS q K0) m0 V0 a0))

@[inherit_doc headA]
def headL (q : Vec F S1x64x128 .bf16) (K0 K1 : Vec F S1x1x128x2048 .f32) (kn : Vec F S128x128 .bf16)
    (m0 l0 : Vec F S1x64x128 .f32) : FVec F S1x64x128 .f32 :=
  nL q kn (tM (tS q K1) (tM (tS q K0) m0)) (tL (tS q K1) (tM (tS q K0) m0) (tL (tS q K0) m0 l0))

/-- A request's output block: the second point's write-back. -/
theorem out_block (c : Dev nD) (t t' : Fin cfg0.N) (h1 : t.val % 2 = 1) (ht : t'.val + 1 = t.val) :
    (outsAt0 m c t.val t.isLt).1 = View.canon (outStack (fun h => oH (lamV (iblk m c 0 t) (iblk m c 1 t) (iblk m c 2 t) (iblk m c 3 t))
      (lo (headA (hd (qs (iblk m c 5 t')) h) (kT (iblk m c 6 t') h) (kT (iblk m c 6 t) h) (vT (iblk m c 7 t') h) (vT (iblk m c 7 t) h)
        (kN (kPad (iblk m c 8 t)) h) (kN (vPad (iblk m c 9 t)) h) (hd k0_pay37 h) (hd (k0_pay138 k0_pay38) h) (hd k0_pay139 h)))
      (lo (headL (hd (qs (iblk m c 5 t')) h) (kT (iblk m c 6 t') h) (kT (iblk m c 6 t) h)
        (kN (kPad (iblk m c 8 t)) h) (hd k0_pay37 h) (hd (k0_pay138 k0_pay38) h)))
      (hi (headA (hd (qs (iblk m c 5 t')) h) (kT (iblk m c 6 t') h) (kT (iblk m c 6 t) h) (vT (iblk m c 7 t') h) (vT (iblk m c 7 t) h)
        (kN (kPad (iblk m c 8 t)) h) (kN (vPad (iblk m c 9 t)) h) (hd k0_pay37 h) (hd (k0_pay138 k0_pay38) h) (hd k0_pay139 h)))
      (hi (headL (hd (qs (iblk m c 5 t')) h) (kT (iblk m c 6 t') h) (kT (iblk m c 6 t) h)
        (kN (kPad (iblk m c 8 t)) h) (hd k0_pay37 h) (hd (k0_pay138 k0_pay38) h)))
      (iblk m c 4 t))) := by
  have e : ∀ hb, outsAt0 m c (t.val - 1) hb = outsAt0 m c t'.val t'.isLt := by
    intro hb; congr 1; omega
  have h0 : t'.val % 2 = 0 := by omega
  rw [outsAt0_B m c t (by omega) h1]
  dsimp only
  rw [e]
  unfold out0_B_10
  rw [View.read_writes_junk_eq_canon, L10_B]
  unfold tileM tileL tileA
  simp only [state_m m c t' h0, state_l m c t' h0, state_a m c t' h0, state_q m c t' h0]
  rfl

end Cert.KernelIdeal.Attn
-- ==== Proof.Attn.Point.lean ====
/- The kernel's operations on a head, element by element over the extended reals. -/
module

public import proofs.«01_k».proof.Proof.Attn.Fold
public import Idealize.ShloMosaic.PureOps.Ideal.Laws
public import Idealize.ShloMosaic.Lib.Pointwise

@[expose] public section

set_option maxRecDepth 16384

noncomputable section

namespace Cert.KernelIdeal.Attn

open Idealize.ShloMosaic Idealize.ShloMosaic.TcCoe Idealize.ShloMosaic.Tactic Cert.KernelIdeal Cert.KernelIdeal.Gen

/-- Column `e` of lane block `b`. -/
def lane (b : Fin 16) (e : Fin 128) : Fin 2048 := ⟨128 * b.val + e.val, by omega⟩

/-- A lane block of a tile of scores. -/
def blk (s : FVec Ideal S64x2048 .f32) (b : Fin 16) (r : Fin 64) (e : Fin 128) : EReal := s (ix2 r (lane b e))

theorem mask_eq : Named.named (F := Ideal) (φ := .f32) κ "mask" 0xF149F2CA#32 = (⊥ : EReal) :=
  IdealRules.named_const.ideal_named_scalar _ _ _ _ rfl

theorem neg_inf : (Ideal.ofBits .f32 4286578688#32 : EReal) = ⊥ := by
  simp [Ideal.ofBits, Ideal.ieee]

theorem tS_apply (q : Vec Ideal S1x64x128 .bf16) (k : Vec Ideal S1x1x128x2048 .f32) (r : Fin 64) (j : Fin 2048) :
    tS q k (ix2 r j) = ∑ d : Fin 128, q (ix3 0 r d) * k (ix4 0 0 d j) := by
  unfold tS k0_pay140
  pointwise

theorem blk0_apply (s : FVec Ideal S64x2048 .f32) (r : Fin 64) (e : Fin 128) : k0_pay149 s (ix2 r e) = blk s 0 r e := by
  unfold k0_pay149 blk lane; pointwise

theorem blk1_apply (s : FVec Ideal S64x2048 .f32) (r : Fin 64) (e : Fin 128) : k0_pay150 s (ix2 r e) = blk s 1 r e := by
  unfold k0_pay150 blk lane; pointwise

theorem blk2_apply (s : FVec Ideal S64x2048 .f32) (r : Fin 64) (e : Fin 128) : k0_pay151 s (ix2 r e) = blk s 2 r e := by
  unfold k0_pay151 blk lane; pointwise

theorem blk3_apply (s : FVec Ideal S64x2048 .f32) (r : Fin 64) (e : Fin 128) : k0_pay152 s (ix2 r e) = blk s 3 r e := by
  unfold k0_pay152 blk lane; pointwise

theorem blk4_apply (s : FVec Ideal S64x2048 .f32) (r : Fin 64) (e : Fin 128) : k0_pay153 s (ix2 r e) = blk s 4 r e := by
  unfold k0_pay153 blk lane; pointwise

theorem blk5_apply (s : FVec Ideal S64x2048 .f32) (r : Fin 64) (e : Fin 128) : k0_pay154 s (ix2 r e) = blk s 5 r e := by
  unfold k0_pay154 blk lane; pointwise

theorem blk6_apply (s : FVec Ideal S64x2048 .f32) (r : Fin 64) (e : Fin 128) : k0_pay155 s (ix2 r e) = blk s 6 r e := by
  unfold k0_pay155 blk lane; pointwise

theorem blk7_apply (s : FVec Ideal S64x2048 .f32) (r : Fin 64) (e : Fin 128) : k0_pay156 s (ix2 r e) = blk s 7 r e := by
  unfold k0_pay156 blk lane; pointwise

theorem blk8_apply (s : FVec Ideal S64x2048 .f32) (r : Fin 64) (e : Fin 128) : k0_pay157 s (ix2 r e) = blk s 8 r e := by
  unfold k0_pay157 blk lane; pointwise

theorem blk9_apply (s : FVec Ideal S64x2048 .f32) (r : Fin 64) (e : Fin 128) : k0_pay158 s (ix2 r e) = blk s 9 r e := by
  unfold k0_pay158 blk lane; pointwise

theorem blk10_apply (s : FVec Ideal S64x2048 .f32) (r : Fin 64) (e : Fin 128) : k0_pay159 s (ix2 r e) = blk s 10 r e := by
  unfold k0_pay159 blk lane; pointwise

theorem blk11_apply (s : FVec Ideal S64x2048 .f32) (r : Fin 64) (e : Fin 128) : k0_pay160 s (ix2 r e) = blk s 11 r e := by
  unfold k0_pay160 blk lane; pointwise

theorem blk12_apply (s : FVec Ideal S64x2048 .f32) (r : Fin 64) (e : Fin 128) : k0_pay161 s (ix2 r e) = blk s 12 r e := by
  unfold k0_pay161 blk lane; pointwise

theorem blk13_apply (s : FVec Ideal S64x2048 .f32) (r : Fin 64) (e : Fin 128) : k0_pay162 s (ix2 r e) = blk s 13 r e := by
  unfold k0_pay162 blk lane; pointwise

theorem blk14_apply (s : FVec Ideal S64x2048 .f32) (r : Fin 64) (e : Fin 128) : k0_pay163 s (ix2 r e) = blk s 14 r e := by
  unfold k0_pay163 blk lane; pointwise

theorem blk15_apply (s : FVec Ideal S64x2048 .f32) (r : Fin 64) (e : Fin 128) : k0_pay164 s (ix2 r e) = blk s 15 r e := by
  unfold k0_pay164 blk lane; pointwise

/-- The largest of the sixteen lane blocks. -/
def top (s : FVec Ideal S64x2048 .f32) (r : Fin 64) (e : Fin 128) : EReal :=
  max (max (max (max (blk s 0 r e) (blk s 1 r e)) (max (blk s 2 r e) (blk s 3 r e))) (max (max (blk s 4 r e) (blk s 5 r e)) (max (blk s 6 r e) (blk s 7 r e)))) (max (max (max (blk s 8 r e) (blk s 9 r e)) (max (blk s 10 r e) (blk s 11 r e))) (max (max (blk s 12 r e) (blk s 13 r e)) (max (blk s 14 r e) (blk s 15 r e))))

/-- The largest score of a row. -/
def rowMax (s : FVec Ideal S64x2048 .f32) (r : Fin 64) : EReal := Finset.fold max (⊥ : EReal) (fun e => top s r e) Finset.univ

theorem pay163_apply (m : Vec Ideal S1x64x128 .f32) (r : Fin 64) (e : Fin 128) : k0_pay165 m (ix2 r e) = m (ix3 0 r e) := by
  unfold k0_pay165; pointwise

theorem pay164_apply (s : FVec Ideal S64x2048 .f32) (m : Vec Ideal S1x64x128 .f32) (r : Fin 64) (e : Fin 128) :
    k0_pay166 s m (ix2 r e) = max (m (ix3 0 r e)) (rowMax s r) := by
  unfold k0_pay166 rowMax top
  pointwise
  simp only [blk0_apply, blk1_apply, blk2_apply, blk3_apply, blk4_apply, blk5_apply, blk6_apply, blk7_apply, blk8_apply, blk9_apply, blk10_apply, blk11_apply, blk12_apply, blk13_apply, blk14_apply, blk15_apply, pay163_apply, neg_inf]

theorem tM_apply (s : FVec Ideal S64x2048 .f32) (m : Vec Ideal S1x64x128 .f32) (r : Fin 64) (e : Fin 128) :
    tM s m (ix3 0 r e) = max (m (ix3 0 r e)) (rowMax s r) := by
  unfold tM k0_pay186
  pointwise
  rw [pay164_apply]

theorem pay165_apply (s : FVec Ideal S64x2048 .f32) (m : Vec Ideal S1x64x128 .f32) (r : Fin 64) (e : Fin 128) :
    k0_pay167 s m (ix2 r e) = Ideal.exp2 (m (ix3 0 r e) - tM s m (ix3 0 r e)) := by
  unfold k0_pay167
  pointwise
  rw [pay164_apply, pay163_apply, tM_apply]; rfl

/-- The weight of a score. -/
def wt (s : FVec Ideal S64x2048 .f32) (m : Vec Ideal S1x64x128 .f32) (b : Fin 16) (r : Fin 64) (e : Fin 128) : EReal :=
  Ideal.exp2 (blk s b r e - tM s m (ix3 0 r e))

theorem wt0_apply (s : FVec Ideal S64x2048 .f32) (m : Vec Ideal S1x64x128 .f32) (r : Fin 64) (e : Fin 128) :
    (k0_pay168 s m) (ix2 r e) = wt s m 0 r e := by
  unfold k0_pay168 wt
  pointwise
  rw [blk0_apply, pay164_apply, tM_apply]; rfl

theorem wt1_apply (s : FVec Ideal S64x2048 .f32) (m : Vec Ideal S1x64x128 .f32) (r : Fin 64) (e : Fin 128) :
    (k0_pay169 s m) (ix2 r e) = wt s m 1 r e := by
  unfold k0_pay169 wt
  pointwise
  rw [blk1_apply, pay164_apply, tM_apply]; rfl

theorem wt2_apply (s : FVec Ideal S64x2048 .f32) (m : Vec Ideal S1x64x128 .f32) (r : Fin 64) (e : Fin 128) :
    (k0_pay170 s m) (ix2 r e) = wt s m 2 r e := by
  unfold k0_pay170 wt
  pointwise
  rw [blk2_apply, pay164_apply, tM_apply]; rfl

theorem wt3_apply (s : FVec Ideal S64x2048 .f32) (m : Vec Ideal S1x64x128 .f32) (r : Fin 64) (e : Fin 128) :
    (k0_pay171 s m) (ix2 r e) = wt s m 3 r e := by
  unfold k0_pay171 wt
  pointwise
  rw [blk3_apply, pay164_apply, tM_apply]; rfl

theorem wt4_apply (s : FVec Ideal S64x2048 .f32) (m : Vec Ideal S1x64x128 .f32) (r : Fin 64) (e : Fin 128) :
    (k0_pay172 s m) (ix2 r e) = wt s m 4 r e := by
  unfold k0_pay172 wt
  pointwise
  rw [blk4_apply, pay164_apply, tM_apply]; rfl

theorem wt5_apply (s : FVec Ideal S64x2048 .f32) (m : Vec Ideal S1x64x128 .f32) (r : Fin 64) (e : Fin 128) :
    (k0_pay173 s m) (ix2 r e) = wt s m 5 r e := by
  unfold k0_pay173 wt
  pointwise
  rw [blk5_apply, pay164_apply, tM_apply]; rfl

theorem wt6_apply (s : FVec Ideal S64x2048 .f32) (m : Vec Ideal S1x64x128 .f32) (r : Fin 64) (e : Fin 128) :
    (k0_pay174 s m) (ix2 r e) = wt s m 6 r e := by
  unfold k0_pay174 wt
  pointwise
  rw [blk6_apply, pay164_apply, tM_apply]; rfl

theorem wt7_apply (s : FVec Ideal S64x2048 .f32) (m : Vec Ideal S1x64x128 .f32) (r : Fin 64) (e : Fin 128) :
    (k0_pay175 s m) (ix2 r e) = wt s m 7 r e := by
  unfold k0_pay175 wt
  pointwise
  rw [blk7_apply, pay164_apply, tM_apply]; rfl

theorem wt8_apply (s : FVec Ideal S64x2048 .f32) (m : Vec Ideal S1x64x128 .f32) (r : Fin 64) (e : Fin 128) :
    (k0_pay177 (k0_pay176 s m)) (ix2 r e) = wt s m 8 r e := by
  unfold k0_pay177 k0_pay176 wt
  pointwise
  rw [blk8_apply, pay164_apply, tM_apply]; rfl

theorem wt9_apply (s : FVec Ideal S64x2048 .f32) (m : Vec Ideal S1x64x128 .f32) (r : Fin 64) (e : Fin 128) :
    (k0_pay178 (k0_pay158 s) (k0_pay166 s m)) (ix2 r e) = wt s m 9 r e := by
  unfold k0_pay178 wt
  pointwise
  rw [blk9_apply, pay164_apply, tM_apply]; rfl

theorem wt10_apply (s : FVec Ideal S64x2048 .f32) (m : Vec Ideal S1x64x128 .f32) (r : Fin 64) (e : Fin 128) :
    (k0_pay179 (k0_pay159 s) (k0_pay166 s m)) (ix2 r e) = wt s m 10 r e := by
  unfold k0_pay179 wt
  pointwise
  rw [blk10_apply, pay164_apply, tM_apply]; rfl

theorem wt11_apply (s : FVec Ideal S64x2048 .f32) (m : Vec Ideal S1x64x128 .f32) (r : Fin 64) (e : Fin 128) :
    (k0_pay180 (k0_pay160 s) (k0_pay166 s m)) (ix2 r e) = wt s m 11 r e := by
  unfold k0_pay180 wt
  pointwise
  rw [blk11_apply, pay164_apply, tM_apply]; rfl

theorem wt12_apply (s : FVec Ideal S64x2048 .f32) (m : Vec Ideal S1x64x128 .f32) (r : Fin 64) (e : Fin 128) :
    (k0_pay181 (k0_pay161 s) (k0_pay166 s m)) (ix2 r e) = wt s m 12 r e := by
  unfold k0_pay181 wt
  pointwise
  rw [blk12_apply, pay164_apply, tM_apply]; rfl

theorem wt13_apply (s : FVec Ideal S64x2048 .f32) (m : Vec Ideal S1x64x128 .f32) (r : Fin 64) (e : Fin 128) :
    (k0_pay182 (k0_pay162 s) (k0_pay166 s m)) (ix2 r e) = wt s m 13 r e := by
  unfold k0_pay182 wt
  pointwise
  rw [blk13_apply, pay164_apply, tM_apply]; rfl

theorem wt14_apply (s : FVec Ideal S64x2048 .f32) (m : Vec Ideal S1x64x128 .f32) (r : Fin 64) (e : Fin 128) :
    (k0_pay183 (k0_pay163 s) (k0_pay166 s m)) (ix2 r e) = wt s m 14 r e := by
  unfold k0_pay183 wt
  pointwise
  rw [blk14_apply, pay164_apply, tM_apply]; rfl

theorem wt15_apply (s : FVec Ideal S64x2048 .f32) (m : Vec Ideal S1x64x128 .f32) (r : Fin 64) (e : Fin 128) :
    (k0_pay184 (k0_pay164 s) (k0_pay166 s m)) (ix2 r e) = wt s m 15 r e := by
  unfold k0_pay184 wt
  pointwise
  rw [blk15_apply, pay164_apply, tM_apply]; rfl

theorem sum16 (f : Fin 16 → EReal) : ((((f 0 + f 1) + (f 2 + f 3)) + ((f 4 + f 5) + (f 6 + f 7))) + (((f 8 + f 9) + (f 10 + f 11)) + ((f 12 + f 13) + (f 14 + f 15)))) = ∑ b : Fin 16, f b := by
  simp only [Fin.sum_univ_castSucc, Fin.sum_univ_zero, zero_add]
  simp only [← add_assoc]
  rfl

theorem tL_apply (s : FVec Ideal S64x2048 .f32) (m l : Vec Ideal S1x64x128 .f32) (r : Fin 64) (e : Fin 128) :
    tL s m l (ix3 0 r e) = Ideal.exp2 (m (ix3 0 r e) - tM s m (ix3 0 r e)) * l (ix3 0 r e) + ∑ b : Fin 16, wt s m b r e := by
  unfold tL k0_pay185
  pointwise
  simp only [wt0_apply, wt1_apply, wt2_apply, wt3_apply, wt4_apply, wt5_apply, wt6_apply, wt7_apply, wt8_apply, wt9_apply, wt10_apply, wt11_apply, wt12_apply, wt13_apply, wt14_apply, wt15_apply, pay165_apply]
  exact congrArg _ (sum16 fun b => wt s m b r e)

/-- The weights of a tile, laid side by side. -/
def wAll (s : FVec Ideal S64x2048 .f32) (m : Vec Ideal S1x64x128 .f32) : FVec Ideal S64x2048 .bf16 :=
  k0_pay196 (k0_pay178 (k0_pay158 s) (k0_pay166 s m)) (k0_pay179 (k0_pay159 s)
    (k0_pay166 s m)) (k0_pay180 (k0_pay160 s) (k0_pay166 s m)) (k0_pay181 (k0_pay161 s) (k0_pay166 s m))
    (k0_pay182 (k0_pay162 s) (k0_pay166 s m)) (k0_pay183 (k0_pay163 s) (k0_pay166 s m)) (k0_pay184 (k0_pay164 s)
    (k0_pay166 s m)) (k0_pay187 (k0_pay168 s m)) (k0_pay188 (k0_pay169 s m)) (k0_pay189 (k0_pay170 s m))
    (k0_pay190 (k0_pay171 s m)) (k0_pay191 (k0_pay172 s m)) (k0_pay192 (k0_pay173 s m)) (k0_pay193 (k0_pay174 s
    m)) (k0_pay194 (k0_pay175 s m)) (k0_pay195 (k0_pay176 s m))

/-- The pieces of that row. -/
def piece (s : FVec Ideal S64x2048 .f32) (m : Vec Ideal S1x64x128 .f32) : Fin 16 → FVec Ideal S64x128 .bf16 :=
  ![k0_pay187 (k0_pay168 s m), k0_pay188 (k0_pay169 s m), k0_pay189 (k0_pay170 s m), k0_pay190 (k0_pay171 s m), k0_pay191 (k0_pay172 s m), k0_pay192 (k0_pay173 s m), k0_pay193 (k0_pay174 s m), k0_pay194 (k0_pay175 s m), k0_pay195 (k0_pay176 s m), truncf .bf16 (k0_pay178 (k0_pay158 s) (k0_pay166 s m)) bitsLt_bf16_f32, truncf .bf16 (k0_pay179 (k0_pay159 s) (k0_pay166 s m)) bitsLt_bf16_f32, truncf .bf16 (k0_pay180 (k0_pay160 s) (k0_pay166 s m)) bitsLt_bf16_f32, truncf .bf16 (k0_pay181 (k0_pay161 s) (k0_pay166 s m)) bitsLt_bf16_f32, truncf .bf16 (k0_pay182 (k0_pay162 s) (k0_pay166 s m)) bitsLt_bf16_f32, truncf .bf16 (k0_pay183 (k0_pay163 s) (k0_pay166 s m)) bitsLt_bf16_f32, truncf .bf16 (k0_pay184 (k0_pay164 s) (k0_pay166 s m)) bitsLt_bf16_f32]

theorem piece_apply (s : FVec Ideal S64x2048 .f32) (m : Vec Ideal S1x64x128 .f32) (b : Fin 16) (r : Fin 64) (e : Fin 128) :
    piece s m b (ix2 r e) = wt s m b r e := by
  unfold piece
  fin_cases b
  · exact wt0_apply s m r e
  · exact wt1_apply s m r e
  · exact wt2_apply s m r e
  · exact wt3_apply s m r e
  · exact wt4_apply s m r e
  · exact wt5_apply s m r e
  · exact wt6_apply s m r e
  · exact wt7_apply s m r e
  · exact wt8_apply s m r e
  · exact wt9_apply s m r e
  · exact wt10_apply s m r e
  · exact wt11_apply s m r e
  · exact wt12_apply s m r e
  · exact wt13_apply s m r e
  · exact wt14_apply s m r e
  · exact wt15_apply s m r e

theorem wAll_apply (s : FVec Ideal S64x2048 .f32) (m : Vec Ideal S1x64x128 .f32) (r : Fin 64) (j : Fin 2048) :
    wAll s m (ix2 r j) = Ideal.exp2 (s (ix2 r j) - tM s m (ix3 0 r ⟨j.val % 128, Nat.mod_lt _ (by decide)⟩)) := by
  have h := concatenate_ofFn_apply (t := S64x2048) (s₁ := S64x128) (1 : Fin 2) (piece s m) (concatenates_S64x128_S64x128_S64x128_S64x128_S64x128_S64x128_S64x128_S64x128_S64x128_S64x128_S64x128_S64x128_S64x128_S64x128_S64x128_S64x128_S64x2048_d1) rfl 128 rfl (ix2 r j)
    ⟨j.val / 128, by omega⟩ rfl (ix2 r ⟨j.val % 128, Nat.mod_lt _ (by decide)⟩) rfl (by intro b hb; fin_cases b; · rfl
                                                                                        · exact absurd rfl hb)
  have h2 : wAll s m (ix2 r j) = piece s m ⟨j.val / 128, by omega⟩ (ix2 r ⟨j.val % 128, Nat.mod_lt _ (by decide)⟩) := h
  rw [h2, piece_apply]
  unfold wt blk
  congr 3
  unfold lane
  congr 1
  exact Fin.ext (Nat.div_add_mod _ _)

theorem tA_apply (s : FVec Ideal S64x2048 .f32) (m : Vec Ideal S1x64x128 .f32) (v : Vec Ideal S1x2048x128 .f32)
    (a : Vec Ideal S1x64x128 .f32) (r : Fin 64) (e : Fin 128) :
    tA s m v a (ix3 0 r e) = a (ix3 0 r e) * Ideal.exp2 (m (ix3 0 r e) - tM s m (ix3 0 r e))
      + ∑ j : Fin 2048, Ideal.exp2 (s (ix2 r j) - tM s m (ix3 0 r ⟨j.val % 128, Nat.mod_lt _ (by decide)⟩)) * v (ix3 0 j e) := by
  have h : tA s m v a = k0_pay500 (k0_pay167 s m) (wAll s m) v a := rfl
  rw [h]
  unfold k0_pay500
  pointwise
  simp only [pay165_apply, wAll_apply]

theorem lt32 (e : Fin 128) : IntOp.cmpi .slt (BitVec.ofNat 32 e.val) 32#32 = if e.val < 32 then 1#1 else 0#1 := by
  revert e; decide

/-- A row's scores against the new keys, the padding masked. -/
def nScore (q : Vec Ideal S1x64x128 .bf16) (k : Vec Ideal S128x128 .bf16) (r : Fin 64) (e : Fin 128) : EReal :=
  if e.val < 32 then ∑ d : Fin 128, q (ix3 0 r d) * k (ix2 e d) else ⊥

theorem pay42_apply (q : Vec Ideal S1x64x128 .bf16) (k : Vec Ideal S128x128 .bf16) (r : Fin 64) (e : Fin 128) :
    k0_pay46 q k (ix2 r e) = nScore q k r e := by
  unfold k0_pay46 nScore
  pointwise
  rw [mask_eq]
  rw [lt32]; split_ifs <;> rfl

theorem pay44_apply (q : Vec Ideal S1x64x128 .bf16) (k : Vec Ideal S128x128 .bf16) (m : Vec Ideal S1x64x128 .f32) (r : Fin 64) (e : Fin 128) :
    k0_pay48 q k m (ix2 r e) = max (m (ix3 0 r e)) (Finset.fold max (⊥ : EReal) (fun e => nScore q k r e) Finset.univ) := by
  unfold k0_pay48 k0_pay47
  pointwise
  simp only [pay42_apply, neg_inf]

theorem nM_apply (q : Vec Ideal S1x64x128 .bf16) (k : Vec Ideal S128x128 .bf16) (m : Vec Ideal S1x64x128 .f32) (r : Fin 64) (e : Fin 128) :
    nM q k m (ix3 0 r e) = max (m (ix3 0 r e)) (Finset.fold max (⊥ : EReal) (fun e => nScore q k r e) Finset.univ) := by
  unfold nM k0_pay52
  pointwise
  rw [pay44_apply]

theorem pay45_apply (q : Vec Ideal S1x64x128 .bf16) (k : Vec Ideal S128x128 .bf16) (m : Vec Ideal S1x64x128 .f32) (r : Fin 64) (e : Fin 128) :
    k0_pay49 q k m (ix2 r e) = Ideal.exp2 (m (ix3 0 r e) - nM q k m (ix3 0 r e)) := by
  unfold k0_pay49 k0_pay47
  pointwise
  rw [pay44_apply, nM_apply]; rfl

theorem pay46_apply (q : Vec Ideal S1x64x128 .bf16) (k : Vec Ideal S128x128 .bf16) (m : Vec Ideal S1x64x128 .f32) (r : Fin 64) (e : Fin 128) :
    k0_pay50 q k m (ix2 r e) = Ideal.exp2 (nScore q k r e - nM q k m (ix3 0 r e)) := by
  unfold k0_pay50
  pointwise
  rw [pay42_apply, pay44_apply, nM_apply]; rfl

theorem nL_apply (q : Vec Ideal S1x64x128 .bf16) (k : Vec Ideal S128x128 .bf16) (m l : Vec Ideal S1x64x128 .f32) (r : Fin 64) (e : Fin 128) :
    nL q k m l (ix3 0 r e) = Ideal.exp2 (m (ix3 0 r e) - nM q k m (ix3 0 r e)) * l (ix3 0 r e)
      + Ideal.exp2 (nScore q k r e - nM q k m (ix3 0 r e)) := by
  unfold nL k0_pay51
  pointwise
  rw [pay45_apply, pay46_apply]

theorem nA_apply (q : Vec Ideal S1x64x128 .bf16) (k : Vec Ideal S128x128 .bf16) (m : Vec Ideal S1x64x128 .f32) (v : Vec Ideal S128x128 .bf16)
    (a : Vec Ideal S1x64x128 .f32) (r : Fin 64) (e : Fin 128) :
    nA q k m v a (ix3 0 r e) = a (ix3 0 r e) * Ideal.exp2 (m (ix3 0 r e) - nM q k m (ix3 0 r e))
      + ∑ j : Fin 128, Ideal.exp2 (nScore q k r j - nM q k m (ix3 0 r j)) * v (ix2 j e) := by
  unfold nA k0_pay53
  pointwise
  simp only [pay45_apply, pay46_apply]

theorem lamV_apply (x0 x1 x2 x3 : Vec Ideal S1x64 .f32) :
    lamV x0 x1 x2 x3 (ix2 0 0) = Ideal.exp (∑ d : Fin 64, x0 (ix2 0 d) * x1 (ix2 0 d)) - Ideal.exp (∑ d : Fin 64, x2 (ix2 0 d) * x3 (ix2 0 d))
      + Ideal.ofBits .f32 0x3E4CCCCD#32 := by
  unfold lamV k0_pay45 k0_pay43 k0_pay44
  pointwise

/-- The weighted difference of a head's two maps. -/
def diff (lam : EReal) (a1 l1 a2 l2 : Vec Ideal S1x32x128 .f32) (r : Fin 32) (e : Fin 128) : EReal :=
  Ideal.div (a1 (ix3 0 r e)) (∑ j : Fin 128, l1 (ix3 0 r j)) - lam * Ideal.div (a2 (ix3 0 r e)) (∑ j : Fin 128, l2 (ix3 0 r j))

theorem pay51_apply (lam : FVec Ideal S1x1 .f32) (a1 l1 a2 l2 : Vec Ideal S1x32x128 .f32) (r : Fin 32) (e : Fin 128) :
    k0_pay55 lam a1 l1 a2 l2 (ix2 r e) = diff (lam (ix2 0 0)) a1 l1 a2 l2 r e := by
  unfold k0_pay55 diff
  pointwise

theorem oH_apply (lam : FVec Ideal S1x1 .f32) (a1 l1 a2 l2 : Vec Ideal S1x32x128 .f32) (g : Vec Ideal S1x128 .f32) (r : Fin 32) (e : Fin 128) :
    oH lam a1 l1 a2 l2 g (ix2 r e) = diff (lam (ix2 0 0)) a1 l1 a2 l2 r e
      * Ideal.rsqrt (Ideal.div (∑ j : Fin 128, diff (lam (ix2 0 0)) a1 l1 a2 l2 r j * diff (lam (ix2 0 0)) a1 l1 a2 l2 r j)
          (Ideal.ofBits .f32 0x43000000#32) + Ideal.ofBits .f32 0x358637BD#32) * g (ix2 0 e) * Ideal.ofBits .f32 0x3F4CCCCD#32 := by
  unfold oH k0_pay57 k0_pay56 k0_pay54
  pointwise
  simp only [pay51_apply]

end Cert.KernelIdeal.Attn
-- ==== Proof.Attn.Place.lean ====
/- Where the kernel's blocks hold what: the stacked queries, the padded new keys and values, the output block, a head's
   part of a cache tile. -/
module

public import proofs.«01_k».proof.Proof.Attn.Point

@[expose] public section

set_option maxRecDepth 16384

noncomputable section

namespace Cert.KernelIdeal.Attn

open Idealize.ShloMosaic Idealize.ShloMosaic.TcCoe Idealize.ShloMosaic.Tactic Cert.KernelIdeal Cert.KernelIdeal.Gen

/-- Column `d` of head `h`. -/
def hcol (h : Fin 8) (d : Fin 128) : Fin 1024 := ⟨128 * h.val + d.val, by omega⟩

/-- The scale the queries are multiplied with: the score's own, with the change to base two. -/
theorem qscale_eq : Named.named (F := Ideal) (φ := .f32) κ "qscale" 0x3E38AA3B#32 = ((8⁻¹ * (Real.log 2)⁻¹ : ℝ) : EReal) :=
  IdealRules.named_const.ideal_named_scalar _ _ _ _ rfl

/-- The scale as a number. -/
def qsc : ℝ := 8⁻¹ * (Real.log 2)⁻¹

theorem cQ_apply (X : Vec Ideal S32x1024 .f32) (h : Fin 8) (r : Fin 32) (d : Fin 128) : cQ X h (ix2 r d) = X (ix2 r (hcol h d)) := by
  unfold cQ
  refine congrArg X ?_
  funext a; apply Fin.ext
  refine (LoadRect.idx_apply _ _ _).trans ?_
  match a with
  | ⟨0, _⟩ => show 0 + 1 * r.val = r.val; omega
  | ⟨1, _⟩ => show 128 * h.val + 1 * d.val = 128 * h.val + d.val; omega

theorem slt64 (e : Fin 128) : IntOp.cmpi .slt (BitVec.ofNat 32 e.val) 64#32 = if e.val < 64 then 1#1 else 0#1 := by
  revert e; decide

theorem sge64 (e : Fin 128) : IntOp.cmpi .sge (BitVec.ofNat 32 e.val) 64#32 = if e.val < 64 then 0#1 else 1#1 := by
  revert e; decide

theorem qLo_apply (X : Vec Ideal S32x128 .f32) (r : Fin 32) (d : Fin 128) :
    qLo X (ix3 0 r d) = if d.val < 64 then X (ix2 r d) * (qsc : EReal) else 0 := by
  unfold qLo k0_pay4 k0_pay2 k0_pay3
  pointwise
  rw [qscale_eq, slt64]; split_ifs
  · rfl
  · rfl

theorem qHi_apply (X : Vec Ideal S32x128 .f32) (r : Fin 32) (d : Fin 128) :
    qHi X (ix3 0 r d) = if d.val < 64 then 0 else X (ix2 r d) * (qsc : EReal) := by
  unfold qHi k0_pay5 k0_pay2 k0_pay3
  pointwise
  rw [qscale_eq, sge64]; split_ifs
  · rfl
  · rfl

/-- The stacked queries, index by index. -/
def qF (X : Vec Ideal S32x1024 .f32) (h : Fin 8) (r : Fin 64) (d : Fin 128) : EReal :=
  if hr : r.val < 32 then (if d.val < 64 then X (ix2 ⟨r.val, hr⟩ (hcol h d)) * (qsc : EReal) else 0)
  else (if d.val < 64 then 0 else X (ix2 ⟨r.val - 32, by omega⟩ (hcol h d)) * (qsc : EReal))

/-- The same, of an index. -/
def qT (X : Vec Ideal S32x1024 .f32) (i : S8x64x128.Idx) : EReal := qF X (i 0) (i 1) (i 2)

theorem emb_rQ (h : Fin 8) (p : Fin 2) (r : Fin 32) (d : Fin 128) :
    (rQ h p).emb (ix3 0 r d : S1x32x128.Idx) = (ix3 h ⟨32 * p.val + r.val, by omega⟩ d : S8x64x128.Idx) := by
  funext a; apply Fin.ext
  refine (Rect.emb_apply _ _ _).trans ?_
  match a with
  | ⟨0, _⟩ => show h.val + 1 * 0 = h.val; omega
  | ⟨1, _⟩ => show 32 * p.val + 1 * r.val = 32 * p.val + r.val; omega
  | ⟨2, _⟩ => show 0 + 1 * d.val = d.val; omega

theorem piece_lo (X : Vec Ideal S32x1024 .f32) (h : Fin 8) (x : S1x32x128.Idx) : qLo (cQ X h) x = qT X ((rQ h 0).emb x) := by
  obtain ⟨a, r, d, rfl⟩ : ∃ a r d, x = ix3 a r d := ⟨x 0, x 1, x 2, by funext i; fin_cases i <;> rfl⟩
  obtain rfl : a = 0 := Subsingleton.elim _ _
  rw [emb_rQ, qLo_apply, cQ_apply]
  show _ = qF X h ⟨32 * 0 + r.val, _⟩ d
  unfold qF
  refine Eq.trans ?_ (dif_pos (show 32 * 0 + r.val < 32 by omega)).symm
  simp

theorem piece_hi (X : Vec Ideal S32x1024 .f32) (h : Fin 8) (x : S1x32x128.Idx) : qHi (cQ X h) x = qT X ((rQ h 1).emb x) := by
  obtain ⟨a, r, d, rfl⟩ : ∃ a r d, x = ix3 a r d := ⟨x 0, x 1, x 2, by funext i; fin_cases i <;> rfl⟩
  obtain rfl : a = 0 := Subsingleton.elim _ _
  rw [emb_rQ, qHi_apply, cQ_apply]
  show _ = qF X h ⟨32 * 1 + r.val, _⟩ d
  unfold qF
  refine Eq.trans ?_ (dif_neg (show ¬ 32 * 1 + r.val < 32 by omega)).symm
  simp

theorem qs_apply (X : Vec Ideal S32x1024 .f32) (h : Fin 8) (r : Fin 64) (d : Fin 128) :
    qs X (ix3 h r d) = qT X (ix3 h r d) := by
  unfold qs
  refine View.canon_apply_of_pieces (Val := Elt Ideal) (S := S8x64x128) (e := .bf16) (qT X) _ ?_ _ ?_
  · intro p hp x
    simp only [qStack, List.mem_cons, List.not_mem_nil, or_false] at hp
    have hp' : (∃ n, p = ⟨rQ n 1, qHi (cQ X n)⟩) ∨ (∃ n, p = ⟨rQ n 0, qLo (cQ X n)⟩) := by
      rcases hp with hp | hp | hp | hp | hp | hp | hp | hp | hp | hp | hp | hp | hp | hp | hp | hp
      · exact Or.inl ⟨7, hp⟩
      · exact Or.inr ⟨7, hp⟩
      · exact Or.inl ⟨6, hp⟩
      · exact Or.inr ⟨6, hp⟩
      · exact Or.inl ⟨5, hp⟩
      · exact Or.inr ⟨5, hp⟩
      · exact Or.inl ⟨4, hp⟩
      · exact Or.inr ⟨4, hp⟩
      · exact Or.inl ⟨3, hp⟩
      · exact Or.inr ⟨3, hp⟩
      · exact Or.inl ⟨2, hp⟩
      · exact Or.inr ⟨2, hp⟩
      · exact Or.inl ⟨1, hp⟩
      · exact Or.inr ⟨1, hp⟩
      · exact Or.inl ⟨0, hp⟩
      · exact Or.inr ⟨0, hp⟩
    rcases hp' with ⟨n, rfl⟩ | ⟨n, rfl⟩
    · exact piece_hi X n x
    · exact piece_lo X n x
  · have hm : ∀ (p : Fin 2) (r' : Fin 32), r.val = 32 * p.val + r'.val → (ix3 h r d : S8x64x128.Idx) ∈ (rQ h p).set := by
      intro p r' hr
      have : (ix3 h r d : S8x64x128.Idx) = (rQ h p).emb (ix3 0 r' d : S1x32x128.Idx) := by
        rw [emb_rQ]; congr 1; exact Fin.ext hr
      rw [this]; exact (rQ h p).idx_mem _
    by_cases hr : r.val < 32
    · refine ⟨⟨rQ h 0, qLo (cQ X h)⟩, ?_, hm 0 ⟨r.val, hr⟩ (by simp)⟩
      fin_cases h <;> simp [qStack]
    · refine ⟨⟨rQ h 1, qHi (cQ X h)⟩, ?_, hm 1 ⟨r.val - 32, by omega⟩ (by simp; omega)⟩
      fin_cases h <;> simp [qStack]

theorem hd_apply {e : EltTy} (X : Vec Ideal S8x64x128 e) (h : Fin 8) (r : Fin 64) (d : Fin 128) : hd X h (ix3 0 r d) = X (ix3 h r d) := by
  unfold hd
  refine congrArg X ?_
  funext a; apply Fin.ext
  refine (LoadRect.idx_apply _ _ _).trans ?_
  match a with
  | ⟨0, _⟩ => show h.val + 1 * 0 = h.val; omega
  | ⟨1, _⟩ => show 0 + 1 * r.val = r.val; omega
  | ⟨2, _⟩ => show 0 + 1 * d.val = d.val; omega

/-- The first map's rows of a head's queries. -/
theorem q_lo (X : Vec Ideal S32x1024 .f32) (h : Fin 8) (r : Fin 32) (d : Fin 128) :
    hd (qs X) h (ix3 0 ⟨r.val, by omega⟩ d) = if d.val < 64 then X (ix2 r (hcol h d)) * (qsc : EReal) else 0 := by
  rw [hd_apply, qs_apply]
  show qF X h ⟨r.val, _⟩ d = _
  unfold qF
  exact dif_pos r.isLt

/-- The second map's rows of a head's queries. -/
theorem q_hi (X : Vec Ideal S32x1024 .f32) (h : Fin 8) (r : Fin 32) (d : Fin 128) :
    hd (qs X) h (ix3 0 ⟨32 + r.val, by omega⟩ d) = if d.val < 64 then 0 else X (ix2 r (hcol h d)) * (qsc : EReal) := by
  rw [hd_apply, qs_apply]
  show qF X h ⟨32 + r.val, _⟩ d = _
  unfold qF
  refine (dif_neg (show ¬ 32 + r.val < 32 by omega)).trans ?_
  simp

theorem kT_apply (X : Vec Ideal S1x8x128x2048 .f32) (h : Fin 8) (d : Fin 128) (j : Fin 2048) : kT X h (ix4 0 0 d j) = X (ix4 0 h d j) := by
  unfold kT
  refine congrArg X ?_
  funext a; apply Fin.ext
  refine (LoadRect.idx_apply _ _ _).trans ?_
  match a with
  | ⟨0, _⟩ => rfl
  | ⟨1, _⟩ => show h.val + 1 * 0 = h.val; omega
  | ⟨2, _⟩ => show 0 + 1 * d.val = d.val; omega
  | ⟨3, _⟩ => show 0 + 1 * j.val = j.val; omega

theorem vT_apply (X : Vec Ideal S1x16384x128 .f32) (h : Fin 8) (j : Fin 2048) (e : Fin 128) :
    vT X h (ix3 0 j e) = X (ix3 0 ⟨8 * j.val + h.val, by omega⟩ e) := by
  unfold vT
  refine congrArg X ?_
  funext a; apply Fin.ext
  refine (LoadRect.idx_apply _ _ _).trans ?_
  match a with
  | ⟨0, _⟩ => rfl
  | ⟨1, _⟩ => show h.val + 8 * j.val = 8 * j.val + h.val; omega
  | ⟨2, _⟩ => show 0 + 1 * e.val = e.val; omega

theorem kN_apply (X : Vec Ideal S128x1024 .bf16) (h : Fin 8) (k d : Fin 128) : kN X h (ix2 k d) = X (ix2 k (hcol h d)) := by
  unfold kN
  refine congrArg X ?_
  funext a; apply Fin.ext
  refine (LoadRect.idx_apply _ _ _).trans ?_
  match a with
  | ⟨0, _⟩ => show 0 + 1 * k.val = k.val; omega
  | ⟨1, _⟩ => show 128 * h.val + 1 * d.val = 128 * h.val + d.val; omega

/-- Rows behind 32 zero. -/
def padF (X : Vec Ideal S32x1024 .bf16) (k : Fin 128) (c : Fin 1024) : EReal := if h : k.val < 32 then X (ix2 ⟨k.val, h⟩ c) else 0

/-- The same, of an index. -/
def padT (X : Vec Ideal S32x1024 .bf16) (i : S128x1024.Idx) : EReal := padF X (i 0) (i 1)

theorem pad_apply (w : Vec Ideal S32x1024 .bf16) (z : Vec Ideal S128x1024 .bf16) (hz : ∀ i, z i = 0) (i : S128x1024.Idx) :
    View.canon (Val := Elt Ideal) (s := S128x1024) (e := .bf16) [⟨Rect.unit ![0, 0] S32x1024.size inb_S128x1024_S32x1024_0_0, w⟩, ⟨Rect.unit ![0, 0] S128x1024.size inb_S128x1024_S128x1024_0_0, z⟩] i
      = padT w i := by
  by_cases h : (i 0).val < 32
  · have e : i = (Rect.unit (s := S128x1024) ![0, 0] S32x1024.size inb_S128x1024_S32x1024_0_0).emb (ix2 ⟨(i 0).val, h⟩ (i 1) : S32x1024.Idx) := by
      funext a; apply Fin.ext
      refine Eq.trans ?_ (Rect.emb_apply _ _ _).symm
      match a with
      | ⟨0, _⟩ => show (i 0).val = 0 + 1 * (i 0).val; omega
      | ⟨1, _⟩ => show (i 1).val = 0 + 1 * (i 1).val; omega
    refine (congrArg _ e).trans ((View.canon_cons_emb _ _ _ _).trans ?_)
    unfold padT padF
    rw [dif_pos h]
  · refine (View.canon_cons_of_not_mem _ _ ?_).trans ?_
    · intro hm
      obtain ⟨x, hx⟩ := LoadRect.exists_idx_of_mem _ hm
      have hx0 : (x 0).val < 32 := (x 0).isLt
      have : (i 0).val = 0 + 1 * (x 0).val := by
        rw [← hx]; exact Rect.emb_apply _ _ _
      omega
    · have e : i = (Rect.unit (s := S128x1024) ![0, 0] S128x1024.size inb_S128x1024_S128x1024_0_0).emb i := by
        funext a; apply Fin.ext
        refine Eq.trans ?_ (Rect.emb_apply _ _ _).symm
        match a with
        | ⟨0, _⟩ => show (i 0).val = 0 + 1 * (i 0).val; omega
        | ⟨1, _⟩ => show (i 1).val = 0 + 1 * (i 1).val; omega
      refine (congrArg _ e).trans ((View.canon_cons_emb _ _ _ _).trans ?_)
      unfold padT padF
      rw [dif_neg h]; exact hz i

theorem kPad_apply (X : Vec Ideal S32x1024 .bf16) (h : Fin 8) (k d : Fin 128) :
    kN (kPad X) h (ix2 k d) = if hk : k.val < 32 then X (ix2 ⟨k.val, hk⟩ (hcol h d)) else 0 := by
  rw [kN_apply]
  unfold kPad
  refine (pad_apply _ _ ?_ _).trans ?_
  · intro i; unfold k0_pay39; pointwise
  · unfold padT padF k0_pay41; pointwise

theorem vPad_apply (X : Vec Ideal S32x1024 .bf16) (h : Fin 8) (k d : Fin 128) :
    kN (vPad X) h (ix2 k d) = if hk : k.val < 32 then X (ix2 ⟨k.val, hk⟩ (hcol h d)) else 0 := by
  rw [kN_apply]
  unfold vPad
  refine (pad_apply _ _ ?_ _).trans ?_
  · intro i; unfold k0_pay40; pointwise
  · unfold padT padF k0_pay42; pointwise

theorem emb_rO (h : Fin 8) (r : Fin 32) (d : Fin 128) : (rO h).emb (ix2 r d : S32x128.Idx) = (ix2 r (hcol h d) : S32x1024.Idx) := by
  funext a; apply Fin.ext
  refine (Rect.emb_apply _ _ _).trans ?_
  match a with
  | ⟨0, _⟩ => show 0 + 1 * r.val = r.val; omega
  | ⟨1, _⟩ => show 128 * h.val + 1 * d.val = 128 * h.val + d.val; omega

/-- The output block, index by index. -/
def outT (G : Fin 8 → Vec Ideal S32x128 .bf16) (i : S32x1024.Idx) : EReal :=
  G ⟨(i 1).val / 128, by have : (i 1).val < 1024 := (i 1).isLt; omega⟩ (ix2 (i 0) ⟨(i 1).val % 128, Nat.mod_lt _ (by decide)⟩)

theorem out_apply (G : Fin 8 → Vec Ideal S32x128 .bf16) (h : Fin 8) (r : Fin 32) (d : Fin 128) :
    View.canon (Val := Elt Ideal) (outStack G) (ix2 r (hcol h d)) = G h (ix2 r d) := by
  have hT : ∀ (h : Fin 8) (r : Fin 32) (d : Fin 128), outT G (ix2 r (hcol h d)) = G h (ix2 r d) := by
    intro h r d
    unfold outT hcol
    have h1 : (128 * h.val + d.val) / 128 = h.val := by omega
    have h2 : (128 * h.val + d.val) % 128 = d.val := by omega
    simp [h1, h2]
  rw [← hT h r d]
  refine View.canon_apply_of_pieces (Val := Elt Ideal) (S := S32x1024) (e := .bf16) (outT G) _ ?_ _ ?_
  · intro p hp x
    have hp' : ∃ n, p = ⟨rO n, G n⟩ := by
      simp only [outStack, List.mem_cons, List.not_mem_nil, or_false] at hp
      rcases hp with rfl | rfl | rfl | rfl | rfl | rfl | rfl | rfl <;> exact ⟨_, rfl⟩
    obtain ⟨n, rfl⟩ := hp'
    obtain ⟨r, d, rfl⟩ : ∃ r d, x = ix2 r d := ⟨x 0, x 1, by funext i; fin_cases i <;> rfl⟩
    rw [emb_rO, hT]
  · refine ⟨⟨rO h, G h⟩, ?_, ?_⟩
    · fin_cases h <;> simp [outStack]
    · rw [← emb_rO]; exact (rO h).idx_mem _

end Cert.KernelIdeal.Attn
-- ==== Proof.Attn.Softmax.lean ====
/- A row's running softmax over real scores: after any number of tiles the lane sums add up to the sum of the weights and
   the weighted sum is the weights times the values, both scaled by the running maximum. -/
module

public import proofs.«01_k».proof.Proof.Attn.Point

@[expose] public section

set_option maxRecDepth 16384

noncomputable section

namespace Cert.KernelIdeal.Attn

open Idealize.ShloMosaic Idealize.ShloMosaic.TcCoe Idealize.ShloMosaic.Tactic Cert.KernelIdeal Cert.KernelIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_sub (a b : ℝ) : Ideal.exp2 ((a : EReal) - (b : EReal)) = (((2 : ℝ) ^ (a - b) : ℝ) : EReal) := by
  rw [← EReal.coe_sub]; exact Ideal.exp2_coe _

/-- The largest of finitely many values, one of them real and none `⊤`, is real. -/
theorem fold_real (f : Fin 128 → EReal) (e0 : Fin 128) (h0 : f e0 ≠ ⊥) (ht : ∀ e, f e ≠ ⊤) :
    ∃ μ : ℝ, Finset.fold max (⊥ : EReal) f Finset.univ = (μ : EReal) := by
  have hs : Finset.fold max (⊥ : EReal) f Finset.univ = Finset.univ.sup f := rfl
  rw [hs]
  obtain ⟨e, -, he⟩ := Finset.exists_mem_eq_sup Finset.univ ⟨e0, Finset.mem_univ _⟩ f
  have hle : f e0 ≤ f e := he ▸ Finset.le_sup (f := f) (Finset.mem_univ e0)
  refine ⟨(f e).toReal, ?_⟩
  rw [he, EReal.coe_toReal (ht e)]
  intro hb; rw [hb] at hle; exact h0 (le_bot_iff.mp hle)

theorem max_real (a b : EReal) (ha : ∃ x : ℝ, a = x) (hb : ∃ x : ℝ, b = x) : ∃ x : ℝ, max a b = x := by
  rcases max_choice a b with h | h <;> rw [h] <;> assumption

/-- What a row's running softmax holds of the keys so far: `S` the sum of the weights, `A` the weighted sums. -/
def Inv (S : ℝ) (A : Fin 128 → ℝ) (m l a : Fin 128 → EReal) : Prop :=
  ∃ (μ : ℝ) (w : Fin 128 → ℝ), (∀ e, m e = μ) ∧ (∀ e, l e = w e) ∧ ∑ e, w e = S * (2 : ℝ) ^ (-μ) ∧ ∀ e, a e = ((A e * (2 : ℝ) ^ (-μ) : ℝ) : EReal)

/-- The state before any key. -/
def Start (m l a : Fin 128 → EReal) : Prop := (∀ e, m e = ⊥) ∧ (∀ e, l e = 0) ∧ ∀ e, a e = 0

/-- What is left of the state at a new maximum. -/
def Carry (S : ℝ) (A : Fin 128 → ℝ) (m l a m' : Fin 128 → EReal) : Prop :=
  ∃ (μ : ℝ) (w : Fin 128 → ℝ), (∀ e, m' e = μ) ∧ (∀ e, Ideal.exp2 (m e - m' e) * l e = w e) ∧ ∑ e, w e = S * (2 : ℝ) ^ (-μ)
    ∧ ∀ e, a e * Ideal.exp2 (m e - m' e) = ((A e * (2 : ℝ) ^ (-μ) : ℝ) : EReal)

theorem carry_start (m l a m' : Fin 128 → EReal) (h : Start m l a) (M : EReal) (hM : ∃ x : ℝ, M = x) (hm' : ∀ e, m' e = max (m e) M) :
    Carry 0 (fun _ => 0) m l a m' := by
  obtain ⟨x, rfl⟩ := hM
  obtain ⟨h1, h2, h3⟩ := h
  refine ⟨x, fun _ => 0, fun e => ?_, fun e => ?_, by simp, fun e => ?_⟩
  · rw [hm', h1]; exact bot_sup_eq _
  · rw [h2, mul_zero]; rfl
  · rw [h3, zero_mul]; simp

theorem carry_inv (S : ℝ) (A : Fin 128 → ℝ) (m l a m' : Fin 128 → EReal) (h : Inv S A m l a) (M : EReal) (hM : ∃ x : ℝ, M = x)
    (hm' : ∀ e, m' e = max (m e) M) : Carry S A m l a m' := by
  obtain ⟨x, rfl⟩ := hM
  obtain ⟨μ, w, h1, h2, h3, h4⟩ := h
  have hx : max (μ : EReal) (x : EReal) = ((max μ x : ℝ) : EReal) := by
    exact (EReal.coe_strictMono.monotone.map_max).symm
  have hp : ∀ c : ℝ, c * (2 : ℝ) ^ (-μ) * (2 : ℝ) ^ (μ - max μ x) = c * (2 : ℝ) ^ (-(max μ x)) := by
    intro c
    rw [mul_assoc, ← Real.rpow_add two_pos]; congr 2; ring
  refine ⟨max μ x, fun e => (2 : ℝ) ^ (μ - max μ x) * w e, fun e => ?_, fun e => ?_, ?_, fun e => ?_⟩
  · rw [hm', h1, hx]
  · rw [hm', h1, hx, exp2_sub, h2, ← EReal.coe_mul]
  · rw [← Finset.mul_sum, h3, mul_comm, hp]
  · rw [hm', h1, hx, exp2_sub, h4, ← EReal.coe_mul, hp]

/-- The sum over a tile's columns, lane block by lane block. -/
theorem sum_lanes (f : Fin 2048 → ℝ) : ∑ e : Fin 128, ∑ b : Fin 16, f (lane b e) = ∑ j : Fin 2048, f j := by
  rw [Finset.sum_comm, ← Fintype.sum_prod_type' fun b e => f (lane b e)]
  refine Fintype.sum_equiv (finProdFinEquiv (m := 16) (n := 128)) _ _ fun x => ?_
  congr 1
  apply Fin.ext
  show 128 * x.1.val + x.2.val = x.2.val + 128 * x.1.val
  omega

theorem rowMax_real (s : FVec Ideal S64x2048 .f32) (r : Fin 64) (σ : Fin 2048 → ℝ) (hs : ∀ j, s (ix2 r j) = σ j) :
    ∃ x : ℝ, rowMax s r = x := by
  have ht : ∀ e, ∃ x : ℝ, top s r e = x := by
    intro e
    unfold top blk
    simp only [hs]
    repeat' apply max_real
    all_goals exact ⟨_, rfl⟩
  unfold rowMax
  refine fold_real _ 0 ?_ fun e => ?_
  · obtain ⟨x, hx⟩ := ht 0; rw [hx]; exact EReal.coe_ne_bot _
  · obtain ⟨x, hx⟩ := ht e; rw [hx]; exact EReal.coe_ne_top _

/-- A row of a stacked array. -/
def rowOf (X : Vec Ideal S1x64x128 .f32) (r : Fin 64) (e : Fin 128) : EReal := X (ix3 0 r e)

theorem tile_step (S : ℝ) (A : Fin 128 → ℝ) (s : FVec Ideal S64x2048 .f32) (m l a : Vec Ideal S1x64x128 .f32) (V : Vec Ideal S1x2048x128 .f32)
    (r : Fin 64) (σ : Fin 2048 → ℝ) (v : Fin 2048 → Fin 128 → ℝ) (hs : ∀ j, s (ix2 r j) = σ j) (hv : ∀ j e, V (ix3 0 j e) = v j e)
    (hc : Carry S A (rowOf m r) (rowOf l r) (rowOf a r) (rowOf (tM s m) r)) :
    Inv (S + ∑ j, (2 : ℝ) ^ σ j) (fun e => A e + ∑ j, (2 : ℝ) ^ σ j * v j e) (rowOf (tM s m) r) (rowOf (tL s m l) r) (rowOf (tA s m V a) r) := by
  obtain ⟨μ, w, h1, h2, h3, h4⟩ := hc
  have hw : ∀ x : ℝ, (2 : ℝ) ^ (x - μ) = (2 : ℝ) ^ x * (2 : ℝ) ^ (-μ) := fun x => by rw [sub_eq_add_neg, Real.rpow_add two_pos]
  refine ⟨μ, fun e => w e + ∑ b : Fin 16, (2 : ℝ) ^ (σ (lane b e) - μ), h1, fun e => ?_, ?_, fun e => ?_⟩
  · show tL s m l (ix3 0 r e) = _
    rw [tL_apply]
    refine (congrArg₂ (· + ·) (h2 e) (Finset.sum_congr rfl fun b _ => ?_)).trans ((EReal.coe_add _ _).trans (congrArg _ (coe_sum _ _))).symm
    unfold wt blk
    rw [hs, show tM s m (ix3 0 r e) = (μ : EReal) from h1 e, exp2_sub]
  · rw [Finset.sum_add_distrib, h3, sum_lanes fun j => (2 : ℝ) ^ (σ j - μ), add_mul, Finset.sum_mul]
    simp only [hw]
  · show tA s m V a (ix3 0 r e) = _
    rw [tA_apply, add_mul, Finset.sum_mul, EReal.coe_add, coe_sum]
    refine congrArg₂ (· + ·) (h4 e) (Finset.sum_congr rfl fun j _ => ?_)
    rw [hs, show tM s m (ix3 0 r _) = (μ : EReal) from h1 _, exp2_sub, hv, ← EReal.coe_mul, hw]
    congr 1; ring

theorem tile_first (s : FVec Ideal S64x2048 .f32) (m l a : Vec Ideal S1x64x128 .f32) (V : Vec Ideal S1x2048x128 .f32)
    (r : Fin 64) (σ : Fin 2048 → ℝ) (v : Fin 2048 → Fin 128 → ℝ) (hs : ∀ j, s (ix2 r j) = σ j) (hv : ∀ j e, V (ix3 0 j e) = v j e)
    (h : Start (rowOf m r) (rowOf l r) (rowOf a r)) :
    Inv (∑ j, (2 : ℝ) ^ σ j) (fun e => ∑ j, (2 : ℝ) ^ σ j * v j e) (rowOf (tM s m) r) (rowOf (tL s m l) r) (rowOf (tA s m V a) r) := by
  have := tile_step 0 (fun _ => 0) s m l a V r σ v hs hv
    (carry_start _ _ _ _ h (rowMax s r) (rowMax_real s r σ hs) fun e => tM_apply s m r e)
  simpa only [zero_add] using this

theorem tile_next (S : ℝ) (A : Fin 128 → ℝ) (s : FVec Ideal S64x2048 .f32) (m l a : Vec Ideal S1x64x128 .f32) (V : Vec Ideal S1x2048x128 .f32)
    (r : Fin 64) (σ : Fin 2048 → ℝ) (v : Fin 2048 → Fin 128 → ℝ) (hs : ∀ j, s (ix2 r j) = σ j) (hv : ∀ j e, V (ix3 0 j e) = v j e)
    (h : Inv S A (rowOf m r) (rowOf l r) (rowOf a r)) :
    Inv (S + ∑ j, (2 : ℝ) ^ σ j) (fun e => A e + ∑ j, (2 : ℝ) ^ σ j * v j e) (rowOf (tM s m) r) (rowOf (tL s m l) r) (rowOf (tA s m V a) r) :=
  tile_step S A s m l a V r σ v hs hv (carry_inv _ _ _ _ _ _ h (rowMax s r) (rowMax_real s r σ hs) fun e => tM_apply s m r e)

/-- A new key's place among the padded ones. -/
def pad (t : Fin 32) : Fin 128 := ⟨t.val, by omega⟩

/-- A sum over the padded keys whose padding is zero. -/
theorem sum_pad {M : Type} [AddCommMonoid M] (f : Fin 128 → M) (h : ∀ j, ¬ j.val < 32 → f j = 0) : ∑ j, f j = ∑ t : Fin 32, f (pad t) := by
  have h1 : ∑ j : Fin 128, f j = ∑ j : Fin (32 + 96), f j := rfl
  rw [h1, Fin.sum_univ_add, Finset.sum_eq_zero (s := (Finset.univ : Finset (Fin 96))) fun i _ => ?_, add_zero]
  · rfl
  · exact h _ (by show ¬ (32 + i.val < 32); omega)

theorem new_next (S : ℝ) (A : Fin 128 → ℝ) (q : Vec Ideal S1x64x128 .bf16) (k : Vec Ideal S128x128 .bf16) (m l a : Vec Ideal S1x64x128 .f32)
    (V : Vec Ideal S128x128 .bf16) (r : Fin 64) (σ : Fin 32 → ℝ) (v : Fin 32 → Fin 128 → ℝ)
    (hs : ∀ t, ∑ d : Fin 128, q (ix3 0 r d) * k (ix2 (pad t) d) = σ t) (hv : ∀ t e, V (ix2 (pad t) e) = v t e)
    (h : Inv S A (rowOf m r) (rowOf l r) (rowOf a r)) :
    Inv (S + ∑ t, (2 : ℝ) ^ σ t) (fun e => A e + ∑ t, (2 : ℝ) ^ σ t * v t e) (rowOf (nM q k m) r) (rowOf (nL q k m l) r) (rowOf (nA q k m V a) r) := by
  have hn : ∀ t, nScore q k r (pad t) = σ t := fun t => by
    unfold nScore; rw [← hs]; exact if_pos t.isLt
  have hb : ∀ e : Fin 128, ¬ e.val < 32 → nScore q k r e = ⊥ := fun e he => by
    unfold nScore; exact if_neg he
  have hM : ∃ x : ℝ, Finset.fold max (⊥ : EReal) (fun e => nScore q k r e) Finset.univ = x := by
    refine fold_real _ (pad 0) ?_ fun e => ?_
    · show nScore q k r (pad 0) ≠ ⊥
      rw [hn]; exact EReal.coe_ne_bot _
    · show nScore q k r e ≠ ⊤
      by_cases he : e.val < 32
      · rw [show e = pad ⟨e.val, he⟩ from rfl, hn]; exact EReal.coe_ne_top _
      · rw [hb e he]; exact bot_ne_top
  obtain ⟨μ, w, h1, h2, h3, h4⟩ := carry_inv S A _ _ _ (rowOf (nM q k m) r) h _ hM fun e => nM_apply q k m r e
  have hw : ∀ x : ℝ, (2 : ℝ) ^ (x - μ) = (2 : ℝ) ^ x * (2 : ℝ) ^ (-μ) := fun x => by rw [sub_eq_add_neg, Real.rpow_add two_pos]
  have hz : ∀ e : Fin 128, ¬ e.val < 32 → Ideal.exp2 (nScore q k r e - nM q k m (ix3 0 r e)) = 0 := fun e he => by
    rw [hb e he, show nM q k m (ix3 0 r e) = (μ : EReal) from h1 e]; rfl
  have hr : ∀ t, Ideal.exp2 (nScore q k r (pad t) - nM q k m (ix3 0 r (pad t))) = (((2 : ℝ) ^ (σ t - μ) : ℝ) : EReal) := fun t => by
    rw [hn, show nM q k m (ix3 0 r _) = (μ : EReal) from h1 _, exp2_sub]
  let u : Fin 128 → ℝ := fun e => if he : e.val < 32 then (2 : ℝ) ^ (σ ⟨e.val, he⟩ - μ) else 0
  have hu : ∀ t, u (pad t) = (2 : ℝ) ^ (σ t - μ) := fun t => dif_pos t.isLt
  have hu0 : ∀ e : Fin 128, ¬ e.val < 32 → u e = 0 := fun e he => dif_neg he
  have hue : ∀ e, Ideal.exp2 (nScore q k r e - nM q k m (ix3 0 r e)) = (u e : EReal) := fun e => by
    by_cases he : e.val < 32
    · rw [show e = pad ⟨e.val, he⟩ from rfl, hr, hu]
    · rw [hz e he, hu0 e he]; rfl
  refine ⟨μ, fun e => w e + u e, h1, fun e => ?_, ?_, fun e => ?_⟩
  · show nL q k m l (ix3 0 r e) = _
    rw [nL_apply, hue, EReal.coe_add]
    exact congrArg (· + _) (h2 e)
  · rw [Finset.sum_add_distrib, h3, sum_pad u hu0, add_mul, Finset.sum_mul]
    simp only [hu, hw]
  · show nA q k m V a (ix3 0 r e) = _
    rw [nA_apply, add_mul, Finset.sum_mul, EReal.coe_add, coe_sum]
    refine congrArg₂ (· + ·) (h4 e) ?_
    rw [sum_pad _ fun j hj => by rw [hz j hj, zero_mul]]
    refine Finset.sum_congr rfl fun t _ => ?_
    rw [hr, hv, ← EReal.coe_mul, hw]
    congr 1; ring

/-- The quotient a row ends with. -/
theorem quotient (S : ℝ) (hS : 0 < S) (A : Fin 128 → ℝ) (m l a : Fin 128 → EReal) (h : Inv S A m l a) (e : Fin 128) :
    Ideal.div (a e) (∑ j, l j) = ((A e / S : ℝ) : EReal) := by
  obtain ⟨μ, w, h1, h2, h3, h4⟩ := h
  have hp : (0 : ℝ) < (2 : ℝ) ^ (-μ) := Real.rpow_pos_of_pos two_pos _
  have hl : ∑ j, l j = ((S * (2 : ℝ) ^ (-μ) : ℝ) : EReal) := by
    rw [← h3, coe_sum]; exact Finset.sum_congr rfl fun j _ => h2 j
  rw [hl, h4, Ideal.div_coe (mul_pos hS hp).ne', ← EReal.coe_mul]
  congr 1
  field_simp

end Cert.KernelIdeal.Attn
-- ==== Proof.Attn.Head.lean ====
/- A row of a head, from its first cache tile to the quotient: the softmax-weighted sum of the values over the cache and
   the new keys. -/
module

public import proofs.«01_k».proof.Proof.Attn.Place
public import proofs.«01_k».proof.Proof.Attn.Softmax

@[expose] public section

set_option maxRecDepth 16384

noncomputable section

namespace Cert.KernelIdeal.Attn

open Idealize.ShloMosaic Idealize.ShloMosaic.TcCoe Idealize.ShloMosaic.Tactic Cert.KernelIdeal Cert.KernelIdeal.Gen

/-- Column `64 p + i` of a head. -/
def pcol (p : Fin 2) (i : Fin 64) : Fin 128 := ⟨64 * p.val + i.val, by omega⟩

/-- Row `r` of map `p` among a head's stacked rows. -/
def prow (p : Fin 2) (r : Fin 32) : Fin 64 := ⟨32 * p.val + r.val, by omega⟩

theorem sum_halves (f : Fin 128 → EReal) : ∑ d, f d = ∑ p : Fin 2, ∑ i : Fin 64, f (pcol p i) := by
  rw [← Fintype.sum_prod_type' fun p i => f (pcol p i)]
  refine (Fintype.sum_equiv (finProdFinEquiv (m := 2) (n := 64)) _ _ fun x => ?_).symm
  congr 1
  apply Fin.ext
  show 64 * x.1.val + x.2.val = x.2.val + 64 * x.1.val
  omega

theorem q_row (X : Vec Ideal S32x1024 .f32) (h : Fin 8) (p p' : Fin 2) (r : Fin 32) (i : Fin 64) :
    hd (qs X) h (ix3 0 (prow p r) (pcol p' i)) = if p' = p then X (ix2 r (hcol h (pcol p i))) * (qsc : EReal) else 0 := by
  have hc0 : (pcol 0 i).val < 64 := by show 64 * 0 + i.val < 64; omega
  have hc1 : ¬ (pcol 1 i).val < 64 := by show ¬ 64 * 1 + i.val < 64; omega
  have e0 : prow 0 r = ⟨r.val, by omega⟩ := Fin.ext (by show 32 * 0 + r.val = r.val; omega)
  have e1 : prow 1 r = ⟨32 + r.val, by omega⟩ := Fin.ext (by show 32 * 1 + r.val = 32 + r.val; omega)
  match p, p' with
  | 0, 0 => rw [e0, q_lo, if_pos hc0, if_pos rfl]
  | 0, 1 => rw [e0, q_lo, if_neg hc1, if_neg (by decide)]
  | 1, 0 => rw [e1, q_hi, if_pos hc0, if_neg (by decide)]
  | 1, 1 => rw [e1, q_hi, if_neg hc1, if_pos rfl]

/-- A row's score against a key: its own half of the columns, scaled. -/
theorem score_real (X : Vec Ideal S32x1024 .f32) (h : Fin 8) (p : Fin 2) (r : Fin 32) (x y : Fin 64 → ℝ) (k : Fin 128 → EReal)
    (hx : ∀ i, X (ix2 r (hcol h (pcol p i))) = (x i : EReal)) (hy : ∀ i, k (pcol p i) = (y i : EReal)) :
    ∑ d : Fin 128, hd (qs X) h (ix3 0 (prow p r) d) * k d = ((qsc * ∑ i, x i * y i : ℝ) : EReal) := by
  rw [sum_halves fun d => hd (qs X) h (ix3 0 (prow p r) d) * k d, Finset.sum_eq_single p]
  · rw [Finset.mul_sum, coe_sum]
    refine Finset.sum_congr rfl fun i _ => ?_
    rw [q_row, if_pos rfl, hx, hy, ← EReal.coe_mul, ← EReal.coe_mul]
    congr 1; ring
  · intro p' _ hp
    refine Finset.sum_eq_zero fun i _ => ?_
    rw [q_row, if_neg hp, zero_mul]
  · intro hp; exact absurd (Finset.mem_univ p) hp

theorem start_m (h : Fin 8) (r : Fin 64) (e : Fin 128) : hd (F := Ideal) (e := .f32) (k0_pay37 (F := Ideal)) h (ix3 0 r e) = ⊥ := by
  rw [hd_apply]; unfold k0_pay37; pointwise; exact mask_eq

theorem start_l (h : Fin 8) (r : Fin 64) (e : Fin 128) : hd (F := Ideal) (e := .f32) (k0_pay138 (F := Ideal) k0_pay38) h (ix3 0 r e) = 0 := by
  rw [hd_apply]; unfold k0_pay138 k0_pay38; pointwise

theorem start_a (h : Fin 8) (r : Fin 64) (e : Fin 128) : hd (F := Ideal) (e := .f32) (k0_pay139 (F := Ideal)) h (ix3 0 r e) = 0 := by
  rw [hd_apply]; unfold k0_pay139; pointwise

/-- A row's quotient: the weighted values over the sum of the weights, over two cache tiles and the new keys. -/
theorem row_out (X : Vec Ideal S32x1024 .f32) (K0 K1 : Vec Ideal S1x8x128x2048 .f32) (V0 V1 : Vec Ideal S1x16384x128 .f32)
    (kn vn : Vec Ideal S32x1024 .bf16) (h : Fin 8) (p : Fin 2) (r : Fin 32)
    (x : Fin 64 → ℝ) (y0 y1 : Fin 2048 → Fin 64 → ℝ) (y2 : Fin 32 → Fin 64 → ℝ)
    (v0 v1 : Fin 2048 → Fin 128 → ℝ) (v2 : Fin 32 → Fin 128 → ℝ)
    (hx : ∀ i, X (ix2 r (hcol h (pcol p i))) = (x i : EReal))
    (hy0 : ∀ j i, K0 (ix4 0 h (pcol p i) j) = (y0 j i : EReal)) (hy1 : ∀ j i, K1 (ix4 0 h (pcol p i) j) = (y1 j i : EReal))
    (hy2 : ∀ t i, kn (ix2 t (hcol h (pcol p i))) = (y2 t i : EReal))
    (hv0 : ∀ (j : Fin 2048) e, V0 (ix3 0 ⟨8 * j.val + h.val, by omega⟩ e) = (v0 j e : EReal))
    (hv1 : ∀ (j : Fin 2048) e, V1 (ix3 0 ⟨8 * j.val + h.val, by omega⟩ e) = (v1 j e : EReal))
    (hv2 : ∀ t e, vn (ix2 t (hcol h e)) = (v2 t e : EReal)) (e : Fin 128) :
    Ideal.div (headA (hd (qs X) h) (kT K0 h) (kT K1 h) (vT V0 h) (vT V1 h) (kN (kPad kn) h) (kN (vPad vn) h)
        (hd (k0_pay37 (F := Ideal)) h) (hd (k0_pay138 (F := Ideal) k0_pay38) h) (hd (k0_pay139 (F := Ideal)) h) (ix3 0 (prow p r) e))
      (∑ j : Fin 128, headL (hd (qs X) h) (kT K0 h) (kT K1 h) (kN (kPad kn) h)
        (hd (k0_pay37 (F := Ideal)) h) (hd (k0_pay138 (F := Ideal) k0_pay38) h) (ix3 0 (prow p r) j)) =
      (((∑ j, (2 : ℝ) ^ (qsc * ∑ i, x i * y0 j i) * v0 j e + ∑ j, (2 : ℝ) ^ (qsc * ∑ i, x i * y1 j i) * v1 j e
          + ∑ t, (2 : ℝ) ^ (qsc * ∑ i, x i * y2 t i) * v2 t e)
        / (∑ j, (2 : ℝ) ^ (qsc * ∑ i, x i * y0 j i) + ∑ j, (2 : ℝ) ^ (qsc * ∑ i, x i * y1 j i)
          + ∑ t, (2 : ℝ) ^ (qsc * ∑ i, x i * y2 t i)) : ℝ) : EReal) := by
  have hpos : ∀ z : ℝ, (0 : ℝ) < (2 : ℝ) ^ z := fun z => Real.rpow_pos_of_pos two_pos z
  have s0 := tile_first (tS (hd (qs X) h) (kT K0 h)) (hd (k0_pay37 (F := Ideal)) h) (hd (k0_pay138 (F := Ideal) k0_pay38) h) (hd (k0_pay139 (F := Ideal)) h) (vT V0 h) (prow p r)
    (fun j => qsc * ∑ i, x i * y0 j i) v0
    (fun j => by rw [tS_apply]; exact score_real X h p r x (y0 j) (fun d => kT K0 h (ix4 0 0 d j)) hx fun i => (kT_apply _ _ _ _).trans (hy0 j i))
    (fun j e => (vT_apply _ _ _ _).trans (hv0 j e))
    ⟨fun e => start_m h _ e, fun e => start_l h _ e, fun e => start_a h _ e⟩
  have s1 := tile_next _ _ (tS (hd (qs X) h) (kT K1 h)) _ _ _ (vT V1 h) (prow p r)
    (fun j => qsc * ∑ i, x i * y1 j i) v1
    (fun j => by rw [tS_apply]; exact score_real X h p r x (y1 j) (fun d => kT K1 h (ix4 0 0 d j)) hx fun i => (kT_apply _ _ _ _).trans (hy1 j i))
    (fun j e => (vT_apply _ _ _ _).trans (hv1 j e)) s0
  have s2 := new_next _ _ (hd (qs X) h) (kN (kPad kn) h) _ _ _ (kN (vPad vn) h) (prow p r)
    (fun t => qsc * ∑ i, x i * y2 t i) v2
    (fun t => score_real X h p r x (y2 t) (fun d => kN (kPad kn) h (ix2 (pad t) d)) hx fun i =>
      ((kPad_apply _ _ _ _).trans (dif_pos t.isLt)).trans (hy2 t i))
    (fun t e => ((vPad_apply _ _ _ _).trans (dif_pos t.isLt)).trans (hv2 t e)) s1
  refine quotient _ ?_ _ _ _ _ s2 e
  have h0 : (0 : ℝ) ≤ ∑ j, (2 : ℝ) ^ (qsc * ∑ i, x i * y0 j i) := Finset.sum_nonneg fun j _ => (hpos _).le
  have h1 : (0 : ℝ) < ∑ j, (2 : ℝ) ^ (qsc * ∑ i, x i * y1 j i) := Finset.sum_pos (fun j _ => hpos _) ⟨0, Finset.mem_univ _⟩
  have h2 : (0 : ℝ) ≤ ∑ t, (2 : ℝ) ^ (qsc * ∑ i, x i * y2 t i) := Finset.sum_nonneg fun j _ => (hpos _).le
  linarith

end Cert.KernelIdeal.Attn

end
-- ==== Proof.Attn.Blocks.lean ====
/- What the blocks of a grid point hold, in terms of the arguments. -/
module

public import proofs.«01_k».proof.Proof.Attn.Head
public import proofs.«01_k».proof.Proof.Attn.Fold
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The batch entry of a grid point. -/
def bOf (t : Fin cfg0.N) : Fin 32 := ⟨t.val / 2, by have : t.val < 64 := N_0 ▸ t.isLt; omega⟩

theorem idx5 : ∀ t : Fin cfg0.N, (cfg0.win 5).index t = ![t.val / 2, 0] := by decide +kernel
theorem idx6 : ∀ t : Fin cfg0.N, (cfg0.win 6).index t = ![t.val / 2, 0, 0, t.val % 2] := by decide +kernel
theorem idx7 : ∀ t : Fin cfg0.N, (cfg0.win 7).index t = ![t.val / 2, t.val % 2, 0] := by decide +kernel
theorem idx8 : ∀ t : Fin cfg0.N, (cfg0.win 8).index t = ![t.val / 2, 0] := by decide +kernel
theorem idx9 : ∀ t : Fin cfg0.N, (cfg0.win 9).index t = ![t.val / 2, 0] := by decide +kernel

theorem q_blk (t : Fin cfg0.N) (r : Fin 32) (h : Fin 8) (p : Fin 2) (i : Fin 64) :
    iblk m c 5 t (ix2 r (hcol h (pcol p i))) = m ((c : Thread nD τ).loc main_arg0) (ix5 (bOf t) r h p i) := by
  have ht : t.val < 64 := N_0 ▸ t.isLt
  unfold hcol pcol bOf
  blk_ext! [iblk, V, idx5 t]

theorem kn_blk (t : Fin cfg0.N) (r : Fin 32) (h : Fin 8) (p : Fin 2) (i : Fin 64) :
    iblk m c 8 t (ix2 r (hcol h (pcol p i))) = m ((c : Thread nD τ).loc main_arg1) (ix5 (bOf t) r h p i) := by
  have ht : t.val < 64 := N_0 ▸ t.isLt
  unfold hcol pcol bOf
  blk_ext! [iblk, V, idx8 t]

theorem vn_blk (t : Fin cfg0.N) (r : Fin 32) (h : Fin 8) (e : Fin 128) :
    iblk m c 9 t (ix2 r (hcol h e)) = m ((c : Thread nD τ).loc main_arg2) (ix4 (bOf t) r h e) := by
  have ht : t.val < 64 := N_0 ▸ t.isLt
  unfold hcol bOf
  blk_ext! [iblk, V, idx9 t]

set_option maxHeartbeats 4000000 in
theorem kc_blk (t : Fin cfg0.N) (h : Fin 8) (p : Fin 2) (i : Fin 64) (k : Fin 2048) :
    iblk m c 6 t (ix4 0 h (pcol p i) k) =
      m ((c : Thread nD τ).loc main_arg3) (ix5 (bOf t) ⟨2048 * (t.val % 2) + k.val, by omega⟩ h p i) := by
  have ht : t.val < 64 := N_0 ▸ t.isLt
  unfold pcol bOf
  blk_ext! [iblk, V, idx6 t]

theorem vc_blk (t : Fin cfg0.N) (h : Fin 8) (k : Fin 2048) (e : Fin 128) :
    iblk m c 7 t (ix3 0 ⟨8 * k.val + h.val, by omega⟩ e) =
      m ((c : Thread nD τ).loc main_arg4) (ix4 (bOf t) ⟨2048 * (t.val % 2) + k.val, by omega⟩ h e) := by
  have ht : t.val < 64 := N_0 ▸ t.isLt
  unfold bOf
  blk_ext! [iblk, V, idx7 t]

theorem idx0 : ∀ t : Fin cfg0.N, (cfg0.win 0).index t = ![0, 0] := by decide +kernel

theorem vec0_blk (t : Fin cfg0.N) (i : Fin 64) :
    iblk m c 0 t (ix2 0 i) = m ((c : Thread nD τ).loc main_arg5) (ix1 i) := by
  blk_ext! [iblk, V, idx0 t]

theorem idx1 : ∀ t : Fin cfg0.N, (cfg0.win 1).index t = ![0, 0] := by decide +kernel

theorem vec1_blk (t : Fin cfg0.N) (i : Fin 64) :
    iblk m c 1 t (ix2 0 i) = m ((c : Thread nD τ).loc main_arg6) (ix1 i) := by
  blk_ext! [iblk, V, idx1 t]

theorem idx2 : ∀ t : Fin cfg0.N, (cfg0.win 2).index t = ![0, 0] := by decide +kernel

theorem vec2_blk (t : Fin cfg0.N) (i : Fin 64) :
    iblk m c 2 t (ix2 0 i) = m ((c : Thread nD τ).loc main_arg7) (ix1 i) := by
  blk_ext! [iblk, V, idx2 t]

theorem idx3 : ∀ t : Fin cfg0.N, (cfg0.win 3).index t = ![0, 0] := by decide +kernel

theorem vec3_blk (t : Fin cfg0.N) (i : Fin 64) :
    iblk m c 3 t (ix2 0 i) = m ((c : Thread nD τ).loc main_arg8) (ix1 i) := by
  blk_ext! [iblk, V, idx3 t]

theorem idx4 : ∀ t : Fin cfg0.N, (cfg0.win 4).index t = ![0, 0] := by decide +kernel

theorem vec4_blk (t : Fin cfg0.N) (i : Fin 128) :
    iblk m c 4 t (ix2 0 i) = m ((c : Thread nD τ).loc main_arg9) (ix1 i) := by
  blk_ext! [iblk, V, idx4 t]

end Cert.KernelIdeal.Attn

end
-- ==== Proof.Attn.Finite.lean ====
/- What the precondition says of an element: it is real. -/
module

public import proofs.«01_k».proof.Defs
public import proofs.«01_k».proof.Proof.Gen.Pre_finite
public import Idealize.ShloMosaic.PureOps.Ideal.Laws
public import Idealize.ShloMosaic.Lib.Pointwise

@[expose] public section

set_option maxRecDepth 16384

noncomputable section

namespace Cert.Attn

open Idealize.ShloMosaic

theorem inf_eq : (Ideal.ofBits .f32 2139095040#32 : EReal) = ⊤ := by
  simp [Ideal.ofBits, Ideal.ieee]

theorem real_of (x : EReal) (h : Ideal.cmp .olt (max x (-x)) (Ideal.ofBits .f32 2139095040#32) = 1#1) : ∃ r : ℝ, x = r := by
  rw [inf_eq] at h
  induction x using EReal.rec with
  | bot => simp [Ideal.cmp] at h
  | coe r => exact ⟨r, rfl⟩
  | top => simp [Ideal.cmp] at h

theorem real_all {s : Shape} (x : FVec Ideal s .f32) (hb : Cert.Pre_finite.S_.BroadcastsInDim s ![]) (h : cmpf .olt (Host.absf x) (broadcastInDim s ![] hb (constant Cert.Pre_finite.S_ .f32 0x7F800000#32)) = fun _ => 1#1)
   (i : s.Idx) : ∃ r : ℝ, x i = r := by
  refine real_of _ (Eq.trans ?_ (congrFun h i))
  rfl

variable {m : (ℓ : Loc Cert.KernelIdeal.nD Cert.KernelIdeal.τ Cert.KernelIdeal.sig) → Buf (Elt Ideal) ℓ}

theorem arg0_real (h : Cert.Pre_KernelIdeal_finite m) (c : Dev Cert.KernelIdeal.nD) (i : Cert.Pre_finite.S32x32x8x2x64.Idx) :
    ∃ r : ℝ, m ((c.tc : Thread Cert.KernelIdeal.nD Cert.KernelIdeal.τ).loc Cert.KernelIdeal.main_arg0) i = (r : EReal) :=
  real_all _ Cert.Pre_finite.Gen.bcast_S_S32x32x8x2x64 (h c).1 i

theorem arg1_real (h : Cert.Pre_KernelIdeal_finite m) (c : Dev Cert.KernelIdeal.nD) (i : Cert.Pre_finite.S32x32x8x2x64.Idx) :
    ∃ r : ℝ, m ((c.tc : Thread Cert.KernelIdeal.nD Cert.KernelIdeal.τ).loc Cert.KernelIdeal.main_arg1) i = (r : EReal) :=
  real_all _ Cert.Pre_finite.Gen.bcast_S_S32x32x8x2x64 (h c).2.1 i

theorem arg2_real (h : Cert.Pre_KernelIdeal_finite m) (c : Dev Cert.KernelIdeal.nD) (i : Cert.Pre_finite.S32x32x8x128.Idx) :
    ∃ r : ℝ, m ((c.tc : Thread Cert.KernelIdeal.nD Cert.KernelIdeal.τ).loc Cert.KernelIdeal.main_arg2) i = (r : EReal) :=
  real_all _ Cert.Pre_finite.Gen.bcast_S_S32x32x8x128 (h c).2.2.1 i

theorem arg3_real (h : Cert.Pre_KernelIdeal_finite m) (c : Dev Cert.KernelIdeal.nD) (i : Cert.Pre_finite.S32x4096x8x2x64.Idx) :
    ∃ r : ℝ, m ((c.tc : Thread Cert.KernelIdeal.nD Cert.KernelIdeal.τ).loc Cert.KernelIdeal.main_arg3) i = (r : EReal) :=
  real_all _ Cert.Pre_finite.Gen.bcast_S_S32x4096x8x2x64 (h c).2.2.2.1 i

theorem arg4_real (h : Cert.Pre_KernelIdeal_finite m) (c : Dev Cert.KernelIdeal.nD) (i : Cert.Pre_finite.S32x4096x8x128.Idx) :
    ∃ r : ℝ, m ((c.tc : Thread Cert.KernelIdeal.nD Cert.KernelIdeal.τ).loc Cert.KernelIdeal.main_arg4) i = (r : EReal) :=
  real_all _ Cert.Pre_finite.Gen.bcast_S_S32x4096x8x128 (h c).2.2.2.2.1 i

theorem arg5_real (h : Cert.Pre_KernelIdeal_finite m) (c : Dev Cert.KernelIdeal.nD) (i : Cert.Pre_finite.S64.Idx) :
    ∃ r : ℝ, m ((c.tc : Thread Cert.KernelIdeal.nD Cert.KernelIdeal.τ).loc Cert.KernelIdeal.main_arg5) i = (r : EReal) :=
  real_all _ Cert.Pre_finite.Gen.bcast_S_S64 (h c).2.2.2.2.2.1 i

theorem arg6_real (h : Cert.Pre_KernelIdeal_finite m) (c : Dev Cert.KernelIdeal.nD) (i : Cert.Pre_finite.S64.Idx) :
    ∃ r : ℝ, m ((c.tc : Thread Cert.KernelIdeal.nD Cert.KernelIdeal.τ).loc Cert.KernelIdeal.main_arg6) i = (r : EReal) :=
  real_all _ Cert.Pre_finite.Gen.bcast_S_S64 (h c).2.2.2.2.2.2.1 i

theorem arg7_real (h : Cert.Pre_KernelIdeal_finite m) (c : Dev Cert.KernelIdeal.nD) (i : Cert.Pre_finite.S64.Idx) :
    ∃ r : ℝ, m ((c.tc : Thread Cert.KernelIdeal.nD Cert.KernelIdeal.τ).loc Cert.KernelIdeal.main_arg7) i = (r : EReal) :=
  real_all _ Cert.Pre_finite.Gen.bcast_S_S64 (h c).2.2.2.2.2.2.2.1 i

theorem arg8_real (h : Cert.Pre_KernelIdeal_finite m) (c : Dev Cert.KernelIdeal.nD) (i : Cert.Pre_finite.S64.Idx) :
    ∃ r : ℝ, m ((c.tc : Thread Cert.KernelIdeal.nD Cert.KernelIdeal.τ).loc Cert.KernelIdeal.main_arg8) i = (r : EReal) :=
  real_all _ Cert.Pre_finite.Gen.bcast_S_S64 (h c).2.2.2.2.2.2.2.2 i

end Cert.Attn

end
-- ==== Proof.Attn.Ref.lean ====
/- The reference's operations by name, and its result as their composition. -/
module

public import proofs.«01_k».proof.Proof.Gen.ReferenceIdeal.Run
public import Idealize.ShloMosaic.PureOps.Ideal.Laws
public import Idealize.ShloMosaic.Lib.Pointwise

@[expose] public section

set_option maxRecDepth 16384

noncomputable section

namespace Cert.ReferenceIdeal.Attn

open Idealize.ShloMosaic Idealize.ShloMosaic.Tactic Cert.ReferenceIdeal Cert.ReferenceIdeal.Gen Cert.ReferenceIdeal.Value

/-- The chunk of a key position. -/
def kChunk  : IVec S4128 32 :=
  select (andi (cmpi .ne (signi (iotaInDim S4128 32 0)) (broadcastInDim S4128 ![] bcast_S_S4128 (signi (constantI S_ 32 64#32)))) (cmpi .ne (Host.remsi (iotaInDim S4128 32 0) (broadcastInDim S4128 ![] bcast_S_S4128 (constantI S_ 32 64#32))) (broadcastInDim S4128 ![] bcast_S_S4128 (constantI S_ 32 0#32)))) (subi (Host.divsi (iotaInDim S4128 32 0) (broadcastInDim S4128 ![] bcast_S_S4128 (constantI S_ 32 64#32))) (broadcastInDim S4128 ![] bcast_S_S4128 (constantI S_ 32 1#32))) (Host.divsi (iotaInDim S4128 32 0) (broadcastInDim S4128 ![] bcast_S_S4128 (constantI S_ 32 64#32)))

/-- The chunk of a query position. -/
def qChunk  : IVec S32 32 :=
  select (andi (cmpi .ne (signi (addi (broadcastInDim S32 ![] bcast_S_S32 (constantI S_ 32 4096#32)) (iotaInDim S32 32 0))) (broadcastInDim S32 ![] bcast_S_S32 (signi (constantI S_ 32 64#32)))) (cmpi .ne (Host.remsi (addi (broadcastInDim S32 ![] bcast_S_S32 (constantI S_ 32 4096#32)) (iotaInDim S32 32 0)) (broadcastInDim S32 ![] bcast_S_S32 (constantI S_ 32 64#32))) (broadcastInDim S32 ![] bcast_S_S32 (constantI S_ 32 0#32)))) (subi (Host.divsi (addi (broadcastInDim S32 ![] bcast_S_S32 (constantI S_ 32 4096#32)) (iotaInDim S32 32 0)) (broadcastInDim S32 ![] bcast_S_S32 (constantI S_ 32 64#32))) (broadcastInDim S32 ![] bcast_S_S32 (constantI S_ 32 1#32))) (Host.divsi (addi (broadcastInDim S32 ![] bcast_S_S32 (constantI S_ 32 4096#32)) (iotaInDim S32 32 0)) (broadcastInDim S32 ![] bcast_S_S32 (constantI S_ 32 64#32)))

/-- Which keys a query sees. -/
def seen (v17 : IVec S4128 32) (v19 : IVec S32 32) : IVec S32x4128 1 :=
  cmpi .sle (broadcastInDim S32x4128 ![0, 1] bcast_S1x4128_S32x4128_0_1 (broadcastInDim S1x4128 ![1] bcast_S4128_S1x4128_1 v17)) (broadcastInDim S32x4128 ![0, 1] bcast_S32x1_S32x4128_0_1 (broadcastInDim S32x1 ![0] bcast_S32_S32x1_0 v19))

/-- The scaled scores, the unseen keys at minus infinity. -/
def score (arg0 : FVec Ideal S32x32x8x2x64 .f32) (v11 : FVec Ideal S32x4128x8x2x64 .f32) (v23 : IVec S32x4128 1) : FVec Ideal S32x8x2x32x4128 .f32 :=
  select (broadcastInDim S32x8x2x32x4128 ![3, 4] bcast_S32x4128_S32x8x2x32x4128_3_4 v23) (mulf (Host.dotGeneral dot_S32x32x8x2x64_S32x4128x8x2x64_S32x8x2x32x4128_4_4_1_1_023_023 none arg0 v11) (broadcastInDim S32x8x2x32x4128 ![] bcast_S_S32x8x2x32x4128 (constant S_ .f32 0x3E000000#32))) (broadcastInDim S32x8x2x32x4128 ![] bcast_S_S32x8x2x32x4128 (constant S_ .f32 0xFF800000#32))

/-- The largest score of a row. -/
def rmax (v24 : FVec Ideal S32x8x2x32x4128 .f32) : FVec Ideal S32x8x2x32 .f32 :=
  maximumf (broadcastInDim S32x8x2x32 ![] bcast_S_S32x8x2x32 (constant S_ .f32 0xFF800000#32)) (Host.reduce FloatOps.maximumf v24 (constant S_ .f32 0xFF800000#32) reducesTo_S32x8x2x32x4128_S32x8x2x32_d4 h_S_)

/-- The weights of a row. -/
def wexp (v24 : FVec Ideal S32x8x2x32x4128 .f32) (v27 : FVec Ideal S32x8x2x32 .f32) : FVec Ideal S32x8x2x32x4128 .f32 :=
  Host.exp (subf v24 (broadcastInDim S32x8x2x32x4128 ![0, 1, 2, 3, 4] bcast_S32x8x2x32x1_S32x8x2x32x4128_0_1_2_3_4 (broadcastInDim S32x8x2x32x1 ![0, 1, 2, 3] bcast_S32x8x2x32_S32x8x2x32x1_0_1_2_3 v27)))

/-- The weights over their sum. -/
def prob (v31 : FVec Ideal S32x8x2x32x4128 .f32) : FVec Ideal S32x8x2x32x4128 .f32 :=
  Host.divf v31 (broadcastInDim S32x8x2x32x4128 ![0, 1, 2, 3, 4] bcast_S32x8x2x32x1_S32x8x2x32x4128_0_1_2_3_4 (broadcastInDim S32x8x2x32x1 ![0, 1, 2, 3] bcast_S32x8x2x32_S32x8x2x32x1_0_1_2_3 (Host.reduceAdd v31 (constant S_ .f32 0x00000000#32) reducesTo_S32x8x2x32x4128_S32x8x2x32_d4 h_S_)))

/-- The weight of the second map. -/
def lamR (arg5 : FVec Ideal S64 .f32) (arg6 : FVec Ideal S64 .f32) (arg7 : FVec Ideal S64 .f32) (arg8 : FVec Ideal S64 .f32) : FVec Ideal S_ .f32 :=
  addf (subf (Host.exp (Host.reduceAdd (mulf arg5 arg6) (constant S_ .f32 0x00000000#32) reducesTo_S64_S_d0 h_S_)) (Host.exp (Host.reduceAdd (mulf arg7 arg8) (constant S_ .f32 0x00000000#32) reducesTo_S64_S_d0 h_S_))) (constant S_ .f32 0x3E4CCCCD#32)

/-- The difference of the two maps. -/
def att (v10 : FVec Ideal S_ .f32) (v35 : FVec Ideal S32x8x2x32x4128 .f32) : FVec Ideal S32x8x32x4128 .f32 :=
  subf (shapeCast S32x8x32x4128 (extractStridedSlice S32x8x1x32x4128 ![0, 0, 0, 0, 0] v35 slices_S32x8x2x32x4128_S32x8x1x32x4128_0_0_0_0_0) shapeCasts_S32x8x1x32x4128_S32x8x32x4128) (mulf (broadcastInDim S32x8x32x4128 ![] bcast_S_S32x8x32x4128 v10) (shapeCast S32x8x32x4128 (extractStridedSlice S32x8x1x32x4128 ![0, 0, 1, 0, 0] v35 slices_S32x8x2x32x4128_S32x8x1x32x4128_0_0_1_0_0) shapeCasts_S32x8x1x32x4128_S32x8x32x4128))

/-- The weighted values. -/
def ctx (v42 : FVec Ideal S32x8x32x4128 .f32) (v12 : FVec Ideal S32x4128x8x128 .f32) : FVec Ideal S32x32x8x128 .f32 :=
  transpose S32x32x8x128 [0, 3, 1, 2] (Host.dotGeneral dot_S32x4128x8x128_S32x8x32x4128_S32x8x128x32_1_3_3_2_02_01 none v12 v42) transposes_S32x8x128x32_S32x32x8x128_0_3_1_2

/-- The norm over a head, its gain and its factor. -/
def outR (v44 : FVec Ideal S32x32x8x128 .f32) (arg9 : FVec Ideal S128 .f32) : FVec Ideal S1024x1024 .bf16 :=
  truncf .bf16 (shapeCast S1024x1024 (mulf (mulf (mulf v44 (broadcastInDim S32x32x8x128 ![0, 1, 2, 3] bcast_S32x32x8x1_S32x32x8x128_0_1_2_3 (Host.rsqrt (addf (Host.divf (broadcastInDim S32x32x8x1 ![0, 1, 2] bcast_S32x32x8_S32x32x8x1_0_1_2 (Host.reduceAdd (mulf v44 v44) (constant S_ .f32 0x00000000#32) reducesTo_S32x32x8x128_S32x32x8_d3 h_S_)) (broadcastInDim S32x32x8x1 ![] bcast_S_S32x32x8x1 (constant S_ .f32 0x43000000#32))) (broadcastInDim S32x32x8x1 ![] bcast_S_S32x32x8x1 (constant S_ .f32 0x358637BD#32)))))) (broadcastInDim S32x32x8x128 ![0, 1, 2, 3] bcast_S1x1x1x128_S32x32x8x128_0_1_2_3 (broadcastInDim S1x1x1x128 ![3] bcast_S128_S1x1x1x128_3 arg9))) (broadcastInDim S32x32x8x128 ![] bcast_S_S32x32x8x128 (constant S_ .f32 0x3F4CCCCD#32))) shapeCasts_S32x32x8x128_S1024x1024) bitsLt_bf16_f32

/-- The result, from the arguments. -/
def result (a0 a1 : FVec Ideal S32x32x8x2x64 .f32) (a2 : FVec Ideal S32x32x8x128 .f32) (a3 : FVec Ideal S32x4096x8x2x64 .f32)
    (a4 : FVec Ideal S32x4096x8x128 .f32) (a5 a6 a7 a8 : FVec Ideal S64 .f32) (a9 : FVec Ideal S128 .f32) : FVec Ideal S1024x1024 .bf16 :=
  outR (ctx (att (lamR a5 a6 a7 a8)
    (prob (wexp (score a0 (fn_main_v11 (F := Ideal) a3 a1) (seen kChunk qChunk)) (rmax (score a0 (fn_main_v11 (F := Ideal) a3 a1) (seen kChunk qChunk))))))
    (fn_main_v12 (F := Ideal) a4 a2)) a9

set_option maxHeartbeats 4000000 in
theorem res_eq (m : (ℓ : Loc nD τ sig) → Buf (Elt Ideal) ℓ) (c : Dev nD) : res_main_v61 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold res_main_v61
  simp only [id_eq]
  unfold result outR ctx att prob wexp rmax score seen kChunk qChunk lamR fn_main_v11 fn_main_v12
  rfl

theorem keys_apply (a3 : FVec Ideal S32x4096x8x2x64 .f32) (a1 : FVec Ideal S32x32x8x2x64 .f32) (b : Fin 32) (k : Fin 4128) (h : Fin 8) (p : Fin 2) (i : Fin 64) :
    fn_main_v11 (F := Ideal) a3 a1 (ix5 b k h p i) = if hk : k.val < 4096 then a3 (ix5 b ⟨k.val, hk⟩ h p i) else a1 (ix5 b ⟨k.val - 4096, by omega⟩ h p i) := by
  unfold fn_main_v11
  pointwise

theorem vals_apply (a4 : FVec Ideal S32x4096x8x128 .f32) (a2 : FVec Ideal S32x32x8x128 .f32) (b : Fin 32) (k : Fin 4128) (h : Fin 8) (e : Fin 128) :
    fn_main_v12 (F := Ideal) a4 a2 (ix4 b k h e) = if hk : k.val < 4096 then a4 (ix4 b ⟨k.val, hk⟩ h e) else a2 (ix4 b ⟨k.val - 4096, by omega⟩ h e) := by
  unfold fn_main_v12
  pointwise

theorem kChunk_apply (k : Fin 4128) : kChunk (ix1 k) = BitVec.ofNat 32 (k.val / 64) := by
  unfold kChunk
  pointwise
  revert k
  decide +kernel

theorem qChunk_apply (r : Fin 32) : qChunk (ix1 r) = 64#32 := by
  unfold qChunk
  pointwise
  revert r
  decide +kernel

theorem sees : ∀ k : Fin 4128, IntOp.cmpi .sle (BitVec.ofNat 32 (k.val / 64)) 64#32 = 1#1 := by decide +kernel

theorem seen_apply (r : Fin 32) (k : Fin 4128) : seen kChunk qChunk (ix2 r k) = 1#1 := by
  unfold seen
  pointwise
  rw [kChunk_apply, qChunk_apply, sees]

theorem score_apply (q : FVec Ideal S32x32x8x2x64 .f32) (k : FVec Ideal S32x4128x8x2x64 .f32) (b : Fin 32) (h : Fin 8) (p : Fin 2) (r : Fin 32) (j : Fin 4128) :
    score q k (seen kChunk qChunk) (ix5 b h p r j) = (∑ i : Fin 64, q (ix5 b r h p i) * k (ix5 b j h p i)) * Ideal.ofBits .f32 0x3E000000#32 := by
  unfold score
  pointwise
  rw [seen_apply]
  rfl

theorem wexp_apply (s : FVec Ideal S32x8x2x32x4128 .f32) (x : FVec Ideal S32x8x2x32 .f32) (b : Fin 32) (h : Fin 8) (p : Fin 2) (r : Fin 32) (j : Fin 4128) :
    wexp s x (ix5 b h p r j) = Ideal.exp (s (ix5 b h p r j) - x (ix4 b h p r)) := by
  unfold wexp
  pointwise

theorem prob_apply (w : FVec Ideal S32x8x2x32x4128 .f32) (b : Fin 32) (h : Fin 8) (p : Fin 2) (r : Fin 32) (j : Fin 4128) :
    prob w (ix5 b h p r j) = Ideal.div (w (ix5 b h p r j)) (∑ k : Fin 4128, w (ix5 b h p r k)) := by
  unfold prob
  pointwise

theorem lamR_apply (a5 a6 a7 a8 : FVec Ideal S64 .f32) : lamR a5 a6 a7 a8 ix0 =
    Ideal.exp (∑ d : Fin 64, a5 (ix1 d) * a6 (ix1 d)) - Ideal.exp (∑ d : Fin 64, a7 (ix1 d) * a8 (ix1 d)) + Ideal.ofBits .f32 0x3E4CCCCD#32 := by
  unfold lamR
  pointwise

theorem att_apply (l : FVec Ideal S_ .f32) (p : FVec Ideal S32x8x2x32x4128 .f32) (b : Fin 32) (h : Fin 8) (r : Fin 32) (j : Fin 4128) :
    att l p (ix4 b h r j) = p (ix5 b h 0 r j) - l ix0 * p (ix5 b h 1 r j) := by
  unfold att
  pointwise

theorem ctx_apply (a : FVec Ideal S32x8x32x4128 .f32) (v : FVec Ideal S32x4128x8x128 .f32) (b : Fin 32) (r : Fin 32) (h : Fin 8) (e : Fin 128) :
    ctx a v (ix4 b r h e) = ∑ j : Fin 4128, v (ix4 b j h e) * a (ix4 b h r j) := by
  unfold ctx
  pointwise

/-- The place of an output column. -/
theorem outR_apply (o : FVec Ideal S32x32x8x128 .f32) (g : FVec Ideal S128 .f32) (b : Fin 32) (r : Fin 32) (h : Fin 8) (e : Fin 128) :
    outR o g (ix2 ⟨32 * b.val + r.val, by omega⟩ ⟨128 * h.val + e.val, by omega⟩) =
      o (ix4 b r h e) * Ideal.rsqrt (Ideal.div (∑ j : Fin 128, o (ix4 b r h j) * o (ix4 b r h j)) (Ideal.ofBits .f32 0x43000000#32)
        + Ideal.ofBits .f32 0x358637BD#32) * g (ix1 e) * Ideal.ofBits .f32 0x3F4CCCCD#32 := by
  have hb := b.isLt
  have hr := r.isLt
  have hh := h.isLt
  have he := e.isLt
  have hi : (⟨(32 * b.val + r.val) / 32, by omega⟩ : Fin 32) = b := Fin.ext (by show (32 * b.val + r.val) / 32 = b.val; omega)
  unfold outR
  pointwise

end Cert.ReferenceIdeal.Attn

end
-- ==== Proof.Attn.RefReal.lean ====
/- The reference's weighted values over real arguments: each map's weights are the exponentials over their sum. -/
module

public import proofs.«01_k».proof.Proof.Attn.Ref

@[expose] public section

set_option maxRecDepth 16384

noncomputable section

namespace Cert.ReferenceIdeal.Attn

open Idealize.ShloMosaic Idealize.ShloMosaic.Tactic Cert.ReferenceIdeal Cert.ReferenceIdeal.Gen Cert.ReferenceIdeal.Value

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bot_eq : (Ideal.ofBits .f32 0xFF800000#32 : EReal) = ⊥ := by
  simp [Ideal.ofBits, Ideal.ieee]

theorem eighth_eq : (Ideal.ofBits .f32 0x3E000000#32 : EReal) = ((1 / 8 : ℝ) : EReal) := by
  simp [Ideal.ofBits, Ideal.ieee]
  norm_num
  rw [← EReal.coe_mul]
  norm_num

theorem fold_real {ι : Type} (s : Finset ι) (f : ι → EReal) (i0 : ι) (h0 : i0 ∈ s) (hf : ∀ i ∈ s, ∃ x : ℝ, f i = x) :
    ∃ M : ℝ, Finset.fold max (⊥ : EReal) f s = M := by
  have hs : Finset.fold max (⊥ : EReal) f s = s.sup f := rfl
  rw [hs]
  obtain ⟨i, hi, he⟩ := Finset.exists_mem_eq_sup s ⟨i0, h0⟩ f
  rw [he]
  exact hf i hi

theorem rmax_real (s : FVec Ideal S32x8x2x32x4128 .f32) (b : Fin 32) (h : Fin 8) (p : Fin 2) (r : Fin 32)
    (hs : ∀ j : Fin 4128, ∃ x : ℝ, s (ix5 b h p r j) = x) : ∃ M : ℝ, rmax s (ix4 b h p r) = M := by
  have hr := reducesTo_S32x8x2x32x4128_S32x8x2x32_d4
  have hm : ∀ j : Fin 4128, hr.drop (ix5 b h p r j) = ix4 b h p r :=
    fun j => (hr.fiber_r5_a4 (ix4 b h p r) (ix5 b h p r j)).mpr ⟨j, rfl⟩
  obtain ⟨M, hM⟩ := fold_real (Finset.univ.filter fun i => hr.drop i = ix4 b h p r) s (ix5 b h p r 0)
    (Finset.mem_filter.mpr ⟨Finset.mem_univ _, hm 0⟩) (fun i hi => by
      obtain ⟨k, hk⟩ := (hr.fiber_r5_a4 (ix4 b h p r) i).mp (Finset.mem_filter.mp hi).2
      rw [← hk]
      exact hs k)
  refine ⟨M, ?_⟩
  have e : rmax s (ix4 b h p r) = max (Ideal.ofBits .f32 0xFF800000#32 : EReal)
      (Finset.fold max (Ideal.ofBits .f32 0xFF800000#32 : EReal) s (Finset.univ.filter fun i => hr.drop i = ix4 b h p r)) := by
    unfold rmax
    rw [maximumf_apply, Host.reduce_eq_fold]
    rfl
  rw [e, bot_eq, hM]
  exact bot_sup_eq _

/-- A map's weight at a key. -/
theorem prob_real (s : FVec Ideal S32x8x2x32x4128 .f32) (b : Fin 32) (h : Fin 8) (p : Fin 2) (r : Fin 32) (σ : Fin 4128 → ℝ)
    (hs : ∀ j, s (ix5 b h p r j) = σ j) (j : Fin 4128) :
    prob (wexp s (rmax s)) (ix5 b h p r j) = ((Real.exp (σ j) / ∑ k, Real.exp (σ k) : ℝ) : EReal) := by
  obtain ⟨M, hM⟩ := rmax_real s b h p r fun j => ⟨_, hs j⟩
  have hw : ∀ k, wexp s (rmax s) (ix5 b h p r k) = ((Real.exp (σ k - M) : ℝ) : EReal) := by
    intro k
    rw [wexp_apply, hs, hM, ← EReal.coe_sub]
    exact Ideal.exp_coe _
  have hpos : (0 : ℝ) < ∑ k, Real.exp (σ k) := Finset.sum_pos (fun k _ => Real.exp_pos _) ⟨0, Finset.mem_univ _⟩
  have hpos' : (0 : ℝ) < ∑ k, Real.exp (σ k - M) := Finset.sum_pos (fun k _ => Real.exp_pos _) ⟨0, Finset.mem_univ _⟩
  have hsum : ∑ k, Real.exp (σ k - M) = (∑ k, Real.exp (σ k)) * Real.exp (-M) := by
    rw [Finset.sum_mul]
    exact Finset.sum_congr rfl fun k _ => by rw [sub_eq_add_neg, Real.exp_add]
  rw [prob_apply, hw, Finset.sum_congr rfl fun k _ => hw k, ← coe_sum, Ideal.div_coe hpos'.ne', ← EReal.coe_mul]
  refine congrArg Real.toEReal ?_
  rw [hsum, sub_eq_add_neg, Real.exp_add]
  have := (Real.exp_pos (-M)).ne'
  field_simp

theorem score_real (q : FVec Ideal S32x32x8x2x64 .f32) (k : FVec Ideal S32x4128x8x2x64 .f32) (b : Fin 32) (h : Fin 8) (p : Fin 2) (r : Fin 32) (j : Fin 4128)
    (x y : Fin 64 → ℝ) (hx : ∀ i, q (ix5 b r h p i) = x i) (hy : ∀ i, k (ix5 b j h p i) = y i) :
    score q k (seen kChunk qChunk) (ix5 b h p r j) = (((∑ i, x i * y i) * (1 / 8) : ℝ) : EReal) := by
  rw [score_apply, Finset.sum_congr rfl fun i _ => by rw [hx i, hy i, ← EReal.coe_mul], ← coe_sum, eighth_eq, ← EReal.coe_mul]

theorem lam_real (a5 a6 a7 a8 : FVec Ideal S64 .f32) (h5 : ∀ i, ∃ x : ℝ, a5 i = x) (h6 : ∀ i, ∃ x : ℝ, a6 i = x)
    (h7 : ∀ i, ∃ x : ℝ, a7 i = x) (h8 : ∀ i, ∃ x : ℝ, a8 i = x) : ∃ l : ℝ, lamR a5 a6 a7 a8 ix0 = l := by
  choose f5 e5 using h5
  choose f6 e6 using h6
  choose f7 e7 using h7
  choose f8 e8 using h8
  have hc : ∃ z : ℝ, (Ideal.ofBits .f32 0x3E4CCCCD#32 : EReal) = z := by
    simp [Ideal.ofBits, Ideal.ieee]
    exact ⟨_, (EReal.coe_mul _ _).symm⟩
  obtain ⟨z, hz⟩ := hc
  rw [lamR_apply, hz]
  simp only [e5, e6, e7, e8, ← EReal.coe_mul, ← coe_sum, Ideal.exp_coe, ← EReal.coe_sub, ← EReal.coe_add]
  exact ⟨_, rfl⟩

/-- The weighted values: each map's weighted mean, the second's times the weight of the second map. -/
theorem ctx_real (lam : FVec Ideal S_ .f32) (s : FVec Ideal S32x8x2x32x4128 .f32) (v : FVec Ideal S32x4128x8x128 .f32) (b : Fin 32) (h : Fin 8) (r : Fin 32) (e : Fin 128)
    (l : ℝ) (σ : Fin 2 → Fin 4128 → ℝ) (w : Fin 4128 → ℝ) (hl : lam ix0 = l) (hs : ∀ p j, s (ix5 b h p r j) = σ p j) (hv : ∀ j, v (ix4 b j h e) = w j) :
    ctx (att lam (prob (wexp s (rmax s)))) v (ix4 b r h e) =
      (((∑ j, Real.exp (σ 0 j) * w j) / (∑ j, Real.exp (σ 0 j)) - l * ((∑ j, Real.exp (σ 1 j) * w j) / (∑ j, Real.exp (σ 1 j))) : ℝ) : EReal) := by
  rw [ctx_apply, Finset.sum_congr rfl fun j _ => by
    rw [hv, att_apply, hl, prob_real s b h 0 r (σ 0) (hs 0), prob_real s b h 1 r (σ 1) (hs 1), ← EReal.coe_mul, ← EReal.coe_sub, ← EReal.coe_mul], ← coe_sum]
  refine congrArg Real.toEReal ?_
  rw [Finset.sum_div, Finset.sum_div, Finset.mul_sum, ← Finset.sum_sub_distrib]
  exact Finset.sum_congr rfl fun j _ => by ring

end Cert.ReferenceIdeal.Attn

end
-- ==== Proof.Attn.Tie.lean ====
/- The kernel's result is the reference's, at every index of the result. -/
module

public import proofs.«01_k».proof.Proof.Attn.Blocks
public import proofs.«01_k».proof.Proof.Attn.Finite
public import proofs.«01_k».proof.Proof.Attn.RefReal
public import proofs.«01_k».proof.Proof.Gen.KernelIdeal.Value

@[expose] public section

set_option maxRecDepth 16384

noncomputable section

namespace Cert.Attn

open Idealize.ShloMosaic Idealize.ShloMosaic.TcCoe Idealize.ShloMosaic.Tactic Cert.KernelIdeal Cert.KernelIdeal.Gen Cert.KernelIdeal.Value
open Cert.KernelIdeal.Attn

theorem two_pow (z : ℝ) : (2 : ℝ) ^ (qsc * z) = Real.exp (z * (1 / 8)) := by
  have hl : Real.log 2 ≠ 0 := (Real.log_pos one_lt_two).ne'
  rw [Real.rpow_def_of_pos two_pos]
  refine congrArg Real.exp ?_
  unfold qsc
  field_simp

/-- A sum over all keys: the cache's two tiles, then the new keys. -/
theorem sum_keys (f : Fin 4128 → ℝ) : ∑ j, f j = ∑ j : Fin 2048, f ⟨j.val, by omega⟩ + ∑ j : Fin 2048, f ⟨2048 + j.val, by omega⟩ + ∑ t : Fin 32, f ⟨4096 + t.val, by omega⟩ := by
  rw [show (∑ j, f j) = ∑ j : Fin (2048 + 2048 + 32), f j from rfl, Fin.sum_univ_add, Fin.sum_univ_add]
  rfl

variable {m : (ℓ : Loc nD τ sig) → Buf (Elt Ideal) ℓ}

/-- The arguments, as arrays. -/
abbrev A0 (m : (ℓ : Loc nD τ sig) → Buf (Elt Ideal) ℓ) (c : Dev nD) : FVec Ideal Cert.ReferenceIdeal.S32x32x8x2x64 .f32 := m ((c.tc : Thread nD τ).loc main_arg0)
abbrev A1 (m : (ℓ : Loc nD τ sig) → Buf (Elt Ideal) ℓ) (c : Dev nD) : FVec Ideal Cert.ReferenceIdeal.S32x32x8x2x64 .f32 := m ((c.tc : Thread nD τ).loc main_arg1)
abbrev A2 (m : (ℓ : Loc nD τ sig) → Buf (Elt Ideal) ℓ) (c : Dev nD) : FVec Ideal Cert.ReferenceIdeal.S32x32x8x128 .f32 := m ((c.tc : Thread nD τ).loc main_arg2)
abbrev A3 (m : (ℓ : Loc nD τ sig) → Buf (Elt Ideal) ℓ) (c : Dev nD) : FVec Ideal Cert.ReferenceIdeal.S32x4096x8x2x64 .f32 := m ((c.tc : Thread nD τ).loc main_arg3)
abbrev A4 (m : (ℓ : Loc nD τ sig) → Buf (Elt Ideal) ℓ) (c : Dev nD) : FVec Ideal Cert.ReferenceIdeal.S32x4096x8x128 .f32 := m ((c.tc : Thread nD τ).loc main_arg4)
abbrev A5 (m : (ℓ : Loc nD τ sig) → Buf (Elt Ideal) ℓ) (c : Dev nD) : FVec Ideal Cert.ReferenceIdeal.S64 .f32 := m ((c.tc : Thread nD τ).loc main_arg5)
abbrev A6 (m : (ℓ : Loc nD τ sig) → Buf (Elt Ideal) ℓ) (c : Dev nD) : FVec Ideal Cert.ReferenceIdeal.S64 .f32 := m ((c.tc : Thread nD τ).loc main_arg6)
abbrev A7 (m : (ℓ : Loc nD τ sig) → Buf (Elt Ideal) ℓ) (c : Dev nD) : FVec Ideal Cert.ReferenceIdeal.S64 .f32 := m ((c.tc : Thread nD τ).loc main_arg7)
abbrev A8 (m : (ℓ : Loc nD τ sig) → Buf (Elt Ideal) ℓ) (c : Dev nD) : FVec Ideal Cert.ReferenceIdeal.S64 .f32 := m ((c.tc : Thread nD τ).loc main_arg8)
abbrev A9 (m : (ℓ : Loc nD τ sig) → Buf (Elt Ideal) ℓ) (c : Dev nD) : FVec Ideal Cert.ReferenceIdeal.S128 .f32 := m ((c.tc : Thread nD τ).loc main_arg9)

/-- The reference's weighted values from the arguments. -/
abbrev refCtx (m : (ℓ : Loc nD τ sig) → Buf (Elt Ideal) ℓ) (c : Dev nD) : FVec Ideal Cert.ReferenceIdeal.S32x32x8x128 .f32 :=
  Cert.ReferenceIdeal.Attn.ctx (Cert.ReferenceIdeal.Attn.att (Cert.ReferenceIdeal.Attn.lamR (A5 m c) (A6 m c) (A7 m c) (A8 m c))
    (Cert.ReferenceIdeal.Attn.prob (Cert.ReferenceIdeal.Attn.wexp
      (Cert.ReferenceIdeal.Attn.score (A0 m c) (Cert.ReferenceIdeal.Value.fn_main_v11 (F := Ideal) (A3 m c) (A1 m c))
        (Cert.ReferenceIdeal.Attn.seen Cert.ReferenceIdeal.Attn.kChunk Cert.ReferenceIdeal.Attn.qChunk))
      (Cert.ReferenceIdeal.Attn.rmax (Cert.ReferenceIdeal.Attn.score (A0 m c) (Cert.ReferenceIdeal.Value.fn_main_v11 (F := Ideal) (A3 m c) (A1 m c))
        (Cert.ReferenceIdeal.Attn.seen Cert.ReferenceIdeal.Attn.kChunk Cert.ReferenceIdeal.Attn.qChunk))))))
    (Cert.ReferenceIdeal.Value.fn_main_v12 (F := Ideal) (A4 m c) (A2 m c))

/-- The second map's weight is the same number in both. -/
theorem lam_eq (c : Dev nD) (t : Fin cfg0.N) :
    lamV (iblk m c 0 t) (iblk m c 1 t) (iblk m c 2 t) (iblk m c 3 t) (ix2 0 0)
      = Cert.ReferenceIdeal.Attn.lamR (A5 m c) (A6 m c) (A7 m c) (A8 m c) ix0 := by
  rw [lamV_apply, Cert.ReferenceIdeal.Attn.lamR_apply]
  refine congrArg₂ (· + ·) (congrArg₂ (· - ·) (congrArg Ideal.exp (Finset.sum_congr rfl fun d _ => ?_)) (congrArg Ideal.exp (Finset.sum_congr rfl fun d _ => ?_))) rfl
  · rw [vec0_blk, vec1_blk]
  · rw [vec2_blk, vec3_blk]

/-- A head's accumulated values and sums at the second point of a request. -/
abbrev accA (m : (ℓ : Loc nD τ sig) → Buf (Elt Ideal) ℓ) (c : Dev nD) (t t' : Fin cfg0.N) (h : Fin 8) : Vec Ideal S1x64x128 .f32 :=
  headA (hd (qs (iblk m c 5 t')) h) (kT (iblk m c 6 t') h) (kT (iblk m c 6 t) h) (vT (iblk m c 7 t') h) (vT (iblk m c 7 t) h)
    (kN (kPad (iblk m c 8 t)) h) (kN (vPad (iblk m c 9 t)) h) (hd (k0_pay37 (F := Ideal)) h) (hd (k0_pay138 (F := Ideal) k0_pay38) h) (hd (k0_pay139 (F := Ideal)) h)
abbrev accL (m : (ℓ : Loc nD τ sig) → Buf (Elt Ideal) ℓ) (c : Dev nD) (t t' : Fin cfg0.N) (h : Fin 8) : Vec Ideal S1x64x128 .f32 :=
  headL (hd (qs (iblk m c 5 t')) h) (kT (iblk m c 6 t') h) (kT (iblk m c 6 t) h)
    (kN (kPad (iblk m c 8 t)) h) (hd (k0_pay37 (F := Ideal)) h) (hd (k0_pay138 (F := Ideal) k0_pay38) h)

/-- The arguments' real values. -/
structure Reals (m : (ℓ : Loc nD τ sig) → Buf (Elt Ideal) ℓ) (c : Dev nD) where
  f0 : Cert.ReferenceIdeal.S32x32x8x2x64.Idx → ℝ
  f1 : Cert.ReferenceIdeal.S32x32x8x2x64.Idx → ℝ
  f2 : Cert.ReferenceIdeal.S32x32x8x128.Idx → ℝ
  f3 : Cert.ReferenceIdeal.S32x4096x8x2x64.Idx → ℝ
  f4 : Cert.ReferenceIdeal.S32x4096x8x128.Idx → ℝ
  e0 : ∀ i, A0 m c i = f0 i
  e1 : ∀ i, A1 m c i = f1 i
  e2 : ∀ i, A2 m c i = f2 i
  e3 : ∀ i, A3 m c i = f3 i
  e4 : ∀ i, A4 m c i = f4 i

variable {c : Dev nD} (R : Reals m c)

/-- A request's keys, the cache's and then the new ones. -/
def Reals.key (b : Fin 32) (h : Fin 8) (p : Fin 2) (j : Fin 4128) (i : Fin 64) : ℝ :=
  if hk : j.val < 4096 then R.f3 (ix5 b ⟨j.val, hk⟩ h p i) else R.f1 (ix5 b ⟨j.val - 4096, by omega⟩ h p i)
/-- A request's values, the cache's and then the new ones. -/
def Reals.val (b : Fin 32) (h : Fin 8) (j : Fin 4128) (e : Fin 128) : ℝ :=
  if hk : j.val < 4096 then R.f4 (ix4 b ⟨j.val, hk⟩ h e) else R.f2 (ix4 b ⟨j.val - 4096, by omega⟩ h e)
/-- The scaled score of a key. -/
def Reals.sc (b : Fin 32) (h : Fin 8) (r : Fin 32) (p : Fin 2) (j : Fin 4128) : ℝ :=
  (∑ i, R.f0 (ix5 b r h p i) * R.key b h p j i) * (1 / 8)

theorem Reals.keys_eq (b : Fin 32) (h : Fin 8) (p : Fin 2) (j : Fin 4128) (i : Fin 64) :
    Cert.ReferenceIdeal.Value.fn_main_v11 (F := Ideal) (A3 m c) (A1 m c) (ix5 b j h p i) = (R.key b h p j i : EReal) := by
  rw [Cert.ReferenceIdeal.Attn.keys_apply]
  unfold Reals.key
  split
  · exact R.e3 _
  · exact R.e1 _

theorem Reals.vals_eq (b : Fin 32) (h : Fin 8) (j : Fin 4128) (e : Fin 128) :
    Cert.ReferenceIdeal.Value.fn_main_v12 (F := Ideal) (A4 m c) (A2 m c) (ix4 b j h e) = (R.val b h j e : EReal) := by
  rw [Cert.ReferenceIdeal.Attn.vals_apply]
  unfold Reals.val
  split
  · exact R.e4 _
  · exact R.e2 _

theorem Reals.key_old (b : Fin 32) (h : Fin 8) (p : Fin 2) (n n' : ℕ) (i : Fin 64) (hn : n < 4128) (hn' : n' < 4096) (e : n' = n) :
    A3 m c (ix5 b ⟨n', hn'⟩ h p i) = (R.key b h p ⟨n, hn⟩ i : EReal) := by
  subst e
  unfold Reals.key
  rw [dif_pos hn']
  exact R.e3 _

theorem Reals.key_new (b : Fin 32) (h : Fin 8) (p : Fin 2) (n : ℕ) (s : Fin 32) (i : Fin 64) (hn : n < 4128) (e : n = 4096 + s.val) :
    A1 m c (ix5 b s h p i) = (R.key b h p ⟨n, hn⟩ i : EReal) := by
  subst e
  have es : (⟨4096 + s.val - 4096, by omega⟩ : Fin 32) = s := Fin.ext (by show 4096 + s.val - 4096 = s.val; omega)
  unfold Reals.key
  rw [dif_neg (show ¬ 4096 + s.val < 4096 by omega)]
  exact (R.e1 _).trans (congrArg (fun q => ((R.f1 (ix5 b q h p i) : ℝ) : EReal)) es.symm)

theorem Reals.val_old (b : Fin 32) (h : Fin 8) (n n' : ℕ) (d : Fin 128) (hn : n < 4128) (hn' : n' < 4096) (e : n' = n) :
    A4 m c (ix4 b ⟨n', hn'⟩ h d) = (R.val b h ⟨n, hn⟩ d : EReal) := by
  subst e
  unfold Reals.val
  rw [dif_pos hn']
  exact R.e4 _

theorem Reals.val_new (b : Fin 32) (h : Fin 8) (n : ℕ) (s : Fin 32) (d : Fin 128) (hn : n < 4128) (e : n = 4096 + s.val) :
    A2 m c (ix4 b s h d) = (R.val b h ⟨n, hn⟩ d : EReal) := by
  subst e
  have es : (⟨4096 + s.val - 4096, by omega⟩ : Fin 32) = s := Fin.ext (by show 4096 + s.val - 4096 = s.val; omega)
  unfold Reals.val
  rw [dif_neg (show ¬ 4096 + s.val < 4096 by omega)]
  exact (R.e2 _).trans (congrArg (fun q => ((R.f2 (ix4 b q h d) : ℝ) : EReal)) es.symm)

/-- A map's weighted mean in the kernel's blocks. -/
theorem Reals.mean (t t' : Fin cfg0.N) (h1 : t.val % 2 = 1) (ht : t'.val + 1 = t.val) (h : Fin 8) (p : Fin 2) (r : Fin 32) (e : Fin 128) :
    Ideal.div (accA m c t t' h (ix3 0 (prow p r) e)) (∑ j : Fin 128, accL m c t t' h (ix3 0 (prow p r) j)) =
      (((∑ j, Real.exp (R.sc (bOf t) h r p j) * R.val (bOf t) h j e) / (∑ j, Real.exp (R.sc (bOf t) h r p j)) : ℝ) : EReal) := by
  have hb : bOf t' = bOf t := Fin.ext (by show t'.val / 2 = t.val / 2; omega)
  have h0 : t'.val % 2 = 0 := by omega
  have hN : t.val < 64 := N_0 ▸ t.isLt
  have key := row_out (iblk m c 5 t') (iblk m c 6 t') (iblk m c 6 t) (iblk m c 7 t') (iblk m c 7 t) (iblk m c 8 t) (iblk m c 9 t) h p r
    (fun i => R.f0 (ix5 (bOf t) r h p i))
    (fun j i => R.key (bOf t) h p ⟨j.val, by omega⟩ i) (fun j i => R.key (bOf t) h p ⟨2048 + j.val, by omega⟩ i)
    (fun s i => R.key (bOf t) h p ⟨4096 + s.val, by omega⟩ i)
    (fun j e => R.val (bOf t) h ⟨j.val, by omega⟩ e) (fun j e => R.val (bOf t) h ⟨2048 + j.val, by omega⟩ e)
    (fun s e => R.val (bOf t) h ⟨4096 + s.val, by omega⟩ e)
    (fun i => by rw [q_blk, hb]; exact R.e0 _)
    (fun j i => by rw [kc_blk, hb]; exact R.key_old _ _ _ _ _ _ _ _ (by omega))
    (fun j i => by rw [kc_blk]; exact R.key_old _ _ _ _ _ _ _ _ (by omega))
    (fun s i => by rw [kn_blk]; exact R.key_new _ _ _ _ _ _ _ rfl)
    (fun j e => by rw [vc_blk, hb]; exact R.val_old _ _ _ _ _ _ _ (by omega))
    (fun j e => by rw [vc_blk]; exact R.val_old _ _ _ _ _ _ _ (by omega))
    (fun s e => by rw [vn_blk]; exact R.val_new _ _ _ _ _ _ rfl)
    e
  refine key.trans (congrArg Real.toEReal ?_)
  simp only [two_pow]
  rw [sum_keys fun j => Real.exp (R.sc (bOf t) h r p j) * R.val (bOf t) h j e, sum_keys fun j => Real.exp (R.sc (bOf t) h r p j)]
  rfl

include R in
/-- The kernel's difference of the two maps is the reference's. -/
theorem Reals.diff_eq (hp : Cert.Pre_KernelIdeal_finite m) (t t' : Fin cfg0.N) (h1 : t.val % 2 = 1) (ht : t'.val + 1 = t.val) (h : Fin 8) (r : Fin 32) (e : Fin 128) :
    diff (lamV (iblk m c 0 t) (iblk m c 1 t) (iblk m c 2 t) (iblk m c 3 t) (ix2 0 0))
      (lo (accA m c t t' h)) (lo (accL m c t t' h)) (hi (accA m c t t' h)) (hi (accL m c t t' h)) r e = refCtx m c (ix4 (bOf t) r h e) := by
  obtain ⟨l, hl⟩ := Cert.ReferenceIdeal.Attn.lam_real (A5 m c) (A6 m c) (A7 m c) (A8 m c) (arg5_real hp c) (arg6_real hp c) (arg7_real hp c) (arg8_real hp c)
  unfold refCtx
  rw [Cert.ReferenceIdeal.Attn.ctx_real _ _ _ (bOf t) h r e l (R.sc (bOf t) h r) (fun j => R.val (bOf t) h j e) hl
    (fun p j => Cert.ReferenceIdeal.Attn.score_real _ _ _ _ _ _ _ _ _ (fun i => R.e0 _) (fun i => R.keys_eq _ _ _ _ _))
    (fun j => R.vals_eq _ _ _ _), lam_eq, hl]
  have k0 := R.mean t t' h1 ht h 0 r e
  have k1 := R.mean t t' h1 ht h 1 r e
  have p0 : prow 0 r = ⟨r.val, by omega⟩ := Fin.ext (by show 32 * 0 + r.val = r.val; omega)
  have p1 : prow 1 r = ⟨32 + r.val, by omega⟩ := Fin.ext (by show 32 * 1 + r.val = 32 + r.val; omega)
  rw [p0] at k0
  rw [p1] at k1
  unfold diff
  refine (congrArg₂ (fun x y : EReal => x - (l : EReal) * y) k0 k1).trans ?_
  rw [← EReal.coe_mul, ← EReal.coe_sub]

theorem reals (hp : Cert.Pre_KernelIdeal_finite m) (c : Dev nD) : Nonempty (Reals m c) := by
  choose f0 e0 using arg0_real hp c
  choose f1 e1 using arg1_real hp c
  choose f2 e2 using arg2_real hp c
  choose f3 e3 using arg3_real hp c
  choose f4 e4 using arg4_real hp c
  exact ⟨⟨f0, f1, f2, f3, f4, e0, e1, e2, e3, e4⟩⟩

/-- An element of the kernel's result. -/
theorem elem_eq (hp : Cert.Pre_KernelIdeal_finite m) (c : Dev nD) (b : Fin 32) (r : Fin 32) (h : Fin 8) (e : Fin 128) :
    G10 m c (ix2 ⟨32 * b.val + r.val, by omega⟩ ⟨128 * h.val + e.val, by omega⟩)
      = Cert.ReferenceIdeal.Attn.result (A0 m c) (A1 m c) (A2 m c) (A3 m c) (A4 m c) (A5 m c) (A6 m c) (A7 m c) (A8 m c) (A9 m c)
        (ix2 ⟨32 * b.val + r.val, by omega⟩ ⟨128 * h.val + e.val, by omega⟩) := by
  obtain ⟨R⟩ := reals hp c
  have hN : cfg0.N = 64 := N_0
  have hb : 2 * b.val + 1 < cfg0.N := by omega
  have hb' : 2 * b.val < cfg0.N := by omega
  have hbt : bOf ⟨2 * b.val + 1, hb⟩ = b := Fin.ext (by show (2 * b.val + 1) / 2 = b.val; omega)
  have hout := out_block m c ⟨2 * b.val + 1, hb⟩ ⟨2 * b.val, hb'⟩ (by show (2 * b.val + 1) % 2 = 1; omega) rfl
  have hG : G10 m c (ix2 ⟨32 * b.val + r.val, by omega⟩ ⟨128 * h.val + e.val, by omega⟩)
      = (outsAt0 m c (2 * b.val + 1) hb).1 (ix2 r (hcol h e)) := by
    have hpt : pt10Of (ix2 ⟨32 * b.val + r.val, by omega⟩ ⟨128 * h.val + e.val, by omega⟩) = 2 * b.val + 1 := by
      show 2 * (1 * ((32 * b.val + r.val) / 32 - 0) + 1 * ((128 * h.val + e.val) / 1024 - 0)) + 1 = 2 * b.val + 1
      omega
    have hloc : loc10Of (ix2 ⟨32 * b.val + r.val, by omega⟩ ⟨128 * h.val + e.val, by omega⟩) = ix2 r (hcol h e) := by
      funext a; apply Fin.ext
      match a with
      | ⟨0, _⟩ => show (32 * b.val + r.val) % 32 = r.val; omega
      | ⟨1, _⟩ => show (128 * h.val + e.val) % 1024 = 128 * h.val + e.val; omega
    unfold G10
    rw [dif_pos (by rw [hpt]; exact hb), hloc, outsAt0_sweep, fold0_congr m c _ _ _ _ hpt]
  rw [hG]
  refine (congrFun hout _).trans ?_
  rw [out_apply, oH_apply]
  unfold Cert.ReferenceIdeal.Attn.result
  rw [Cert.ReferenceIdeal.Attn.outR_apply, vec4_blk]
  have hd : ∀ e, diff (lamV (iblk m c 0 ⟨2 * b.val + 1, hb⟩) (iblk m c 1 ⟨2 * b.val + 1, hb⟩) (iblk m c 2 ⟨2 * b.val + 1, hb⟩) (iblk m c 3 ⟨2 * b.val + 1, hb⟩) (ix2 0 0))
      (lo (accA m c ⟨2 * b.val + 1, hb⟩ ⟨2 * b.val, hb'⟩ h)) (lo (accL m c ⟨2 * b.val + 1, hb⟩ ⟨2 * b.val, hb'⟩ h))
      (hi (accA m c ⟨2 * b.val + 1, hb⟩ ⟨2 * b.val, hb'⟩ h)) (hi (accL m c ⟨2 * b.val + 1, hb⟩ ⟨2 * b.val, hb'⟩ h)) r e = refCtx m c (ix4 b r h e) := by
    intro e
    have := R.diff_eq hp ⟨2 * b.val + 1, hb⟩ ⟨2 * b.val, hb'⟩ (by show (2 * b.val + 1) % 2 = 1; omega) rfl h r e
    rwa [hbt] at this
  simp only [hd]

/-- The kernel's result is the reference's. -/
theorem tie (hp : Cert.Pre_KernelIdeal_finite m) (c : Dev nD) :
    G10 m c = Cert.ReferenceIdeal.Attn.result (A0 m c) (A1 m c) (A2 m c) (A3 m c) (A4 m c) (A5 m c) (A6 m c) (A7 m c) (A8 m c) (A9 m c) := by
  funext i
  have h0 : (i 0).val < 1024 := (i 0).isLt
  have h1 : (i 1).val < 1024 := (i 1).isLt
  have e : i = ix2 ⟨32 * ((i 0).val / 32) + (i 0).val % 32, by omega⟩ ⟨128 * ((i 1).val / 128) + (i 1).val % 128, by omega⟩ := by
    funext a; apply Fin.ext
    match a with
    | ⟨0, _⟩ => show (i 0).val = 32 * ((i 0).val / 32) + (i 0).val % 32; omega
    | ⟨1, _⟩ => show (i 1).val = 128 * ((i 1).val / 128) + (i 1).val % 128; omega
  rw [e]
  exact elem_eq hp c ⟨(i 0).val / 32, by omega⟩ ⟨(i 0).val % 32, by omega⟩ ⟨(i 1).val / 128, by omega⟩ ⟨(i 1).val % 128, by omega⟩

end Cert.Attn

end
-- ==== Proof.Attn.Claims.lean ====
/- The claims about the sample attention. -/
module

public import proofs.«01_k».proof.Proof.Attn.Tie
public import proofs.«01_k».proof.Proof.Gen.Kernel.Frame
public import proofs.«01_k».proof.Proof.Gen.KernelIdeal.Frame
public import Idealize.ShloMosaic.Adequacy
public import Idealize.ShloMosaic.Init

@[expose] public section

noncomputable section

namespace Cert.Attn

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "qscale" .f32 0x3E38AA3B#32 _ rfl,
    IdealRules.named_const.statement Cert.KernelIdeal.κ "mask" .f32 0xF149F2CA#32 _ rfl⟩

theorem algebraic : Cert.algebraic_KernelIdeal_ReferenceIdeal_pre_finite := by
  intro m ρ m' ρ' hp hagree
  refine ⟨fun c => Cert.KernelIdeal.Value.G10 m c, Cert.KernelIdeal.Value.run m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8, h9⟩ := hagree c
  rw [(h c).1, Cert.ReferenceIdeal.Attn.res_eq, h0, h1, h2, h3, h4, h5, h6, h7, h8, h9]
  exact (tie hp c).symm

end Cert.Attn

end
-- ==== Proof.Ffn.Blocks.lean ====
/- What the blocks of a feed-forward grid point hold, in terms of the arguments. -/
module

public import proofs.«01_k».proof.Proof.Gen.FfnIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.FfnIdeal.Ffn

open Idealize.ShloMosaic Idealize.ShloMosaic.TcCoe Idealize.ShloMosaic.Tactic Cert.FfnIdeal Cert.FfnIdeal.Gen

variable (m : (ℓ : Loc nD τ sig) → Buf (Elt Ideal) ℓ) (c : Dev nD)

theorem idx0 : ∀ t : Fin cfg0.N, (cfg0.win 0).index t = ![t.val / 11, 0] := by decide +kernel
theorem idx1 : ∀ t : Fin cfg0.N, (cfg0.win 1).index t = ![0, 0] := by decide +kernel
theorem idx2 : ∀ t : Fin cfg0.N, (cfg0.win 2).index t = ![0, t.val % 11] := by decide +kernel
theorem idx3 : ∀ t : Fin cfg0.N, (cfg0.win 3).index t = ![0, t.val % 11] := by decide +kernel
theorem idx4 : ∀ t : Fin cfg0.N, (cfg0.win 4).index t = ![t.val % 11, 0] := by decide +kernel
theorem idx5 : ∀ t : Fin cfg0.N, (cfg0.win 5).index t = ![0, 0] := by decide +kernel

/-- The batch entry of a point's rows. -/
def bOf (t : Fin cfg0.N) : Fin 2 := ⟨t.val / 11 / 16, by have : t.val < 352 := N_0 ▸ t.isLt; omega⟩
/-- A row of a point in its batch entry. -/
def rOf (t : Fin cfg0.N) (r : Fin 512) : Fin 8192 := ⟨512 * (t.val / 11 % 16) + r.val, by omega⟩
/-- A hidden column of a point. -/
def kOf (t : Fin cfg0.N) (k : Fin 512) : Fin 5632 := ⟨512 * (t.val % 11) + k.val, by omega⟩

theorem x_blk (t : Fin cfg0.N) (r : Fin 512) (d : Fin 2048) :
    iblk m c 0 t (ix2 r d) = m ((c : Thread nD τ).loc main_arg0) (ix3 (bOf t) (rOf t r) d) := by
  have ht : t.val < 352 := N_0 ▸ t.isLt
  unfold bOf rOf
  blk_ext! [iblk, V, idx0 t]

theorem gpre_blk (t : Fin cfg0.N) (d : Fin 2048) :
    iblk m c 1 t (ix2 0 d) = m ((c : Thread nD τ).loc main_arg1) (ix1 d) := by
  have ht : t.val < 352 := N_0 ▸ t.isLt
  blk_ext! [iblk, V, idx1 t]

theorem gate_blk (t : Fin cfg0.N) (d : Fin 2048) (k : Fin 512) :
    iblk m c 2 t (ix2 d k) = m ((c : Thread nD τ).loc main_arg2) (ix2 d (kOf t k)) := by
  have ht : t.val < 352 := N_0 ▸ t.isLt
  unfold kOf
  blk_ext! [iblk, V, idx2 t]

theorem up_blk (t : Fin cfg0.N) (d : Fin 2048) (k : Fin 512) :
    iblk m c 3 t (ix2 d k) = m ((c : Thread nD τ).loc main_arg3) (ix2 d (kOf t k)) := by
  have ht : t.val < 352 := N_0 ▸ t.isLt
  unfold kOf
  blk_ext! [iblk, V, idx3 t]

theorem down_blk (t : Fin cfg0.N) (k : Fin 512) (d : Fin 2048) :
    iblk m c 4 t (ix2 k d) = m ((c : Thread nD τ).loc main_arg4) (ix2 (kOf t k) d) := by
  have ht : t.val < 352 := N_0 ▸ t.isLt
  unfold kOf
  blk_ext! [iblk, V, idx4 t]

theorem gpost_blk (t : Fin cfg0.N) (d : Fin 2048) :
    iblk m c 5 t (ix2 0 d) = m ((c : Thread nD τ).loc main_arg5) (ix1 d) := by
  have ht : t.val < 352 := N_0 ▸ t.isLt
  blk_ext! [iblk, V, idx5 t]

end Cert.FfnIdeal.Ffn

end
-- ==== Proof.Ffn.Fold.lean ====
/- What a point of the feed-forward kernel leaves in its two buffers and in its output block. -/
module

public import proofs.«01_k».proof.Proof.Gen.FfnIdeal.Frame
public import Idealize.ShloMosaic.Lib.Pipeline.ValueKit

@[expose] public section

set_option maxRecDepth 16384

noncomputable section

namespace Cert.FfnIdeal.Ffn

open Idealize.ShloMosaic Idealize.ShloMosaic.TcCoe Idealize.ShloMosaic.Tactic Cert.FfnIdeal Cert.FfnIdeal.Gen

variable {F : FTy → Type} [FloatOps F] [Named F]
variable (m : (ℓ : Loc nD τ sig) → Buf (Elt F) ℓ)

theorem hz : (![0, 0] : Fin 2 → Nat) = fun _ => 0 := funext fun a => by fin_cases a <;> rfl

/-- The first point of a run leaves the normed rows. -/
theorem state_A_h (c : Dev nD) (t : Fin cfg0.N) (h0 : t.val % 11 = 0) :
    (outsAt0 m c t.val t.isLt).2.1 = k0_pay5 (iblk m c 0 t) (iblk m c 1 t) := by
  rw [outsAt0_A m c t h0 (by omega) (by omega)]
  dsimp only
  unfold sout0_A_0
  rw [View.read_writes_junk_eq_canon]
  unfold kernelRun0_A
  dsimp only
  rw [View.canon_unit_zero hz]
  simp only [View.readAt_eq_ld, Memref.IsWhole.read_unread, View.ld_unit_zero (S := S512x2048) hz, View.ld_unit_zero (S := S1x2048) hz]

/-- The first point of a run leaves its chunk's product. -/
theorem state_A_a (c : Dev nD) (t : Fin cfg0.N) (h0 : t.val % 11 = 0) :
    (outsAt0 m c t.val t.isLt).2.2 = k0_pay1 (k0_pay6 (iblk m c 0 t) (iblk m c 1 t) (iblk m c 2 t) (iblk m c 3 t)) (k0_pay7 (iblk m c 4 t)) (constant S512x2048 .f32 0x00000000#32) := by
  rw [outsAt0_A m c t h0 (by omega) (by omega)]
  dsimp only
  unfold sout0_A_1
  rw [View.read_writes_junk_eq_canon]
  unfold kernelRun0_A
  dsimp only
  sl_unfold_words
  rw [View.canon_unit_zero hz]
  simp only [View.readAt_eq_ld, Memref.IsWhole.read_unread, View.ld_unit_zero (S := S512x2048) hz, View.ld_unit_zero (S := S1x2048) hz, View.ld_unit_zero (S := S2048x512) hz]

/-- A middle point keeps the normed rows. -/
theorem state_B_h (c : Dev nD) (t t' : Fin cfg0.N) (h1 : 1 ≤ t.val % 11 ∧ t.val % 11 ≤ 9) (ht : t'.val + 1 = t.val) :
    (outsAt0 m c t.val t.isLt).2.1 = (outsAt0 m c t'.val t'.isLt).2.1 := by
  obtain ⟨n, hn⟩ := t
  obtain ⟨n', hn'⟩ := t'
  obtain rfl : n = n' + 1 := ht.symm
  rw [outsAt0_B m c ⟨n' + 1, hn⟩ (by omega) h1 (by omega)]
  rfl

/-- A middle point adds its chunk's product. -/
theorem state_B_a (c : Dev nD) (t t' : Fin cfg0.N) (h1 : 1 ≤ t.val % 11 ∧ t.val % 11 ≤ 9) (ht : t'.val + 1 = t.val) :
    (outsAt0 m c t.val t.isLt).2.2 = k0_pay2 (outsAt0 m c t'.val t'.isLt).2.2 (outsAt0 m c t'.val t'.isLt).2.1 (iblk m c 2 t) (iblk m c 3 t) (iblk m c 4 t) := by
  obtain ⟨n, hn⟩ := t
  obtain ⟨n', hn'⟩ := t'
  obtain rfl : n = n' + 1 := ht.symm
  rw [outsAt0_B m c ⟨n' + 1, hn⟩ (by omega) h1 (by omega)]
  dsimp only
  unfold sout0_B_1
  rw [View.read_writes_junk_eq_canon]
  unfold kernelRun0_B
  dsimp only
  rw [View.canon_unit_zero hz]
  simp only [View.readAt_eq_ld, Memref.IsWhole.read_unread, View.ld_unit_zero (S := S512x2048) hz, View.ld_unit_zero (S := S2048x512) hz]
  refine congrArg₂ (fun a b => k0_pay2 a b _ _ _) ?_ ?_
  · exact (Memref.isWhole_whole _).read_unread _
  · exact (Memref.isWhole_whole _).read_unread _

/-- The last point of a run writes the output block. -/
theorem state_C (c : Dev nD) (t t' : Fin cfg0.N) (h2 : t.val % 11 = 10) (ht : t'.val + 1 = t.val) :
    (outsAt0 m c t.val t.isLt).1 = k0_pay3 (k0_pay8 (iblk m c 0 t))
      (k0_pay9 (outsAt0 m c t'.val t'.isLt).2.2 (outsAt0 m c t'.val t'.isLt).2.1 (iblk m c 2 t) (iblk m c 3 t) (iblk m c 4 t)) (k0_pay10 (iblk m c 5 t)) := by
  obtain ⟨n, hn⟩ := t
  obtain ⟨n', hn'⟩ := t'
  obtain rfl : n = n' + 1 := ht.symm
  rw [outsAt0_C m c ⟨n' + 1, hn⟩ (by omega) (by omega) h2]
  dsimp only
  unfold out0_C_6
  rw [View.read_writes_junk_eq_canon]
  unfold kernelRun0_C
  dsimp only
  sl_unfold_words
  rw [View.canon_unit_zero hz]
  simp only [View.readAt_eq_ld, Memref.IsWhole.read_unread, View.ld_unit_zero (S := S512x2048) hz, View.ld_unit_zero (S := S2048x512) hz, View.ld_unit_zero (S := S1x2048) hz]
  refine congrArg₂ (fun a b => k0_pay3 _ (k0_pay9 a b _ _ _) _) ?_ ?_
  · exact (Memref.isWhole_whole _).read_unread _
  · exact (Memref.isWhole_whole _).read_unread _

end Cert.FfnIdeal.Ffn

end
-- ==== Proof.Ffn.Point.lean ====
/- The feed-forward kernel's arithmetic at an element. -/
module

public import proofs.«01_k».proof.Proof.Gen.FfnIdeal.Skeleton
public import Idealize.ShloMosaic.PureOps.Ideal.Laws
public import Idealize.ShloMosaic.Lib.Pointwise

@[expose] public section

set_option maxRecDepth 16384

noncomputable section

namespace Cert.FfnIdeal.Ffn

open Idealize.ShloMosaic Idealize.ShloMosaic.Tactic Cert.FfnIdeal Cert.FfnIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

/-- A gated hidden value of a row. -/
def hid (h wg wu : Fin 2048 → EReal) : EReal :=
  (∑ d, h d * wg d) * Ideal.div 1 (1 + Ideal.exp (-(∑ d, h d * wg d))) * ∑ d, h d * wu d

theorem pay5_apply (X : Vec Ideal S512x2048 .f32) (g : Vec Ideal S1x2048 .f32) (r : Fin 512) (d : Fin 2048) :
    k0_pay5 (F := Ideal) X g (ix2 r d) = X (ix2 r d) * inv (fun j => X (ix2 r j)) * g (ix2 0 d) := by
  unfold k0_pay5 k0_pay4 inv; pointwise

theorem pay4_eq (X : Vec Ideal S512x2048 .f32) (g : Vec Ideal S1x2048 .f32) : k0_pay4 (F := Ideal) X g = k0_pay5 (F := Ideal) X g := by
  unfold k0_pay5; rw [shapeCast_self]

theorem pay7_apply (W : Vec Ideal S512x2048 .bf16) (k : Fin 512) (d : Fin 2048) :
    k0_pay7 (F := Ideal) W (ix2 k d) = W (ix2 k d) := by
  unfold k0_pay7; pointwise

theorem pay6_apply (X : Vec Ideal S512x2048 .f32) (g : Vec Ideal S1x2048 .f32) (wg wu : Vec Ideal S2048x512 .bf16) (r k : Fin 512) :
    k0_pay6 (F := Ideal) X g wg wu (ix2 r k) = hid (fun d => k0_pay5 (F := Ideal) X g (ix2 r d)) (fun d => wg (ix2 d k)) (fun d => wu (ix2 d k)) := by
  unfold k0_pay6 hid; rw [pay4_eq]; generalize k0_pay5 (F := Ideal) X g = h; pointwise
  simp only [zero_sub]

theorem pay1_apply (t : FVec Ideal S512x512 .bf16) (w : FVec Ideal S512x2048 .bf16) (r : Fin 512) (d : Fin 2048) :
    k0_pay1 (F := Ideal) t w (constant S512x2048 .f32 0x00000000#32) (ix2 r d) = ∑ k : Fin 512, t (ix2 r k) * w (ix2 k d) := by
  unfold k0_pay1; pointwise

theorem pay2_apply (acc : Vec Ideal S512x2048 .f32) (h : Vec Ideal S512x2048 .bf16) (wg wu : Vec Ideal S2048x512 .bf16) (wd : Vec Ideal S512x2048 .bf16) (r : Fin 512) (d : Fin 2048) :
    k0_pay2 (F := Ideal) acc h wg wu wd (ix2 r d) = acc (ix2 r d) +
      ∑ k : Fin 512, hid (fun d => h (ix2 r d)) (fun d => wg (ix2 d k)) (fun d => wu (ix2 d k)) * wd (ix2 k d) := by
  unfold k0_pay2 hid; pointwise
  simp only [zero_sub]

theorem pay9_apply (acc : Vec Ideal S512x2048 .f32) (h : Vec Ideal S512x2048 .bf16) (wg wu : Vec Ideal S2048x512 .bf16) (wd : Vec Ideal S512x2048 .bf16) (r : Fin 512) (d : Fin 2048) :
    k0_pay9 (F := Ideal) acc h wg wu wd (ix2 r d) = k0_pay2 (F := Ideal) acc h wg wu wd (ix2 r d) * inv (fun j => k0_pay2 (F := Ideal) acc h wg wu wd (ix2 r j)) := by
  have e : ∀ j, k0_pay2 (F := Ideal) acc h wg wu wd (ix2 r j) = acc (ix2 r j) +
      ∑ k : Fin 512, hid (fun d => h (ix2 r d)) (fun d => wg (ix2 d k)) (fun d => wu (ix2 d k)) * wd (ix2 k j) := fun j => pay2_apply acc h wg wu wd r j
  simp only [e]
  unfold k0_pay9 hid inv; pointwise
  simp only [zero_sub]

theorem pay3_apply (x : Vec Ideal S512x2048 .f32) (f : FVec Ideal S512x2048 .f32) (g : Vec Ideal S1x2048 .f32) (r : Fin 512) (d : Fin 2048) :
    k0_pay3 (F := Ideal) (k0_pay8 (F := Ideal) x) f (k0_pay10 (F := Ideal) g) (ix2 r d) = x (ix2 r d) + f (ix2 r d) * g (ix2 0 d) := by
  unfold k0_pay3 k0_pay8 k0_pay10; pointwise

end Cert.FfnIdeal.Ffn

end
-- ==== Proof.Ffn.Ref.lean ====
/- The feed-forward reference's operations by name, and its result as their composition. -/
module

public import proofs.«01_k».proof.Proof.Gen.FfnRefIdeal.Run
public import Idealize.ShloMosaic.PureOps.Ideal.Laws
public import Idealize.ShloMosaic.Lib.Pointwise

@[expose] public section

set_option maxRecDepth 16384

noncomputable section

namespace Cert.FfnRefIdeal.Ffn

open Idealize.ShloMosaic Idealize.ShloMosaic.Tactic Cert.FfnRefIdeal Cert.FfnRefIdeal.Gen Cert.FfnRefIdeal.Value

/-- Rows over the root of their mean square, times a gain. -/
def norm (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

/-- A projection to the hidden columns. -/
def proj (h : FVec Ideal S2x8192x2048 .f32) (w : FVec Ideal S2048x5632 .f32) : FVec Ideal S2x8192x5632 .f32 :=
  Host.dotGeneral dot_S2x8192x2048_S2048x5632_S2x8192x5632_2_0_01_1_n_n none h w

/-- The gated hidden columns. -/
def gated (a u : FVec Ideal S2x8192x5632 .f32) : FVec Ideal S2x8192x5632 .f32 :=
  mulf (mulf a (Host.divf (broadcastInDim S2x8192x5632 ![] bcast_S_S2x8192x5632 (constant S_ .f32 0x3F800000#32)) (addf (broadcastInDim S2x8192x5632 ![] bcast_S_S2x8192x5632 (constant S_ .f32 0x3F800000#32)) (Host.exp (Host.negf a))))) u

/-- The projection back. -/
def back (t : FVec Ideal S2x8192x5632 .f32) (w : FVec Ideal S5632x2048 .f32) : FVec Ideal S2x8192x2048 .f32 :=
  Host.dotGeneral dot_S2x8192x5632_S5632x2048_S2x8192x2048_2_0_01_1_n_n none t w

/-- The sum with the input, as rows. -/
def rows (x f : FVec Ideal S2x8192x2048 .f32) : FVec Ideal S16384x2048 .f32 :=
  shapeCast _ (addf x f) shapeCasts_S2x8192x2048_S16384x2048

/-- The result, from the arguments. -/
def result (a0 : FVec Ideal S2x8192x2048 .f32) (a1 : FVec Ideal S2048 .f32) (a2 a3 : FVec Ideal S2048x5632 .f32) (a4 : FVec Ideal S5632x2048 .f32) (a5 : FVec Ideal S2048 .f32) : FVec Ideal S16384x2048 .f32 :=
  rows a0 (norm (back (gated (proj (norm a0 a1) a2) (proj (norm a0 a1) a3)) a4) a5)

set_option maxHeartbeats 4000000 in
theorem res_eq (m : (ℓ : Loc nD τ sig) → Buf (Elt Ideal) ℓ) (c : Dev nD) : res_main_v32 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v32
  simp only [id_eq]
  unfold result rows norm back gated proj
  rfl

theorem norm_apply (x : FVec Ideal S2x8192x2048 .f32) (g : FVec Ideal S2048 .f32) (b : Fin 2) (r : Fin 8192) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

theorem proj_apply (h : FVec Ideal S2x8192x2048 .f32) (w : FVec Ideal S2048x5632 .f32) (b : Fin 2) (r : Fin 8192) (k : Fin 5632) :
    proj h w (ix3 b r k) = ∑ d : Fin 2048, h (ix3 b r d) * w (ix2 d k) := by
  unfold proj; pointwise

theorem gated_apply (a u : FVec Ideal S2x8192x5632 .f32) (b : Fin 2) (r : Fin 8192) (k : Fin 5632) :
    gated a u (ix3 b r k) = a (ix3 b r k) * Ideal.div 1 (1 + Ideal.exp (-(a (ix3 b r k)))) * u (ix3 b r k) := by
  unfold gated; pointwise

theorem back_apply (t : FVec Ideal S2x8192x5632 .f32) (w : FVec Ideal S5632x2048 .f32) (b : Fin 2) (r : Fin 8192) (d : Fin 2048) :
    back t w (ix3 b r d) = ∑ k : Fin 5632, t (ix3 b r k) * w (ix2 k d) := by
  unfold back; pointwise

theorem rows_apply (x f : FVec Ideal S2x8192x2048 .f32) (b : Fin 2) (r : Fin 8192) (d : Fin 2048) (i : Fin 16384) (hi : i.val = 8192 * b.val + r.val) :
    rows x f (ix2 i d) = x (ix3 b r d) + f (ix3 b r d) := by
  obtain ⟨n, hn⟩ := i
  obtain rfl : n = 8192 * b.val + r.val := hi
  unfold rows; pointwise

end Cert.FfnRefIdeal.Ffn

end
-- ==== Proof.Ffn.Tie.lean ====
/- The feed-forward kernel's result is the reference's, at every index of the result. -/
module

public import proofs.«01_k».proof.Proof.Ffn.Blocks
public import proofs.«01_k».proof.Proof.Ffn.Fold
public import proofs.«01_k».proof.Proof.Ffn.Point
public import proofs.«01_k».proof.Proof.Ffn.Ref
public import proofs.«01_k».proof.Proof.Gen.FfnIdeal.Value

@[expose] public section

set_option maxRecDepth 16384

noncomputable section

namespace Cert.FfnIdeal.Ffn

open Idealize.ShloMosaic Idealize.ShloMosaic.TcCoe Idealize.ShloMosaic.Tactic Cert.FfnIdeal Cert.FfnIdeal.Gen Cert.FfnIdeal.Value

variable (m : (ℓ : Loc nD τ sig) → Buf (Elt Ideal) ℓ) (c : Dev nD)

/-- The arguments, as arrays. -/
abbrev A0 : FVec Ideal Cert.FfnRefIdeal.S2x8192x2048 .f32 := m ((c.tc : Thread nD τ).loc main_arg0)
abbrev A1 : FVec Ideal Cert.FfnRefIdeal.S2048 .f32 := m ((c.tc : Thread nD τ).loc main_arg1)
abbrev A2 : FVec Ideal Cert.FfnRefIdeal.S2048x5632 .f32 := m ((c.tc : Thread nD τ).loc main_arg2)
abbrev A3 : FVec Ideal Cert.FfnRefIdeal.S2048x5632 .f32 := m ((c.tc : Thread nD τ).loc main_arg3)
abbrev A4 : FVec Ideal Cert.FfnRefIdeal.S5632x2048 .f32 := m ((c.tc : Thread nD τ).loc main_arg4)
abbrev A5 : FVec Ideal Cert.FfnRefIdeal.S2048 .f32 := m ((c.tc : Thread nD τ).loc main_arg5)

/-- The reference's normed rows. -/
abbrev hR : FVec Ideal Cert.FfnRefIdeal.S2x8192x2048 .f32 := Cert.FfnRefIdeal.Ffn.norm (A0 m c) (A1 m c)
/-- The reference's gated hidden columns. -/
abbrev tR : FVec Ideal Cert.FfnRefIdeal.S2x8192x5632 .f32 :=
  Cert.FfnRefIdeal.Ffn.gated (Cert.FfnRefIdeal.Ffn.proj (hR m c) (A2 m c)) (Cert.FfnRefIdeal.Ffn.proj (hR m c) (A3 m c))

theorem tR_apply (b : Fin 2) (r : Fin 8192) (k : Fin 5632) : tR m c (ix3 b r k) =
    hid (fun d => hR m c (ix3 b r d)) (fun d => A2 m c (ix2 d k)) (fun d => A3 m c (ix2 d k)) := by
  unfold tR hid
  rw [Cert.FfnRefIdeal.Ffn.gated_apply, Cert.FfnRefIdeal.Ffn.proj_apply, Cert.FfnRefIdeal.Ffn.proj_apply]

/-- One hidden column's part of a result. -/
def term (b : Fin 2) (r : Fin 8192) (d : Fin 2048) (n : ℕ) : EReal :=
  if h : n < 5632 then tR m c (ix3 b r ⟨n, h⟩) * A4 m c (ix2 ⟨n, h⟩ d) else 0

theorem back_eq (b : Fin 2) (r : Fin 8192) (d : Fin 2048) :
    Cert.FfnRefIdeal.Ffn.back (tR m c) (A4 m c) (ix3 b r d) = ∑ n ∈ Finset.range 5632, term m c b r d n := by
  rw [Cert.FfnRefIdeal.Ffn.back_apply, Finset.sum_range]
  refine Finset.sum_congr rfl fun k _ => ?_
  unfold term
  rw [dif_pos k.isLt]

/-- A point's chunk, from the reference's columns. -/
theorem chunk_eq (t : Fin cfg0.N) (h : Vec Ideal S512x2048 .bf16) (r : Fin 512) (d : Fin 2048)
    (hh : ∀ d, h (ix2 r d) = hR m c (ix3 (bOf t) (rOf t r) d)) :
    ∑ k : Fin 512, hid (fun d => h (ix2 r d)) (fun d => iblk m c 2 t (ix2 d k)) (fun d => iblk m c 3 t (ix2 d k)) * iblk m c 4 t (ix2 k d)
      = ∑ k ∈ Finset.range 512, term m c (bOf t) (rOf t r) d (512 * (t.val % 11) + k) := by
  rw [Finset.sum_range]
  refine Finset.sum_congr rfl fun k _ => ?_
  have hk : 512 * (t.val % 11) + k.val < 5632 := by omega
  unfold term
  rw [dif_pos hk, tR_apply, down_blk]
  refine congrArg₂ (· * ·) ?_ rfl
  refine congr (congr (congrArg hid (funext hh)) (funext fun d => ?_)) (funext fun d => ?_)
  · exact gate_blk m c t d k
  · exact up_blk m c t d k

theorem bOf_step (t t' : Fin cfg0.N) (h : ¬ t.val % 11 = 0) (ht : t'.val + 1 = t.val) : bOf t' = bOf t := Fin.ext (by
  show t'.val / 11 / 16 = t.val / 11 / 16
  have : t'.val / 11 = t.val / 11 := by omega
  rw [this])
theorem rOf_step (t t' : Fin cfg0.N) (h : ¬ t.val % 11 = 0) (ht : t'.val + 1 = t.val) (r : Fin 512) : rOf t' r = rOf t r := Fin.ext (by
  show 512 * (t'.val / 11 % 16) + r.val = 512 * (t.val / 11 % 16) + r.val
  have : t'.val / 11 = t.val / 11 := by omega
  rw [this])

theorem first_h (t : Fin cfg0.N) (r : Fin 512) (d : Fin 2048) :
    k0_pay5 (F := Ideal) (iblk m c 0 t) (iblk m c 1 t) (ix2 r d) = hR m c (ix3 (bOf t) (rOf t r) d) := by
  unfold hR
  rw [pay5_apply, gpre_blk, Cert.FfnRefIdeal.Ffn.norm_apply]
  unfold inv
  simp only [x_blk]

/-- The two buffers after a point that is not the last of its run. -/
theorem state_eq : ∀ (n : ℕ) (hn : n < cfg0.N), n % 11 ≤ 9 → ∀ (r : Fin 512) (d : Fin 2048),
    (outsAt0 m c n hn).2.1 (ix2 r d) = hR m c (ix3 (bOf ⟨n, hn⟩) (rOf ⟨n, hn⟩ r) d) ∧
    (outsAt0 m c n hn).2.2 (ix2 r d) = ∑ k ∈ Finset.range (512 * (n % 11) + 512), term m c (bOf ⟨n, hn⟩) (rOf ⟨n, hn⟩ r) d k := by
  intro n
  induction n with
  | zero =>
    intro hn h9 r d
    refine ⟨?_, ?_⟩
    · exact (congrFun (state_A_h m c ⟨0, hn⟩ rfl) _).trans (first_h m c ⟨0, hn⟩ r d)
    · refine (congrFun (state_A_a m c ⟨0, hn⟩ rfl) _).trans ?_
      rw [pay1_apply]
      simp only [pay6_apply, pay7_apply]
      rw [chunk_eq m c ⟨0, hn⟩ _ r d (fun d => first_h m c ⟨0, hn⟩ r d), Finset.sum_range_add]
      simp
  | succ n ih =>
    intro hn h9 r d
    by_cases h0 : (n + 1) % 11 = 0
    · refine ⟨?_, ?_⟩
      · exact (congrFun (state_A_h m c ⟨n + 1, hn⟩ h0) _).trans (first_h m c ⟨n + 1, hn⟩ r d)
      · refine (congrFun (state_A_a m c ⟨n + 1, hn⟩ h0) _).trans ?_
        rw [pay1_apply]
        simp only [pay6_apply, pay7_apply]
        rw [chunk_eq m c ⟨n + 1, hn⟩ _ r d (fun d => first_h m c ⟨n + 1, hn⟩ r d), Finset.sum_range_add]
        simp [h0]
    · have hn' : n < cfg0.N := by omega
      have h1 : 1 ≤ (n + 1) % 11 ∧ (n + 1) % 11 ≤ 9 := ⟨by omega, h9⟩
      have hb := bOf_step ⟨n + 1, hn⟩ ⟨n, hn'⟩ h0 rfl
      have hr := rOf_step ⟨n + 1, hn⟩ ⟨n, hn'⟩ h0 rfl r
      have hh : ∀ d, (outsAt0 m c n hn').2.1 (ix2 r d) = hR m c (ix3 (bOf ⟨n + 1, hn⟩) (rOf ⟨n + 1, hn⟩ r) d) := fun d => by
        rw [(ih hn' (by omega) r d).1, hb, hr]
      refine ⟨?_, ?_⟩
      · exact (congrFun (state_B_h m c ⟨n + 1, hn⟩ ⟨n, hn'⟩ h1 rfl) _).trans (hh d)
      · refine (congrFun (state_B_a m c ⟨n + 1, hn⟩ ⟨n, hn'⟩ h1 rfl) _).trans ?_
        rw [pay2_apply, chunk_eq m c ⟨n + 1, hn⟩ _ r d hh, (ih hn' (by omega) r d).2, hb, hr, show 512 * (n % 11) + 512 = 512 * ((n + 1) % 11) by omega]
        exact (Finset.sum_range_add _ _ _).symm

/-- The last point's sum is the reference's. -/
theorem last_f (t t' : Fin cfg0.N) (h2 : t.val % 11 = 10) (ht : t'.val + 1 = t.val) (r : Fin 512) (d : Fin 2048) :
    k0_pay2 (F := Ideal) (outsAt0 m c t'.val t'.isLt).2.2 (outsAt0 m c t'.val t'.isLt).2.1 (iblk m c 2 t) (iblk m c 3 t) (iblk m c 4 t) (ix2 r d)
      = Cert.FfnRefIdeal.Ffn.back (tR m c) (A4 m c) (ix3 (bOf t) (rOf t r) d) := by
  have hb := bOf_step t t' (by omega) ht
  have hr := rOf_step t t' (by omega) ht r
  have hh : ∀ d, (outsAt0 m c t'.val t'.isLt).2.1 (ix2 r d) = hR m c (ix3 (bOf t) (rOf t r) d) := fun d => by
    rw [(state_eq m c t'.val t'.isLt (by omega) r d).1]
    show hR m c (ix3 (bOf t') (rOf t' r) d) = _
    rw [hb, hr]
  rw [pay2_apply, chunk_eq m c t _ r d hh, (state_eq m c t'.val t'.isLt (by omega) r d).2, back_eq]
  show ∑ k ∈ Finset.range (512 * (t'.val % 11) + 512), term m c (bOf t') (rOf t' r) d k + _ = _
  have e : 512 * (t'.val % 11) + 512 = 512 * (t.val % 11) := by omega
  rw [hb, hr, e, ← Finset.sum_range_add, h2]

/-- An element of the kernel's result. -/
theorem elem_eq (q : Fin 32) (r : Fin 512) (d : Fin 2048) :
    G6 m c (ix2 ⟨512 * q.val + r.val, by omega⟩ d)
      = Cert.FfnRefIdeal.Ffn.result (A0 m c) (A1 m c) (A2 m c) (A3 m c) (A4 m c) (A5 m c) (ix2 ⟨512 * q.val + r.val, by omega⟩ d) := by
  have hN : cfg0.N = 352 := N_0
  have hb : 11 * q.val + 10 < cfg0.N := by omega
  have hb' : 11 * q.val + 9 < cfg0.N := by omega
  have h2 : (11 * q.val + 10) % 11 = 10 := by omega
  have hG : G6 m c (ix2 ⟨512 * q.val + r.val, by omega⟩ d) = (outsAt0 m c (11 * q.val + 10) hb).1 (ix2 r d) := by
    have hpt : pt6Of (ix2 ⟨512 * q.val + r.val, by omega⟩ d) = 11 * q.val + 10 := by
      show 11 * (1 * ((512 * q.val + r.val) / 512 - 0) + 1 * (d.val / 2048 - 0)) + 10 = 11 * q.val + 10
      omega
    have hloc : loc6Of (ix2 ⟨512 * q.val + r.val, by omega⟩ d) = ix2 r d := by
      funext a; apply Fin.ext
      match a with
      | ⟨0, _⟩ => show (512 * q.val + r.val) % 512 = r.val; omega
      | ⟨1, _⟩ => show d.val % 2048 = d.val; omega
    unfold G6
    rw [dif_pos (by rw [hpt]; exact hb), hloc, outsAt0_sweep, fold0_congr m c _ _ _ _ hpt]
  rw [hG]
  refine (congrFun (state_C m c ⟨11 * q.val + 10, hb⟩ ⟨11 * q.val + 9, hb'⟩ h2 rfl) _).trans ?_
  have hlast : ∀ j, _ := last_f m c ⟨11 * q.val + 10, hb⟩ ⟨11 * q.val + 9, hb'⟩ h2 rfl r
  rw [pay3_apply, pay9_apply, gpost_blk, x_blk]
  unfold inv
  simp only [hlast]
  unfold Cert.FfnRefIdeal.Ffn.result
  rw [Cert.FfnRefIdeal.Ffn.rows_apply _ _ (bOf ⟨11 * q.val + 10, hb⟩) (rOf ⟨11 * q.val + 10, hb⟩ r) d _ (by
    show 512 * q.val + r.val = 8192 * ((11 * q.val + 10) / 11 / 16) + (512 * ((11 * q.val + 10) / 11 % 16) + r.val)
    omega), Cert.FfnRefIdeal.Ffn.norm_apply]

/-- The kernel's result is the reference's. -/
theorem tie : G6 m c = Cert.FfnRefIdeal.Ffn.result (A0 m c) (A1 m c) (A2 m c) (A3 m c) (A4 m c) (A5 m c) := by
  funext i
  have h0 : (i 0).val < 16384 := (i 0).isLt
  have e : i = ix2 ⟨512 * ((i 0).val / 512) + (i 0).val % 512, by omega⟩ (i 1) := by
    funext a; apply Fin.ext
    match a with
    | ⟨0, _⟩ => show (i 0).val = 512 * ((i 0).val / 512) + (i 0).val % 512; omega
    | ⟨1, _⟩ => rfl
  rw [e]
  exact elem_eq m c ⟨(i 0).val / 512, by omega⟩ ⟨(i 0).val % 512, by omega⟩ (i 1)

end Cert.FfnIdeal.Ffn

end
-- ==== Proof.Ffn.Claims.lean ====
/- The claims about the feed-forward call. -/
module

public import proofs.«01_k».proof.Defs
public import proofs.«01_k».proof.Proof.Ffn.Tie
public import proofs.«01_k».proof.Proof.Gen.Ffn.Frame
public import Idealize.ShloMosaic.Adequacy
public import Idealize.ShloMosaic.Init

@[expose] public section

noncomputable section

namespace Cert.FfnIdeal.Ffn

open Idealize.ShloMosaic Idealize.SL.Sem

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

theorem preserves : Cert.preserves_Ffn_FfnIdeal := trivial

theorem algebraic : Cert.algebraic_FfnIdeal_FfnRefIdeal := by
  intro m ρ m' ρ' hp hagree
  refine ⟨fun c => Cert.FfnIdeal.Value.G6 m c, Cert.FfnIdeal.Value.run m ρ, ?_⟩
  refine (θ_run Cert.FfnRefIdeal.defs _ _).mono (fun _ h c => ⟨?_, (h c).2⟩) (Cert.FfnRefIdeal.Value.run (F := Ideal) m' ρ')
  obtain ⟨h0, h1, h2, h3, h4, h5⟩ := hagree c
  rw [(h c).1, Cert.FfnRefIdeal.Ffn.res_eq, h0, h1, h2, h3, h4, h5]
  exact (tie m c).symm

end Cert.FfnIdeal.Ffn

end
-- ==== Proof.Merge.Blocks.lean ====
/- What the blocks of a merge grid point hold, in terms of the arguments. -/
module

public import proofs.«01_k».proof.Proof.Gen.MergeIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.MergeIdeal.Merge

open Idealize.ShloMosaic Idealize.ShloMosaic.TcCoe Idealize.ShloMosaic.Tactic Cert.MergeIdeal Cert.MergeIdeal.Gen

variable (m : (ℓ : Loc nD τ sig) → Buf (Elt Ideal) ℓ) (c : Dev nD)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val, 0] := by decide +kernel

/-- The batch entry of a point's rows. -/
def bOf (t : Fin cfg0.N) : Fin 2 := ⟨t.val / 32, by have : t.val < 64 := N_0 ▸ t.isLt; omega⟩
/-- A row of a point in its batch entry. -/
def rOf (t : Fin cfg0.N) (r : Fin 256) : Fin 8192 := ⟨256 * (t.val % 32) + r.val, by omega⟩
/-- A gate's column of the input projection. -/
def gCol (k : Fin 4096) : Fin 9216 := ⟨5120 + k.val, by omega⟩
/-- The head and the lane of a column of the heads side by side. -/
def hd (k : Fin 1024) : Fin 8 := ⟨k.val / 128, by omega⟩
def ln (k : Fin 1024) : Fin 128 := ⟨k.val % 128, by omega⟩

theorem x_blk (t : Fin cfg0.N) (r : Fin 256) (d : Fin 2048) :
    iblk m c 0 t (ix2 r d) = m ((c : Thread nD τ).loc main_arg0) (ix3 (bOf t) (rOf t r) d) := by
  have ht : t.val < 64 := N_0 ▸ t.isLt
  unfold bOf rOf
  blk_ext! [iblk, V, idx0 t]

theorem gpre_blk (t : Fin cfg0.N) (d : Fin 2048) :
    iblk m c 1 t (ix2 0 d) = m ((c : Thread nD τ).loc main_arg1) (ix1 d) := by
  have ht : t.val < 64 := N_0 ▸ t.isLt
  blk_ext! [iblk, V, idx1 t]

theorem gate_blk (t : Fin cfg0.N) (d : Fin 2048) (k : Fin 4096) :
    iblk m c 2 t (ix2 d k) = m ((c : Thread nD τ).loc main_arg2) (ix2 d (gCol k)) := by
  have ht : t.val < 64 := N_0 ▸ t.isLt
  unfold gCol
  blk_ext! [iblk, V, idx2 t]

theorem heads_blk (t : Fin cfg0.N) (r : Fin 256) (d : Fin 1024) :
    iblk m c 3 t (ix2 r d) = m ((c : Thread nD τ).loc main_arg3) (ix4 (bOf t) (rOf t r) (hd d) (ln d)) := by
  have ht : t.val < 64 := N_0 ▸ t.isLt
  unfold bOf rOf hd ln
  blk_ext! [iblk, V, idx3 t]

theorem conv_blk (t : Fin cfg0.N) (r : Fin 256) (d : Fin 1024) :
    iblk m c 4 t (ix2 r d) = m ((c : Thread nD τ).loc main_arg4) (ix3 (bOf t) (rOf t r) d) := by
  have ht : t.val < 64 := N_0 ▸ t.isLt
  unfold bOf rOf
  blk_ext! [iblk, V, idx4 t]

theorem wa_blk (t : Fin cfg0.N) (d : Fin 1024) (k : Fin 2048) :
    iblk m c 5 t (ix2 d k) = m ((c : Thread nD τ).loc main_arg5) (ix2 d k) := by
  have ht : t.val < 64 := N_0 ▸ t.isLt
  blk_ext! [iblk, V, idx5 t]

theorem wc_blk (t : Fin cfg0.N) (d : Fin 1024) (k : Fin 2048) :
    iblk m c 6 t (ix2 d k) = m ((c : Thread nD τ).loc main_arg6) (ix2 d k) := by
  have ht : t.val < 64 := N_0 ▸ t.isLt
  blk_ext! [iblk, V, idx6 t]

theorem bias_blk (t : Fin cfg0.N) (k : Fin 2048) :
    iblk m c 7 t (ix2 0 k) = m ((c : Thread nD τ).loc main_arg7) (ix1 k) := by
  have ht : t.val < 64 := N_0 ▸ t.isLt
  blk_ext! [iblk, V, idx7 t]

theorem wo_blk (t : Fin cfg0.N) (k d : Fin 2048) :
    iblk m c 8 t (ix2 k d) = m ((c : Thread nD τ).loc main_arg8) (ix2 k d) := by
  have ht : t.val < 64 := N_0 ▸ t.isLt
  blk_ext! [iblk, V, idx8 t]

theorem gpost_blk (t : Fin cfg0.N) (d : Fin 2048) :
    iblk m c 9 t (ix2 0 d) = m ((c : Thread nD τ).loc main_arg9) (ix1 d) := by
  have ht : t.val < 64 := N_0 ▸ t.isLt
  blk_ext! [iblk, V, idx9 t]

end Cert.MergeIdeal.Merge

end
-- ==== Proof.Merge.Point.lean ====
/- The merge kernel's arithmetic at an element. -/
module

public import proofs.«01_k».proof.Proof.Gen.MergeIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.MergeIdeal.Merge

open Idealize.ShloMosaic Idealize.ShloMosaic.Tactic Cert.MergeIdeal Cert.MergeIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

/-- The gated sum of the two branches at a row and a column: the row of the normed input, of the heads and of the
    convolution, then the columns of the two gates' weights, of the branches' weights, and the bias. -/
def mrg (h : Fin 2048 → EReal) (a c : Fin 1024 → EReal) (ga gb : Fin 2048 → EReal) (wa wc : Fin 1024 → EReal) (b : EReal) : EReal :=
  Ideal.div 1 (1 + Ideal.exp (-(∑ d, h d * ga d))) * (∑ d, a d * wa d) + Ideal.div 1 (1 + Ideal.exp (-(∑ d, h d * gb d))) * ((∑ d, c d * wc d) + b)

theorem h_apply (X : Vec Ideal S256x2048 .f32) (g : Vec Ideal S1x2048 .f32) (r : Fin 256) (d : Fin 2048) :
    k0_pay3 (F := Ideal) X g (ix2 r d) = X (ix2 r d) * inv (fun j => X (ix2 r j)) * g (ix2 0 d) := by
  unfold k0_pay3 k0_pay2 inv; pointwise

theorem tile0 (X : Vec Ideal S256x2048 .f32) (g : Vec Ideal S1x2048 .f32) (ga gb : Vec Ideal S2048x512 .bf16) (a c : Vec Ideal S256x1024 .bf16)
    (wa wc : Vec Ideal S1024x512 .bf16) (b : Vec Ideal S1x512 .f32) (r : Fin 256) (k : Fin 512) :
    k0_pay10 (F := Ideal) (k0_pay6 (F := Ideal) X g ga) (k0_pay7 (F := Ideal) X g gb) (k0_pay8 (F := Ideal) a wa) (k0_pay9 (F := Ideal) c wc) b (ix2 r k) =
      mrg (fun d => k0_pay3 (F := Ideal) X g (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay10 k0_pay6 k0_pay7 k0_pay8 k0_pay9 k0_pay4 k0_pay5 mrg; generalize k0_pay3 (F := Ideal) X g = h; pointwise
  simp only [zero_sub]

theorem tile1 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    k0_pay15 (F := Ideal) (k0_pay11 (F := Ideal) h gb) (k0_pay12 (F := Ideal) (k0_pay4 (F := Ideal) a) wa) (k0_pay13 (F := Ideal) (k0_pay5 (F := Ideal) c) wc b) (k0_pay14 (F := Ideal) h ga) (ix2 r k) =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay15 k0_pay11 k0_pay12 k0_pay13 k0_pay14 k0_pay4 k0_pay5 mrg; pointwise
  simp only [zero_sub]

theorem tile2 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    k0_pay21 (F := Ideal) (k0_pay16 (F := Ideal) h gb) (k0_pay17 (F := Ideal) (k0_pay4 (F := Ideal) a) wa) (k0_pay18 (F := Ideal) (k0_pay5 (F := Ideal) c) wc b) (k0_pay19 (F := Ideal) h ga) (k0_pay20 (F := Ideal)) (ix2 r k) =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay21 k0_pay16 k0_pay17 k0_pay18 k0_pay19 k0_pay20 k0_pay4 k0_pay5 mrg; pointwise
  simp only [zero_sub]

/-- The last tile's gated sum, from its three parts. -/
def lastTile (v138 v146 v149 : FVec Ideal S256x512 .f32) (r : Fin 256) (k : Fin 512) : EReal :=
  v146 (ix2 r k) + Ideal.div 1 (1 + v149 (ix2 r k)) * v138 (ix2 r k)

theorem tile3 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    lastTile (k0_pay22 (F := Ideal) (k0_pay5 (F := Ideal) c) wc b) (k0_pay23 (F := Ideal) h (k0_pay4 (F := Ideal) a) ga wa) (k0_pay24 (F := Ideal) h gb) r k =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold lastTile k0_pay22 k0_pay23 k0_pay24 k0_pay4 k0_pay5 mrg; pointwise
  simp only [zero_sub]

/-- The stored rows, once the four tiles' columns are known: the input, plus the normed last projection. -/
theorem pay1_apply (x : Vec Ideal S256x2048 .f32) (v54 v88 v122 : FVec Ideal S256x512 .bf16) (v138 v146 v149 : FVec Ideal S256x512 .f32)
    (wo : Vec Ideal S2048x2048 .bf16) (g : Vec Ideal S1x2048 .f32) (r : Fin 256) (d : Fin 2048) (f : Fin 2048 → EReal)
    (h0 : ∀ k : Fin 512, v54 (ix2 r k) = f ⟨k.val, by omega⟩) (h1 : ∀ k : Fin 512, v88 (ix2 r k) = f ⟨512 + k.val, by omega⟩)
    (h2 : ∀ k : Fin 512, v122 (ix2 r k) = f ⟨1024 + k.val, by omega⟩) (h3 : ∀ k : Fin 512, lastTile v138 v146 v149 r k = f ⟨1536 + k.val, by omega⟩) :
    k0_pay1 (F := Ideal) (k0_pay2 (F := Ideal) x) v54 v88 v122 v138 v146 v149 wo g (ix2 r d) =
      x (ix2 r d) + (∑ k, f k * wo (ix2 k d)) * inv (fun j => ∑ k, f k * wo (ix2 k j)) * g (ix2 0 d) := by
  unfold k0_pay1 k0_pay2 inv
  dsimp only
  generalize hM : concatenate S256x2048 1 _ _ = M
  have hm : ∀ j, M (ix2 r j) = f j := by
    intro j
    rw [← hM]
    unfold lastTile at h3
    pointwise
    by_cases a1 : j.val < 512
    · rw [dif_pos a1]; exact (h0 _).trans (congrArg f (Fin.ext rfl))
    rw [dif_neg a1]
    by_cases a2 : j.val - 512 < 512
    · rw [dif_pos a2]; exact (h1 _).trans (congrArg f (Fin.ext (by show 512 + (j.val - 512) = j.val; omega)))
    rw [dif_neg a2]
    by_cases a3 : j.val - 512 - 512 < 512
    · rw [dif_pos a3]; exact (h2 _).trans (congrArg f (Fin.ext (by show 1024 + (j.val - 512 - 512) = j.val; omega)))
    rw [dif_neg a3]
    exact (h3 ⟨j.val - 512 - 512 - 512, by omega⟩).trans (congrArg f (Fin.ext (by show 1536 + (j.val - 512 - 512 - 512) = j.val; omega)))
  pointwise
  simp only [hm]

end Cert.MergeIdeal.Merge

end
-- ==== Proof.Merge.Ref.lean ====
/- The merge reference's operations by name, and its result as their composition. -/
module

public import proofs.«01_k».proof.Proof.Gen.MergeRefIdeal.Run
public import Idealize.ShloMosaic.PureOps.Ideal.Laws
public import Idealize.ShloMosaic.Lib.Pointwise

@[expose] public section

set_option maxRecDepth 16384

noncomputable section

namespace Cert.MergeRefIdeal.Merge

open Idealize.ShloMosaic Idealize.ShloMosaic.Tactic Cert.MergeRefIdeal Cert.MergeRefIdeal.Gen Cert.MergeRefIdeal.Value

/-- Rows over the root of their mean square, times a gain. -/
def norm (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

/-- The columns of the input projection that hold the gates. -/
def gates (h : FVec Ideal S2x8192x2048 .f32) (w : FVec Ideal S2048x9216 .f32) : FVec Ideal S2x8192x4096 .f32 :=
  extractStridedSlice S2x8192x4096 ![0, 0, 5120] (Host.dotGeneral dot_S2x8192x2048_S2048x9216_S2x8192x9216_2_0_01_1_n_n none h w) slices_S2x8192x9216_S2x8192x4096_0_0_5120

/-- The logistic function. -/
def lgt (z : FVec Ideal S2x8192x2048 .f32) : FVec Ideal S2x8192x2048 .f32 :=
  Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf z)))

/-- The attention branch's gate. -/
def gateA (z : FVec Ideal S2x8192x4096 .f32) : FVec Ideal S2x8192x2048 .f32 :=
  lgt (extractStridedSlice S2x8192x2048 ![0, 0, 0] z slices_S2x8192x4096_S2x8192x2048_0_0_0)
/-- The convolution branch's gate. -/
def gateB (z : FVec Ideal S2x8192x4096 .f32) : FVec Ideal S2x8192x2048 .f32 :=
  lgt (extractStridedSlice S2x8192x2048 ![0, 0, 2048] z slices_S2x8192x4096_S2x8192x2048_0_0_2048)

/-- The attention heads, side by side. -/
def heads (o : FVec Ideal S2x8192x8x128 .f32) : FVec Ideal S2x8192x1024 .f32 :=
  shapeCast _ o shapeCasts_S2x8192x8x128_S2x8192x1024
/-- A branch's projection. -/
def branch (o : FVec Ideal S2x8192x1024 .f32) (w : FVec Ideal S1024x2048 .f32) : FVec Ideal S2x8192x2048 .f32 :=
  Host.dotGeneral dot_S2x8192x1024_S1024x2048_S2x8192x2048_2_0_01_1_n_n none o w
/-- The convolution branch: its projection and a bias. -/
def cBranch (o : FVec Ideal S2x8192x1024 .f32) (w : FVec Ideal S1024x2048 .f32) (b : FVec Ideal S2048 .f32) : FVec Ideal S2x8192x2048 .f32 :=
  addf (branch o w) (broadcastInDim S2x8192x2048 ![0, 1, 2] bcast_S1x1x2048_S2x8192x2048_0_1_2 (broadcastInDim S1x1x2048 ![2] bcast_S2048_S1x1x2048_2 b))

/-- The gated sum of the branches. -/
def merged (ga a gb cb : FVec Ideal S2x8192x2048 .f32) : FVec Ideal S2x8192x2048 .f32 := addf (mulf ga a) (mulf gb cb)

/-- The last projection. -/
def back (t : FVec Ideal S2x8192x2048 .f32) (w : FVec Ideal S2048x2048 .f32) : FVec Ideal S2x8192x2048 .f32 :=
  Host.dotGeneral dot_S2x8192x2048_S2048x2048_S2x8192x2048_2_0_01_1_n_n none t w

/-- The sum with the input, as rows. -/
def rows (x f : FVec Ideal S2x8192x2048 .f32) : FVec Ideal S16384x2048 .f32 :=
  shapeCast _ (addf x f) shapeCasts_S2x8192x2048_S16384x2048

/-- The gated sum, from the arguments. -/
def mg (a0 : FVec Ideal S2x8192x2048 .f32) (a1 : FVec Ideal S2048 .f32) (a2 : FVec Ideal S2048x9216 .f32) (a3 : FVec Ideal S2x8192x8x128 .f32) (a4 : FVec Ideal S2x8192x1024 .f32) (a5 a6 : FVec Ideal S1024x2048 .f32) (a7 : FVec Ideal S2048 .f32) : FVec Ideal S2x8192x2048 .f32 :=
  merged (gateA (gates (norm a0 a1) a2)) (branch (heads a3) a5) (gateB (gates (norm a0 a1) a2)) (cBranch a4 a6 a7)

/-- The result, from the arguments. -/
def result (a0 : FVec Ideal S2x8192x2048 .f32) (a1 : FVec Ideal S2048 .f32) (a2 : FVec Ideal S2048x9216 .f32) (a3 : FVec Ideal S2x8192x8x128 .f32) (a4 : FVec Ideal S2x8192x1024 .f32) (a5 a6 : FVec Ideal S1024x2048 .f32) (a7 : FVec Ideal S2048 .f32) (a8 : FVec Ideal S2048x2048 .f32) (a9 : FVec Ideal S2048 .f32) : FVec Ideal S16384x2048 .f32 :=
  rows a0 (norm (back (mg a0 a1 a2 a3 a4 a5 a6 a7) a8) a9)

set_option maxHeartbeats 4000000 in
theorem res_eq (m : (ℓ : Loc nD τ sig) → Buf (Elt Ideal) ℓ) (c : Dev nD) : res_main_v53 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := by
  unfold res_main_v53
  simp only [id_eq]
  unfold result rows norm back mg merged gateA gateB lgt gates cBranch branch heads norm
  rfl

theorem norm_apply (x : FVec Ideal S2x8192x2048 .f32) (g : FVec Ideal S2048 .f32) (b : Fin 2) (r : Fin 8192) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

/-- A gate's column of the input projection. -/
def colA (k : Fin 2048) : Fin 9216 := ⟨5120 + k.val, by omega⟩
def colB (k : Fin 2048) : Fin 9216 := ⟨5120 + (2048 + k.val), by omega⟩

theorem gateA_apply (h : FVec Ideal S2x8192x2048 .f32) (w : FVec Ideal S2048x9216 .f32) (b : Fin 2) (r : Fin 8192) (k : Fin 2048) :
    gateA (gates h w) (ix3 b r k) = Ideal.div 1 (1 + Ideal.exp (-(∑ d : Fin 2048, h (ix3 b r d) * w (ix2 d (colA k))))) := by
  unfold gateA gates lgt colA; pointwise

theorem gateB_apply (h : FVec Ideal S2x8192x2048 .f32) (w : FVec Ideal S2048x9216 .f32) (b : Fin 2) (r : Fin 8192) (k : Fin 2048) :
    gateB (gates h w) (ix3 b r k) = Ideal.div 1 (1 + Ideal.exp (-(∑ d : Fin 2048, h (ix3 b r d) * w (ix2 d (colB k))))) := by
  unfold gateB gates lgt colB; pointwise

theorem branch_apply (o : FVec Ideal S2x8192x1024 .f32) (w : FVec Ideal S1024x2048 .f32) (b : Fin 2) (r : Fin 8192) (k : Fin 2048) :
    branch o w (ix3 b r k) = ∑ d : Fin 1024, o (ix3 b r d) * w (ix2 d k) := by
  unfold branch; pointwise

theorem cBranch_apply (o : FVec Ideal S2x8192x1024 .f32) (w : FVec Ideal S1024x2048 .f32) (g : FVec Ideal S2048 .f32) (b : Fin 2) (r : Fin 8192) (k : Fin 2048) :
    cBranch o w g (ix3 b r k) = (∑ d : Fin 1024, o (ix3 b r d) * w (ix2 d k)) + g (ix1 k) := by
  unfold cBranch branch; pointwise

/-- The head and the lane of a column of the heads side by side. -/
def hd (k : Fin 1024) : Fin 8 := ⟨k.val / 128, by omega⟩
def ln (k : Fin 1024) : Fin 128 := ⟨k.val % 128, by omega⟩

theorem heads_apply (o : FVec Ideal S2x8192x8x128 .f32) (b : Fin 2) (r : Fin 8192) (k : Fin 1024) :
    heads o (ix3 b r k) = o (ix4 b r (hd k) (ln k)) := by
  unfold heads hd ln; pointwise

theorem back_apply (t : FVec Ideal S2x8192x2048 .f32) (w : FVec Ideal S2048x2048 .f32) (b : Fin 2) (r : Fin 8192) (d : Fin 2048) :
    back t w (ix3 b r d) = ∑ k : Fin 2048, t (ix3 b r k) * w (ix2 k d) := by
  unfold back; pointwise

theorem rows_apply (x f : FVec Ideal S2x8192x2048 .f32) (b : Fin 2) (r : Fin 8192) (d : Fin 2048) (i : Fin 16384) (hi : i.val = 8192 * b.val + r.val) :
    rows x f (ix2 i d) = x (ix3 b r d) + f (ix3 b r d) := by
  obtain ⟨n, hn⟩ := i
  obtain rfl : n = 8192 * b.val + r.val := hi
  unfold rows; pointwise

theorem mg_apply (a0 : FVec Ideal S2x8192x2048 .f32) (a1 : FVec Ideal S2048 .f32) (a2 : FVec Ideal S2048x9216 .f32) (a3 : FVec Ideal S2x8192x8x128 .f32) (a4 : FVec Ideal S2x8192x1024 .f32) (a5 a6 : FVec Ideal S1024x2048 .f32) (a7 : FVec Ideal S2048 .f32) (b : Fin 2) (r : Fin 8192) (k : Fin 2048) :
    mg a0 a1 a2 a3 a4 a5 a6 a7 (ix3 b r k) =
      Ideal.div 1 (1 + Ideal.exp (-(∑ d : Fin 2048, norm a0 a1 (ix3 b r d) * a2 (ix2 d (colA k))))) * (∑ d : Fin 1024, a3 (ix4 b r (hd d) (ln d)) * a5 (ix2 d k))
      + Ideal.div 1 (1 + Ideal.exp (-(∑ d : Fin 2048, norm a0 a1 (ix3 b r d) * a2 (ix2 d (colB k))))) * ((∑ d : Fin 1024, a4 (ix3 b r d) * a6 (ix2 d k)) + a7 (ix1 k)) := by
  unfold mg
  show gateA (gates (norm a0 a1) a2) (ix3 b r k) * branch (heads a3) a5 (ix3 b r k) + gateB (gates (norm a0 a1) a2) (ix3 b r k) * cBranch a4 a6 a7 (ix3 b r k) = _
  rw [gateA_apply, gateB_apply, branch_apply, cBranch_apply]
  simp only [heads_apply]

end Cert.MergeRefIdeal.Merge

end
-- ==== Proof.Merge.Tie.lean ====
/- The merge kernel's result is the reference's, at every index of the result. -/
module

public import proofs.«01_k».proof.Proof.Merge.Blocks
public import proofs.«01_k».proof.Proof.Merge.Point
public import proofs.«01_k».proof.Proof.Merge.Ref
public import proofs.«01_k».proof.Proof.Gen.MergeIdeal.Value

@[expose] public section

set_option maxRecDepth 16384

noncomputable section

namespace Cert.MergeIdeal.Merge

open Idealize.ShloMosaic Idealize.ShloMosaic.TcCoe Idealize.ShloMosaic.Tactic Cert.MergeIdeal Cert.MergeIdeal.Gen Cert.MergeIdeal.Value

variable (m : (ℓ : Loc nD τ sig) → Buf (Elt Ideal) ℓ) (c : Dev nD)

/-- The arguments, as arrays. -/
abbrev A0 : FVec Ideal Cert.MergeRefIdeal.S2x8192x2048 .f32 := m ((c.tc : Thread nD τ).loc main_arg0)
abbrev A1 : FVec Ideal Cert.MergeRefIdeal.S2048 .f32 := m ((c.tc : Thread nD τ).loc main_arg1)
abbrev A2 : FVec Ideal Cert.MergeRefIdeal.S2048x9216 .f32 := m ((c.tc : Thread nD τ).loc main_arg2)
abbrev A3 : FVec Ideal Cert.MergeRefIdeal.S2x8192x8x128 .f32 := m ((c.tc : Thread nD τ).loc main_arg3)
abbrev A4 : FVec Ideal Cert.MergeRefIdeal.S2x8192x1024 .f32 := m ((c.tc : Thread nD τ).loc main_arg4)
abbrev A5 : FVec Ideal Cert.MergeRefIdeal.S1024x2048 .f32 := m ((c.tc : Thread nD τ).loc main_arg5)
abbrev A6 : FVec Ideal Cert.MergeRefIdeal.S1024x2048 .f32 := m ((c.tc : Thread nD τ).loc main_arg6)
abbrev A7 : FVec Ideal Cert.MergeRefIdeal.S2048 .f32 := m ((c.tc : Thread nD τ).loc main_arg7)
abbrev A8 : FVec Ideal Cert.MergeRefIdeal.S2048x2048 .f32 := m ((c.tc : Thread nD τ).loc main_arg8)
abbrev A9 : FVec Ideal Cert.MergeRefIdeal.S2048 .f32 := m ((c.tc : Thread nD τ).loc main_arg9)

/-- The reference's normed rows. -/
def hR : FVec Ideal Cert.MergeRefIdeal.S2x8192x2048 .f32 := Cert.MergeRefIdeal.Merge.norm (A0 m c) (A1 m c)
/-- The reference's gated sum. -/
def mR : FVec Ideal Cert.MergeRefIdeal.S2x8192x2048 .f32 :=
  Cert.MergeRefIdeal.Merge.mg (A0 m c) (A1 m c) (A2 m c) (A3 m c) (A4 m c) (A5 m c) (A6 m c) (A7 m c)

theorem mR_apply (b : Fin 2) (r : Fin 8192) (k : Fin 2048) : mR m c (ix3 b r k) =
    mrg (fun d => hR m c (ix3 b r d)) (fun d => A3 m c (ix4 b r (hd d) (ln d))) (fun d => A4 m c (ix3 b r d))
      (fun d => A2 m c (ix2 d (gCol ⟨k.val, by omega⟩))) (fun d => A2 m c (ix2 d (gCol ⟨2048 + k.val, by omega⟩)))
      (fun d => A5 m c (ix2 d k)) (fun d => A6 m c (ix2 d k)) (A7 m c (ix1 k)) :=
  Cert.MergeRefIdeal.Merge.mg_apply _ _ _ _ _ _ _ _ b r k

theorem h_eq (t : Fin cfg0.N) (r : Fin 256) (d : Fin 2048) :
    k0_pay3 (F := Ideal) (iblk m c 0 t) (iblk m c 1 t) (ix2 r d) = hR m c (ix3 (bOf t) (rOf t r) d) := by
  unfold hR
  rw [h_apply, gpre_blk, Cert.MergeRefIdeal.Merge.norm_apply]
  unfold inv
  simp only [x_blk]

/-- A point's gated sum at a column, from slices of the point's blocks. -/
theorem mrg_eq (t : Fin cfg0.N) (r : Fin 256) (k : Fin 2048) (ga gb : Fin 2048 → EReal) (wa wc : Fin 1024 → EReal) (b : EReal)
    (hga : ∀ d, ga d = iblk m c 2 t (ix2 d ⟨k.val, by omega⟩)) (hgb : ∀ d, gb d = iblk m c 2 t (ix2 d ⟨2048 + k.val, by omega⟩))
    (hwa : ∀ d, wa d = iblk m c 5 t (ix2 d k)) (hwc : ∀ d, wc d = iblk m c 6 t (ix2 d k)) (hb : b = iblk m c 7 t (ix2 0 k)) :
    mrg (fun d => k0_pay3 (F := Ideal) (iblk m c 0 t) (iblk m c 1 t) (ix2 r d)) (fun d => iblk m c 3 t (ix2 r d)) (fun d => iblk m c 4 t (ix2 r d)) ga gb wa wc b
      = mR m c (ix3 (bOf t) (rOf t r) k) := by
  obtain rfl : ga = _ := funext hga
  obtain rfl : gb = _ := funext hgb
  obtain rfl : wa = _ := funext hwa
  obtain rfl : wc = _ := funext hwc
  subst hb
  simp only [h_eq, gate_blk, heads_blk, conv_blk, wa_blk, wc_blk, bias_blk]
  exact (mR_apply m c _ _ _).symm

theorem hz : (![0, 0] : Fin 2 → Nat) = fun _ => 0 := by
  funext a
  match a with
  | ⟨0, _⟩ => rfl
  | ⟨1, _⟩ => rfl

/-- What a point stores. -/
theorem point_eq (t : Fin cfg0.N) (r : Fin 256) (d : Fin 2048) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r d)
      = A0 m c (ix3 (bOf t) (rOf t r) d) + Cert.MergeRefIdeal.Merge.norm (Cert.MergeRefIdeal.Merge.back (mR m c) (A8 m c)) (A9 m c) (ix3 (bOf t) (rOf t r) d) := by
  unfold out0_10 k0_pay25 k0_pay26 k0_pay27
  rw [View.canon_unit_zero hz]
  simp only [View.ld_unit_zero (S := S256x2048) hz, View.ld_unit_zero (S := S1x2048) hz, View.ld_unit_zero (S := S256x1024) hz, View.ld_unit_zero (S := S2048x2048) hz]
  rw [pay1_apply (f := fun k => mR m c (ix3 (bOf t) (rOf t r) k))]
  · rw [Cert.MergeRefIdeal.Merge.norm_apply, x_blk, gpost_blk]
    unfold inv
    simp only [wo_blk, Cert.MergeRefIdeal.Merge.back_apply]
  · intro k
    rw [tile0]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp)
  · intro k
    rw [tile1]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)
  · intro k
    rw [tile2]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)
  · intro k
    rw [tile3]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)

theorem covers10 : (cfg0.win 10).Covers := by decide +kernel

theorem emb10 (t : Fin cfg0.N) (r : Fin 256) (d : Fin 2048) (ht : 256 * t.val + r.val < 16384) :
    ((cfg0.win 10).blk t).view.emb (ix2 r d) = ix2 (⟨256 * t.val + r.val, ht⟩ : Fin 16384) d := by
  blk_ext [idx10 t]

/-- The reference's result at a point's row. -/
theorem res_at (t : Fin cfg0.N) (r : Fin 256) (d : Fin 2048) (ht : 256 * t.val + r.val < 16384) :
    Cert.MergeRefIdeal.Merge.result (A0 m c) (A1 m c) (A2 m c) (A3 m c) (A4 m c) (A5 m c) (A6 m c) (A7 m c) (A8 m c) (A9 m c) (ix2 ⟨256 * t.val + r.val, ht⟩ d)
      = A0 m c (ix3 (bOf t) (rOf t r) d) + Cert.MergeRefIdeal.Merge.norm (Cert.MergeRefIdeal.Merge.back (mR m c) (A8 m c)) (A9 m c) (ix3 (bOf t) (rOf t r) d) := by
  unfold Cert.MergeRefIdeal.Merge.result mR
  exact Cert.MergeRefIdeal.Merge.rows_apply _ _ (bOf t) (rOf t r) d ⟨256 * t.val + r.val, ht⟩ (by
    show 256 * t.val + r.val = 8192 * (t.val / 32) + (256 * (t.val % 32) + r.val)
    omega)

theorem ix2_eta (y : S256x2048.Idx) : ∃ (r : Fin 256) (d : Fin 2048), y = ix2 r d := ⟨y 0, y 1, by
  funext a
  match a with
  | ⟨0, _⟩ => rfl
  | ⟨1, _⟩ => rfl⟩

/-- The reference's result. -/
def resR : FVec Ideal Cert.MergeRefIdeal.S16384x2048 .f32 :=
  Cert.MergeRefIdeal.Merge.result (A0 m c) (A1 m c) (A2 m c) (A3 m c) (A4 m c) (A5 m c) (A6 m c) (A7 m c) (A8 m c) (A9 m c)

/-- What a point stores, as the reference's result there. -/
theorem after_eq (t : Fin cfg0.N) (r : Fin 256) (d : Fin 2048) :
    (dats m 0 c).after 10 t (ix2 r d) = resR m c (((cfg0.win 10).blk t).view.emb (ix2 r d)) := by
  have ht : t.val < 64 := N_0 ▸ t.isLt
  have hr : 256 * t.val + r.val < 16384 := by omega
  rw [after0_10, emb10 t r d hr]
  unfold resR
  rw [res_at]
  exact point_eq m c t r d

/-- The kernel's result is the reference's. -/
theorem tie : (dats m 0 c).arrAt 10 cfg0.N = resR m c := by
  refine (dats m 0 c).arrAt_eq_of_covers 10 (resR m c) covers10 fun t hf y => ?_
  obtain ⟨r, d, rfl⟩ := ix2_eta y
  exact after_eq m c t r d

end Cert.MergeIdeal.Merge

end
-- ==== Proof.Merge.Claims.lean ====
/- The five claims about the merge. -/
module

public import proofs.«01_k».proof.Defs
public import proofs.«01_k».proof.Proof.Merge.Tie
public import proofs.«01_k».proof.Proof.Gen.Merge.Frame
public import Idealize.ShloMosaic.Adequacy
public import Idealize.ShloMosaic.Init

@[expose] public section

set_option maxRecDepth 16384

noncomputable section

namespace Cert.MergeIdeal.Merge

open Idealize.ShloMosaic Idealize.SL.Sem

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)
theorem preserves : Cert.preserves_Merge_MergeIdeal := trivial

theorem algebraic : Cert.algebraic_MergeIdeal_MergeRefIdeal := by
  intro m ρ m' ρ' hp hagree
  refine ⟨fun c => (Cert.MergeIdeal.Gen.dats m 0 c).arrAt 10 Cert.MergeIdeal.cfg0.N, Cert.MergeIdeal.Value.run_blocks m ρ, ?_⟩
  refine (θ_run Cert.MergeRefIdeal.defs _ _).mono (fun _ h c => ⟨?_, (h c).2⟩) (Cert.MergeRefIdeal.Value.run (F := Ideal) m' ρ')
  obtain ⟨h0, h1, h2, h3, h4, h5, h6, h7, h8, h9⟩ := hagree c
  rw [(h c).1, Cert.MergeRefIdeal.Merge.res_eq, h0, h1, h2, h3, h4, h5, h6, h7, h8, h9]
  exact (tie m c).symm

end Cert.MergeIdeal.Merge

end
-- ==== Proof.InProj.Ref.lean ====
/- The input projection reference's operations by name, and its results as their composition. -/
module

public import proofs.«01_k».proof.Proof.Gen.InProjRefIdeal.Run
public import Idealize.ShloMosaic.PureOps.Ideal.Laws
public import Idealize.ShloMosaic.Lib.Pointwise

@[expose] public section

set_option maxRecDepth 16384

noncomputable section

namespace Cert.InProjRefIdeal.InProj

open Idealize.ShloMosaic Idealize.ShloMosaic.Tactic Cert.InProjRefIdeal Cert.InProjRefIdeal.Gen Cert.InProjRefIdeal.Value

/-- Rows over the root of their mean square, times a gain. -/
def norm (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

/-- The input projection. -/
def proj (h : FVec Ideal S2x8192x2048 .f32) (w : FVec Ideal S2048x9216 .f32) : FVec Ideal S2x8192x9216 .f32 :=
  Host.dotGeneral dot_S2x8192x2048_S2048x9216_S2x8192x9216_2_0_01_1_n_n none h w

/-- The frequencies of the rotation. -/
def freq : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angles: a row's position times a frequency. -/
def ang (p : IVec S8192 32) : FVec Ideal S8192x8 .f32 :=
  mulf (broadcastInDim S8192x8 ![0, 1] bcast_S8192x1_S8192x8_0_1 (broadcastInDim S8192x1 ![0] bcast_S8192_S8192x1_0 (sitofp .f32 p))) (broadcastInDim S8192x8 ![0, 1] bcast_S1x8_S8192x8_0_1 (broadcastInDim S1x8 ![1] bcast_S8_S1x8_1 freq))

/-- A table of the rows' angles, for every head and map. -/
def spread (a : FVec Ideal S8192x8 .f32) : FVec Ideal S2x8192x8x2x8 .f32 :=
  broadcastInDim S2x8192x8x2x8 ![0, 1, 2, 3, 4] bcast_S1x8192x1x1x8_S2x8192x8x2x8_0_1_2_3_4 (broadcastInDim S1x8192x1x1x8 ![1, 2, 3, 4] bcast_S8192x1x1x8_S1x8192x1x1x8_1_2_3_4 (broadcastInDim S8192x1x1x8 ![0, 3] bcast_S8192x8_S8192x1x1x8_0_3 a))

/-- The columns that turn, in two halves, and those that stay. -/
def lowHalf (z : FVec Ideal S2x8192x8x2x64 .f32) : FVec Ideal S2x8192x8x2x8 .f32 := extractStridedSlice S2x8192x8x2x8 ![0, 0, 0, 0, 0] z slices_S2x8192x8x2x64_S2x8192x8x2x8_0_0_0_0_0
def highHalf (z : FVec Ideal S2x8192x8x2x64 .f32) : FVec Ideal S2x8192x8x2x8 .f32 := extractStridedSlice S2x8192x8x2x8 ![0, 0, 0, 0, 8] z slices_S2x8192x8x2x64_S2x8192x8x2x8_0_0_0_0_8
def still (z : FVec Ideal S2x8192x8x2x64 .f32) : FVec Ideal S2x8192x8x2x48 .f32 := extractStridedSlice S2x8192x8x2x48 ![0, 0, 0, 0, 16] z slices_S2x8192x8x2x64_S2x8192x8x2x48_0_0_0_0_16

/-- The three parts side by side. -/
def join (u0 u1 : FVec Ideal S2x8192x8x2x8 .f32) (u2 : FVec Ideal S2x8192x8x2x48 .f32) : FVec Ideal S2x8192x8x2x64 .f32 :=
  concatenate S2x8192x8x2x64 4 [⟨S2x8192x8x2x8, (u0 : (⟨S2x8192x8x2x8, .f32⟩ : BufTy).Contents (Elt Ideal))⟩, ⟨S2x8192x8x2x8, (u1 : (⟨S2x8192x8x2x8, .f32⟩ : BufTy).Contents (Elt Ideal))⟩, ⟨S2x8192x8x2x48, (u2 : (⟨S2x8192x8x2x48, .f32⟩ : BufTy).Contents (Elt Ideal))⟩] concatenates_S2x8192x8x2x8_S2x8192x8x2x8_S2x8192x8x2x48_S2x8192x8x2x64_d4

/-- The rotation. -/
def rope (z : FVec Ideal S2x8192x8x2x64 .f32) (p : IVec S8192 32) : FVec Ideal S2x8192x8x2x64 .f32 :=
  join (subf (mulf (lowHalf z) (spread (Host.cos (ang p)))) (mulf (highHalf z) (spread (Host.sin (ang p)))))
    (addf (mulf (highHalf z) (spread (Host.cos (ang p)))) (mulf (lowHalf z) (spread (Host.sin (ang p))))) (still z)

/-- The columns of the queries and of the keys, by head and map. -/
def qCols (z : FVec Ideal S2x8192x9216 .f32) : FVec Ideal S2x8192x8x2x64 .f32 :=
  shapeCast _ (extractStridedSlice S2x8192x1024 ![0, 0, 0] z slices_S2x8192x9216_S2x8192x1024_0_0_0) shapeCasts_S2x8192x1024_S2x8192x8x2x64
def kCols (z : FVec Ideal S2x8192x9216 .f32) : FVec Ideal S2x8192x8x2x64 .f32 :=
  shapeCast _ (extractStridedSlice S2x8192x1024 ![0, 0, 1024] z slices_S2x8192x9216_S2x8192x1024_0_0_1024) shapeCasts_S2x8192x1024_S2x8192x8x2x64

/-- The scale of the queries. -/
def scaled (r : FVec Ideal S2x8192x8x2x64 .f32) : FVec Ideal S16384x1024 .bf16 :=
  shapeCast _ (truncf .bf16 (Host.divf (mulf r (broadcastInDim S2x8192x8x2x64 ![] bcast_S_S2x8192x8x2x64 (constant S_ .f32 0x3E000000#32))) (broadcastInDim S2x8192x8x2x64 ![] bcast_S_S2x8192x8x2x64 (Host.log (constant S_ .f32 0x40000000#32)))) bitsLt_bf16_f32) shapeCasts_S2x8192x8x2x64_S16384x1024

/-- The keys, rows last. -/
def turned (r : FVec Ideal S2x8192x8x2x64 .f32) : FVec Ideal S2x8x128x8192 .f32 :=
  shapeCast _ (transpose S2x8x2x64x8192 [0, 2, 3, 4, 1] r transposes_S2x8192x8x2x64_S2x8x2x64x8192_0_2_3_4_1) shapeCasts_S2x8x2x64x8192_S2x8x128x8192

/-- The keys narrow, in chunks of 1024 rows, rows last. -/
def chunks (r : FVec Ideal S2x8192x8x2x64 .f32) : FVec Ideal S2x8x8x128x1024 .bf16 :=
  transpose S2x8x8x128x1024 [0, 3, 1, 4, 2] (shapeCast S2x8x1024x8x128 (truncf .bf16 r bitsLt_bf16_f32) shapeCasts_S2x8192x8x2x64_S2x8x1024x8x128) transposes_S2x8x1024x8x128_S2x8x8x128x1024_0_3_1_4_2

/-- The values. -/
def vals (z : FVec Ideal S2x8192x9216 .f32) : FVec Ideal S16384x1024 .f32 :=
  shapeCast _ (extractStridedSlice S2x8192x1024 ![0, 0, 2048] z slices_S2x8192x9216_S2x8192x1024_0_0_2048) shapeCasts_S2x8192x1024_S16384x1024

/-- The gated linear unit. -/
def glu (z : FVec Ideal S2x8192x9216 .f32) : FVec Ideal S16384x1024 .f32 :=
  shapeCast _ (mulf (extractStridedSlice S2x8192x1024 ![0, 0, 0] (extractStridedSlice S2x8192x2048 ![0, 0, 3072] z slices_S2x8192x9216_S2x8192x2048_0_0_3072) slices_S2x8192x2048_S2x8192x1024_0_0_0) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1024] (extractStridedSlice S2x8192x2048 ![0, 0, 3072] z slices_S2x8192x9216_S2x8192x2048_0_0_3072) slices_S2x8192x2048_S2x8192x1024_0_0_1024)))))) shapeCasts_S2x8192x1024_S16384x1024

/-- The results, from the arguments. -/
def resQ (a0 : FVec Ideal S2x8192x2048 .f32) (a1 : IVec S8192 32) (a2 : FVec Ideal S2048 .f32) (a3 : FVec Ideal S2048x9216 .f32) := scaled (rope (qCols (proj (norm a0 a2) a3)) a1)
def resK (a0 : FVec Ideal S2x8192x2048 .f32) (a1 : IVec S8192 32) (a2 : FVec Ideal S2048 .f32) (a3 : FVec Ideal S2048x9216 .f32) := turned (rope (kCols (proj (norm a0 a2) a3)) a1)
def resV (a0 : FVec Ideal S2x8192x2048 .f32) (a2 : FVec Ideal S2048 .f32) (a3 : FVec Ideal S2048x9216 .f32) := vals (proj (norm a0 a2) a3)
def resG (a0 : FVec Ideal S2x8192x2048 .f32) (a2 : FVec Ideal S2048 .f32) (a3 : FVec Ideal S2048x9216 .f32) := glu (proj (norm a0 a2) a3)

set_option maxHeartbeats 4000000 in
theorem resQ_eq (m : (ℓ : Loc nD τ sig) → Buf (Elt Ideal) ℓ) (c : Dev nD) : res_main_v115 m c =
    resQ (m ((c.tc : Thread nD τ).loc main_arg0)) (m ((c.tc : Thread nD τ).loc main_arg1)) (m ((c.tc : Thread nD τ).loc main_arg2)) (m ((c.tc : Thread nD τ).loc main_arg3)) := by
  unfold res_main_v115
  simp only [id_eq]
  unfold resQ scaled rope join lowHalf highHalf still spread ang freq qCols proj norm
  rfl

set_option maxHeartbeats 4000000 in
theorem resK_eq (m : (ℓ : Loc nD τ sig) → Buf (Elt Ideal) ℓ) (c : Dev nD) : res_main_v117 m c =
    resK (m ((c.tc : Thread nD τ).loc main_arg0)) (m ((c.tc : Thread nD τ).loc main_arg1)) (m ((c.tc : Thread nD τ).loc main_arg2)) (m ((c.tc : Thread nD τ).loc main_arg3)) := by
  unfold res_main_v117
  unfold resK turned rope join lowHalf highHalf still spread ang freq kCols proj norm
  rfl

/-- The narrow copies of the keys and the values. -/
def resK16 (a0 : FVec Ideal S2x8192x2048 .f32) (a1 : IVec S8192 32) (a2 : FVec Ideal S2048 .f32) (a3 : FVec Ideal S2048x9216 .f32) : FVec Ideal S2x8x8x128x1024 .bf16 := chunks (rope (kCols (proj (norm a0 a2) a3)) a1)
def resV16 (a0 : FVec Ideal S2x8192x2048 .f32) (a2 : FVec Ideal S2048 .f32) (a3 : FVec Ideal S2048x9216 .f32) : FVec Ideal S16384x1024 .bf16 := truncf .bf16 (resV a0 a2 a3) bitsLt_bf16_f32

set_option maxHeartbeats 4000000 in
theorem resK16_eq (m : (ℓ : Loc nD τ sig) → Buf (Elt Ideal) ℓ) (c : Dev nD) : res_main_v118 m c =
    resK16 (m ((c.tc : Thread nD τ).loc main_arg0)) (m ((c.tc : Thread nD τ).loc main_arg1)) (m ((c.tc : Thread nD τ).loc main_arg2)) (m ((c.tc : Thread nD τ).loc main_arg3)) := by
  unfold res_main_v118
  unfold resK16 chunks rope join lowHalf highHalf still spread ang freq kCols proj norm
  rfl

theorem resV16_apply (a0 : FVec Ideal S2x8192x2048 .f32) (a2 : FVec Ideal S2048 .f32) (a3 : FVec Ideal S2048x9216 .f32) (i : Fin 16384) (k : Fin 1024) :
    resV16 a0 a2 a3 (ix2 i k) = resV a0 a2 a3 (ix2 i k) := by
  unfold resV16
  generalize resV a0 a2 a3 = z
  pointwise

theorem norm_apply (x : FVec Ideal S2x8192x2048 .f32) (g : FVec Ideal S2048 .f32) (b : Fin 2) (r : Fin 8192) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

theorem proj_apply (h : FVec Ideal S2x8192x2048 .f32) (w : FVec Ideal S2048x9216 .f32) (b : Fin 2) (r : Fin 8192) (k : Fin 9216) :
    proj h w (ix3 b r k) = ∑ d : Fin 2048, h (ix3 b r d) * w (ix2 d k) := by
  unfold proj; pointwise

theorem vals_apply (z : FVec Ideal S2x8192x9216 .f32) (b : Fin 2) (r : Fin 8192) (k : Fin 1024) (i : Fin 16384) (hi : i.val = 8192 * b.val + r.val) :
    vals z (ix2 i k) = z (ix3 b r ⟨2048 + k.val, by omega⟩) := by
  obtain ⟨n, hn⟩ := i
  obtain rfl : n = 8192 * b.val + r.val := hi
  unfold vals; pointwise

theorem glu_apply (z : FVec Ideal S2x8192x9216 .f32) (b : Fin 2) (r : Fin 8192) (k : Fin 1024) (i : Fin 16384) (hi : i.val = 8192 * b.val + r.val) :
    glu z (ix2 i k) = z (ix3 b r ⟨3072 + k.val, by omega⟩) * Ideal.div 1 (1 + Ideal.exp (-(z (ix3 b r ⟨3072 + (1024 + k.val), by omega⟩)))) := by
  obtain ⟨n, hn⟩ := i
  obtain rfl : n = 8192 * b.val + r.val := hi
  unfold glu; pointwise

theorem ang_apply (p : IVec S8192 32) (r : Fin 8192) (j : Fin 8) :
    ang p (ix2 r j) = FloatOps.sitofp (F := Ideal) .f32 (p (ix1 r)) * freq (ix1 j) := by
  unfold ang; pointwise

theorem rope_low (z : FVec Ideal S2x8192x8x2x64 .f32) (p : IVec S8192 32) (b : Fin 2) (r : Fin 8192) (h : Fin 8) (a : Fin 2) (j : Fin 64) (hj : j.val < 8) :
    rope z p (ix5 b r h a j) = z (ix5 b r h a j) * Ideal.cos (ang p (ix2 r ⟨j.val, hj⟩)) - z (ix5 b r h a ⟨8 + j.val, by omega⟩) * Ideal.sin (ang p (ix2 r ⟨j.val, hj⟩)) := by
  unfold rope join lowHalf highHalf still spread
  generalize ang p = A
  pointwise
  rw [dif_pos hj]

theorem rope_high (z : FVec Ideal S2x8192x8x2x64 .f32) (p : IVec S8192 32) (b : Fin 2) (r : Fin 8192) (h : Fin 8) (a : Fin 2) (j : Fin 64) (hj : ¬ j.val < 8) (hj' : j.val - 8 < 8) :
    rope z p (ix5 b r h a j) = z (ix5 b r h a j) * Ideal.cos (ang p (ix2 r ⟨j.val - 8, hj'⟩)) + z (ix5 b r h a ⟨j.val - 8, by omega⟩) * Ideal.sin (ang p (ix2 r ⟨j.val - 8, hj'⟩)) := by
  unfold rope join lowHalf highHalf still spread
  generalize ang p = A
  pointwise
  rw [dif_neg hj, dif_pos hj']
  rw [show (⟨8 + (j.val - 8), by omega⟩ : Fin 64) = j from Fin.ext (by show 8 + (j.val - 8) = j.val; omega)]

theorem rope_still (z : FVec Ideal S2x8192x8x2x64 .f32) (p : IVec S8192 32) (b : Fin 2) (r : Fin 8192) (h : Fin 8) (a : Fin 2) (j : Fin 64) (hj : ¬ j.val < 8) (hj' : ¬ j.val - 8 < 8) :
    rope z p (ix5 b r h a j) = z (ix5 b r h a j) := by
  unfold rope join lowHalf highHalf still spread
  generalize ang p = A
  pointwise
  rw [dif_neg hj, dif_neg hj']
  rw [show (⟨16 + (j.val - 8 - 8), by omega⟩ : Fin 64) = j from Fin.ext (by show 16 + (j.val - 8 - 8) = j.val; omega)]

theorem qCols_apply (z : FVec Ideal S2x8192x9216 .f32) (b : Fin 2) (r : Fin 8192) (h : Fin 8) (a : Fin 2) (j : Fin 64) :
    qCols z (ix5 b r h a j) = z (ix3 b r ⟨h.val * 128 + a.val * 64 + j.val, by omega⟩) := by
  unfold qCols; pointwise

theorem kCols_apply (z : FVec Ideal S2x8192x9216 .f32) (b : Fin 2) (r : Fin 8192) (h : Fin 8) (a : Fin 2) (j : Fin 64) :
    kCols z (ix5 b r h a j) = z (ix3 b r ⟨1024 + (h.val * 128 + a.val * 64 + j.val), by omega⟩) := by
  unfold kCols; pointwise

theorem scaled_apply (x : FVec Ideal S2x8192x8x2x64 .f32) (b : Fin 2) (r : Fin 8192) (h : Fin 8) (a : Fin 2) (j : Fin 64) (i : Fin 16384) (hi : i.val = 8192 * b.val + r.val) (k : Fin 1024) (hk : k.val = 128 * h.val + 64 * a.val + j.val) :
    scaled x (ix2 i k) = Ideal.div (x (ix5 b r h a j) * Ideal.ofBits .f32 0x3E000000#32) (Ideal.log (Ideal.ofBits .f32 0x40000000#32)) := by
  obtain ⟨n, hn⟩ := i
  obtain rfl : n = 8192 * b.val + r.val := hi
  obtain ⟨l, hl⟩ := k
  obtain rfl : l = 128 * h.val + 64 * a.val + j.val := hk
  unfold scaled; pointwise

theorem turned_apply (x : FVec Ideal S2x8192x8x2x64 .f32) (b : Fin 2) (r : Fin 8192) (h : Fin 8) (a : Fin 2) (j : Fin 64) (k : Fin 128) (hk : k.val = 64 * a.val + j.val) :
    turned x (ix4 b h k r) = x (ix5 b r h a j) := by
  obtain ⟨l, hl⟩ := k
  obtain rfl : l = 64 * a.val + j.val := hk
  unfold turned; pointwise

theorem chunks_apply (x : FVec Ideal S2x8192x8x2x64 .f32) (b : Fin 2) (r : Fin 8192) (h : Fin 8) (a : Fin 2) (j : Fin 64) (s : Fin 8) (p : Fin 1024) (hr : r.val = s.val * 1024 + p.val) (k : Fin 128) (hk : k.val = 64 * a.val + j.val) :
    chunks x (ix5 b h s k p) = x (ix5 b r h a j) := by
  obtain ⟨n, hn⟩ := r
  obtain rfl : n = s.val * 1024 + p.val := hr
  obtain ⟨l, hl⟩ := k
  obtain rfl : l = 64 * a.val + j.val := hk
  unfold chunks; pointwise

end Cert.InProjRefIdeal.InProj
end
-- ==== Proof.InProj.Lit.lean ====
/- The host code's literal tables, entry by entry. -/
module

public import proofs.«01_k».proof.InProjIdeal

@[expose] public section

set_option maxRecDepth 100000

namespace Cert.InProjIdeal.InProj

/-- The rows' numbers. -/
theorem lit0_eq : ∀ i : Fin 8192, lit0 i = BitVec.ofNat 32 i.val := by decide +kernel

/-- The lanes' frequency numbers, the lanes that turn, and the signs of their halves. -/
theorem lit1_eq : ∀ l : Fin 128, (lit1 l).toInt.toNat = l.val % 8 := by decide +kernel
theorem lit2_eq : ∀ l : Fin 128, lit2 l = if l.val % 64 < 16 then 1#1 else 0#1 := by decide +kernel
theorem lit3_eq : ∀ l : Fin 128, lit3 l = if l.val % 64 < 8 then 0xBF800000#32 else 0x00000000#32 := by decide +kernel
theorem lit4_eq : ∀ l : Fin 128, l.val % 64 < 16 → lit4 l = if l.val % 64 < 8 then 0x00000000#32 else 0x3F800000#32 := by decide +kernel

end Cert.InProjIdeal.InProj

end
-- ==== Proof.InProj.Tables.lean ====
/- The rotation's tables, as the host code prepares them, read at an index. -/
module

public import proofs.«01_k».proof.Proof.InProj.Lit
public import proofs.«01_k».proof.Proof.Gen.InProjIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.InProjIdeal.InProj

open Idealize.ShloMosaic Idealize.ShloMosaic.TcCoe Idealize.ShloMosaic.Tactic Cert.InProjIdeal Cert.InProjIdeal.Gen

variable (m : (ℓ : Loc nD τ sig) → Buf (Elt Ideal) ℓ) (c : Dev nD)

/-- The rows' numbers, and the rows' positions by them. -/
def rowIx : IVec S8192 32 := fun i => lit0 (S8192.rowMajor i)
def pos (p : IVec S8192 32) : IVec S8192 32 :=
  Host.gather gather_S8192_S8192x1_S8192_n_0_n_n_0_1_1 p (broadcastInDim S8192x1 ![0] bcast_S8192_S8192x1_0 (select (constantI S8192 1 0#1) (addi rowIx (broadcastInDim S8192 ![] bcast_S_S8192 (constantI S_ 32 8192#32))) rowIx))

/-- The frequencies. -/
def freq : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The lanes' frequencies, and nothing on the lanes that stay. -/
def laneIx : IVec S128 32 := fun i => lit1 (S128.rowMajor i)
def laneAt : FVec Ideal S128 .f32 :=
  Host.gather gather_S8_S128x1_S128_n_0_n_n_0_1_1 freq (broadcastInDim S128x1 ![0] bcast_S128_S128x1_0 (select (constantI S128 1 0#1) (addi laneIx (broadcastInDim S128 ![] bcast_S_S128 (constantI S_ 32 8#32))) laneIx))
def laneFreq : FVec Ideal S128 .f32 :=
  select (fun i => lit2 (S128.rowMajor i)) laneAt (broadcastInDim S128 ![] bcast_S_S128 (constant S_ .f32 0x00000000#32))

/-- The angles. -/
def ang (p : IVec S8192 32) : FVec Ideal S8192x128 .f32 :=
  mulf (broadcastInDim S8192x128 ![0, 1] bcast_S8192x1_S8192x128_0_1 (broadcastInDim S8192x1 ![0] bcast_S8192_S8192x1_0 (sitofp .f32 (pos p)))) (broadcastInDim S8192x128 ![0, 1] bcast_S1x128_S8192x128_0_1 (broadcastInDim S1x128 ![1] bcast_S128_S1x128_1 laneFreq))

/-- The signs of the two halves' lanes. -/
def signLo : FVec Ideal S128 .f32 := fun i => FloatOps.ofBits .f32 (lit3 (S128.rowMajor i))
def signHi : FVec Ideal S128 .f32 := fun i => FloatOps.ofBits .f32 (lit4 (S128.rowMajor i))
def spread (s : FVec Ideal S128 .f32) : FVec Ideal S8192x128 .f32 :=
  broadcastInDim S8192x128 ![0, 1] bcast_S1x128_S8192x128_0_1 (broadcastInDim S1x128 ![1] bcast_S128_S1x128_1 s)

theorem V_cos : V m c main_v34 = Host.cos (ang (m ((c : Thread nD τ).loc main_arg1))) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_lo : V m c main_v30 = mulf (Host.sin (ang (m ((c : Thread nD τ).loc main_arg1)))) (spread signLo) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_hi : V m c main_v33 = mulf (Host.sin (ang (m ((c : Thread nD τ).loc main_arg1)))) (spread signHi) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

/-- A gather of a flat operand at a column of start indices, read at an index. -/
theorem gather_col {α : Type} {N R w : Nat} (d : GatherDims ⟨1, ![N]⟩ ⟨2, ![R, 1]⟩ ⟨1, ![R]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![R, 1]⟩ w) (r : Fin R) (k : Fin N) (hk : (idx (ix2 r 0)).toInt.toNat = k.val) :
    Host.gather d x idx (ix1 r) = x (ix1 k) := by
  obtain ⟨_, _, _, _, _, _, _, wf⟩ := d
  subst h1 h2 h3 h4 h5 h6 h7
  unfold Host.gather
  refine congrArg x ?_
  funext a
  obtain rfl : a = 0 := Subsingleton.elim _ _
  refine Fin.ext ?_
  show GatherDims.start _ _ idx 0 + GatherDims.batchCoord _ _ 0 + GatherDims.offCoord _ _ 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hi : ∀ j, GatherDims.siIdx (⟨[], [0], [], [], [0], 1, ![1], wf⟩ : GatherDims ⟨1, ![N]⟩ ⟨2, ![R, 1]⟩ ⟨1, ![R]⟩) (ix1 r) j = ix2 r 0 := by
    intro j
    funext b; refine Fin.ext ?_
    match b with
    | ⟨0, _⟩ => rfl
    | ⟨1, _⟩ => exact Nat.lt_one_iff.mp (Fin.isLt _)
  rw [hi, hk]
  show min k.val (N - 1) = k.val
  omega

theorem rm128 (l : Fin 128) : S128.rowMajor (ix1 l) = (l : Fin S128.numel) := Fin.ext (Shape.rowMajor_val_one _)
theorem rm8192 (r : Fin 8192) : S8192.rowMajor (ix1 r) = (r : Fin S8192.numel) := Fin.ext (Shape.rowMajor_val_one _)

theorem signLo_apply (l : Fin 128) : signLo (ix1 l) = if l.val % 64 < 8 then -1 else 0 := by
  unfold signLo
  rw [rm128, lit3_eq]
  split_ifs
  · show Ideal.ofBits .f32 0xBF800000#32 = -1
    simp [Ideal.ofBits, Ideal.ieee]
    norm_num
    rw [← EReal.coe_mul]
    norm_num
  · pointwise

theorem signHi_apply (l : Fin 128) (hl : l.val % 64 < 16) : signHi (ix1 l) = if l.val % 64 < 8 then 0 else 1 := by
  unfold signHi
  rw [rm128, lit4_eq l hl]
  split_ifs
  · pointwise
  · pointwise

theorem laneFreq_apply (l : Fin 128) : laneFreq (ix1 l) = if l.val % 64 < 16 then laneAt (ix1 l) else 0 := by
  unfold laneFreq
  pointwise
  rw [rm128, lit2_eq]
  split_ifs
  · rfl
  · rfl

theorem spread_apply (s : FVec Ideal S128 .f32) (r : Fin 8192) (l : Fin 128) : spread s (ix2 r l) = s (ix1 l) := by
  unfold spread; pointwise

theorem ang_apply (p : IVec S8192 32) (r : Fin 8192) (l : Fin 128) :
    ang p (ix2 r l) = FloatOps.sitofp (F := Ideal) .f32 (pos p (ix1 r)) * laneFreq (ix1 l) := by
  unfold ang; pointwise

theorem pos_apply (p : IVec S8192 32) (r : Fin 8192) : pos p (ix1 r) = p (ix1 r) := by
  unfold pos
  refine gather_col _ rfl rfl rfl rfl rfl rfl rfl _ _ r r ?_
  pointwise
  unfold rowIx
  rw [rm8192, lit0_eq]
  show (BitVec.ofNat 32 r.val).toInt.toNat = r.val
  rw [BitVec.toInt_eq_toNat_of_lt (by rw [BitVec.toNat_ofNat]; omega)]
  simp only [BitVec.toNat_ofNat, Int.toNat_natCast]
  omega

theorem laneAt_apply (l : Fin 128) : laneAt (ix1 l) = freq (ix1 ⟨l.val % 8, by omega⟩) := by
  unfold laneAt
  refine gather_col _ rfl rfl rfl rfl rfl rfl rfl _ _ l ⟨l.val % 8, by omega⟩ ?_
  pointwise
  unfold laneIx
  rw [rm128]
  exact lit1_eq l

/-- A row's angle at a frequency. -/
def th (p : IVec S8192 32) (r : Fin 8192) (j : Fin 8) : EReal := FloatOps.sitofp (F := Ideal) .f32 (p (ix1 r)) * freq (ix1 j)

theorem ang_turn (p : IVec S8192 32) (r : Fin 8192) (l : Fin 128) (hl : l.val % 64 < 16) : ang p (ix2 r l) = th p r ⟨l.val % 8, by omega⟩ := by
  rw [ang_apply, pos_apply, laneFreq_apply, if_pos hl, laneAt_apply]; rfl

theorem ang_still (p : IVec S8192 32) (r : Fin 8192) (l : Fin 128) (hl : ¬ l.val % 64 < 16) : ang p (ix2 r l) = 0 := by
  rw [ang_apply, laneFreq_apply, if_neg hl]; exact mul_zero _

theorem cos_apply (p : IVec S8192 32) (r : Fin 8192) (l : Fin 128) :
    Host.cos (ang p) (ix2 r l) = if l.val % 64 < 16 then Ideal.cos (th p r ⟨l.val % 8, by omega⟩) else 1 := by
  have e : Host.cos (ang p) (ix2 r l) = Ideal.cos (ang p (ix2 r l)) := by pointwise
  rw [e]
  split_ifs with hl
  · rw [ang_turn p r l hl]
  · rw [ang_still p r l hl]
    show ((Real.cos 0 : ℝ) : EReal) = 1
    rw [Real.cos_zero]; rfl

theorem sin_still (p : IVec S8192 32) (r : Fin 8192) (l : Fin 128) (hl : ¬ l.val % 64 < 16) : Ideal.sin (ang p (ix2 r l)) = 0 := by
  rw [ang_still p r l hl]
  show ((Real.sin 0 : ℝ) : EReal) = 0
  rw [Real.sin_zero]; rfl

theorem lo_apply (p : IVec S8192 32) (r : Fin 8192) (l : Fin 128) :
    mulf (Host.sin (ang p)) (spread signLo) (ix2 r l) = if l.val % 64 < 8 then -Ideal.sin (th p r ⟨l.val % 8, by omega⟩) else 0 := by
  have e : mulf (Host.sin (ang p)) (spread signLo) (ix2 r l) = Ideal.sin (ang p (ix2 r l)) * signLo (ix1 l) := by
    rw [← spread_apply signLo r l]; pointwise
  rw [e, signLo_apply]
  split_ifs with hl
  · rw [ang_turn p r l (by omega), mul_neg, mul_one]
  · exact mul_zero _

theorem hi_apply (p : IVec S8192 32) (r : Fin 8192) (l : Fin 128) :
    mulf (Host.sin (ang p)) (spread signHi) (ix2 r l) = if l.val % 64 < 8 then 0 else if l.val % 64 < 16 then Ideal.sin (th p r ⟨l.val % 8, by omega⟩) else 0 := by
  have e : mulf (Host.sin (ang p)) (spread signHi) (ix2 r l) = Ideal.sin (ang p (ix2 r l)) * signHi (ix1 l) := by
    rw [← spread_apply signHi r l]; pointwise
  rw [e]
  split_ifs with hl hl'
  · rw [signHi_apply l (by omega), if_pos hl]; exact mul_zero _
  · rw [signHi_apply l hl', if_neg hl, ang_turn p r l hl', mul_one]
  · rw [sin_still p r l hl']; exact zero_mul _

end Cert.InProjIdeal.InProj
end
-- ==== Proof.InProj.Point.lean ====
/- The input projection kernel's arithmetic at an element. -/
module

public import proofs.«01_k».proof.Proof.Gen.InProjIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.InProjIdeal.InProj

open Idealize.ShloMosaic Idealize.ShloMosaic.Tactic Cert.InProjIdeal Cert.InProjIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

theorem h_apply (X : Vec Ideal S256x2048 .f32) (g : Vec Ideal S1x2048 .f32) (r : Fin 256) (d : Fin 2048) :
    k0_pay4 (F := Ideal) X g (ix2 r d) = X (ix2 r d) * inv (fun j => X (ix2 r j)) * g (ix2 0 d) := by
  unfold k0_pay4 inv; pointwise

theorem v_apply (h : FVec Ideal S256x2048 .bf16) (w : Vec Ideal S2048x1024 .bf16) (r : Fin 256) (k : Fin 1024) :
    k0_pay1 (F := Ideal) h w (ix2 r k) = ∑ d : Fin 2048, h (ix2 r d) * w (ix2 d k) := by
  unfold k0_pay1; pointwise

theorem z_apply (h : FVec Ideal S256x2048 .bf16) (w : Vec Ideal S2048x1024 .bf16) (r : Fin 256) (k : Fin 1024) :
    k0_pay25 (F := Ideal) h w (ix2 r k) = ∑ d : Fin 2048, h (ix2 r d) * w (ix2 d k) := by
  unfold k0_pay25; pointwise

theorem zq_eq (X : Vec Ideal S256x2048 .f32) (g : Vec Ideal S1x2048 .f32) (w : Vec Ideal S2048x1024 .bf16) :
    k0_pay8 (F := Ideal) X g w = k0_pay25 (F := Ideal) (k0_pay4 (F := Ideal) X g) w := rfl

theorem g_apply (h : FVec Ideal S256x2048 .bf16) (w w' : Vec Ideal S2048x1024 .bf16) (r : Fin 256) (k : Fin 1024) :
    k0_pay3 (F := Ideal) h w w' (ix2 r k) = (∑ d : Fin 2048, h (ix2 r d) * w (ix2 d k)) * Ideal.div 1 (1 + Ideal.exp (-(∑ d : Fin 2048, h (ix2 r d) * w' (ix2 d k)))) := by
  unfold k0_pay3; pointwise
  simp only [zero_sub]

/-- A tile of 128 columns, turned by the tables. -/
def tl (z c l h : FVec Ideal S256x128 .f32) : FVec Ideal S256x128 .f32 :=
  addf (addf (mulf z c) (mulf (dynamicRotate 1 120#32 none z rotates_S256x128_d1) l)) (mulf (dynamicRotate 1 8#32 none z rotates_S256x128_d1) h)

/-- The tiles of a product. -/
def sl0 (z : FVec Ideal S256x1024 .f32) : FVec Ideal S256x128 .f32 := extractStridedSlice S256x128 ![0, 0] z slices_S256x1024_o0_0_S256x128
def sl1 (z : FVec Ideal S256x1024 .f32) : FVec Ideal S256x128 .f32 := extractStridedSlice S256x128 ![0, 128] z slices_S256x1024_o0_128_S256x128
def sl2 (z : FVec Ideal S256x1024 .f32) : FVec Ideal S256x128 .f32 := extractStridedSlice S256x128 ![0, 256] z slices_S256x1024_o0_256_S256x128
def sl3 (z : FVec Ideal S256x1024 .f32) : FVec Ideal S256x128 .f32 := extractStridedSlice S256x128 ![0, 384] z slices_S256x1024_o0_384_S256x128
def sl4 (z : FVec Ideal S256x1024 .f32) : FVec Ideal S256x128 .f32 := extractStridedSlice S256x128 ![0, 512] z slices_S256x1024_o0_512_S256x128
def sl5 (z : FVec Ideal S256x1024 .f32) : FVec Ideal S256x128 .f32 := extractStridedSlice S256x128 ![0, 640] z slices_S256x1024_o0_640_S256x128
def sl6 (z : FVec Ideal S256x1024 .f32) : FVec Ideal S256x128 .f32 := extractStridedSlice S256x128 ![0, 768] z slices_S256x1024_o0_768_S256x128
def sl7 (z : FVec Ideal S256x1024 .f32) : FVec Ideal S256x128 .f32 := extractStridedSlice S256x128 ![0, 896] z slices_S256x1024_o0_896_S256x128

/-- The product, turned tile by tile. -/
def big (z : FVec Ideal S256x1024 .f32) (c l h : FVec Ideal S256x128 .f32) : FVec Ideal S256x1024 .f32 :=
  concatenate S256x1024 1 [⟨S256x128, tl (sl0 z) c l h⟩, ⟨S256x128, tl (sl1 z) c l h⟩, ⟨S256x128, tl (sl2 z) c l h⟩, ⟨S256x128, tl (sl3 z) c l h⟩, ⟨S256x128, tl (sl4 z) c l h⟩, ⟨S256x128, tl (sl5 z) c l h⟩, ⟨S256x128, tl (sl6 z) c l h⟩, ⟨S256x128, tl (sl7 z) c l h⟩] concatenates_S256x128_S256x128_S256x128_S256x128_S256x128_S256x128_S256x128_S256x128_S256x1024_d1

/-- The turned row at a column. -/
def turn (z : Fin 1024 → EReal) (c l h : Fin 128 → EReal) (k : Fin 1024) : EReal :=
  z k * c ⟨k.val % 128, by omega⟩ + z ⟨k.val / 128 * 128 + (k.val % 128 + 128 - 120) % 128, by omega⟩ * l ⟨k.val % 128, by omega⟩
    + z ⟨k.val / 128 * 128 + (k.val % 128 + 128 - 8) % 128, by omega⟩ * h ⟨k.val % 128, by omega⟩

theorem tl_apply (z c l h : FVec Ideal S256x128 .f32) (r : Fin 256) (k : Fin 128) :
    tl z c l h (ix2 r k) = z (ix2 r k) * c (ix2 r k) + z (ix2 r ⟨(k.val + 128 - 120) % 128, by omega⟩) * l (ix2 r k) + z (ix2 r ⟨(k.val + 128 - 8) % 128, by omega⟩) * h (ix2 r k) := by
  unfold tl; pointwise

theorem sl0_apply (z : FVec Ideal S256x1024 .f32) (r : Fin 256) (k : Fin 128) : sl0 z (ix2 r k) = z (ix2 r ⟨k.val, by omega⟩) := by
  unfold sl0; pointwise
theorem sl1_apply (z : FVec Ideal S256x1024 .f32) (r : Fin 256) (k : Fin 128) : sl1 z (ix2 r k) = z (ix2 r ⟨128 + k.val, by omega⟩) := by
  unfold sl1; pointwise
theorem sl2_apply (z : FVec Ideal S256x1024 .f32) (r : Fin 256) (k : Fin 128) : sl2 z (ix2 r k) = z (ix2 r ⟨256 + k.val, by omega⟩) := by
  unfold sl2; pointwise
theorem sl3_apply (z : FVec Ideal S256x1024 .f32) (r : Fin 256) (k : Fin 128) : sl3 z (ix2 r k) = z (ix2 r ⟨384 + k.val, by omega⟩) := by
  unfold sl3; pointwise
theorem sl4_apply (z : FVec Ideal S256x1024 .f32) (r : Fin 256) (k : Fin 128) : sl4 z (ix2 r k) = z (ix2 r ⟨512 + k.val, by omega⟩) := by
  unfold sl4; pointwise
theorem sl5_apply (z : FVec Ideal S256x1024 .f32) (r : Fin 256) (k : Fin 128) : sl5 z (ix2 r k) = z (ix2 r ⟨640 + k.val, by omega⟩) := by
  unfold sl5; pointwise
theorem sl6_apply (z : FVec Ideal S256x1024 .f32) (r : Fin 256) (k : Fin 128) : sl6 z (ix2 r k) = z (ix2 r ⟨768 + k.val, by omega⟩) := by
  unfold sl6; pointwise
theorem sl7_apply (z : FVec Ideal S256x1024 .f32) (r : Fin 256) (k : Fin 128) : sl7 z (ix2 r k) = z (ix2 r ⟨896 + k.val, by omega⟩) := by
  unfold sl7; pointwise

theorem tile_at {α β : Type} (z : α → EReal) (c l h : β → EReal) (j : β) (a a' b b' : α) (d d' : α) (j' : β) (ha : a = a') (hb : b = b') (hd : d = d') (hj : j = j') :
    z a * c j + z b * l j + z d * h j = z a' * c j' + z b' * l j' + z d' * h j' := by
  rw [ha, hb, hd, hj]

/-- Eight tiles side by side, read at a column. -/
theorem side_apply (t0 t1 t2 t3 t4 t5 t6 t7 : FVec Ideal S256x128 .f32) (r : Fin 256) (f : Fin 1024 → EReal)
    (h0 : ∀ k : Fin 128, t0 (ix2 r k) = f ⟨0 + k.val, by omega⟩)
    (h1 : ∀ k : Fin 128, t1 (ix2 r k) = f ⟨128 + k.val, by omega⟩)
    (h2 : ∀ k : Fin 128, t2 (ix2 r k) = f ⟨256 + k.val, by omega⟩)
    (h3 : ∀ k : Fin 128, t3 (ix2 r k) = f ⟨384 + k.val, by omega⟩)
    (h4 : ∀ k : Fin 128, t4 (ix2 r k) = f ⟨512 + k.val, by omega⟩)
    (h5 : ∀ k : Fin 128, t5 (ix2 r k) = f ⟨640 + k.val, by omega⟩)
    (h6 : ∀ k : Fin 128, t6 (ix2 r k) = f ⟨768 + k.val, by omega⟩)
    (h7 : ∀ k : Fin 128, t7 (ix2 r k) = f ⟨896 + k.val, by omega⟩) (k : Fin 1024) :
    concatenate S256x1024 1 [⟨S256x128, t0⟩, ⟨S256x128, t1⟩, ⟨S256x128, t2⟩, ⟨S256x128, t3⟩, ⟨S256x128, t4⟩, ⟨S256x128, t5⟩, ⟨S256x128, t6⟩, ⟨S256x128, t7⟩] concatenates_S256x128_S256x128_S256x128_S256x128_S256x128_S256x128_S256x128_S256x128_S256x1024_d1 (ix2 r k) = f k := by
  pointwise
  by_cases c0 : k.val < 128
  · rw [dif_pos c0, h0]; exact congrArg f (Fin.ext (by show 0 + (k.val) = k.val; omega))
  rw [dif_neg c0]
  by_cases c1 : k.val - 128 < 128
  · rw [dif_pos c1, h1]; exact congrArg f (Fin.ext (by show 128 + (k.val - 128) = k.val; omega))
  rw [dif_neg c1]
  by_cases c2 : k.val - 128 - 128 < 128
  · rw [dif_pos c2, h2]; exact congrArg f (Fin.ext (by show 256 + (k.val - 128 - 128) = k.val; omega))
  rw [dif_neg c2]
  by_cases c3 : k.val - 128 - 128 - 128 < 128
  · rw [dif_pos c3, h3]; exact congrArg f (Fin.ext (by show 384 + (k.val - 128 - 128 - 128) = k.val; omega))
  rw [dif_neg c3]
  by_cases c4 : k.val - 128 - 128 - 128 - 128 < 128
  · rw [dif_pos c4, h4]; exact congrArg f (Fin.ext (by show 512 + (k.val - 128 - 128 - 128 - 128) = k.val; omega))
  rw [dif_neg c4]
  by_cases c5 : k.val - 128 - 128 - 128 - 128 - 128 < 128
  · rw [dif_pos c5, h5]; exact congrArg f (Fin.ext (by show 640 + (k.val - 128 - 128 - 128 - 128 - 128) = k.val; omega))
  rw [dif_neg c5]
  by_cases c6 : k.val - 128 - 128 - 128 - 128 - 128 - 128 < 128
  · rw [dif_pos c6, h6]; exact congrArg f (Fin.ext (by show 768 + (k.val - 128 - 128 - 128 - 128 - 128 - 128) = k.val; omega))
  rw [dif_neg c6]
  rw [h7]; exact congrArg f (Fin.ext (by show 896 + (k.val - 128 - 128 - 128 - 128 - 128 - 128 - 128) = k.val; omega))

theorem big_apply (z : FVec Ideal S256x1024 .f32) (c l h : FVec Ideal S256x128 .f32) (r : Fin 256) (k : Fin 1024) :
    big z c l h (ix2 r k) = turn (fun j => z (ix2 r j)) (fun j => c (ix2 r j)) (fun j => l (ix2 r j)) (fun j => h (ix2 r j)) k := by
  unfold big
  refine side_apply _ _ _ _ _ _ _ _ r (turn (fun j => z (ix2 r j)) (fun j => c (ix2 r j)) (fun j => l (ix2 r j)) (fun j => h (ix2 r j))) ?_ ?_ ?_ ?_ ?_ ?_ ?_ ?_ k
  · intro j
    rw [tl_apply, sl0_apply, sl0_apply, sl0_apply]
    unfold turn
    exact tile_at (fun i => z (ix2 r i)) (fun i => c (ix2 r i)) (fun i => l (ix2 r i)) (fun i => h (ix2 r i)) j _ _ _ _ _ _ _ (Fin.ext (by show j.val = 0 + j.val; omega)) (Fin.ext (by show (j.val + 128 - 120) % 128 = (0 + j.val) / 128 * 128 + ((0 + j.val) % 128 + 128 - 120) % 128; omega)) (Fin.ext (by show (j.val + 128 - 8) % 128 = (0 + j.val) / 128 * 128 + ((0 + j.val) % 128 + 128 - 8) % 128; omega)) (Fin.ext (by show j.val = (0 + j.val) % 128; omega))
  · intro j
    rw [tl_apply, sl1_apply, sl1_apply, sl1_apply]
    unfold turn
    exact tile_at (fun i => z (ix2 r i)) (fun i => c (ix2 r i)) (fun i => l (ix2 r i)) (fun i => h (ix2 r i)) j _ _ _ _ _ _ _ (Fin.ext (by show 128 + j.val = 128 + j.val; omega)) (Fin.ext (by show 128 + (j.val + 128 - 120) % 128 = (128 + j.val) / 128 * 128 + ((128 + j.val) % 128 + 128 - 120) % 128; omega)) (Fin.ext (by show 128 + (j.val + 128 - 8) % 128 = (128 + j.val) / 128 * 128 + ((128 + j.val) % 128 + 128 - 8) % 128; omega)) (Fin.ext (by show j.val = (128 + j.val) % 128; omega))
  · intro j
    rw [tl_apply, sl2_apply, sl2_apply, sl2_apply]
    unfold turn
    exact tile_at (fun i => z (ix2 r i)) (fun i => c (ix2 r i)) (fun i => l (ix2 r i)) (fun i => h (ix2 r i)) j _ _ _ _ _ _ _ (Fin.ext (by show 256 + j.val = 256 + j.val; omega)) (Fin.ext (by show 256 + (j.val + 128 - 120) % 128 = (256 + j.val) / 128 * 128 + ((256 + j.val) % 128 + 128 - 120) % 128; omega)) (Fin.ext (by show 256 + (j.val + 128 - 8) % 128 = (256 + j.val) / 128 * 128 + ((256 + j.val) % 128 + 128 - 8) % 128; omega)) (Fin.ext (by show j.val = (256 + j.val) % 128; omega))
  · intro j
    rw [tl_apply, sl3_apply, sl3_apply, sl3_apply]
    unfold turn
    exact tile_at (fun i => z (ix2 r i)) (fun i => c (ix2 r i)) (fun i => l (ix2 r i)) (fun i => h (ix2 r i)) j _ _ _ _ _ _ _ (Fin.ext (by show 384 + j.val = 384 + j.val; omega)) (Fin.ext (by show 384 + (j.val + 128 - 120) % 128 = (384 + j.val) / 128 * 128 + ((384 + j.val) % 128 + 128 - 120) % 128; omega)) (Fin.ext (by show 384 + (j.val + 128 - 8) % 128 = (384 + j.val) / 128 * 128 + ((384 + j.val) % 128 + 128 - 8) % 128; omega)) (Fin.ext (by show j.val = (384 + j.val) % 128; omega))
  · intro j
    rw [tl_apply, sl4_apply, sl4_apply, sl4_apply]
    unfold turn
    exact tile_at (fun i => z (ix2 r i)) (fun i => c (ix2 r i)) (fun i => l (ix2 r i)) (fun i => h (ix2 r i)) j _ _ _ _ _ _ _ (Fin.ext (by show 512 + j.val = 512 + j.val; omega)) (Fin.ext (by show 512 + (j.val + 128 - 120) % 128 = (512 + j.val) / 128 * 128 + ((512 + j.val) % 128 + 128 - 120) % 128; omega)) (Fin.ext (by show 512 + (j.val + 128 - 8) % 128 = (512 + j.val) / 128 * 128 + ((512 + j.val) % 128 + 128 - 8) % 128; omega)) (Fin.ext (by show j.val = (512 + j.val) % 128; omega))
  · intro j
    rw [tl_apply, sl5_apply, sl5_apply, sl5_apply]
    unfold turn
    exact tile_at (fun i => z (ix2 r i)) (fun i => c (ix2 r i)) (fun i => l (ix2 r i)) (fun i => h (ix2 r i)) j _ _ _ _ _ _ _ (Fin.ext (by show 640 + j.val = 640 + j.val; omega)) (Fin.ext (by show 640 + (j.val + 128 - 120) % 128 = (640 + j.val) / 128 * 128 + ((640 + j.val) % 128 + 128 - 120) % 128; omega)) (Fin.ext (by show 640 + (j.val + 128 - 8) % 128 = (640 + j.val) / 128 * 128 + ((640 + j.val) % 128 + 128 - 8) % 128; omega)) (Fin.ext (by show j.val = (640 + j.val) % 128; omega))
  · intro j
    rw [tl_apply, sl6_apply, sl6_apply, sl6_apply]
    unfold turn
    exact tile_at (fun i => z (ix2 r i)) (fun i => c (ix2 r i)) (fun i => l (ix2 r i)) (fun i => h (ix2 r i)) j _ _ _ _ _ _ _ (Fin.ext (by show 768 + j.val = 768 + j.val; omega)) (Fin.ext (by show 768 + (j.val + 128 - 120) % 128 = (768 + j.val) / 128 * 128 + ((768 + j.val) % 128 + 128 - 120) % 128; omega)) (Fin.ext (by show 768 + (j.val + 128 - 8) % 128 = (768 + j.val) / 128 * 128 + ((768 + j.val) % 128 + 128 - 8) % 128; omega)) (Fin.ext (by show j.val = (768 + j.val) % 128; omega))
  · intro j
    rw [tl_apply, sl7_apply, sl7_apply, sl7_apply]
    unfold turn
    exact tile_at (fun i => z (ix2 r i)) (fun i => c (ix2 r i)) (fun i => l (ix2 r i)) (fun i => h (ix2 r i)) j _ _ _ _ _ _ _ (Fin.ext (by show 896 + j.val = 896 + j.val; omega)) (Fin.ext (by show 896 + (j.val + 128 - 120) % 128 = (896 + j.val) / 128 * 128 + ((896 + j.val) % 128 + 128 - 120) % 128; omega)) (Fin.ext (by show 896 + (j.val + 128 - 8) % 128 = (896 + j.val) / 128 * 128 + ((896 + j.val) % 128 + 128 - 8) % 128; omega)) (Fin.ext (by show j.val = (896 + j.val) % 128; omega))

theorem q_apply (X : Vec Ideal S256x2048 .f32) (g : Vec Ideal S1x2048 .f32) (w : Vec Ideal S2048x1024 .bf16) (c l h : Vec Ideal S256x128 .f32) :
    k0_pay24 (F := Ideal) (k0_pay7 h) (k0_pay9 X g c l h w) (k0_pay14 (k0_pay7 h) (k0_pay11 X g w) (k0_pay12 X g c w) (k0_pay13 X g l w))
      (k0_pay15 (k0_pay5 c) (k0_pay6 l) (k0_pay7 h) (k0_pay8 X g w)) (k0_pay16 (k0_pay5 c) (k0_pay6 l) (k0_pay7 h) (k0_pay8 X g w))
      (k0_pay17 (k0_pay5 c) (k0_pay6 l) (k0_pay7 h) (k0_pay8 X g w)) (k0_pay18 (k0_pay5 c) (k0_pay6 l) (k0_pay7 h) (k0_pay8 X g w))
      (k0_pay19 (k0_pay5 c) (k0_pay6 l) (k0_pay7 h) (k0_pay8 X g w)) (k0_pay21 (k0_pay8 X g w)) (k0_pay22 (k0_pay5 c) (k0_pay8 X g w)) (k0_pay23 (k0_pay6 l) (k0_pay8 X g w))
    = truncf .bf16 (mulf (big (k0_pay8 X g w) (k0_pay5 c) (k0_pay6 l) (k0_pay7 h)) (broadcast S256x1024 (Named.named κ "qscale" 0x3E38AA3B#32))) bitsLt_bf16_f32 := rfl

theorem k_apply (h : FVec Ideal S256x2048 .bf16) (w : Vec Ideal S2048x1024 .bf16) (c l h' : FVec Ideal S256x128 .f32) :
    k0_pay32 (F := Ideal) c l h' (k0_pay25 h w) (k0_pay26 h c l h' w) (k0_pay27 h c l h' w) (k0_pay28 h c l h' w) (k0_pay29 h c l h' w) (k0_pay30 h w) 120#32
    = shapeCast S1x8x128x256 (shapeCast S8x128x256 (transpose S1024x256 [1, 0] (big (k0_pay25 h w) c l h') transposes_S256x1024_p1_0_S1024x256) shapeCasts_S1024x256_S8x128x256) shapeCasts_S8x128x256_S1x8x128x256 := rfl

theorem k16_apply (h : FVec Ideal S256x2048 .bf16) (w : Vec Ideal S2048x1024 .bf16) (c l h' : FVec Ideal S256x128 .f32) :
    k0_pay33 (F := Ideal) c l h' (k0_pay25 h w) (k0_pay26 h c l h' w) (k0_pay27 h c l h' w) (k0_pay28 h c l h' w) (k0_pay29 h c l h' w) (k0_pay30 h w) 120#32
    = shapeCast S1x8x1x128x256 (truncf .bf16 (shapeCast S8x128x256 (transpose S1024x256 [1, 0] (big (k0_pay25 h w) c l h') transposes_S256x1024_p1_0_S1024x256) shapeCasts_S1024x256_S8x128x256) bitsLt_bf16_f32) shapeCasts_S8x128x256_S1x8x1x128x256 := rfl

theorem k16_at (z : FVec Ideal S256x1024 .f32) (h : Fin 8) (l : Fin 128) (r : Fin 256) :
    shapeCast S1x8x1x128x256 (truncf .bf16 (shapeCast S8x128x256 (transpose S1024x256 [1, 0] z transposes_S256x1024_p1_0_S1024x256) shapeCasts_S1024x256_S8x128x256) bitsLt_bf16_f32) shapeCasts_S8x128x256_S1x8x1x128x256 (ix5 0 h 0 l r)
      = z (ix2 r ⟨h.val * 128 + l.val, by omega⟩) := by
  pointwise

theorem v16_apply (h : FVec Ideal S256x2048 .bf16) (w : Vec Ideal S2048x1024 .bf16) (r : Fin 256) (k : Fin 1024) :
    k0_pay2 (F := Ideal) h w (ix2 r k) = ∑ d : Fin 2048, h (ix2 r d) * w (ix2 d k) := by
  unfold k0_pay2; pointwise; exact v_apply h w r k

/-- The scale the queries are multiplied with: the score's own, with the change to base two. -/
theorem qscale_eq : Named.named (F := Ideal) (φ := .f32) κ "qscale" 0x3E38AA3B#32 = ((8⁻¹ * (Real.log 2)⁻¹ : ℝ) : EReal) :=
  IdealRules.named_const.ideal_named_scalar _ _ _ _ rfl

theorem q_at (z : FVec Ideal S256x1024 .f32) (r : Fin 256) (k : Fin 1024) :
    truncf .bf16 (mulf z (broadcast S256x1024 (Named.named κ "qscale" 0x3E38AA3B#32))) bitsLt_bf16_f32 (ix2 r k) = z (ix2 r k) * ((8⁻¹ * (Real.log 2)⁻¹ : ℝ) : EReal) := by
  rw [← qscale_eq]; pointwise

theorem k_at (z : FVec Ideal S256x1024 .f32) (h : Fin 8) (l : Fin 128) (r : Fin 256) :
    shapeCast S1x8x128x256 (shapeCast S8x128x256 (transpose S1024x256 [1, 0] z transposes_S256x1024_p1_0_S1024x256) shapeCasts_S1024x256_S8x128x256) shapeCasts_S8x128x256_S1x8x128x256 (ix4 0 h l r)
      = z (ix2 r ⟨h.val * 128 + l.val, by omega⟩) := by
  pointwise

theorem pay5_eq (c : Vec Ideal S256x128 .f32) (r : Fin 256) (j : Fin 128) : k0_pay5 (F := Ideal) c (ix2 r j) = c (ix2 r j) := by unfold k0_pay5; pointwise
theorem pay6_eq (c : Vec Ideal S256x128 .f32) (r : Fin 256) (j : Fin 128) : k0_pay6 (F := Ideal) c (ix2 r j) = c (ix2 r j) := by unfold k0_pay6; pointwise
theorem pay7_eq (c : Vec Ideal S256x128 .f32) (r : Fin 256) (j : Fin 128) : k0_pay7 (F := Ideal) c (ix2 r j) = c (ix2 r j) := by unfold k0_pay7; pointwise

end Cert.InProjIdeal.InProj
end
-- ==== Proof.InProj.Turn.lean ====
/- The rotation by tables is the reference's rotation, and the scale of the queries is the reference's. -/
module

public import proofs.«01_k».proof.Proof.InProj.Ref
public import proofs.«01_k».proof.Proof.InProj.Tables
public import proofs.«01_k».proof.Proof.InProj.Point

@[expose] public section

set_option maxRecDepth 16384

noncomputable section

namespace Cert.InProjIdeal.InProj

open Idealize.ShloMosaic Idealize.ShloMosaic.TcCoe Idealize.ShloMosaic.Tactic Cert.InProjIdeal Cert.InProjIdeal.Gen

theorem freq_eq : freq = Cert.InProjRefIdeal.InProj.freq := rfl

theorem th_eq (p : IVec S8192 32) (r : Fin 8192) (j : Fin 8) : th p r j = Cert.InProjRefIdeal.InProj.ang p (ix2 r j) := by
  unfold th
  rw [Cert.InProjRefIdeal.InProj.ang_apply, freq_eq]

/-- A row turned by the tables, at a column, is the reference's rotation at its head, map and place. -/
theorem turn_eq (z : Fin 1024 → EReal) (p : IVec S8192 32) (b : Fin 2) (R : Fin 8192) (Z : FVec Ideal Cert.InProjRefIdeal.S2x8192x8x2x64 .f32)
    (hZ : ∀ (h : Fin 8) (a : Fin 2) (j : Fin 64), Z (ix5 b R h a j) = z ⟨h.val * 128 + a.val * 64 + j.val, by omega⟩)
    (c l hh : Fin 128 → EReal)
    (hc : ∀ i : Fin 128, c i = if i.val % 64 < 16 then Ideal.cos (th p R ⟨i.val % 8, by omega⟩) else 1)
    (hl : ∀ i : Fin 128, l i = if i.val % 64 < 8 then -Ideal.sin (th p R ⟨i.val % 8, by omega⟩) else 0)
    (hhi : ∀ i : Fin 128, hh i = if i.val % 64 < 8 then 0 else if i.val % 64 < 16 then Ideal.sin (th p R ⟨i.val % 8, by omega⟩) else 0)
    (h : Fin 8) (a : Fin 2) (j : Fin 64) (k : Fin 1024) (hk : k.val = 128 * h.val + 64 * a.val + j.val) :
    turn z c l hh k = Cert.InProjRefIdeal.InProj.rope Z p (ix5 b R h a j) := by
  have hj64 : j.val < 64 := j.isLt
  have ha2 : a.val < 2 := a.isLt
  have z0 : z k = Z (ix5 b R h a j) := by
    rw [hZ]; exact congrArg z (Fin.ext (by show k.val = h.val * 128 + a.val * 64 + j.val; omega))
  unfold turn
  rw [hc, hl, hhi, z0]
  by_cases h1 : j.val < 8
  · have z1 : z ⟨k.val / 128 * 128 + (k.val % 128 + 128 - 120) % 128, by omega⟩ = Z (ix5 b R h a ⟨8 + j.val, by omega⟩) := by
      rw [hZ]; exact congrArg z (Fin.ext (by show k.val / 128 * 128 + (k.val % 128 + 128 - 120) % 128 = h.val * 128 + a.val * 64 + (8 + j.val); omega))
    have e : (⟨k.val % 128 % 8, by omega⟩ : Fin 8) = ⟨j.val, h1⟩ := Fin.ext (by show k.val % 128 % 8 = j.val; omega)
    rw [if_pos (show k.val % 128 % 64 < 16 by omega), if_pos (show k.val % 128 % 64 < 8 by omega), if_pos (show k.val % 128 % 64 < 8 by omega),
      Cert.InProjRefIdeal.InProj.rope_low _ _ _ _ _ _ _ h1, z1, mul_zero, add_zero, mul_neg, ← sub_eq_add_neg]
    show _ * Ideal.cos (th p R ⟨k.val % 128 % 8, _⟩) - _ * Ideal.sin (th p R ⟨k.val % 128 % 8, _⟩) = _
    rw [e, th_eq]
  · by_cases h2 : j.val - 8 < 8
    · have z1 : z ⟨k.val / 128 * 128 + (k.val % 128 + 128 - 8) % 128, by omega⟩ = Z (ix5 b R h a ⟨j.val - 8, by omega⟩) := by
        rw [hZ]; exact congrArg z (Fin.ext (by show k.val / 128 * 128 + (k.val % 128 + 128 - 8) % 128 = h.val * 128 + a.val * 64 + (j.val - 8); omega))
      have e : (⟨k.val % 128 % 8, by omega⟩ : Fin 8) = ⟨j.val - 8, h2⟩ := Fin.ext (by show k.val % 128 % 8 = j.val - 8; omega)
      rw [if_pos (show k.val % 128 % 64 < 16 by omega), if_neg (show ¬ k.val % 128 % 64 < 8 by omega), if_neg (show ¬ k.val % 128 % 64 < 8 by omega),
        if_pos (show k.val % 128 % 64 < 16 by omega), Cert.InProjRefIdeal.InProj.rope_high _ _ _ _ _ _ _ h1 h2, z1, mul_zero, add_zero]
      show _ * Ideal.cos (th p R ⟨k.val % 128 % 8, _⟩) + _ * Ideal.sin (th p R ⟨k.val % 128 % 8, _⟩) = _
      rw [e, th_eq]
    · rw [if_neg (show ¬ k.val % 128 % 64 < 16 by omega), if_neg (show ¬ k.val % 128 % 64 < 8 by omega), if_neg (show ¬ k.val % 128 % 64 < 8 by omega),
        if_neg (show ¬ k.val % 128 % 64 < 16 by omega), Cert.InProjRefIdeal.InProj.rope_still _ _ _ _ _ _ _ h1 h2, mul_zero, mul_zero, add_zero, add_zero, mul_one]

theorem eighth : Ideal.ofBits .f32 0x3E000000#32 = ((8⁻¹ : ℝ) : EReal) := by
  simp [Ideal.ofBits, Ideal.ieee]
  norm_num
  try rw [← EReal.coe_mul]
  try norm_num

theorem two : Ideal.ofBits .f32 0x40000000#32 = ((2 : ℝ) : EReal) := by
  simp [Ideal.ofBits, Ideal.ieee]
  try norm_num
  try rw [← EReal.coe_mul]
  try norm_num

theorem log_two : Ideal.log ((2 : ℝ) : EReal) = ((Real.log 2 : ℝ) : EReal) := by
  show (if (2 : ℝ) ≤ 0 then (⊥ : EReal) else (Real.log 2 : EReal)) = _
  rw [if_neg (by norm_num)]

/-- The named scale is a division by the root of the width and by the logarithm of two. -/
theorem scale_eq (x : EReal) : x * ((8⁻¹ * (Real.log 2)⁻¹ : ℝ) : EReal) = Ideal.div (x * Ideal.ofBits .f32 0x3E000000#32) (Ideal.log (Ideal.ofBits .f32 0x40000000#32)) := by
  rw [eighth, two, log_two, Ideal.div_coe (ne_of_gt (Real.log_pos (by norm_num))), mul_assoc, ← EReal.coe_mul, one_div]

end Cert.InProjIdeal.InProj
end
-- ==== Proof.InProj.Blocks.lean ====
/- What the blocks of an input projection grid point hold, in terms of the arguments. -/
module

public import proofs.«01_k».proof.Proof.InProj.Tables

@[expose] public section

set_option maxRecDepth 16384

noncomputable section

namespace Cert.InProjIdeal.InProj

open Idealize.ShloMosaic Idealize.ShloMosaic.TcCoe Idealize.ShloMosaic.Tactic Cert.InProjIdeal Cert.InProjIdeal.Gen

variable (m : (ℓ : Loc nD τ sig) → Buf (Elt Ideal) ℓ) (c : Dev nD)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![t.val % 32, 0] := by decide +kernel
theorem idx4 : ∀ t : Fin cfg0.N, (cfg0.win 4).index t = ![t.val % 32, 0] := by decide +kernel
theorem idx5 : ∀ t : Fin cfg0.N, (cfg0.win 5).index t = ![t.val % 32, 0] := by decide +kernel
theorem idx6 : ∀ t : Fin cfg0.N, (cfg0.win 6).index t = ![t.val, 0] := by decide +kernel
theorem idx7 : ∀ t : Fin cfg0.N, (cfg0.win 7).index t = ![t.val / 32, 0, 0, t.val % 32] := by decide +kernel
theorem idx8 : ∀ t : Fin cfg0.N, (cfg0.win 8).index t = ![t.val / 32, 0, t.val % 32 / 4, 0, t.val % 4] := by decide +kernel
theorem idx9 : ∀ t : Fin cfg0.N, (cfg0.win 9).index t = ![t.val, 0] := by decide +kernel
theorem idx10 : ∀ t : Fin cfg0.N, (cfg0.win 10).index t = ![t.val, 0] := by decide +kernel
theorem idx11 : ∀ t : Fin cfg0.N, (cfg0.win 11).index t = ![t.val, 0] := by decide +kernel

/-- The batch entry of a point's rows. -/
def bOf (t : Fin cfg0.N) : Fin 2 := ⟨t.val / 32, by have : t.val < 64 := N_0 ▸ t.isLt; omega⟩
/-- A row of a point in its batch entry. -/
def rOf (t : Fin cfg0.N) (r : Fin 256) : Fin 8192 := ⟨256 * (t.val % 32) + r.val, by omega⟩
/-- The chunk of a point's rows, and a row's place in it. -/
def sOf (t : Fin cfg0.N) : Fin 8 := ⟨t.val % 32 / 4, by omega⟩
def pOf (t : Fin cfg0.N) (r : Fin 256) : Fin 1024 := ⟨256 * (t.val % 4) + r.val, by omega⟩

theorem V_x : V m c main_v35 = shapeCast S16384x2048 (m ((c : Thread nD τ).loc main_arg0)) shapeCasts_S2x8192x2048_S16384x2048 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_g : V m c main_v36 = shapeCast S1x2048 (m ((c : Thread nD τ).loc main_arg2)) shapeCasts_S2048_S1x2048 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_w : V m c main_v38 = truncf (F := Ideal) .bf16 (extractStridedSlice S2048x5120 ![0, 0] (m ((c : Thread nD τ).loc main_arg3)) slices_S2048x9216_S2048x5120_0_0) bitsLt_bf16_f32 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem x_rows (x : FVec Ideal S2x8192x2048 .f32) (b : Fin 2) (r : Fin 8192) (d : Fin 2048) (i : Fin 16384) (hi : i.val = 8192 * b.val + r.val) :
    shapeCast S16384x2048 x shapeCasts_S2x8192x2048_S16384x2048 (ix2 i d) = x (ix3 b r d) := by
  obtain ⟨n, hn⟩ := i
  obtain rfl : n = 8192 * b.val + r.val := hi
  pointwise

theorem g_row (g : FVec Ideal S2048 .f32) (d : Fin 2048) : shapeCast S1x2048 g shapeCasts_S2048_S1x2048 (ix2 0 d) = g (ix1 d) := by
  pointwise

theorem w_cols (w : FVec Ideal S2048x9216 .f32) (d : Fin 2048) (k : Fin 5120) :
    truncf (F := Ideal) .bf16 (extractStridedSlice S2048x5120 ![0, 0] w slices_S2048x9216_S2048x5120_0_0) bitsLt_bf16_f32 (ix2 d k) = w (ix2 d ⟨k.val, by omega⟩) := by
  pointwise

theorem emb0 (t : Fin cfg0.N) (r : Fin 256) (d : Fin 2048) (hr : 256 * t.val + r.val < 16384) :
    ((cfg0.win 0).blk t).view.emb (ix2 r d) = ix2 (⟨256 * t.val + r.val, hr⟩ : Fin 16384) d := by
  blk_ext [idx0 t]
theorem emb1 (t : Fin cfg0.N) (d : Fin 2048) : ((cfg0.win 1).blk t).view.emb (ix2 0 d) = ix2 0 d := by blk_ext [idx1 t]
theorem emb2 (t : Fin cfg0.N) (d : Fin 2048) (k : Fin 5120) : ((cfg0.win 2).blk t).view.emb (ix2 d k) = ix2 d k := by blk_ext [idx2 t]

theorem x_blk (t : Fin cfg0.N) (r : Fin 256) (d : Fin 2048) :
    iblk m c 0 t (ix2 r d) = m ((c : Thread nD τ).loc main_arg0) (ix3 (bOf t) (rOf t r) d) := by
  have ht : t.val < 64 := N_0 ▸ t.isLt
  have hr : 256 * t.val + r.val < 16384 := by omega
  refine Eq.trans (b := V m c main_v35 (((cfg0.win 0).blk t).view.emb (ix2 r d))) rfl ?_
  rw [V_x, emb0 t r d hr]
  exact x_rows _ (bOf t) (rOf t r) d ⟨256 * t.val + r.val, hr⟩ (by
    show 256 * t.val + r.val = 8192 * (t.val / 32) + (256 * (t.val % 32) + r.val)
    omega)

theorem g_blk (t : Fin cfg0.N) (d : Fin 2048) :
    iblk m c 1 t (ix2 0 d) = m ((c : Thread nD τ).loc main_arg2) (ix1 d) := by
  refine Eq.trans (b := V m c main_v36 (((cfg0.win 1).blk t).view.emb (ix2 0 d))) rfl ?_
  rw [V_g, emb1 t d]
  exact g_row _ d

theorem w_blk (t : Fin cfg0.N) (d : Fin 2048) (k : Fin 5120) :
    iblk m c 2 t (ix2 d k) = m ((c : Thread nD τ).loc main_arg3) (ix2 d ⟨k.val, by omega⟩) := by
  refine Eq.trans (b := V m c main_v38 (((cfg0.win 2).blk t).view.emb (ix2 d k))) rfl ?_
  rw [V_w, emb2 t d k]
  exact w_cols _ d k

theorem emb3 (t : Fin cfg0.N) (r : Fin 256) (l : Fin 128) : ((cfg0.win 3).blk t).view.emb (ix2 r l) = ix2 (rOf t r) l := by
  unfold rOf; blk_ext [idx3 t]
theorem emb4 (t : Fin cfg0.N) (r : Fin 256) (l : Fin 128) : ((cfg0.win 4).blk t).view.emb (ix2 r l) = ix2 (rOf t r) l := by
  unfold rOf; blk_ext [idx4 t]
theorem emb5 (t : Fin cfg0.N) (r : Fin 256) (l : Fin 128) : ((cfg0.win 5).blk t).view.emb (ix2 r l) = ix2 (rOf t r) l := by
  unfold rOf; blk_ext [idx5 t]

theorem c_blk (t : Fin cfg0.N) (r : Fin 256) (l : Fin 128) :
    iblk m c 3 t (ix2 r l) = if l.val % 64 < 16 then Ideal.cos (th (m ((c : Thread nD τ).loc main_arg1)) (rOf t r) ⟨l.val % 8, by omega⟩) else 1 := by
  refine Eq.trans (b := V m c main_v34 (((cfg0.win 3).blk t).view.emb (ix2 r l))) rfl ?_
  rw [V_cos, emb3, cos_apply]

theorem lo_blk (t : Fin cfg0.N) (r : Fin 256) (l : Fin 128) :
    iblk m c 4 t (ix2 r l) = if l.val % 64 < 8 then -Ideal.sin (th (m ((c : Thread nD τ).loc main_arg1)) (rOf t r) ⟨l.val % 8, by omega⟩) else 0 := by
  refine Eq.trans (b := V m c main_v30 (((cfg0.win 4).blk t).view.emb (ix2 r l))) rfl ?_
  rw [V_lo, emb4, lo_apply]

theorem hi_blk (t : Fin cfg0.N) (r : Fin 256) (l : Fin 128) :
    iblk m c 5 t (ix2 r l) = if l.val % 64 < 8 then 0 else if l.val % 64 < 16 then Ideal.sin (th (m ((c : Thread nD τ).loc main_arg1)) (rOf t r) ⟨l.val % 8, by omega⟩) else 0 := by
  refine Eq.trans (b := V m c main_v33 (((cfg0.win 5).blk t).view.emb (ix2 r l))) rfl ?_
  rw [V_hi, emb5, hi_apply]

end Cert.InProjIdeal.InProj
end
-- ==== Proof.InProj.Tie.lean ====
/- The input projection's six results are the reference's. -/
module

public import proofs.«01_k».proof.Proof.InProj.Turn
public import proofs.«01_k».proof.Proof.InProj.Blocks
public import proofs.«01_k».proof.Proof.Gen.InProjIdeal.Value

@[expose] public section

set_option maxRecDepth 16384

noncomputable section

namespace Cert.InProjIdeal.InProj

open Idealize.ShloMosaic Idealize.ShloMosaic.TcCoe Idealize.ShloMosaic.Tactic Cert.InProjIdeal Cert.InProjIdeal.Gen Cert.InProjIdeal.Value

variable (m : (ℓ : Loc nD τ sig) → Buf (Elt Ideal) ℓ) (c : Dev nD)

/-- The arguments, as arrays. -/
abbrev A0 : FVec Ideal Cert.InProjRefIdeal.S2x8192x2048 .f32 := m ((c.tc : Thread nD τ).loc main_arg0)
abbrev A1 : IVec Cert.InProjRefIdeal.S8192 32 := m ((c.tc : Thread nD τ).loc main_arg1)
abbrev A2 : FVec Ideal Cert.InProjRefIdeal.S2048 .f32 := m ((c.tc : Thread nD τ).loc main_arg2)
abbrev A3 : FVec Ideal Cert.InProjRefIdeal.S2048x9216 .f32 := m ((c.tc : Thread nD τ).loc main_arg3)

/-- The reference's normed rows and their projection. -/
def hR : FVec Ideal Cert.InProjRefIdeal.S2x8192x2048 .f32 := Cert.InProjRefIdeal.InProj.norm (A0 m c) (A2 m c)
def pR : FVec Ideal Cert.InProjRefIdeal.S2x8192x9216 .f32 := Cert.InProjRefIdeal.InProj.proj (hR m c) (A3 m c)

theorem h_eq (t : Fin cfg0.N) (r : Fin 256) (d : Fin 2048) :
    k0_pay4 (F := Ideal) (iblk m c 0 t) (iblk m c 1 t) (ix2 r d) = hR m c (ix3 (bOf t) (rOf t r) d) := by
  unfold hR
  rw [h_apply, g_blk, Cert.InProjRefIdeal.InProj.norm_apply]
  unfold inv
  simp only [x_blk]

/-- A point's row times a column of the weights. -/
theorem col_eq (t : Fin cfg0.N) (r : Fin 256) (w : Fin 2048 → EReal) (o : Fin 9216) (hw : ∀ d, w d = A3 m c (ix2 d o)) :
    ∑ d : Fin 2048, k0_pay4 (F := Ideal) (iblk m c 0 t) (iblk m c 1 t) (ix2 r d) * w d = pR m c (ix3 (bOf t) (rOf t r) o) := by
  obtain rfl : w = _ := funext hw
  unfold pR
  rw [Cert.InProjRefIdeal.InProj.proj_apply]
  simp only [h_eq]

theorem w_at0 (t : Fin cfg0.N) (d : Fin 2048) (k : Fin 1024) : View.ld (iblk m c 2 t) r0_3 (ix2 d k) = A3 m c (ix2 d ⟨k.val, by omega⟩) := by
  have e : View.ld (iblk m c 2 t) r0_3 (ix2 d k) = iblk m c 2 t (ix2 d (⟨k.val, by omega⟩ : Fin 5120)) := by
    refine View.ld_unit_apply_of _ _ _ _ _ _ fun a => ?_
    match a with
    | ⟨0, _⟩ => simp
    | ⟨1, _⟩ => simp
  rw [e, w_blk]

theorem w_at1 (t : Fin cfg0.N) (d : Fin 2048) (k : Fin 1024) : View.ld (iblk m c 2 t) r0_5 (ix2 d k) = A3 m c (ix2 d ⟨1024 + k.val, by omega⟩) := by
  have e : View.ld (iblk m c 2 t) r0_5 (ix2 d k) = iblk m c 2 t (ix2 d (⟨1024 + k.val, by omega⟩ : Fin 5120)) := by
    refine View.ld_unit_apply_of _ _ _ _ _ _ fun a => ?_
    match a with
    | ⟨0, _⟩ => simp
    | ⟨1, _⟩ => simp; try omega
  rw [e, w_blk]

theorem w_at2 (t : Fin cfg0.N) (d : Fin 2048) (k : Fin 1024) : View.ld (iblk m c 2 t) r0_8 (ix2 d k) = A3 m c (ix2 d ⟨2048 + k.val, by omega⟩) := by
  have e : View.ld (iblk m c 2 t) r0_8 (ix2 d k) = iblk m c 2 t (ix2 d (⟨2048 + k.val, by omega⟩ : Fin 5120)) := by
    refine View.ld_unit_apply_of _ _ _ _ _ _ fun a => ?_
    match a with
    | ⟨0, _⟩ => simp
    | ⟨1, _⟩ => simp; try omega
  rw [e, w_blk]

theorem w_at3 (t : Fin cfg0.N) (d : Fin 2048) (k : Fin 1024) : View.ld (iblk m c 2 t) r0_9 (ix2 d k) = A3 m c (ix2 d ⟨3072 + k.val, by omega⟩) := by
  have e : View.ld (iblk m c 2 t) r0_9 (ix2 d k) = iblk m c 2 t (ix2 d (⟨3072 + k.val, by omega⟩ : Fin 5120)) := by
    refine View.ld_unit_apply_of _ _ _ _ _ _ fun a => ?_
    match a with
    | ⟨0, _⟩ => simp
    | ⟨1, _⟩ => simp; try omega
  rw [e, w_blk]

theorem w_at4 (t : Fin cfg0.N) (d : Fin 2048) (k : Fin 1024) : View.ld (iblk m c 2 t) r0_10 (ix2 d k) = A3 m c (ix2 d ⟨3072 + (1024 + k.val), by omega⟩) := by
  have e : View.ld (iblk m c 2 t) r0_10 (ix2 d k) = iblk m c 2 t (ix2 d (⟨3072 + (1024 + k.val), by omega⟩ : Fin 5120)) := by
    refine View.ld_unit_apply_of _ _ _ _ _ _ fun a => ?_
    match a with
    | ⟨0, _⟩ => simp
    | ⟨1, _⟩ => simp; try omega
  rw [e, w_blk]

theorem hz : (![0, 0] : Fin 2 → Nat) = fun _ => 0 := by
  funext a
  match a with
  | ⟨0, _⟩ => rfl
  | ⟨1, _⟩ => rfl

theorem hz4 : (![0, 0, 0, 0] : Fin 4 → Nat) = fun _ => 0 := by
  funext a
  match a with
  | ⟨0, _⟩ => rfl
  | ⟨1, _⟩ => rfl
  | ⟨2, _⟩ => rfl
  | ⟨3, _⟩ => rfl

theorem hz5 : (![0, 0, 0, 0, 0] : Fin 5 → Nat) = fun _ => 0 := by
  funext a
  match a with
  | ⟨0, _⟩ => rfl
  | ⟨1, _⟩ => rfl
  | ⟨2, _⟩ => rfl
  | ⟨3, _⟩ => rfl
  | ⟨4, _⟩ => rfl

/-- A point's turned columns, from the weights' columns at an offset. -/
theorem big_eq (t : Fin cfg0.N) (r : Fin 256) (w : Vec Ideal S2048x1024 .bf16) (o : Fin 1024 → Fin 9216)
    (hw : ∀ (d : Fin 2048) (k : Fin 1024), w (ix2 d k) = A3 m c (ix2 d (o k))) (Z : FVec Ideal Cert.InProjRefIdeal.S2x8192x8x2x64 .f32)
    (hZ : ∀ (h : Fin 8) (a : Fin 2) (j : Fin 64), Z (ix5 (bOf t) (rOf t r) h a j) = pR m c (ix3 (bOf t) (rOf t r) (o ⟨h.val * 128 + a.val * 64 + j.val, by omega⟩)))
    (h : Fin 8) (a : Fin 2) (j : Fin 64) (k : Fin 1024) (hk : k.val = 128 * h.val + 64 * a.val + j.val) :
    big (k0_pay25 (F := Ideal) (k0_pay4 (F := Ideal) (iblk m c 0 t) (iblk m c 1 t)) w) (k0_pay5 (F := Ideal) (iblk m c 3 t)) (k0_pay6 (F := Ideal) (iblk m c 4 t)) (k0_pay7 (F := Ideal) (iblk m c 5 t)) (ix2 r k)
      = Cert.InProjRefIdeal.InProj.rope Z (A1 m c) (ix5 (bOf t) (rOf t r) h a j) := by
  rw [big_apply]
  refine turn_eq _ (A1 m c) (bOf t) (rOf t r) Z (fun h a j => ?_) _ _ _ (fun i => ?_) (fun i => ?_) (fun i => ?_) h a j k hk
  · rw [hZ, z_apply]
    exact (col_eq m c t r _ _ fun d => hw d _).symm
  · rw [pay5_eq, c_blk]
  · rw [pay6_eq, lo_blk]
  · rw [pay7_eq, hi_blk]

/-- What a point stores of the queries. -/
theorem q_point (t : Fin cfg0.N) (r : Fin 256) (k : Fin 1024) (hr : 256 * t.val + r.val < 16384) :
    out0_6 (F := Ideal) (iblk m c 0 t) (iblk m c 1 t) (iblk m c 2 t) (iblk m c 3 t) (iblk m c 4 t) (iblk m c 5 t) (ix2 r k)
      = Cert.InProjRefIdeal.InProj.resQ (A0 m c) (A1 m c) (A2 m c) (A3 m c) (ix2 ⟨256 * t.val + r.val, hr⟩ k) := by
  unfold out0_6 k0_pay38 k0_pay37 k0_pay36 k0_pay35
  rw [View.canon_unit_zero hz]
  simp only [View.ld_unit_zero (S := S256x2048) hz, View.ld_unit_zero (S := S1x2048) hz, View.ld_unit_zero (S := S256x128) hz]
  rw [q_apply, q_at, zq_eq, scale_eq]
  unfold Cert.InProjRefIdeal.InProj.resQ
  rw [Cert.InProjRefIdeal.InProj.scaled_apply _ (bOf t) (rOf t r) ⟨k.val / 128, by omega⟩ ⟨k.val % 128 / 64, by omega⟩ ⟨k.val % 64, by omega⟩ ⟨256 * t.val + r.val, hr⟩ (by
    show 256 * t.val + r.val = 8192 * (t.val / 32) + (256 * (t.val % 32) + r.val)
    omega) k (by show k.val = 128 * (k.val / 128) + 64 * (k.val % 128 / 64) + k.val % 64; omega)]
  refine congrArg (fun u => Ideal.div (u * Ideal.ofBits .f32 0x3E000000#32) (Ideal.log (Ideal.ofBits .f32 0x40000000#32))) ?_
  exact big_eq m c t r _ (fun k => ⟨k.val, by omega⟩) (fun d k => w_at0 m c t d k) (Cert.InProjRefIdeal.InProj.qCols (pR m c)) (fun h a j => Cert.InProjRefIdeal.InProj.qCols_apply _ _ _ _ _ _)
    ⟨k.val / 128, by omega⟩ ⟨k.val % 128 / 64, by omega⟩ ⟨k.val % 64, by omega⟩ k (by show k.val = 128 * (k.val / 128) + 64 * (k.val % 128 / 64) + k.val % 64; omega)

/-- What a point stores of the keys. -/
theorem k_point (t : Fin cfg0.N) (h : Fin 8) (l : Fin 128) (r : Fin 256) :
    out0_7 (F := Ideal) (iblk m c 0 t) (iblk m c 1 t) (iblk m c 2 t) (iblk m c 3 t) (iblk m c 4 t) (iblk m c 5 t) (ix4 0 h l r)
      = Cert.InProjRefIdeal.InProj.resK (A0 m c) (A1 m c) (A2 m c) (A3 m c) (ix4 (bOf t) h l (rOf t r)) := by
  unfold out0_7 k0_pay44 k0_pay43 k0_pay42 k0_pay41 k0_pay40 k0_pay39 k0_pay37 k0_pay36 k0_pay35 k0_pay34
  rw [View.canon_unit_zero hz4]
  simp only [View.ld_unit_zero (S := S256x2048) hz, View.ld_unit_zero (S := S1x2048) hz, View.ld_unit_zero (S := S256x128) hz]
  rw [k_apply, k_at]
  unfold Cert.InProjRefIdeal.InProj.resK
  rw [Cert.InProjRefIdeal.InProj.turned_apply _ (bOf t) (rOf t r) h ⟨l.val / 64, by omega⟩ ⟨l.val % 64, by omega⟩ l (by show l.val = 64 * (l.val / 64) + l.val % 64; omega)]
  exact big_eq m c t r _ (fun k => ⟨1024 + k.val, by omega⟩) (fun d k => w_at1 m c t d k) (Cert.InProjRefIdeal.InProj.kCols (pR m c)) (fun h a j => Cert.InProjRefIdeal.InProj.kCols_apply _ _ _ _ _ _)
    h ⟨l.val / 64, by omega⟩ ⟨l.val % 64, by omega⟩ _ (by show h.val * 128 + l.val = 128 * h.val + 64 * (l.val / 64) + l.val % 64; omega)

/-- What a point stores of the keys, narrow. -/
theorem k16_point (t : Fin cfg0.N) (h : Fin 8) (l : Fin 128) (r : Fin 256) :
    out0_8 (F := Ideal) (iblk m c 0 t) (iblk m c 1 t) (iblk m c 2 t) (iblk m c 3 t) (iblk m c 4 t) (iblk m c 5 t) (ix5 0 h 0 l r)
      = Cert.InProjRefIdeal.InProj.resK16 (A0 m c) (A1 m c) (A2 m c) (A3 m c) (ix5 (bOf t) h (sOf t) l (pOf t r)) := by
  unfold out0_8 k0_pay44 k0_pay43 k0_pay42 k0_pay41 k0_pay40 k0_pay39 k0_pay37 k0_pay36 k0_pay35 k0_pay34
  rw [View.canon_unit_zero hz5]
  simp only [View.ld_unit_zero (S := S256x2048) hz, View.ld_unit_zero (S := S1x2048) hz, View.ld_unit_zero (S := S256x128) hz]
  rw [k16_apply, k16_at]
  unfold Cert.InProjRefIdeal.InProj.resK16
  rw [Cert.InProjRefIdeal.InProj.chunks_apply _ (bOf t) (rOf t r) h ⟨l.val / 64, by omega⟩ ⟨l.val % 64, by omega⟩ (sOf t) (pOf t r) (by
    show 256 * (t.val % 32) + r.val = t.val % 32 / 4 * 1024 + (256 * (t.val % 4) + r.val)
    omega) l (by show l.val = 64 * (l.val / 64) + l.val % 64; omega)]
  exact big_eq m c t r _ (fun k => ⟨1024 + k.val, by omega⟩) (fun d k => w_at1 m c t d k) (Cert.InProjRefIdeal.InProj.kCols (pR m c)) (fun h a j => Cert.InProjRefIdeal.InProj.kCols_apply _ _ _ _ _ _)
    h ⟨l.val / 64, by omega⟩ ⟨l.val % 64, by omega⟩ _ (by show h.val * 128 + l.val = 128 * h.val + 64 * (l.val / 64) + l.val % 64; omega)

/-- What a point stores of the values. -/
theorem v_point (t : Fin cfg0.N) (r : Fin 256) (k : Fin 1024) (hr : 256 * t.val + r.val < 16384) :
    out0_9 (F := Ideal) (iblk m c 0 t) (iblk m c 1 t) (iblk m c 2 t) (iblk m c 3 t) (iblk m c 4 t) (iblk m c 5 t) (ix2 r k)
      = Cert.InProjRefIdeal.InProj.resV (A0 m c) (A2 m c) (A3 m c) (ix2 ⟨256 * t.val + r.val, hr⟩ k) := by
  unfold out0_9 k0_pay34
  rw [View.canon_unit_zero hz]
  simp only [View.ld_unit_zero (S := S256x2048) hz, View.ld_unit_zero (S := S1x2048) hz]
  unfold Cert.InProjRefIdeal.InProj.resV
  rw [Cert.InProjRefIdeal.InProj.vals_apply _ (bOf t) (rOf t r) k ⟨256 * t.val + r.val, hr⟩ (by
    show 256 * t.val + r.val = 8192 * (t.val / 32) + (256 * (t.val % 32) + r.val)
    omega), v_apply]
  exact col_eq m c t r _ _ fun d => w_at2 m c t d k

/-- What a point stores of the values, narrow. -/
theorem v16_point (t : Fin cfg0.N) (r : Fin 256) (k : Fin 1024) (hr : 256 * t.val + r.val < 16384) :
    out0_10 (F := Ideal) (iblk m c 0 t) (iblk m c 1 t) (iblk m c 2 t) (iblk m c 3 t) (iblk m c 4 t) (iblk m c 5 t) (ix2 r k)
      = Cert.InProjRefIdeal.InProj.resV16 (A0 m c) (A2 m c) (A3 m c) (ix2 ⟨256 * t.val + r.val, hr⟩ k) := by
  unfold out0_10 k0_pay34
  rw [View.canon_unit_zero hz]
  simp only [View.ld_unit_zero (S := S256x2048) hz, View.ld_unit_zero (S := S1x2048) hz]
  rw [Cert.InProjRefIdeal.InProj.resV16_apply]
  unfold Cert.InProjRefIdeal.InProj.resV
  rw [Cert.InProjRefIdeal.InProj.vals_apply _ (bOf t) (rOf t r) k ⟨256 * t.val + r.val, hr⟩ (by
    show 256 * t.val + r.val = 8192 * (t.val / 32) + (256 * (t.val % 32) + r.val)
    omega), v16_apply]
  exact col_eq m c t r _ _ fun d => w_at2 m c t d k

/-- What a point stores of the gated linear unit. -/
theorem g_point (t : Fin cfg0.N) (r : Fin 256) (k : Fin 1024) (hr : 256 * t.val + r.val < 16384) :
    out0_11 (F := Ideal) (iblk m c 0 t) (iblk m c 1 t) (iblk m c 2 t) (iblk m c 3 t) (iblk m c 4 t) (iblk m c 5 t) (ix2 r k)
      = Cert.InProjRefIdeal.InProj.resG (A0 m c) (A2 m c) (A3 m c) (ix2 ⟨256 * t.val + r.val, hr⟩ k) := by
  unfold out0_11 k0_pay34
  rw [View.canon_unit_zero hz]
  simp only [View.ld_unit_zero (S := S256x2048) hz, View.ld_unit_zero (S := S1x2048) hz]
  unfold Cert.InProjRefIdeal.InProj.resG
  rw [Cert.InProjRefIdeal.InProj.glu_apply _ (bOf t) (rOf t r) k ⟨256 * t.val + r.val, hr⟩ (by
    show 256 * t.val + r.val = 8192 * (t.val / 32) + (256 * (t.val % 32) + r.val)
    omega), g_apply, col_eq m c t r _ _ fun d => w_at3 m c t d k, col_eq m c t r _ _ fun d => w_at4 m c t d k]
  rfl

theorem covers6 : (cfg0.win 6).Covers := by decide +kernel
theorem covers7 : (cfg0.win 7).Covers := by decide +kernel
theorem covers8 : (cfg0.win 8).Covers := by decide +kernel
theorem covers9 : (cfg0.win 9).Covers := by decide +kernel
theorem covers10 : (cfg0.win 10).Covers := by decide +kernel
theorem covers11 : (cfg0.win 11).Covers := by decide +kernel

theorem emb6 (t : Fin cfg0.N) (r : Fin 256) (d : Fin 1024) (ht : 256 * t.val + r.val < 16384) :
    ((cfg0.win 6).blk t).view.emb (ix2 r d) = ix2 (⟨256 * t.val + r.val, ht⟩ : Fin 16384) d := by
  blk_ext [idx6 t]
theorem emb7 (t : Fin cfg0.N) (h : Fin 8) (l : Fin 128) (r : Fin 256) :
    ((cfg0.win 7).blk t).view.emb (ix4 0 h l r) = ix4 (bOf t) h l (rOf t r) := by
  unfold bOf rOf
  blk_ext [idx7 t]
theorem emb8 (t : Fin cfg0.N) (h : Fin 8) (l : Fin 128) (r : Fin 256) :
    ((cfg0.win 8).blk t).view.emb (ix5 0 h 0 l r) = ix5 (bOf t) h (sOf t) l (pOf t r) := by
  unfold bOf sOf pOf
  blk_ext [idx8 t]
theorem emb9 (t : Fin cfg0.N) (r : Fin 256) (d : Fin 1024) (ht : 256 * t.val + r.val < 16384) :
    ((cfg0.win 9).blk t).view.emb (ix2 r d) = ix2 (⟨256 * t.val + r.val, ht⟩ : Fin 16384) d := by
  blk_ext [idx9 t]
theorem emb10 (t : Fin cfg0.N) (r : Fin 256) (d : Fin 1024) (ht : 256 * t.val + r.val < 16384) :
    ((cfg0.win 10).blk t).view.emb (ix2 r d) = ix2 (⟨256 * t.val + r.val, ht⟩ : Fin 16384) d := by
  blk_ext [idx10 t]
theorem emb11 (t : Fin cfg0.N) (r : Fin 256) (d : Fin 1024) (ht : 256 * t.val + r.val < 16384) :
    ((cfg0.win 11).blk t).view.emb (ix2 r d) = ix2 (⟨256 * t.val + r.val, ht⟩ : Fin 16384) d := by
  blk_ext [idx11 t]

theorem ix2_eta (y : S256x1024.Idx) : ∃ (r : Fin 256) (d : Fin 1024), y = ix2 r d := ⟨y 0, y 1, by
  funext a
  match a with
  | ⟨0, _⟩ => rfl
  | ⟨1, _⟩ => rfl⟩

theorem ix4_eta (y : S1x8x128x256.Idx) : ∃ (h : Fin 8) (l : Fin 128) (r : Fin 256), y = ix4 0 h l r := ⟨y 1, y 2, y 3, by
  funext a
  match a with
  | ⟨0, _⟩ => exact Fin.ext (by have : (y 0).val < 1 := (y 0).isLt; show (y 0).val = 0; omega)
  | ⟨1, _⟩ => rfl
  | ⟨2, _⟩ => rfl
  | ⟨3, _⟩ => rfl⟩

theorem ix5_eta (y : S1x8x1x128x256.Idx) : ∃ (h : Fin 8) (l : Fin 128) (r : Fin 256), y = ix5 0 h 0 l r := ⟨y 1, y 3, y 4, by
  funext a
  match a with
  | ⟨0, _⟩ => exact Fin.ext (by have : (y 0).val < 1 := (y 0).isLt; show (y 0).val = 0; omega)
  | ⟨1, _⟩ => rfl
  | ⟨2, _⟩ => exact Fin.ext (by have : (y 2).val < 1 := (y 2).isLt; show (y 2).val = 0; omega)
  | ⟨3, _⟩ => rfl
  | ⟨4, _⟩ => rfl⟩

/-- The reference's results. -/
def qR : FVec Ideal Cert.InProjRefIdeal.S16384x1024 .bf16 := Cert.InProjRefIdeal.InProj.resQ (A0 m c) (A1 m c) (A2 m c) (A3 m c)
def kR : FVec Ideal Cert.InProjRefIdeal.S2x8x128x8192 .f32 := Cert.InProjRefIdeal.InProj.resK (A0 m c) (A1 m c) (A2 m c) (A3 m c)
def kR16 : FVec Ideal Cert.InProjRefIdeal.S2x8x8x128x1024 .bf16 := Cert.InProjRefIdeal.InProj.resK16 (A0 m c) (A1 m c) (A2 m c) (A3 m c)
def vR : FVec Ideal Cert.InProjRefIdeal.S16384x1024 .f32 := Cert.InProjRefIdeal.InProj.resV (A0 m c) (A2 m c) (A3 m c)
def vR16 : FVec Ideal Cert.InProjRefIdeal.S16384x1024 .bf16 := Cert.InProjRefIdeal.InProj.resV16 (A0 m c) (A2 m c) (A3 m c)
def gR : FVec Ideal Cert.InProjRefIdeal.S16384x1024 .f32 := Cert.InProjRefIdeal.InProj.resG (A0 m c) (A2 m c) (A3 m c)

/-- What a point stores, as the reference's results there. -/
theorem after6_eq (t : Fin cfg0.N) (r : Fin 256) (d : Fin 1024) :
    (dats m 0 c).after 6 t (ix2 r d) = qR m c (((cfg0.win 6).blk t).view.emb (ix2 r d)) := by
  have ht : t.val < 64 := N_0 ▸ t.isLt
  have hr : 256 * t.val + r.val < 16384 := by omega
  rw [after0_6, emb6 t r d hr]
  exact q_point m c t r d hr

theorem after7_eq (t : Fin cfg0.N) (h : Fin 8) (l : Fin 128) (r : Fin 256) :
    (dats m 0 c).after 7 t (ix4 0 h l r) = kR m c (((cfg0.win 7).blk t).view.emb (ix4 0 h l r)) := by
  rw [after0_7, emb7 t h l r]
  exact k_point m c t h l r

theorem after8_eq (t : Fin cfg0.N) (h : Fin 8) (l : Fin 128) (r : Fin 256) :
    (dats m 0 c).after 8 t (ix5 0 h 0 l r) = kR16 m c (((cfg0.win 8).blk t).view.emb (ix5 0 h 0 l r)) := by
  rw [after0_8, emb8 t h l r]
  exact k16_point m c t h l r

theorem after9_eq (t : Fin cfg0.N) (r : Fin 256) (d : Fin 1024) :
    (dats m 0 c).after 9 t (ix2 r d) = vR m c (((cfg0.win 9).blk t).view.emb (ix2 r d)) := by
  have ht : t.val < 64 := N_0 ▸ t.isLt
  have hr : 256 * t.val + r.val < 16384 := by omega
  rw [after0_9, emb9 t r d hr]
  exact v_point m c t r d hr

theorem after10_eq (t : Fin cfg0.N) (r : Fin 256) (d : Fin 1024) :
    (dats m 0 c).after 10 t (ix2 r d) = vR16 m c (((cfg0.win 10).blk t).view.emb (ix2 r d)) := by
  have ht : t.val < 64 := N_0 ▸ t.isLt
  have hr : 256 * t.val + r.val < 16384 := by omega
  rw [after0_10, emb10 t r d hr]
  exact v16_point m c t r d hr

theorem after11_eq (t : Fin cfg0.N) (r : Fin 256) (d : Fin 1024) :
    (dats m 0 c).after 11 t (ix2 r d) = gR m c (((cfg0.win 11).blk t).view.emb (ix2 r d)) := by
  have ht : t.val < 64 := N_0 ▸ t.isLt
  have hr : 256 * t.val + r.val < 16384 := by omega
  rw [after0_11, emb11 t r d hr]
  exact g_point m c t r d hr

/-- The kernel's results are the reference's. -/
theorem tie_q : (dats m 0 c).arrAt 6 cfg0.N = qR m c := by
  refine (dats m 0 c).arrAt_eq_of_covers 6 (qR m c) covers6 fun t hf y => ?_
  obtain ⟨r, d, rfl⟩ := ix2_eta y
  exact after6_eq m c t r d

theorem tie_k : (dats m 0 c).arrAt 7 cfg0.N = kR m c := by
  refine (dats m 0 c).arrAt_eq_of_covers 7 (kR m c) covers7 fun t hf y => ?_
  obtain ⟨h, l, r, rfl⟩ := ix4_eta y
  exact after7_eq m c t h l r

theorem tie_k16 : (dats m 0 c).arrAt 8 cfg0.N = kR16 m c := by
  refine (dats m 0 c).arrAt_eq_of_covers 8 (kR16 m c) covers8 fun t hf y => ?_
  obtain ⟨h, l, r, rfl⟩ := ix5_eta y
  exact after8_eq m c t h l r

theorem tie_v : (dats m 0 c).arrAt 9 cfg0.N = vR m c := by
  refine (dats m 0 c).arrAt_eq_of_covers 9 (vR m c) covers9 fun t hf y => ?_
  obtain ⟨r, d, rfl⟩ := ix2_eta y
  exact after9_eq m c t r d

theorem tie_v16 : (dats m 0 c).arrAt 10 cfg0.N = vR16 m c := by
  refine (dats m 0 c).arrAt_eq_of_covers 10 (vR16 m c) covers10 fun t hf y => ?_
  obtain ⟨r, d, rfl⟩ := ix2_eta y
  exact after10_eq m c t r d

theorem tie_g : (dats m 0 c).arrAt 11 cfg0.N = gR m c := by
  refine (dats m 0 c).arrAt_eq_of_covers 11 (gR m c) covers11 fun t hf y => ?_
  obtain ⟨r, d, rfl⟩ := ix2_eta y
  exact after11_eq m c t r d

end Cert.InProjIdeal.InProj

end
-- ==== Proof.InProj.RefRun.lean ====
/- The reference's run, its results by name. -/
module

public import proofs.«01_k».proof.Proof.InProj.Ref
public import proofs.«01_k».proof.Proof.Gen.InProjRefIdeal.Run

@[expose] public section

set_option maxRecDepth 16384

noncomputable section

namespace Cert.InProjRefIdeal.InProj

open Idealize.ShloMosaic Idealize.ShloMosaic.TcCoe Idealize.SL.Sem Cert.InProjRefIdeal

theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v115) = resQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v117) = resK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v118) = resK16 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v101) = resV (m ((c.tc : Thread nD τ).loc main_arg0)) (m ((c.tc : Thread nD τ).loc main_arg2)) (m ((c.tc : Thread nD τ).loc main_arg3))
      ∧ r.2.mem ((c.tc : Thread nD τ).loc main_v119) = resV16 (m ((c.tc : Thread nD τ).loc main_arg0)) (m ((c.tc : Thread nD τ).loc main_arg2)) (m ((c.tc : Thread nD τ).loc main_arg3))
      ∧ r.2.mem ((c.tc : Thread nD τ).loc main_v120) = resG (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (resQ_eq m c), (h c).2.1.trans (resK_eq m c), (h c).2.2.1.trans (resK16_eq m c), (h c).2.2.2.1.trans ?_, (h c).2.2.2.2.1.trans ?_, (h c).2.2.2.2.2.1.trans ?_, (h c).2.2.2.2.2.2⟩) (Cert.InProjRefIdeal.Value.run (F := Ideal) m ρ)
  · unfold resV vals proj norm; rfl
  · unfold resV16 resV vals proj norm; rfl
  · unfold resG glu proj norm; rfl

end Cert.InProjRefIdeal.InProj
end
-- ==== Proof.InProj.Claims.lean ====
/- The five claims about the input projection. -/
module

public import proofs.«01_k».proof.Defs
public import proofs.«01_k».proof.Proof.InProj.Tie
public import proofs.«01_k».proof.Proof.InProj.RefRun
public import proofs.«01_k».proof.Proof.Gen.InProj.Frame
public import Idealize.ShloMosaic.Adequacy
public import Idealize.ShloMosaic.Init

@[expose] public section

set_option maxRecDepth 16384

noncomputable section

namespace Cert.InProjIdeal.InProj

open Idealize.ShloMosaic Idealize.SL.Sem

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2.2.2.2.2.2, Idealize.ShloMosaic.sem_eq_zero_of_no_sems (by decide) r.2⟩)
    (Cert.InProjRefIdeal.Value.run (F := Ideal) m ρ)
theorem preserves : Cert.preserves_InProj_InProjIdeal :=
  IdealRules.named_const.statement Cert.InProjIdeal.κ "qscale" .f32 0x3E38AA3B#32 _ rfl

set_option maxHeartbeats 2000000 in
theorem algebraic : Cert.algebraic_InProjIdeal_InProjRefIdeal := by
  intro m ρ m' ρ' hp hagree
  refine ⟨fun c => (Cert.InProjIdeal.Gen.dats m 0 c).arrAt 6 Cert.InProjIdeal.cfg0.N, fun c => (Cert.InProjIdeal.Gen.dats m 0 c).arrAt 7 Cert.InProjIdeal.cfg0.N, fun c => (Cert.InProjIdeal.Gen.dats m 0 c).arrAt 8 Cert.InProjIdeal.cfg0.N, fun c => (Cert.InProjIdeal.Gen.dats m 0 c).arrAt 9 Cert.InProjIdeal.cfg0.N, fun c => (Cert.InProjIdeal.Gen.dats m 0 c).arrAt 10 Cert.InProjIdeal.cfg0.N, fun c => (Cert.InProjIdeal.Gen.dats m 0 c).arrAt 11 Cert.InProjIdeal.cfg0.N, ?_, ?_⟩
  · exact Cert.InProjIdeal.Value.run_blocks m ρ
  · refine (θ_run Cert.InProjRefIdeal.defs _ _).mono (fun _ h c => ⟨?_, ?_, ?_, ?_, ?_, ?_, (h c).2.2.2.2.2.2⟩) (Cert.InProjRefIdeal.InProj.run_named m' ρ')
    all_goals obtain ⟨h0, h1, h2, h3⟩ := hagree c
    · rw [(h c).1, h0, h1, h2, h3]
      exact (tie_q m c).symm
    · rw [(h c).2.1, h0, h1, h2, h3]
      exact (tie_k m c).symm
    · rw [(h c).2.2.1, h0, h1, h2, h3]
      exact (tie_k16 m c).symm
    · rw [(h c).2.2.2.1, h0, h2, h3]
      exact (tie_v m c).symm
    · rw [(h c).2.2.2.2.1, h0, h2, h3]
      exact (tie_v16 m c).symm
    · rw [(h c).2.2.2.2.2.1, h0, h2, h3]
      exact (tie_g m c).symm

end Cert.InProjIdeal.InProj

end
-- ==== Proof.InSamp.Ref.lean ====
/- The input projection reference's operations by name, and its results as their composition. -/
module

public import proofs.«01_k».proof.Proof.Gen.InSampRefIdeal.Run
public import Idealize.ShloMosaic.PureOps.Ideal.Laws
public import Idealize.ShloMosaic.Lib.Pointwise

@[expose] public section

set_option maxRecDepth 1024

noncomputable section

namespace Cert.InSampRefIdeal.InSamp

open Idealize.ShloMosaic Idealize.ShloMosaic.Tactic Cert.InSampRefIdeal Cert.InSampRefIdeal.Gen Cert.InSampRefIdeal.Value

/-- Rows over the root of their mean square, times a gain. -/
def norm (x : FVec Ideal S32x32x2048 .f32) (g : FVec Ideal S2048 .f32) : FVec Ideal S32x32x2048 .f32 :=
  mulf (mulf x (broadcastInDim S32x32x2048 ![0, 1, 2] bcast_S32x32x1_S32x32x2048_0_1_2 (Host.rsqrt (addf (Host.divf (broadcastInDim S32x32x1 ![0, 1] bcast_S32x32_S32x32x1_0_1 (Host.reduceAdd (mulf x x) (constant S_ .f32 0x00000000#32) reducesTo_S32x32x2048_S32x32_d2 h_S_)) (broadcastInDim S32x32x1 ![] bcast_S_S32x32x1 (constant S_ .f32 0x45000000#32))) (broadcastInDim S32x32x1 ![] bcast_S_S32x32x1 (constant S_ .f32 0x358637BD#32)))))) (broadcastInDim S32x32x2048 ![0, 1, 2] bcast_S1x1x2048_S32x32x2048_0_1_2 (broadcastInDim S1x1x2048 ![2] bcast_S2048_S1x1x2048_2 g))

/-- The input projection. -/
def proj (h : FVec Ideal S32x32x2048 .f32) (w : FVec Ideal S2048x9216 .f32) : FVec Ideal S32x32x9216 .f32 :=
  Host.dotGeneral dot_S32x32x2048_S2048x9216_S32x32x9216_2_0_01_1_n_n none h w

/-- The frequencies of the rotation. -/
def freq : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angles: a row's position times a frequency. -/
def ang (p : IVec S32 32) : FVec Ideal S32x8 .f32 :=
  mulf (broadcastInDim S32x8 ![0, 1] bcast_S32x1_S32x8_0_1 (broadcastInDim S32x1 ![0] bcast_S32_S32x1_0 (sitofp .f32 p))) (broadcastInDim S32x8 ![0, 1] bcast_S1x8_S32x8_0_1 (broadcastInDim S1x8 ![1] bcast_S8_S1x8_1 freq))

/-- A table of the rows' angles, for every head and map. -/
def spread (a : FVec Ideal S32x8 .f32) : FVec Ideal S32x32x8x2x8 .f32 :=
  broadcastInDim S32x32x8x2x8 ![0, 1, 2, 3, 4] bcast_S1x32x1x1x8_S32x32x8x2x8_0_1_2_3_4 (broadcastInDim S1x32x1x1x8 ![1, 2, 3, 4] bcast_S32x1x1x8_S1x32x1x1x8_1_2_3_4 (broadcastInDim S32x1x1x8 ![0, 3] bcast_S32x8_S32x1x1x8_0_3 a))

/-- The columns that turn, in two halves, and those that stay. -/
def lowHalf (z : FVec Ideal S32x32x8x2x64 .f32) : FVec Ideal S32x32x8x2x8 .f32 := extractStridedSlice S32x32x8x2x8 ![0, 0, 0, 0, 0] z slices_S32x32x8x2x64_S32x32x8x2x8_0_0_0_0_0
def highHalf (z : FVec Ideal S32x32x8x2x64 .f32) : FVec Ideal S32x32x8x2x8 .f32 := extractStridedSlice S32x32x8x2x8 ![0, 0, 0, 0, 8] z slices_S32x32x8x2x64_S32x32x8x2x8_0_0_0_0_8
def still (z : FVec Ideal S32x32x8x2x64 .f32) : FVec Ideal S32x32x8x2x48 .f32 := extractStridedSlice S32x32x8x2x48 ![0, 0, 0, 0, 16] z slices_S32x32x8x2x64_S32x32x8x2x48_0_0_0_0_16

/-- The three parts side by side. -/
def join (u0 u1 : FVec Ideal S32x32x8x2x8 .f32) (u2 : FVec Ideal S32x32x8x2x48 .f32) : FVec Ideal S32x32x8x2x64 .f32 :=
  concatenate S32x32x8x2x64 4 [⟨S32x32x8x2x8, (u0 : (⟨S32x32x8x2x8, .f32⟩ : BufTy).Contents (Elt Ideal))⟩, ⟨S32x32x8x2x8, (u1 : (⟨S32x32x8x2x8, .f32⟩ : BufTy).Contents (Elt Ideal))⟩, ⟨S32x32x8x2x48, (u2 : (⟨S32x32x8x2x48, .f32⟩ : BufTy).Contents (Elt Ideal))⟩] concatenates_S32x32x8x2x8_S32x32x8x2x8_S32x32x8x2x48_S32x32x8x2x64_d4

/-- The rotation. -/
def rope (z : FVec Ideal S32x32x8x2x64 .f32) (p : IVec S32 32) : FVec Ideal S32x32x8x2x64 .f32 :=
  join (subf (mulf (lowHalf z) (spread (Host.cos (ang p)))) (mulf (highHalf z) (spread (Host.sin (ang p)))))
    (addf (mulf (highHalf z) (spread (Host.cos (ang p)))) (mulf (lowHalf z) (spread (Host.sin (ang p))))) (still z)

/-- The columns of the queries and of the keys, by head and map. -/
def qCols (z : FVec Ideal S32x32x9216 .f32) : FVec Ideal S32x32x8x2x64 .f32 :=
  shapeCast _ (extractStridedSlice S32x32x1024 ![0, 0, 0] z slices_S32x32x9216_S32x32x1024_0_0_0) shapeCasts_S32x32x1024_S32x32x8x2x64
def kCols (z : FVec Ideal S32x32x9216 .f32) : FVec Ideal S32x32x8x2x64 .f32 :=
  shapeCast _ (extractStridedSlice S32x32x1024 ![0, 0, 1024] z slices_S32x32x9216_S32x32x1024_0_0_1024) shapeCasts_S32x32x1024_S32x32x8x2x64

/-- The scale of the queries. -/
def scaled (r : FVec Ideal S32x32x8x2x64 .f32) : FVec Ideal S1024x1024 .bf16 :=
  shapeCast _ (truncf .bf16 (Host.divf (mulf r (broadcastInDim S32x32x8x2x64 ![] bcast_S_S32x32x8x2x64 (constant S_ .f32 0x3E000000#32))) (broadcastInDim S32x32x8x2x64 ![] bcast_S_S32x32x8x2x64 (Host.log (constant S_ .f32 0x40000000#32)))) bitsLt_bf16_f32) shapeCasts_S32x32x8x2x64_S1024x1024

/-- The keys, row by row. -/
def rows (r : FVec Ideal S32x32x8x2x64 .f32) : FVec Ideal S1024x1024 .f32 := shapeCast _ r shapeCasts_S32x32x8x2x64_S1024x1024

/-- The values. -/
def vals (z : FVec Ideal S32x32x9216 .f32) : FVec Ideal S1024x1024 .f32 :=
  shapeCast _ (extractStridedSlice S32x32x1024 ![0, 0, 2048] z slices_S32x32x9216_S32x32x1024_0_0_2048) shapeCasts_S32x32x1024_S1024x1024

/-- The gated linear unit. -/
def glu (z : FVec Ideal S32x32x9216 .f32) : FVec Ideal S1024x1024 .f32 :=
  shapeCast _ (mulf (extractStridedSlice S32x32x1024 ![0, 0, 0] (extractStridedSlice S32x32x2048 ![0, 0, 3072] z slices_S32x32x9216_S32x32x2048_0_0_3072) slices_S32x32x2048_S32x32x1024_0_0_0) (Host.divf (broadcastInDim S32x32x1024 ![] bcast_S_S32x32x1024 (constant S_ .f32 0x3F800000#32)) (addf (broadcastInDim S32x32x1024 ![] bcast_S_S32x32x1024 (constant S_ .f32 0x3F800000#32)) (Host.exp (Host.negf (extractStridedSlice S32x32x1024 ![0, 0, 1024] (extractStridedSlice S32x32x2048 ![0, 0, 3072] z slices_S32x32x9216_S32x32x2048_0_0_3072) slices_S32x32x2048_S32x32x1024_0_0_1024)))))) shapeCasts_S32x32x1024_S1024x1024

/-- The results, from the arguments. -/
def resQ (a0 : FVec Ideal S32x32x2048 .f32) (a1 : IVec S32 32) (a2 : FVec Ideal S2048 .f32) (a3 : FVec Ideal S2048x9216 .f32) := scaled (rope (qCols (proj (norm a0 a2) a3)) a1)
def resK (a0 : FVec Ideal S32x32x2048 .f32) (a1 : IVec S32 32) (a2 : FVec Ideal S2048 .f32) (a3 : FVec Ideal S2048x9216 .f32) := rows (rope (kCols (proj (norm a0 a2) a3)) a1)
def resV (a0 : FVec Ideal S32x32x2048 .f32) (a2 : FVec Ideal S2048 .f32) (a3 : FVec Ideal S2048x9216 .f32) := vals (proj (norm a0 a2) a3)
def resG (a0 : FVec Ideal S32x32x2048 .f32) (a2 : FVec Ideal S2048 .f32) (a3 : FVec Ideal S2048x9216 .f32) := glu (proj (norm a0 a2) a3)

set_option maxHeartbeats 4000000 in
theorem resQ_eq (m : (ℓ : Loc nD τ sig) → Buf (Elt Ideal) ℓ) (c : Dev nD) : res_main_v114 m c =
    resQ (m ((c.tc : Thread nD τ).loc main_arg0)) (m ((c.tc : Thread nD τ).loc main_arg1)) (m ((c.tc : Thread nD τ).loc main_arg2)) (m ((c.tc : Thread nD τ).loc main_arg3)) := by
  unfold res_main_v114
  simp only [id_eq]
  unfold resQ scaled rope join lowHalf highHalf still spread ang freq qCols proj norm
  rfl

set_option maxHeartbeats 4000000 in
theorem resK_eq (m : (ℓ : Loc nD τ sig) → Buf (Elt Ideal) ℓ) (c : Dev nD) : res_main_v100 m c =
    resK (m ((c.tc : Thread nD τ).loc main_arg0)) (m ((c.tc : Thread nD τ).loc main_arg1)) (m ((c.tc : Thread nD τ).loc main_arg2)) (m ((c.tc : Thread nD τ).loc main_arg3)) := by
  unfold res_main_v100
  unfold resK rows rope join lowHalf highHalf still spread ang freq kCols proj norm
  rfl

/-- The narrow copies of the keys and the values. -/
def resK16 (a0 : FVec Ideal S32x32x2048 .f32) (a1 : IVec S32 32) (a2 : FVec Ideal S2048 .f32) (a3 : FVec Ideal S2048x9216 .f32) : FVec Ideal S1024x1024 .bf16 := truncf .bf16 (resK a0 a1 a2 a3) bitsLt_bf16_f32
def resV16 (a0 : FVec Ideal S32x32x2048 .f32) (a2 : FVec Ideal S2048 .f32) (a3 : FVec Ideal S2048x9216 .f32) : FVec Ideal S1024x1024 .bf16 := truncf .bf16 (resV a0 a2 a3) bitsLt_bf16_f32

set_option maxHeartbeats 4000000 in
theorem resK16_eq (m : (ℓ : Loc nD τ sig) → Buf (Elt Ideal) ℓ) (c : Dev nD) : res_main_v115 m c =
    resK16 (m ((c.tc : Thread nD τ).loc main_arg0)) (m ((c.tc : Thread nD τ).loc main_arg1)) (m ((c.tc : Thread nD τ).loc main_arg2)) (m ((c.tc : Thread nD τ).loc main_arg3)) := by
  unfold res_main_v115
  unfold resK16 resK rows rope join lowHalf highHalf still spread ang freq kCols proj norm
  rfl

theorem resK16_apply (a0 : FVec Ideal S32x32x2048 .f32) (a1 : IVec S32 32) (a2 : FVec Ideal S2048 .f32) (a3 : FVec Ideal S2048x9216 .f32) (i k : Fin 1024) :
    resK16 a0 a1 a2 a3 (ix2 i k) = resK a0 a1 a2 a3 (ix2 i k) := by
  unfold resK16
  generalize resK a0 a1 a2 a3 = z
  pointwise

theorem resV16_apply (a0 : FVec Ideal S32x32x2048 .f32) (a2 : FVec Ideal S2048 .f32) (a3 : FVec Ideal S2048x9216 .f32) (i k : Fin 1024) :
    resV16 a0 a2 a3 (ix2 i k) = resV a0 a2 a3 (ix2 i k) := by
  unfold resV16
  generalize resV a0 a2 a3 = z
  pointwise

theorem norm_apply (x : FVec Ideal S32x32x2048 .f32) (g : FVec Ideal S2048 .f32) (b : Fin 32) (r : Fin 32) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

theorem proj_apply (h : FVec Ideal S32x32x2048 .f32) (w : FVec Ideal S2048x9216 .f32) (b : Fin 32) (r : Fin 32) (k : Fin 9216) :
    proj h w (ix3 b r k) = ∑ d : Fin 2048, h (ix3 b r d) * w (ix2 d k) := by
  unfold proj; pointwise

theorem vals_apply (z : FVec Ideal S32x32x9216 .f32) (b : Fin 32) (r : Fin 32) (k : Fin 1024) (i : Fin 1024) (hi : i.val = 32 * b.val + r.val) :
    vals z (ix2 i k) = z (ix3 b r ⟨2048 + k.val, by omega⟩) := by
  obtain ⟨n, hn⟩ := i
  obtain rfl : n = 32 * b.val + r.val := hi
  unfold vals; pointwise

theorem glu_apply (z : FVec Ideal S32x32x9216 .f32) (b : Fin 32) (r : Fin 32) (k : Fin 1024) (i : Fin 1024) (hi : i.val = 32 * b.val + r.val) :
    glu z (ix2 i k) = z (ix3 b r ⟨3072 + k.val, by omega⟩) * Ideal.div 1 (1 + Ideal.exp (-(z (ix3 b r ⟨3072 + (1024 + k.val), by omega⟩)))) := by
  obtain ⟨n, hn⟩ := i
  obtain rfl : n = 32 * b.val + r.val := hi
  unfold glu; pointwise

theorem ang_apply (p : IVec S32 32) (r : Fin 32) (j : Fin 8) :
    ang p (ix2 r j) = FloatOps.sitofp (F := Ideal) .f32 (p (ix1 r)) * freq (ix1 j) := by
  unfold ang; pointwise

theorem rope_low (z : FVec Ideal S32x32x8x2x64 .f32) (p : IVec S32 32) (b : Fin 32) (r : Fin 32) (h : Fin 8) (a : Fin 2) (j : Fin 64) (hj : j.val < 8) :
    rope z p (ix5 b r h a j) = z (ix5 b r h a j) * Ideal.cos (ang p (ix2 r ⟨j.val, hj⟩)) - z (ix5 b r h a ⟨8 + j.val, by omega⟩) * Ideal.sin (ang p (ix2 r ⟨j.val, hj⟩)) := by
  unfold rope join lowHalf highHalf still spread
  generalize ang p = A
  pointwise
  rw [dif_pos hj]

theorem rope_high (z : FVec Ideal S32x32x8x2x64 .f32) (p : IVec S32 32) (b : Fin 32) (r : Fin 32) (h : Fin 8) (a : Fin 2) (j : Fin 64) (hj : ¬ j.val < 8) (hj' : j.val - 8 < 8) :
    rope z p (ix5 b r h a j) = z (ix5 b r h a j) * Ideal.cos (ang p (ix2 r ⟨j.val - 8, hj'⟩)) + z (ix5 b r h a ⟨j.val - 8, by omega⟩) * Ideal.sin (ang p (ix2 r ⟨j.val - 8, hj'⟩)) := by
  unfold rope join lowHalf highHalf still spread
  generalize ang p = A
  pointwise
  rw [dif_neg hj, dif_pos hj']
  rw [show (⟨8 + (j.val - 8), by omega⟩ : Fin 64) = j from Fin.ext (by show 8 + (j.val - 8) = j.val; omega)]

theorem rope_still (z : FVec Ideal S32x32x8x2x64 .f32) (p : IVec S32 32) (b : Fin 32) (r : Fin 32) (h : Fin 8) (a : Fin 2) (j : Fin 64) (hj : ¬ j.val < 8) (hj' : ¬ j.val - 8 < 8) :
    rope z p (ix5 b r h a j) = z (ix5 b r h a j) := by
  unfold rope join lowHalf highHalf still spread
  generalize ang p = A
  pointwise
  rw [dif_neg hj, dif_neg hj']
  rw [show (⟨16 + (j.val - 8 - 8), by omega⟩ : Fin 64) = j from Fin.ext (by show 16 + (j.val - 8 - 8) = j.val; omega)]

theorem qCols_apply (z : FVec Ideal S32x32x9216 .f32) (b : Fin 32) (r : Fin 32) (h : Fin 8) (a : Fin 2) (j : Fin 64) :
    qCols z (ix5 b r h a j) = z (ix3 b r ⟨h.val * 128 + a.val * 64 + j.val, by omega⟩) := by
  unfold qCols; pointwise

theorem kCols_apply (z : FVec Ideal S32x32x9216 .f32) (b : Fin 32) (r : Fin 32) (h : Fin 8) (a : Fin 2) (j : Fin 64) :
    kCols z (ix5 b r h a j) = z (ix3 b r ⟨1024 + (h.val * 128 + a.val * 64 + j.val), by omega⟩) := by
  unfold kCols; pointwise

theorem scaled_apply (x : FVec Ideal S32x32x8x2x64 .f32) (b : Fin 32) (r : Fin 32) (h : Fin 8) (a : Fin 2) (j : Fin 64) (i : Fin 1024) (hi : i.val = 32 * b.val + r.val) (k : Fin 1024) (hk : k.val = 128 * h.val + 64 * a.val + j.val) :
    scaled x (ix2 i k) = Ideal.div (x (ix5 b r h a j) * Ideal.ofBits .f32 0x3E000000#32) (Ideal.log (Ideal.ofBits .f32 0x40000000#32)) := by
  obtain ⟨n, hn⟩ := i
  obtain rfl : n = 32 * b.val + r.val := hi
  obtain ⟨l, hl⟩ := k
  obtain rfl : l = 128 * h.val + 64 * a.val + j.val := hk
  unfold scaled; pointwise

theorem rows_apply (x : FVec Ideal S32x32x8x2x64 .f32) (b : Fin 32) (r : Fin 32) (h : Fin 8) (a : Fin 2) (j : Fin 64) (i : Fin 1024) (hi : i.val = 32 * b.val + r.val) (k : Fin 1024) (hk : k.val = 128 * h.val + 64 * a.val + j.val) :
    rows x (ix2 i k) = x (ix5 b r h a j) := by
  obtain ⟨n, hn⟩ := i
  obtain rfl : n = 32 * b.val + r.val := hi
  obtain ⟨l, hl⟩ := k
  obtain rfl : l = 128 * h.val + 64 * a.val + j.val := hk
  unfold rows; pointwise

end Cert.InSampRefIdeal.InSamp
end
-- ==== Proof.InSamp.Lit.lean ====
/- The host code's literal tables, entry by entry. -/
module

public import proofs.«01_k».proof.InSampIdeal

@[expose] public section

set_option maxRecDepth 100000

namespace Cert.InSampIdeal.InSamp

/-- The rows' numbers. -/
theorem lit0_eq : ∀ i : Fin 256, lit0 i = BitVec.ofNat 32 (i.val % 32) := by decide +kernel

/-- The lanes' frequency numbers, the lanes that turn, and the signs of their halves. -/
theorem lit1_eq : ∀ l : Fin 128, (lit1 l).toInt.toNat = l.val % 8 := by decide +kernel
theorem lit2_eq : ∀ l : Fin 128, lit2 l = if l.val % 64 < 16 then 1#1 else 0#1 := by decide +kernel
theorem lit3_eq : ∀ l : Fin 128, lit3 l = if l.val % 64 < 8 then 0xBF800000#32 else 0x00000000#32 := by decide +kernel
theorem lit4_eq : ∀ l : Fin 128, l.val % 64 < 16 → lit4 l = if l.val % 64 < 8 then 0x00000000#32 else 0x3F800000#32 := by decide +kernel

end Cert.InSampIdeal.InSamp

end
-- ==== Proof.InSamp.Tables.lean ====
/- The rotation's tables, as the host code prepares them, read at an index. -/
module

public import proofs.«01_k».proof.Proof.InSamp.Lit
public import proofs.«01_k».proof.Proof.Gen.InSampIdeal.Frame
public import Idealize.ShloMosaic.PureOps.Ideal.Laws
public import Idealize.ShloMosaic.Lib.Pointwise
public import Idealize.ShloMosaic.Lib.Pipeline.ValueKit

@[expose] public section

set_option maxRecDepth 16384

noncomputable section

namespace Cert.InSampIdeal.InSamp

open Idealize.ShloMosaic Idealize.ShloMosaic.TcCoe Idealize.ShloMosaic.Tactic Cert.InSampIdeal Cert.InSampIdeal.Gen

variable (m : (ℓ : Loc nD τ sig) → Buf (Elt Ideal) ℓ) (c : Dev nD)

/-- The rows' numbers, and the rows' positions by them. -/
def rowIx : IVec S256 32 := fun i => lit0 (S256.rowMajor i)
def pos (p : IVec S32 32) : IVec S256 32 :=
  Host.gather gather_S32_S256x1_S256_n_0_n_n_0_1_1 p (broadcastInDim S256x1 ![0] bcast_S256_S256x1_0 (select (constantI S256 1 0#1) (addi rowIx (broadcastInDim S256 ![] bcast_S_S256 (constantI S_ 32 32#32))) rowIx))

/-- The frequencies. -/
def freq : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The lanes' frequencies, and nothing on the lanes that stay. -/
def laneIx : IVec S128 32 := fun i => lit1 (S128.rowMajor i)
def laneAt : FVec Ideal S128 .f32 :=
  Host.gather gather_S8_S128x1_S128_n_0_n_n_0_1_1 freq (broadcastInDim S128x1 ![0] bcast_S128_S128x1_0 (select (constantI S128 1 0#1) (addi laneIx (broadcastInDim S128 ![] bcast_S_S128 (constantI S_ 32 8#32))) laneIx))
def laneFreq : FVec Ideal S128 .f32 :=
  select (fun i => lit2 (S128.rowMajor i)) laneAt (broadcastInDim S128 ![] bcast_S_S128 (constant S_ .f32 0x00000000#32))

/-- The angles. -/
def ang (p : IVec S32 32) : FVec Ideal S256x128 .f32 :=
  mulf (broadcastInDim S256x128 ![0, 1] bcast_S256x1_S256x128_0_1 (broadcastInDim S256x1 ![0] bcast_S256_S256x1_0 (sitofp .f32 (pos p)))) (broadcastInDim S256x128 ![0, 1] bcast_S1x128_S256x128_0_1 (broadcastInDim S1x128 ![1] bcast_S128_S1x128_1 laneFreq))

/-- The signs of the two halves' lanes. -/
def signLo : FVec Ideal S128 .f32 := fun i => FloatOps.ofBits .f32 (lit3 (S128.rowMajor i))
def signHi : FVec Ideal S128 .f32 := fun i => FloatOps.ofBits .f32 (lit4 (S128.rowMajor i))
def spread (s : FVec Ideal S128 .f32) : FVec Ideal S256x128 .f32 :=
  broadcastInDim S256x128 ![0, 1] bcast_S1x128_S256x128_0_1 (broadcastInDim S1x128 ![1] bcast_S128_S1x128_1 s)

theorem V_cos : V m c main_v34 = Host.cos (ang (m ((c : Thread nD τ).loc main_arg1))) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_lo : V m c main_v30 = mulf (Host.sin (ang (m ((c : Thread nD τ).loc main_arg1)))) (spread signLo) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_hi : V m c main_v33 = mulf (Host.sin (ang (m ((c : Thread nD τ).loc main_arg1)))) (spread signHi) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

/-- A gather of a flat operand at a column of start indices, read at an index. -/
theorem gather_col {α : Type} {N R w : Nat} (d : GatherDims ⟨1, ![N]⟩ ⟨2, ![R, 1]⟩ ⟨1, ![R]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![R, 1]⟩ w) (r : Fin R) (k : Fin N) (hk : (idx (ix2 r 0)).toInt.toNat = k.val) :
    Host.gather d x idx (ix1 r) = x (ix1 k) := by
  obtain ⟨_, _, _, _, _, _, _, wf⟩ := d
  subst h1 h2 h3 h4 h5 h6 h7
  unfold Host.gather
  refine congrArg x ?_
  funext a
  obtain rfl : a = 0 := Subsingleton.elim _ _
  refine Fin.ext ?_
  show GatherDims.start _ _ idx 0 + GatherDims.batchCoord _ _ 0 + GatherDims.offCoord _ _ 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hi : ∀ j, GatherDims.siIdx (⟨[], [0], [], [], [0], 1, ![1], wf⟩ : GatherDims ⟨1, ![N]⟩ ⟨2, ![R, 1]⟩ ⟨1, ![R]⟩) (ix1 r) j = ix2 r 0 := by
    intro j
    funext b; refine Fin.ext ?_
    match b with
    | ⟨0, _⟩ => rfl
    | ⟨1, _⟩ => exact Nat.lt_one_iff.mp (Fin.isLt _)
  rw [hi, hk]
  show min k.val (N - 1) = k.val
  omega

theorem rm128 (l : Fin 128) : S128.rowMajor (ix1 l) = (l : Fin S128.numel) := Fin.ext (Shape.rowMajor_val_one _)
theorem rm256 (r : Fin 256) : S256.rowMajor (ix1 r) = (r : Fin S256.numel) := Fin.ext (Shape.rowMajor_val_one _)

theorem signLo_apply (l : Fin 128) : signLo (ix1 l) = if l.val % 64 < 8 then -1 else 0 := by
  unfold signLo
  rw [rm128, lit3_eq]
  split_ifs
  · show Ideal.ofBits .f32 0xBF800000#32 = -1
    simp [Ideal.ofBits, Ideal.ieee]
    norm_num
    rw [← EReal.coe_mul]
    norm_num
  · pointwise

theorem signHi_apply (l : Fin 128) (hl : l.val % 64 < 16) : signHi (ix1 l) = if l.val % 64 < 8 then 0 else 1 := by
  unfold signHi
  rw [rm128, lit4_eq l hl]
  split_ifs
  · pointwise
  · pointwise

theorem laneFreq_apply (l : Fin 128) : laneFreq (ix1 l) = if l.val % 64 < 16 then laneAt (ix1 l) else 0 := by
  unfold laneFreq
  pointwise
  rw [rm128, lit2_eq]
  split_ifs
  · rfl
  · rfl

theorem spread_apply (s : FVec Ideal S128 .f32) (r : Fin 256) (l : Fin 128) : spread s (ix2 r l) = s (ix1 l) := by
  unfold spread; pointwise

theorem ang_apply (p : IVec S32 32) (r : Fin 256) (l : Fin 128) :
    ang p (ix2 r l) = FloatOps.sitofp (F := Ideal) .f32 (pos p (ix1 r)) * laneFreq (ix1 l) := by
  unfold ang; pointwise

theorem pos_apply (p : IVec S32 32) (r : Fin 256) : pos p (ix1 r) = p (ix1 ⟨r.val % 32, by omega⟩) := by
  unfold pos
  refine gather_col _ rfl rfl rfl rfl rfl rfl rfl _ _ r ⟨r.val % 32, by omega⟩ ?_
  pointwise
  unfold rowIx
  rw [rm256, lit0_eq]
  show (BitVec.ofNat 32 (r.val % 32)).toInt.toNat = r.val % 32
  rw [BitVec.toInt_eq_toNat_of_lt (by rw [BitVec.toNat_ofNat]; omega)]
  simp only [BitVec.toNat_ofNat, Int.toNat_natCast]
  omega

theorem laneAt_apply (l : Fin 128) : laneAt (ix1 l) = freq (ix1 ⟨l.val % 8, by omega⟩) := by
  unfold laneAt
  refine gather_col _ rfl rfl rfl rfl rfl rfl rfl _ _ l ⟨l.val % 8, by omega⟩ ?_
  pointwise
  unfold laneIx
  rw [rm128]
  exact lit1_eq l

/-- A row's angle at a frequency. -/
def th (p : IVec S32 32) (r : Fin 32) (j : Fin 8) : EReal := FloatOps.sitofp (F := Ideal) .f32 (p (ix1 r)) * freq (ix1 j)

theorem ang_turn (p : IVec S32 32) (r : Fin 256) (l : Fin 128) (hl : l.val % 64 < 16) : ang p (ix2 r l) = th p ⟨r.val % 32, by omega⟩ ⟨l.val % 8, by omega⟩ := by
  rw [ang_apply, pos_apply, laneFreq_apply, if_pos hl, laneAt_apply]; rfl

theorem ang_still (p : IVec S32 32) (r : Fin 256) (l : Fin 128) (hl : ¬ l.val % 64 < 16) : ang p (ix2 r l) = 0 := by
  rw [ang_apply, laneFreq_apply, if_neg hl]; exact mul_zero _

theorem cos_apply (p : IVec S32 32) (r : Fin 256) (l : Fin 128) :
    Host.cos (ang p) (ix2 r l) = if l.val % 64 < 16 then Ideal.cos (th p ⟨r.val % 32, by omega⟩ ⟨l.val % 8, by omega⟩) else 1 := by
  have e : Host.cos (ang p) (ix2 r l) = Ideal.cos (ang p (ix2 r l)) := by pointwise
  rw [e]
  split_ifs with hl
  · rw [ang_turn p r l hl]
  · rw [ang_still p r l hl]
    show ((Real.cos 0 : ℝ) : EReal) = 1
    rw [Real.cos_zero]; rfl

theorem sin_still (p : IVec S32 32) (r : Fin 256) (l : Fin 128) (hl : ¬ l.val % 64 < 16) : Ideal.sin (ang p (ix2 r l)) = 0 := by
  rw [ang_still p r l hl]
  show ((Real.sin 0 : ℝ) : EReal) = 0
  rw [Real.sin_zero]; rfl

theorem lo_apply (p : IVec S32 32) (r : Fin 256) (l : Fin 128) :
    mulf (Host.sin (ang p)) (spread signLo) (ix2 r l) = if l.val % 64 < 8 then -Ideal.sin (th p ⟨r.val % 32, by omega⟩ ⟨l.val % 8, by omega⟩) else 0 := by
  have e : mulf (Host.sin (ang p)) (spread signLo) (ix2 r l) = Ideal.sin (ang p (ix2 r l)) * signLo (ix1 l) := by
    rw [← spread_apply signLo r l]; pointwise
  rw [e, signLo_apply]
  split_ifs with hl
  · rw [ang_turn p r l (by omega), mul_neg, mul_one]
  · exact mul_zero _

theorem hi_apply (p : IVec S32 32) (r : Fin 256) (l : Fin 128) :
    mulf (Host.sin (ang p)) (spread signHi) (ix2 r l) = if l.val % 64 < 8 then 0 else if l.val % 64 < 16 then Ideal.sin (th p ⟨r.val % 32, by omega⟩ ⟨l.val % 8, by omega⟩) else 0 := by
  have e : mulf (Host.sin (ang p)) (spread signHi) (ix2 r l) = Ideal.sin (ang p (ix2 r l)) * signHi (ix1 l) := by
    rw [← spread_apply signHi r l]; pointwise
  rw [e]
  split_ifs with hl hl'
  · rw [signHi_apply l (by omega), if_pos hl]; exact mul_zero _
  · rw [signHi_apply l hl', if_neg hl, ang_turn p r l hl', mul_one]
  · rw [sin_still p r l hl']; exact zero_mul _

end Cert.InSampIdeal.InSamp
end
-- ==== Proof.InSamp.Point.lean ====
/- The input projection kernel's arithmetic at an element. -/
module

public import proofs.«01_k».proof.Proof.Gen.InSampIdeal.Frame
public import Idealize.ShloMosaic.PureOps.Ideal.Laws
public import Idealize.ShloMosaic.Lib.Pointwise
public import Idealize.ShloMosaic.Lib.Pipeline.ValueKit

@[expose] public section

set_option maxRecDepth 1024

noncomputable section

namespace Cert.InSampIdeal.InSamp

open Idealize.ShloMosaic Idealize.ShloMosaic.Tactic Cert.InSampIdeal Cert.InSampIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

theorem h_apply (X : Vec Ideal S256x2048 .f32) (g : Vec Ideal S1x2048 .f32) (r : Fin 256) (d : Fin 2048) :
    k0_pay2 (F := Ideal) X g (ix2 r d) = X (ix2 r d) * inv (fun j => X (ix2 r j)) * g (ix2 0 d) := by
  unfold k0_pay2 inv; pointwise

theorem v_apply (h : FVec Ideal S256x2048 .bf16) (w : Vec Ideal S2048x1024 .bf16) (r : Fin 256) (k : Fin 1024) :
    k0_pay31 (F := Ideal) h w (ix2 r k) = ∑ d : Fin 2048, h (ix2 r d) * w (ix2 d k) := by
  unfold k0_pay31; pointwise

theorem z_apply (h : FVec Ideal S256x2048 .bf16) (w : Vec Ideal S2048x1024 .bf16) (r : Fin 256) (k : Fin 1024) :
    k0_pay23 (F := Ideal) h w (ix2 r k) = ∑ d : Fin 2048, h (ix2 r d) * w (ix2 d k) := by
  unfold k0_pay23; pointwise

theorem zq_eq (X : Vec Ideal S256x2048 .f32) (g : Vec Ideal S1x2048 .f32) (w : Vec Ideal S2048x1024 .bf16) :
    k0_pay6 (F := Ideal) X g w = k0_pay23 (F := Ideal) (k0_pay2 (F := Ideal) X g) w := rfl

theorem g_apply (h : FVec Ideal S256x2048 .bf16) (w w' : Vec Ideal S2048x1024 .bf16) (r : Fin 256) (k : Fin 1024) :
    k0_pay1 (F := Ideal) h w w' (ix2 r k) = (∑ d : Fin 2048, h (ix2 r d) * w (ix2 d k)) * Ideal.div 1 (1 + Ideal.exp (-(∑ d : Fin 2048, h (ix2 r d) * w' (ix2 d k)))) := by
  unfold k0_pay1; pointwise
  simp only [zero_sub]

/-- A tile of 128 columns, turned by the tables. -/
def tl (z c l h : FVec Ideal S256x128 .f32) : FVec Ideal S256x128 .f32 :=
  addf (addf (mulf z c) (mulf (dynamicRotate 1 120#32 none z rotates_S256x128_d1) l)) (mulf (dynamicRotate 1 8#32 none z rotates_S256x128_d1) h)

/-- The tiles of a product. -/
def sl0 (z : FVec Ideal S256x1024 .f32) : FVec Ideal S256x128 .f32 := extractStridedSlice S256x128 ![0, 0] z slices_S256x1024_o0_0_S256x128
def sl1 (z : FVec Ideal S256x1024 .f32) : FVec Ideal S256x128 .f32 := extractStridedSlice S256x128 ![0, 128] z slices_S256x1024_o0_128_S256x128
def sl2 (z : FVec Ideal S256x1024 .f32) : FVec Ideal S256x128 .f32 := extractStridedSlice S256x128 ![0, 256] z slices_S256x1024_o0_256_S256x128
def sl3 (z : FVec Ideal S256x1024 .f32) : FVec Ideal S256x128 .f32 := extractStridedSlice S256x128 ![0, 384] z slices_S256x1024_o0_384_S256x128
def sl4 (z : FVec Ideal S256x1024 .f32) : FVec Ideal S256x128 .f32 := extractStridedSlice S256x128 ![0, 512] z slices_S256x1024_o0_512_S256x128
def sl5 (z : FVec Ideal S256x1024 .f32) : FVec Ideal S256x128 .f32 := extractStridedSlice S256x128 ![0, 640] z slices_S256x1024_o0_640_S256x128
def sl6 (z : FVec Ideal S256x1024 .f32) : FVec Ideal S256x128 .f32 := extractStridedSlice S256x128 ![0, 768] z slices_S256x1024_o0_768_S256x128
def sl7 (z : FVec Ideal S256x1024 .f32) : FVec Ideal S256x128 .f32 := extractStridedSlice S256x128 ![0, 896] z slices_S256x1024_o0_896_S256x128

/-- The product, turned tile by tile. -/
def big (z : FVec Ideal S256x1024 .f32) (c l h : FVec Ideal S256x128 .f32) : FVec Ideal S256x1024 .f32 :=
  concatenate S256x1024 1 [⟨S256x128, tl (sl0 z) c l h⟩, ⟨S256x128, tl (sl1 z) c l h⟩, ⟨S256x128, tl (sl2 z) c l h⟩, ⟨S256x128, tl (sl3 z) c l h⟩, ⟨S256x128, tl (sl4 z) c l h⟩, ⟨S256x128, tl (sl5 z) c l h⟩, ⟨S256x128, tl (sl6 z) c l h⟩, ⟨S256x128, tl (sl7 z) c l h⟩] concatenates_S256x128_S256x128_S256x128_S256x128_S256x128_S256x128_S256x128_S256x128_S256x1024_d1

/-- The turned row at a column. -/
def turn (z : Fin 1024 → EReal) (c l h : Fin 128 → EReal) (k : Fin 1024) : EReal :=
  z k * c ⟨k.val % 128, by omega⟩ + z ⟨k.val / 128 * 128 + (k.val % 128 + 128 - 120) % 128, by omega⟩ * l ⟨k.val % 128, by omega⟩
    + z ⟨k.val / 128 * 128 + (k.val % 128 + 128 - 8) % 128, by omega⟩ * h ⟨k.val % 128, by omega⟩

theorem tl_apply (z c l h : FVec Ideal S256x128 .f32) (r : Fin 256) (k : Fin 128) :
    tl z c l h (ix2 r k) = z (ix2 r k) * c (ix2 r k) + z (ix2 r ⟨(k.val + 128 - 120) % 128, by omega⟩) * l (ix2 r k) + z (ix2 r ⟨(k.val + 128 - 8) % 128, by omega⟩) * h (ix2 r k) := by
  unfold tl; pointwise

theorem sl0_apply (z : FVec Ideal S256x1024 .f32) (r : Fin 256) (k : Fin 128) : sl0 z (ix2 r k) = z (ix2 r ⟨k.val, by omega⟩) := by
  unfold sl0; pointwise
theorem sl1_apply (z : FVec Ideal S256x1024 .f32) (r : Fin 256) (k : Fin 128) : sl1 z (ix2 r k) = z (ix2 r ⟨128 + k.val, by omega⟩) := by
  unfold sl1; pointwise
theorem sl2_apply (z : FVec Ideal S256x1024 .f32) (r : Fin 256) (k : Fin 128) : sl2 z (ix2 r k) = z (ix2 r ⟨256 + k.val, by omega⟩) := by
  unfold sl2; pointwise
theorem sl3_apply (z : FVec Ideal S256x1024 .f32) (r : Fin 256) (k : Fin 128) : sl3 z (ix2 r k) = z (ix2 r ⟨384 + k.val, by omega⟩) := by
  unfold sl3; pointwise
theorem sl4_apply (z : FVec Ideal S256x1024 .f32) (r : Fin 256) (k : Fin 128) : sl4 z (ix2 r k) = z (ix2 r ⟨512 + k.val, by omega⟩) := by
  unfold sl4; pointwise
theorem sl5_apply (z : FVec Ideal S256x1024 .f32) (r : Fin 256) (k : Fin 128) : sl5 z (ix2 r k) = z (ix2 r ⟨640 + k.val, by omega⟩) := by
  unfold sl5; pointwise
theorem sl6_apply (z : FVec Ideal S256x1024 .f32) (r : Fin 256) (k : Fin 128) : sl6 z (ix2 r k) = z (ix2 r ⟨768 + k.val, by omega⟩) := by
  unfold sl6; pointwise
theorem sl7_apply (z : FVec Ideal S256x1024 .f32) (r : Fin 256) (k : Fin 128) : sl7 z (ix2 r k) = z (ix2 r ⟨896 + k.val, by omega⟩) := by
  unfold sl7; pointwise

theorem tile_at {α β : Type} (z : α → EReal) (c l h : β → EReal) (j : β) (a a' b b' : α) (d d' : α) (j' : β) (ha : a = a') (hb : b = b') (hd : d = d') (hj : j = j') :
    z a * c j + z b * l j + z d * h j = z a' * c j' + z b' * l j' + z d' * h j' := by
  rw [ha, hb, hd, hj]

/-- Eight tiles side by side, read at a column. -/
theorem side_apply (t0 t1 t2 t3 t4 t5 t6 t7 : FVec Ideal S256x128 .f32) (r : Fin 256) (f : Fin 1024 → EReal)
    (h0 : ∀ k : Fin 128, t0 (ix2 r k) = f ⟨0 + k.val, by omega⟩)
    (h1 : ∀ k : Fin 128, t1 (ix2 r k) = f ⟨128 + k.val, by omega⟩)
    (h2 : ∀ k : Fin 128, t2 (ix2 r k) = f ⟨256 + k.val, by omega⟩)
    (h3 : ∀ k : Fin 128, t3 (ix2 r k) = f ⟨384 + k.val, by omega⟩)
    (h4 : ∀ k : Fin 128, t4 (ix2 r k) = f ⟨512 + k.val, by omega⟩)
    (h5 : ∀ k : Fin 128, t5 (ix2 r k) = f ⟨640 + k.val, by omega⟩)
    (h6 : ∀ k : Fin 128, t6 (ix2 r k) = f ⟨768 + k.val, by omega⟩)
    (h7 : ∀ k : Fin 128, t7 (ix2 r k) = f ⟨896 + k.val, by omega⟩) (k : Fin 1024) :
    concatenate S256x1024 1 [⟨S256x128, t0⟩, ⟨S256x128, t1⟩, ⟨S256x128, t2⟩, ⟨S256x128, t3⟩, ⟨S256x128, t4⟩, ⟨S256x128, t5⟩, ⟨S256x128, t6⟩, ⟨S256x128, t7⟩] concatenates_S256x128_S256x128_S256x128_S256x128_S256x128_S256x128_S256x128_S256x128_S256x1024_d1 (ix2 r k) = f k := by
  pointwise
  by_cases c0 : k.val < 128
  · rw [dif_pos c0, h0]; exact congrArg f (Fin.ext (by show 0 + (k.val) = k.val; omega))
  rw [dif_neg c0]
  by_cases c1 : k.val - 128 < 128
  · rw [dif_pos c1, h1]; exact congrArg f (Fin.ext (by show 128 + (k.val - 128) = k.val; omega))
  rw [dif_neg c1]
  by_cases c2 : k.val - 128 - 128 < 128
  · rw [dif_pos c2, h2]; exact congrArg f (Fin.ext (by show 256 + (k.val - 128 - 128) = k.val; omega))
  rw [dif_neg c2]
  by_cases c3 : k.val - 128 - 128 - 128 < 128
  · rw [dif_pos c3, h3]; exact congrArg f (Fin.ext (by show 384 + (k.val - 128 - 128 - 128) = k.val; omega))
  rw [dif_neg c3]
  by_cases c4 : k.val - 128 - 128 - 128 - 128 < 128
  · rw [dif_pos c4, h4]; exact congrArg f (Fin.ext (by show 512 + (k.val - 128 - 128 - 128 - 128) = k.val; omega))
  rw [dif_neg c4]
  by_cases c5 : k.val - 128 - 128 - 128 - 128 - 128 < 128
  · rw [dif_pos c5, h5]; exact congrArg f (Fin.ext (by show 640 + (k.val - 128 - 128 - 128 - 128 - 128) = k.val; omega))
  rw [dif_neg c5]
  by_cases c6 : k.val - 128 - 128 - 128 - 128 - 128 - 128 < 128
  · rw [dif_pos c6, h6]; exact congrArg f (Fin.ext (by show 768 + (k.val - 128 - 128 - 128 - 128 - 128 - 128) = k.val; omega))
  rw [dif_neg c6]
  rw [h7]; exact congrArg f (Fin.ext (by show 896 + (k.val - 128 - 128 - 128 - 128 - 128 - 128 - 128) = k.val; omega))

theorem big_apply (z : FVec Ideal S256x1024 .f32) (c l h : FVec Ideal S256x128 .f32) (r : Fin 256) (k : Fin 1024) :
    big z c l h (ix2 r k) = turn (fun j => z (ix2 r j)) (fun j => c (ix2 r j)) (fun j => l (ix2 r j)) (fun j => h (ix2 r j)) k := by
  unfold big
  refine side_apply _ _ _ _ _ _ _ _ r (turn (fun j => z (ix2 r j)) (fun j => c (ix2 r j)) (fun j => l (ix2 r j)) (fun j => h (ix2 r j))) ?_ ?_ ?_ ?_ ?_ ?_ ?_ ?_ k
  · intro j
    rw [tl_apply, sl0_apply, sl0_apply, sl0_apply]
    unfold turn
    exact tile_at (fun i => z (ix2 r i)) (fun i => c (ix2 r i)) (fun i => l (ix2 r i)) (fun i => h (ix2 r i)) j _ _ _ _ _ _ _ (Fin.ext (by show j.val = 0 + j.val; omega)) (Fin.ext (by show (j.val + 128 - 120) % 128 = (0 + j.val) / 128 * 128 + ((0 + j.val) % 128 + 128 - 120) % 128; omega)) (Fin.ext (by show (j.val + 128 - 8) % 128 = (0 + j.val) / 128 * 128 + ((0 + j.val) % 128 + 128 - 8) % 128; omega)) (Fin.ext (by show j.val = (0 + j.val) % 128; omega))
  · intro j
    rw [tl_apply, sl1_apply, sl1_apply, sl1_apply]
    unfold turn
    exact tile_at (fun i => z (ix2 r i)) (fun i => c (ix2 r i)) (fun i => l (ix2 r i)) (fun i => h (ix2 r i)) j _ _ _ _ _ _ _ (Fin.ext (by show 128 + j.val = 128 + j.val; omega)) (Fin.ext (by show 128 + (j.val + 128 - 120) % 128 = (128 + j.val) / 128 * 128 + ((128 + j.val) % 128 + 128 - 120) % 128; omega)) (Fin.ext (by show 128 + (j.val + 128 - 8) % 128 = (128 + j.val) / 128 * 128 + ((128 + j.val) % 128 + 128 - 8) % 128; omega)) (Fin.ext (by show j.val = (128 + j.val) % 128; omega))
  · intro j
    rw [tl_apply, sl2_apply, sl2_apply, sl2_apply]
    unfold turn
    exact tile_at (fun i => z (ix2 r i)) (fun i => c (ix2 r i)) (fun i => l (ix2 r i)) (fun i => h (ix2 r i)) j _ _ _ _ _ _ _ (Fin.ext (by show 256 + j.val = 256 + j.val; omega)) (Fin.ext (by show 256 + (j.val + 128 - 120) % 128 = (256 + j.val) / 128 * 128 + ((256 + j.val) % 128 + 128 - 120) % 128; omega)) (Fin.ext (by show 256 + (j.val + 128 - 8) % 128 = (256 + j.val) / 128 * 128 + ((256 + j.val) % 128 + 128 - 8) % 128; omega)) (Fin.ext (by show j.val = (256 + j.val) % 128; omega))
  · intro j
    rw [tl_apply, sl3_apply, sl3_apply, sl3_apply]
    unfold turn
    exact tile_at (fun i => z (ix2 r i)) (fun i => c (ix2 r i)) (fun i => l (ix2 r i)) (fun i => h (ix2 r i)) j _ _ _ _ _ _ _ (Fin.ext (by show 384 + j.val = 384 + j.val; omega)) (Fin.ext (by show 384 + (j.val + 128 - 120) % 128 = (384 + j.val) / 128 * 128 + ((384 + j.val) % 128 + 128 - 120) % 128; omega)) (Fin.ext (by show 384 + (j.val + 128 - 8) % 128 = (384 + j.val) / 128 * 128 + ((384 + j.val) % 128 + 128 - 8) % 128; omega)) (Fin.ext (by show j.val = (384 + j.val) % 128; omega))
  · intro j
    rw [tl_apply, sl4_apply, sl4_apply, sl4_apply]
    unfold turn
    exact tile_at (fun i => z (ix2 r i)) (fun i => c (ix2 r i)) (fun i => l (ix2 r i)) (fun i => h (ix2 r i)) j _ _ _ _ _ _ _ (Fin.ext (by show 512 + j.val = 512 + j.val; omega)) (Fin.ext (by show 512 + (j.val + 128 - 120) % 128 = (512 + j.val) / 128 * 128 + ((512 + j.val) % 128 + 128 - 120) % 128; omega)) (Fin.ext (by show 512 + (j.val + 128 - 8) % 128 = (512 + j.val) / 128 * 128 + ((512 + j.val) % 128 + 128 - 8) % 128; omega)) (Fin.ext (by show j.val = (512 + j.val) % 128; omega))
  · intro j
    rw [tl_apply, sl5_apply, sl5_apply, sl5_apply]
    unfold turn
    exact tile_at (fun i => z (ix2 r i)) (fun i => c (ix2 r i)) (fun i => l (ix2 r i)) (fun i => h (ix2 r i)) j _ _ _ _ _ _ _ (Fin.ext (by show 640 + j.val = 640 + j.val; omega)) (Fin.ext (by show 640 + (j.val + 128 - 120) % 128 = (640 + j.val) / 128 * 128 + ((640 + j.val) % 128 + 128 - 120) % 128; omega)) (Fin.ext (by show 640 + (j.val + 128 - 8) % 128 = (640 + j.val) / 128 * 128 + ((640 + j.val) % 128 + 128 - 8) % 128; omega)) (Fin.ext (by show j.val = (640 + j.val) % 128; omega))
  · intro j
    rw [tl_apply, sl6_apply, sl6_apply, sl6_apply]
    unfold turn
    exact tile_at (fun i => z (ix2 r i)) (fun i => c (ix2 r i)) (fun i => l (ix2 r i)) (fun i => h (ix2 r i)) j _ _ _ _ _ _ _ (Fin.ext (by show 768 + j.val = 768 + j.val; omega)) (Fin.ext (by show 768 + (j.val + 128 - 120) % 128 = (768 + j.val) / 128 * 128 + ((768 + j.val) % 128 + 128 - 120) % 128; omega)) (Fin.ext (by show 768 + (j.val + 128 - 8) % 128 = (768 + j.val) / 128 * 128 + ((768 + j.val) % 128 + 128 - 8) % 128; omega)) (Fin.ext (by show j.val = (768 + j.val) % 128; omega))
  · intro j
    rw [tl_apply, sl7_apply, sl7_apply, sl7_apply]
    unfold turn
    exact tile_at (fun i => z (ix2 r i)) (fun i => c (ix2 r i)) (fun i => l (ix2 r i)) (fun i => h (ix2 r i)) j _ _ _ _ _ _ _ (Fin.ext (by show 896 + j.val = 896 + j.val; omega)) (Fin.ext (by show 896 + (j.val + 128 - 120) % 128 = (896 + j.val) / 128 * 128 + ((896 + j.val) % 128 + 128 - 120) % 128; omega)) (Fin.ext (by show 896 + (j.val + 128 - 8) % 128 = (896 + j.val) / 128 * 128 + ((896 + j.val) % 128 + 128 - 8) % 128; omega)) (Fin.ext (by show j.val = (896 + j.val) % 128; omega))

theorem q_apply (X : Vec Ideal S256x2048 .f32) (g : Vec Ideal S1x2048 .f32) (w : Vec Ideal S2048x1024 .bf16) (c l h : Vec Ideal S256x128 .f32) :
    k0_pay22 (F := Ideal) (k0_pay5 h) (k0_pay7 X g c l h w) (k0_pay12 (k0_pay5 h) (k0_pay9 X g w) (k0_pay10 X g c w) (k0_pay11 X g l w))
      (k0_pay13 (k0_pay3 c) (k0_pay4 l) (k0_pay5 h) (k0_pay6 X g w)) (k0_pay14 (k0_pay3 c) (k0_pay4 l) (k0_pay5 h) (k0_pay6 X g w))
      (k0_pay15 (k0_pay3 c) (k0_pay4 l) (k0_pay5 h) (k0_pay6 X g w)) (k0_pay16 (k0_pay3 c) (k0_pay4 l) (k0_pay5 h) (k0_pay6 X g w))
      (k0_pay17 (k0_pay3 c) (k0_pay4 l) (k0_pay5 h) (k0_pay6 X g w)) (k0_pay19 (k0_pay6 X g w)) (k0_pay20 (k0_pay3 c) (k0_pay6 X g w)) (k0_pay21 (k0_pay4 l) (k0_pay6 X g w))
    = truncf .bf16 (mulf (big (k0_pay6 X g w) (k0_pay3 c) (k0_pay4 l) (k0_pay5 h)) (broadcast S256x1024 (Named.named κ "qscale" 0x3E38AA3B#32))) bitsLt_bf16_f32 := rfl

theorem k_apply (h : FVec Ideal S256x2048 .bf16) (w : Vec Ideal S2048x1024 .bf16) (c l h' : FVec Ideal S256x128 .f32) :
    k0_pay29 (F := Ideal) c l h' (k0_pay23 h w) (k0_pay24 h c l h' w) (k0_pay25 h c l h' w) (k0_pay26 h c l h' w) (k0_pay27 h c l h' w) (k0_pay28 h w) 120#32
    = big (k0_pay23 h w) c l h' := rfl

theorem k16_apply (h : FVec Ideal S256x2048 .bf16) (w : Vec Ideal S2048x1024 .bf16) (c l h' : FVec Ideal S256x128 .f32) :
    k0_pay30 (F := Ideal) c l h' (k0_pay23 h w) (k0_pay24 h c l h' w) (k0_pay25 h c l h' w) (k0_pay26 h c l h' w) (k0_pay27 h c l h' w) (k0_pay28 h w) 120#32
    = truncf .bf16 (big (k0_pay23 h w) c l h') bitsLt_bf16_f32 := rfl

theorem k16_at (z : FVec Ideal S256x1024 .f32) (r : Fin 256) (k : Fin 1024) : truncf .bf16 z bitsLt_bf16_f32 (ix2 r k) = z (ix2 r k) := by
  pointwise

theorem v16_apply (h : FVec Ideal S256x2048 .bf16) (w : Vec Ideal S2048x1024 .bf16) (r : Fin 256) (k : Fin 1024) :
    k0_pay32 (F := Ideal) h w (ix2 r k) = ∑ d : Fin 2048, h (ix2 r d) * w (ix2 d k) := by
  unfold k0_pay32; pointwise; exact v_apply h w r k

/-- The scale the queries are multiplied with: the score's own, with the change to base two. -/
theorem qscale_eq : Named.named (F := Ideal) (φ := .f32) κ "qscale" 0x3E38AA3B#32 = ((8⁻¹ * (Real.log 2)⁻¹ : ℝ) : EReal) :=
  IdealRules.named_const.ideal_named_scalar _ _ _ _ rfl

theorem q_at (z : FVec Ideal S256x1024 .f32) (r : Fin 256) (k : Fin 1024) :
    truncf .bf16 (mulf z (broadcast S256x1024 (Named.named κ "qscale" 0x3E38AA3B#32))) bitsLt_bf16_f32 (ix2 r k) = z (ix2 r k) * ((8⁻¹ * (Real.log 2)⁻¹ : ℝ) : EReal) := by
  rw [← qscale_eq]; pointwise

theorem cos_eq (c : Vec Ideal S256x128 .f32) (r : Fin 256) (j : Fin 128) : k0_pay3 (F := Ideal) c (ix2 r j) = c (ix2 r j) := by unfold k0_pay3; pointwise
theorem lo_eq (c : Vec Ideal S256x128 .f32) (r : Fin 256) (j : Fin 128) : k0_pay4 (F := Ideal) c (ix2 r j) = c (ix2 r j) := by unfold k0_pay4; pointwise
theorem hi_eq (c : Vec Ideal S256x128 .f32) (r : Fin 256) (j : Fin 128) : k0_pay5 (F := Ideal) c (ix2 r j) = c (ix2 r j) := by unfold k0_pay5; pointwise

end Cert.InSampIdeal.InSamp
end
-- ==== Proof.InSamp.Turn.lean ====
/- The rotation by tables is the reference's rotation, and the scale of the queries is the reference's. -/
module

public import proofs.«01_k».proof.Proof.InSamp.Ref
public import proofs.«01_k».proof.Proof.InSamp.Tables
public import proofs.«01_k».proof.Proof.InSamp.Point

@[expose] public section

set_option maxRecDepth 1024

noncomputable section

namespace Cert.InSampIdeal.InSamp

open Idealize.ShloMosaic Idealize.ShloMosaic.TcCoe Idealize.ShloMosaic.Tactic Cert.InSampIdeal Cert.InSampIdeal.Gen

theorem freq_eq : freq = Cert.InSampRefIdeal.InSamp.freq := rfl

theorem th_eq (p : IVec S32 32) (r : Fin 32) (j : Fin 8) : th p r j = Cert.InSampRefIdeal.InSamp.ang p (ix2 r j) := by
  unfold th
  rw [Cert.InSampRefIdeal.InSamp.ang_apply, freq_eq]

/-- A row turned by the tables, at a column, is the reference's rotation at its head, map and place. -/
theorem turn_eq (z : Fin 1024 → EReal) (p : IVec S32 32) (b : Fin 32) (R : Fin 32) (Z : FVec Ideal Cert.InSampRefIdeal.S32x32x8x2x64 .f32)
    (hZ : ∀ (h : Fin 8) (a : Fin 2) (j : Fin 64), Z (ix5 b R h a j) = z ⟨h.val * 128 + a.val * 64 + j.val, by omega⟩)
    (c l hh : Fin 128 → EReal)
    (hc : ∀ i : Fin 128, c i = if i.val % 64 < 16 then Ideal.cos (th p R ⟨i.val % 8, by omega⟩) else 1)
    (hl : ∀ i : Fin 128, l i = if i.val % 64 < 8 then -Ideal.sin (th p R ⟨i.val % 8, by omega⟩) else 0)
    (hhi : ∀ i : Fin 128, hh i = if i.val % 64 < 8 then 0 else if i.val % 64 < 16 then Ideal.sin (th p R ⟨i.val % 8, by omega⟩) else 0)
    (h : Fin 8) (a : Fin 2) (j : Fin 64) (k : Fin 1024) (hk : k.val = 128 * h.val + 64 * a.val + j.val) :
    turn z c l hh k = Cert.InSampRefIdeal.InSamp.rope Z p (ix5 b R h a j) := by
  have hj64 : j.val < 64 := j.isLt
  have ha2 : a.val < 2 := a.isLt
  have z0 : z k = Z (ix5 b R h a j) := by
    rw [hZ]; exact congrArg z (Fin.ext (by show k.val = h.val * 128 + a.val * 64 + j.val; omega))
  unfold turn
  rw [hc, hl, hhi, z0]
  by_cases h1 : j.val < 8
  · have z1 : z ⟨k.val / 128 * 128 + (k.val % 128 + 128 - 120) % 128, by omega⟩ = Z (ix5 b R h a ⟨8 + j.val, by omega⟩) := by
      rw [hZ]; exact congrArg z (Fin.ext (by show k.val / 128 * 128 + (k.val % 128 + 128 - 120) % 128 = h.val * 128 + a.val * 64 + (8 + j.val); omega))
    have e : (⟨k.val % 128 % 8, by omega⟩ : Fin 8) = ⟨j.val, h1⟩ := Fin.ext (by show k.val % 128 % 8 = j.val; omega)
    rw [if_pos (show k.val % 128 % 64 < 16 by omega), if_pos (show k.val % 128 % 64 < 8 by omega), if_pos (show k.val % 128 % 64 < 8 by omega),
      Cert.InSampRefIdeal.InSamp.rope_low _ _ _ _ _ _ _ h1, z1, mul_zero, add_zero, mul_neg, ← sub_eq_add_neg]
    show _ * Ideal.cos (th p R ⟨k.val % 128 % 8, _⟩) - _ * Ideal.sin (th p R ⟨k.val % 128 % 8, _⟩) = _
    rw [e, th_eq]
  · by_cases h2 : j.val - 8 < 8
    · have z1 : z ⟨k.val / 128 * 128 + (k.val % 128 + 128 - 8) % 128, by omega⟩ = Z (ix5 b R h a ⟨j.val - 8, by omega⟩) := by
        rw [hZ]; exact congrArg z (Fin.ext (by show k.val / 128 * 128 + (k.val % 128 + 128 - 8) % 128 = h.val * 128 + a.val * 64 + (j.val - 8); omega))
      have e : (⟨k.val % 128 % 8, by omega⟩ : Fin 8) = ⟨j.val - 8, h2⟩ := Fin.ext (by show k.val % 128 % 8 = j.val - 8; omega)
      rw [if_pos (show k.val % 128 % 64 < 16 by omega), if_neg (show ¬ k.val % 128 % 64 < 8 by omega), if_neg (show ¬ k.val % 128 % 64 < 8 by omega),
        if_pos (show k.val % 128 % 64 < 16 by omega), Cert.InSampRefIdeal.InSamp.rope_high _ _ _ _ _ _ _ h1 h2, z1, mul_zero, add_zero]
      show _ * Ideal.cos (th p R ⟨k.val % 128 % 8, _⟩) + _ * Ideal.sin (th p R ⟨k.val % 128 % 8, _⟩) = _
      rw [e, th_eq]
    · rw [if_neg (show ¬ k.val % 128 % 64 < 16 by omega), if_neg (show ¬ k.val % 128 % 64 < 8 by omega), if_neg (show ¬ k.val % 128 % 64 < 8 by omega),
        if_neg (show ¬ k.val % 128 % 64 < 16 by omega), Cert.InSampRefIdeal.InSamp.rope_still _ _ _ _ _ _ _ h1 h2, mul_zero, mul_zero, add_zero, add_zero, mul_one]

theorem eighth : Ideal.ofBits .f32 0x3E000000#32 = ((8⁻¹ : ℝ) : EReal) := by
  simp [Ideal.ofBits, Ideal.ieee]
  norm_num
  try rw [← EReal.coe_mul]
  try norm_num

theorem two : Ideal.ofBits .f32 0x40000000#32 = ((2 : ℝ) : EReal) := by
  simp [Ideal.ofBits, Ideal.ieee]
  try norm_num
  try rw [← EReal.coe_mul]
  try norm_num

theorem log_two : Ideal.log ((2 : ℝ) : EReal) = ((Real.log 2 : ℝ) : EReal) := by
  show (if (2 : ℝ) ≤ 0 then (⊥ : EReal) else (Real.log 2 : EReal)) = _
  rw [if_neg (by norm_num)]

/-- The named scale is a division by the root of the width and by the logarithm of two. -/
theorem scale_eq (x : EReal) : x * ((8⁻¹ * (Real.log 2)⁻¹ : ℝ) : EReal) = Ideal.div (x * Ideal.ofBits .f32 0x3E000000#32) (Ideal.log (Ideal.ofBits .f32 0x40000000#32)) := by
  rw [eighth, two, log_two, Ideal.div_coe (ne_of_gt (Real.log_pos (by norm_num))), mul_assoc, ← EReal.coe_mul, one_div]

end Cert.InSampIdeal.InSamp
end
-- ==== Proof.InSamp.Blocks.lean ====
/- What the blocks of an input projection grid point hold, in terms of the arguments. -/
module

public import proofs.«01_k».proof.Proof.InSamp.Tables

@[expose] public section

set_option maxRecDepth 1024

noncomputable section

namespace Cert.InSampIdeal.InSamp

open Idealize.ShloMosaic Idealize.ShloMosaic.TcCoe Idealize.ShloMosaic.Tactic Cert.InSampIdeal Cert.InSampIdeal.Gen

variable (m : (ℓ : Loc nD τ sig) → Buf (Elt Ideal) ℓ) (c : Dev nD)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![t.val, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![t.val, 0] := by decide +kernel
theorem idx10 : ∀ t : Fin cfg0.N, (cfg0.win 10).index t = ![t.val, 0] := by decide +kernel
theorem idx11 : ∀ t : Fin cfg0.N, (cfg0.win 11).index t = ![t.val, 0] := by decide +kernel

/-- The batch entry of a row of a point. -/
def bOf (t : Fin cfg0.N) (r : Fin 256) : Fin 32 := ⟨8 * t.val + r.val / 32, by have : t.val < 4 := N_0 ▸ t.isLt; omega⟩
/-- The row in its batch entry. -/
def rOf (r : Fin 256) : Fin 32 := ⟨r.val % 32, by omega⟩

theorem V_x : V m c main_v35 = shapeCast S1024x2048 (m ((c : Thread nD τ).loc main_arg0)) shapeCasts_S32x32x2048_S1024x2048 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_g : V m c main_v36 = shapeCast S1x2048 (m ((c : Thread nD τ).loc main_arg2)) shapeCasts_S2048_S1x2048 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem V_w : V m c main_v38 = truncf (F := Ideal) .bf16 (extractStridedSlice S2048x5120 ![0, 0] (m ((c : Thread nD τ).loc main_arg3)) slices_S2048x9216_S2048x5120_0_0) bitsLt_bf16_f32 := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem x_rows (x : FVec Ideal S32x32x2048 .f32) (b : Fin 32) (r : Fin 32) (d : Fin 2048) (i : Fin 1024) (hi : i.val = 32 * b.val + r.val) :
    shapeCast S1024x2048 x shapeCasts_S32x32x2048_S1024x2048 (ix2 i d) = x (ix3 b r d) := by
  obtain ⟨n, hn⟩ := i
  obtain rfl : n = 32 * b.val + r.val := hi
  pointwise

theorem g_row (g : FVec Ideal S2048 .f32) (d : Fin 2048) : shapeCast S1x2048 g shapeCasts_S2048_S1x2048 (ix2 0 d) = g (ix1 d) := by
  pointwise

theorem w_cols (w : FVec Ideal S2048x9216 .f32) (d : Fin 2048) (k : Fin 5120) :
    truncf (F := Ideal) .bf16 (extractStridedSlice S2048x5120 ![0, 0] w slices_S2048x9216_S2048x5120_0_0) bitsLt_bf16_f32 (ix2 d k) = w (ix2 d ⟨k.val, by omega⟩) := by
  pointwise

theorem emb0 (t : Fin cfg0.N) (r : Fin 256) (d : Fin 2048) (hr : 256 * t.val + r.val < 1024) :
    ((cfg0.win 0).blk t).view.emb (ix2 r d) = ix2 (⟨256 * t.val + r.val, hr⟩ : Fin 1024) d := by
  blk_ext [idx0 t]
theorem emb1 (t : Fin cfg0.N) (d : Fin 2048) : ((cfg0.win 1).blk t).view.emb (ix2 0 d) = ix2 0 d := by blk_ext [idx1 t]
theorem emb2 (t : Fin cfg0.N) (d : Fin 2048) (k : Fin 5120) : ((cfg0.win 2).blk t).view.emb (ix2 d k) = ix2 d k := by blk_ext [idx2 t]

theorem x_blk (t : Fin cfg0.N) (r : Fin 256) (d : Fin 2048) :
    iblk m c 0 t (ix2 r d) = m ((c : Thread nD τ).loc main_arg0) (ix3 (bOf t r) (rOf r) d) := by
  have ht : t.val < 4 := N_0 ▸ t.isLt
  have hr : 256 * t.val + r.val < 1024 := by omega
  refine Eq.trans (b := V m c main_v35 (((cfg0.win 0).blk t).view.emb (ix2 r d))) rfl ?_
  rw [V_x, emb0 t r d hr]
  exact x_rows _ (bOf t r) (rOf r) d ⟨256 * t.val + r.val, hr⟩ (by
    show 256 * t.val + r.val = 32 * (8 * t.val + r.val / 32) + r.val % 32
    omega)

theorem g_blk (t : Fin cfg0.N) (d : Fin 2048) :
    iblk m c 1 t (ix2 0 d) = m ((c : Thread nD τ).loc main_arg2) (ix1 d) := by
  refine Eq.trans (b := V m c main_v36 (((cfg0.win 1).blk t).view.emb (ix2 0 d))) rfl ?_
  rw [V_g, emb1 t d]
  exact g_row _ d

theorem w_blk (t : Fin cfg0.N) (d : Fin 2048) (k : Fin 5120) :
    iblk m c 2 t (ix2 d k) = m ((c : Thread nD τ).loc main_arg3) (ix2 d ⟨k.val, by omega⟩) := by
  refine Eq.trans (b := V m c main_v38 (((cfg0.win 2).blk t).view.emb (ix2 d k))) rfl ?_
  rw [V_w, emb2 t d k]
  exact w_cols _ d k

theorem emb3 (t : Fin cfg0.N) (r : Fin 256) (l : Fin 128) : ((cfg0.win 3).blk t).view.emb (ix2 r l) = ix2 r l := by blk_ext [idx3 t]
theorem emb4 (t : Fin cfg0.N) (r : Fin 256) (l : Fin 128) : ((cfg0.win 4).blk t).view.emb (ix2 r l) = ix2 r l := by blk_ext [idx4 t]
theorem emb5 (t : Fin cfg0.N) (r : Fin 256) (l : Fin 128) : ((cfg0.win 5).blk t).view.emb (ix2 r l) = ix2 r l := by blk_ext [idx5 t]

theorem c_blk (t : Fin cfg0.N) (r : Fin 256) (l : Fin 128) :
    iblk m c 3 t (ix2 r l) = if l.val % 64 < 16 then Ideal.cos (th (m ((c : Thread nD τ).loc main_arg1)) (rOf r) ⟨l.val % 8, by omega⟩) else 1 := by
  refine Eq.trans (b := V m c main_v34 (((cfg0.win 3).blk t).view.emb (ix2 r l))) rfl ?_
  rw [V_cos, emb3, cos_apply]; rfl

theorem lo_blk (t : Fin cfg0.N) (r : Fin 256) (l : Fin 128) :
    iblk m c 4 t (ix2 r l) = if l.val % 64 < 8 then -Ideal.sin (th (m ((c : Thread nD τ).loc main_arg1)) (rOf r) ⟨l.val % 8, by omega⟩) else 0 := by
  refine Eq.trans (b := V m c main_v30 (((cfg0.win 4).blk t).view.emb (ix2 r l))) rfl ?_
  rw [V_lo, emb4, lo_apply]; rfl

theorem hi_blk (t : Fin cfg0.N) (r : Fin 256) (l : Fin 128) :
    iblk m c 5 t (ix2 r l) = if l.val % 64 < 8 then 0 else if l.val % 64 < 16 then Ideal.sin (th (m ((c : Thread nD τ).loc main_arg1)) (rOf r) ⟨l.val % 8, by omega⟩) else 0 := by
  refine Eq.trans (b := V m c main_v33 (((cfg0.win 5).blk t).view.emb (ix2 r l))) rfl ?_
  rw [V_hi, emb5, hi_apply]; rfl

end Cert.InSampIdeal.InSamp
end
-- ==== Proof.InSamp.Tie.lean ====
/- The input projection's results are the reference's. -/
module

public import proofs.«01_k».proof.Proof.InSamp.Turn
public import proofs.«01_k».proof.Proof.InSamp.Blocks
public import proofs.«01_k».proof.Proof.Gen.InSampIdeal.Value

@[expose] public section

set_option maxRecDepth 1024

noncomputable section

namespace Cert.InSampIdeal.InSamp

open Idealize.ShloMosaic Idealize.ShloMosaic.TcCoe Idealize.ShloMosaic.Tactic Cert.InSampIdeal Cert.InSampIdeal.Gen Cert.InSampIdeal.Value

variable (m : (ℓ : Loc nD τ sig) → Buf (Elt Ideal) ℓ) (c : Dev nD)

/-- The arguments, as arrays. -/
abbrev A0 : FVec Ideal Cert.InSampRefIdeal.S32x32x2048 .f32 := m ((c.tc : Thread nD τ).loc main_arg0)
abbrev A1 : IVec Cert.InSampRefIdeal.S32 32 := m ((c.tc : Thread nD τ).loc main_arg1)
abbrev A2 : FVec Ideal Cert.InSampRefIdeal.S2048 .f32 := m ((c.tc : Thread nD τ).loc main_arg2)
abbrev A3 : FVec Ideal Cert.InSampRefIdeal.S2048x9216 .f32 := m ((c.tc : Thread nD τ).loc main_arg3)

/-- The reference's normed rows and their projection. -/
def hR : FVec Ideal Cert.InSampRefIdeal.S32x32x2048 .f32 := Cert.InSampRefIdeal.InSamp.norm (A0 m c) (A2 m c)
def pR : FVec Ideal Cert.InSampRefIdeal.S32x32x9216 .f32 := Cert.InSampRefIdeal.InSamp.proj (hR m c) (A3 m c)

theorem h_eq (t : Fin cfg0.N) (r : Fin 256) (d : Fin 2048) :
    k0_pay2 (F := Ideal) (iblk m c 0 t) (iblk m c 1 t) (ix2 r d) = hR m c (ix3 (bOf t r) (rOf r) d) := by
  unfold hR
  rw [h_apply, g_blk, Cert.InSampRefIdeal.InSamp.norm_apply]
  unfold inv
  simp only [x_blk]

/-- A point's row times a column of the weights. -/
theorem col_eq (t : Fin cfg0.N) (r : Fin 256) (w : Fin 2048 → EReal) (o : Fin 9216) (hw : ∀ d, w d = A3 m c (ix2 d o)) :
    ∑ d : Fin 2048, k0_pay2 (F := Ideal) (iblk m c 0 t) (iblk m c 1 t) (ix2 r d) * w d = pR m c (ix3 (bOf t r) (rOf r) o) := by
  obtain rfl : w = _ := funext hw
  unfold pR
  rw [Cert.InSampRefIdeal.InSamp.proj_apply]
  simp only [h_eq]

theorem w_at0 (t : Fin cfg0.N) (d : Fin 2048) (k : Fin 1024) : View.ld (iblk m c 2 t) r0_3 (ix2 d k) = A3 m c (ix2 d ⟨k.val, by omega⟩) := by
  have e : View.ld (iblk m c 2 t) r0_3 (ix2 d k) = iblk m c 2 t (ix2 d (⟨k.val, by omega⟩ : Fin 5120)) := by
    refine View.ld_unit_apply_of _ _ _ _ _ _ fun a => ?_
    match a with
    | ⟨0, _⟩ => simp
    | ⟨1, _⟩ => simp
  rw [e, w_blk]

theorem w_at1 (t : Fin cfg0.N) (d : Fin 2048) (k : Fin 1024) : View.ld (iblk m c 2 t) r0_5 (ix2 d k) = A3 m c (ix2 d ⟨1024 + k.val, by omega⟩) := by
  have e : View.ld (iblk m c 2 t) r0_5 (ix2 d k) = iblk m c 2 t (ix2 d (⟨1024 + k.val, by omega⟩ : Fin 5120)) := by
    refine View.ld_unit_apply_of _ _ _ _ _ _ fun a => ?_
    match a with
    | ⟨0, _⟩ => simp
    | ⟨1, _⟩ => simp; try omega
  rw [e, w_blk]

theorem w_at2 (t : Fin cfg0.N) (d : Fin 2048) (k : Fin 1024) : View.ld (iblk m c 2 t) r0_6 (ix2 d k) = A3 m c (ix2 d ⟨2048 + k.val, by omega⟩) := by
  have e : View.ld (iblk m c 2 t) r0_6 (ix2 d k) = iblk m c 2 t (ix2 d (⟨2048 + k.val, by omega⟩ : Fin 5120)) := by
    refine View.ld_unit_apply_of _ _ _ _ _ _ fun a => ?_
    match a with
    | ⟨0, _⟩ => simp
    | ⟨1, _⟩ => simp; try omega
  rw [e, w_blk]

theorem w_at3 (t : Fin cfg0.N) (d : Fin 2048) (k : Fin 1024) : View.ld (iblk m c 2 t) r0_7 (ix2 d k) = A3 m c (ix2 d ⟨3072 + k.val, by omega⟩) := by
  have e : View.ld (iblk m c 2 t) r0_7 (ix2 d k) = iblk m c 2 t (ix2 d (⟨3072 + k.val, by omega⟩ : Fin 5120)) := by
    refine View.ld_unit_apply_of _ _ _ _ _ _ fun a => ?_
    match a with
    | ⟨0, _⟩ => simp
    | ⟨1, _⟩ => simp; try omega
  rw [e, w_blk]

theorem w_at4 (t : Fin cfg0.N) (d : Fin 2048) (k : Fin 1024) : View.ld (iblk m c 2 t) r0_8 (ix2 d k) = A3 m c (ix2 d ⟨3072 + (1024 + k.val), by omega⟩) := by
  have e : View.ld (iblk m c 2 t) r0_8 (ix2 d k) = iblk m c 2 t (ix2 d (⟨3072 + (1024 + k.val), by omega⟩ : Fin 5120)) := by
    refine View.ld_unit_apply_of _ _ _ _ _ _ fun a => ?_
    match a with
    | ⟨0, _⟩ => simp
    | ⟨1, _⟩ => simp; try omega
  rw [e, w_blk]

theorem hz : (![0, 0] : Fin 2 → Nat) = fun _ => 0 := by
  funext a
  match a with
  | ⟨0, _⟩ => rfl
  | ⟨1, _⟩ => rfl

/-- A point's turned columns, from the weights' columns at an offset. -/
theorem big_eq (t : Fin cfg0.N) (r : Fin 256) (w : Vec Ideal S2048x1024 .bf16) (o : Fin 1024 → Fin 9216)
    (hw : ∀ (d : Fin 2048) (k : Fin 1024), w (ix2 d k) = A3 m c (ix2 d (o k))) (Z : FVec Ideal Cert.InSampRefIdeal.S32x32x8x2x64 .f32)
    (hZ : ∀ (h : Fin 8) (a : Fin 2) (j : Fin 64), Z (ix5 (bOf t r) (rOf r) h a j) = pR m c (ix3 (bOf t r) (rOf r) (o ⟨h.val * 128 + a.val * 64 + j.val, by omega⟩)))
    (h : Fin 8) (a : Fin 2) (j : Fin 64) (k : Fin 1024) (hk : k.val = 128 * h.val + 64 * a.val + j.val) :
    big (k0_pay23 (F := Ideal) (k0_pay2 (F := Ideal) (iblk m c 0 t) (iblk m c 1 t)) w) (k0_pay3 (F := Ideal) (iblk m c 3 t)) (k0_pay4 (F := Ideal) (iblk m c 4 t)) (k0_pay5 (F := Ideal) (iblk m c 5 t)) (ix2 r k)
      = Cert.InSampRefIdeal.InSamp.rope Z (A1 m c) (ix5 (bOf t r) (rOf r) h a j) := by
  rw [big_apply]
  refine turn_eq _ (A1 m c) (bOf t r) (rOf r) Z (fun h a j => ?_) _ _ _ (fun i => ?_) (fun i => ?_) (fun i => ?_) h a j k hk
  · rw [hZ, z_apply]
    exact (col_eq m c t r _ _ fun d => hw d _).symm
  · rw [cos_eq, c_blk]
  · rw [lo_eq, lo_blk]
  · rw [hi_eq, hi_blk]

/-- What a point stores of the queries. -/
theorem q_point (t : Fin cfg0.N) (r : Fin 256) (k : Fin 1024) (hr : 256 * t.val + r.val < 1024) :
    out0_6 (F := Ideal) (iblk m c 0 t) (iblk m c 1 t) (iblk m c 2 t) (iblk m c 3 t) (iblk m c 4 t) (iblk m c 5 t) (ix2 r k)
      = Cert.InSampRefIdeal.InSamp.resQ (A0 m c) (A1 m c) (A2 m c) (A3 m c) (ix2 ⟨256 * t.val + r.val, hr⟩ k) := by
  unfold out0_6 k0_pay37 k0_pay36 k0_pay35 k0_pay34
  rw [View.canon_unit_zero hz]
  simp only [View.ld_unit_zero (S := S256x2048) hz, View.ld_unit_zero (S := S1x2048) hz, View.ld_unit_zero (S := S256x128) hz]
  rw [q_apply, q_at, zq_eq, scale_eq]
  unfold Cert.InSampRefIdeal.InSamp.resQ
  rw [Cert.InSampRefIdeal.InSamp.scaled_apply _ (bOf t r) (rOf r) ⟨k.val / 128, by omega⟩ ⟨k.val % 128 / 64, by omega⟩ ⟨k.val % 64, by omega⟩ ⟨256 * t.val + r.val, hr⟩ (by
    show 256 * t.val + r.val = 32 * (8 * t.val + r.val / 32) + r.val % 32
    omega) k (by show k.val = 128 * (k.val / 128) + 64 * (k.val % 128 / 64) + k.val % 64; omega)]
  refine congrArg (fun u => Ideal.div (u * Ideal.ofBits .f32 0x3E000000#32) (Ideal.log (Ideal.ofBits .f32 0x40000000#32))) ?_
  exact big_eq m c t r _ (fun k => ⟨k.val, by omega⟩) (fun d k => w_at0 m c t d k) (Cert.InSampRefIdeal.InSamp.qCols (pR m c)) (fun h a j => Cert.InSampRefIdeal.InSamp.qCols_apply _ _ _ _ _ _)
    ⟨k.val / 128, by omega⟩ ⟨k.val % 128 / 64, by omega⟩ ⟨k.val % 64, by omega⟩ k (by show k.val = 128 * (k.val / 128) + 64 * (k.val % 128 / 64) + k.val % 64; omega)

/-- What a point stores of the keys. -/
theorem k_point (t : Fin cfg0.N) (r : Fin 256) (k : Fin 1024) (hr : 256 * t.val + r.val < 1024) :
    out0_7 (F := Ideal) (iblk m c 0 t) (iblk m c 1 t) (iblk m c 2 t) (iblk m c 3 t) (iblk m c 4 t) (iblk m c 5 t) (ix2 r k)
      = Cert.InSampRefIdeal.InSamp.resK (A0 m c) (A1 m c) (A2 m c) (A3 m c) (ix2 ⟨256 * t.val + r.val, hr⟩ k) := by
  unfold out0_7 k0_pay43 k0_pay42 k0_pay41 k0_pay40 k0_pay39 k0_pay38 k0_pay36 k0_pay35 k0_pay34 k0_pay33
  rw [View.canon_unit_zero hz]
  simp only [View.ld_unit_zero (S := S256x2048) hz, View.ld_unit_zero (S := S1x2048) hz, View.ld_unit_zero (S := S256x128) hz]
  rw [k_apply]
  unfold Cert.InSampRefIdeal.InSamp.resK
  rw [Cert.InSampRefIdeal.InSamp.rows_apply _ (bOf t r) (rOf r) ⟨k.val / 128, by omega⟩ ⟨k.val % 128 / 64, by omega⟩ ⟨k.val % 64, by omega⟩ ⟨256 * t.val + r.val, hr⟩ (by
    show 256 * t.val + r.val = 32 * (8 * t.val + r.val / 32) + r.val % 32
    omega) k (by show k.val = 128 * (k.val / 128) + 64 * (k.val % 128 / 64) + k.val % 64; omega)]
  exact big_eq m c t r _ (fun k => ⟨1024 + k.val, by omega⟩) (fun d k => w_at1 m c t d k) (Cert.InSampRefIdeal.InSamp.kCols (pR m c)) (fun h a j => Cert.InSampRefIdeal.InSamp.kCols_apply _ _ _ _ _ _)
    ⟨k.val / 128, by omega⟩ ⟨k.val % 128 / 64, by omega⟩ ⟨k.val % 64, by omega⟩ k (by show k.val = 128 * (k.val / 128) + 64 * (k.val % 128 / 64) + k.val % 64; omega)

/-- What a point stores of the keys, narrowed. -/
theorem k16_point (t : Fin cfg0.N) (r : Fin 256) (k : Fin 1024) (hr : 256 * t.val + r.val < 1024) :
    out0_8 (F := Ideal) (iblk m c 0 t) (iblk m c 1 t) (iblk m c 2 t) (iblk m c 3 t) (iblk m c 4 t) (iblk m c 5 t) (ix2 r k)
      = Cert.InSampRefIdeal.InSamp.resK16 (A0 m c) (A1 m c) (A2 m c) (A3 m c) (ix2 ⟨256 * t.val + r.val, hr⟩ k) := by
  unfold out0_8 k0_pay43 k0_pay42 k0_pay41 k0_pay40 k0_pay39 k0_pay38 k0_pay36 k0_pay35 k0_pay34 k0_pay33
  rw [View.canon_unit_zero hz]
  simp only [View.ld_unit_zero (S := S256x2048) hz, View.ld_unit_zero (S := S1x2048) hz, View.ld_unit_zero (S := S256x128) hz]
  rw [k16_apply, k16_at, Cert.InSampRefIdeal.InSamp.resK16_apply]
  unfold Cert.InSampRefIdeal.InSamp.resK
  rw [Cert.InSampRefIdeal.InSamp.rows_apply _ (bOf t r) (rOf r) ⟨k.val / 128, by omega⟩ ⟨k.val % 128 / 64, by omega⟩ ⟨k.val % 64, by omega⟩ ⟨256 * t.val + r.val, hr⟩ (by
    show 256 * t.val + r.val = 32 * (8 * t.val + r.val / 32) + r.val % 32
    omega) k (by show k.val = 128 * (k.val / 128) + 64 * (k.val % 128 / 64) + k.val % 64; omega)]
  exact big_eq m c t r _ (fun k => ⟨1024 + k.val, by omega⟩) (fun d k => w_at1 m c t d k) (Cert.InSampRefIdeal.InSamp.kCols (pR m c)) (fun h a j => Cert.InSampRefIdeal.InSamp.kCols_apply _ _ _ _ _ _)
    ⟨k.val / 128, by omega⟩ ⟨k.val % 128 / 64, by omega⟩ ⟨k.val % 64, by omega⟩ k (by show k.val = 128 * (k.val / 128) + 64 * (k.val % 128 / 64) + k.val % 64; omega)

/-- What a point stores of the values. -/
theorem v_point (t : Fin cfg0.N) (r : Fin 256) (k : Fin 1024) (hr : 256 * t.val + r.val < 1024) :
    out0_9 (F := Ideal) (iblk m c 0 t) (iblk m c 1 t) (iblk m c 2 t) (iblk m c 3 t) (iblk m c 4 t) (iblk m c 5 t) (ix2 r k)
      = Cert.InSampRefIdeal.InSamp.resV (A0 m c) (A2 m c) (A3 m c) (ix2 ⟨256 * t.val + r.val, hr⟩ k) := by
  unfold out0_9 k0_pay33
  rw [View.canon_unit_zero hz]
  simp only [View.ld_unit_zero (S := S256x2048) hz, View.ld_unit_zero (S := S1x2048) hz]
  unfold Cert.InSampRefIdeal.InSamp.resV
  rw [Cert.InSampRefIdeal.InSamp.vals_apply _ (bOf t r) (rOf r) k ⟨256 * t.val + r.val, hr⟩ (by
    show 256 * t.val + r.val = 32 * (8 * t.val + r.val / 32) + r.val % 32
    omega), v_apply]
  exact col_eq m c t r _ _ fun d => w_at2 m c t d k

/-- What a point stores of the values, narrowed. -/
theorem v16_point (t : Fin cfg0.N) (r : Fin 256) (k : Fin 1024) (hr : 256 * t.val + r.val < 1024) :
    out0_10 (F := Ideal) (iblk m c 0 t) (iblk m c 1 t) (iblk m c 2 t) (iblk m c 3 t) (iblk m c 4 t) (iblk m c 5 t) (ix2 r k)
      = Cert.InSampRefIdeal.InSamp.resV16 (A0 m c) (A2 m c) (A3 m c) (ix2 ⟨256 * t.val + r.val, hr⟩ k) := by
  unfold out0_10 k0_pay33
  rw [View.canon_unit_zero hz]
  simp only [View.ld_unit_zero (S := S256x2048) hz, View.ld_unit_zero (S := S1x2048) hz]
  rw [Cert.InSampRefIdeal.InSamp.resV16_apply]
  unfold Cert.InSampRefIdeal.InSamp.resV
  rw [Cert.InSampRefIdeal.InSamp.vals_apply _ (bOf t r) (rOf r) k ⟨256 * t.val + r.val, hr⟩ (by
    show 256 * t.val + r.val = 32 * (8 * t.val + r.val / 32) + r.val % 32
    omega), v16_apply]
  exact col_eq m c t r _ _ fun d => w_at2 m c t d k

/-- What a point stores of the gated linear unit. -/
theorem g_point (t : Fin cfg0.N) (r : Fin 256) (k : Fin 1024) (hr : 256 * t.val + r.val < 1024) :
    out0_11 (F := Ideal) (iblk m c 0 t) (iblk m c 1 t) (iblk m c 2 t) (iblk m c 3 t) (iblk m c 4 t) (iblk m c 5 t) (ix2 r k)
      = Cert.InSampRefIdeal.InSamp.resG (A0 m c) (A2 m c) (A3 m c) (ix2 ⟨256 * t.val + r.val, hr⟩ k) := by
  unfold out0_11 k0_pay33
  rw [View.canon_unit_zero hz]
  simp only [View.ld_unit_zero (S := S256x2048) hz, View.ld_unit_zero (S := S1x2048) hz]
  unfold Cert.InSampRefIdeal.InSamp.resG
  rw [Cert.InSampRefIdeal.InSamp.glu_apply _ (bOf t r) (rOf r) k ⟨256 * t.val + r.val, hr⟩ (by
    show 256 * t.val + r.val = 32 * (8 * t.val + r.val / 32) + r.val % 32
    omega), g_apply, col_eq m c t r _ _ fun d => w_at3 m c t d k, col_eq m c t r _ _ fun d => w_at4 m c t d k]
  rfl

theorem covers6 : (cfg0.win 6).Covers := by decide +kernel
theorem covers7 : (cfg0.win 7).Covers := by decide +kernel
theorem covers8 : (cfg0.win 8).Covers := by decide +kernel
theorem covers9 : (cfg0.win 9).Covers := by decide +kernel
theorem covers10 : (cfg0.win 10).Covers := by decide +kernel
theorem covers11 : (cfg0.win 11).Covers := by decide +kernel

theorem emb6 (t : Fin cfg0.N) (r : Fin 256) (d : Fin 1024) (ht : 256 * t.val + r.val < 1024) :
    ((cfg0.win 6).blk t).view.emb (ix2 r d) = ix2 (⟨256 * t.val + r.val, ht⟩ : Fin 1024) d := by
  blk_ext [idx6 t]
theorem emb7 (t : Fin cfg0.N) (r : Fin 256) (d : Fin 1024) (ht : 256 * t.val + r.val < 1024) :
    ((cfg0.win 7).blk t).view.emb (ix2 r d) = ix2 (⟨256 * t.val + r.val, ht⟩ : Fin 1024) d := by
  blk_ext [idx7 t]
theorem emb8 (t : Fin cfg0.N) (r : Fin 256) (d : Fin 1024) (ht : 256 * t.val + r.val < 1024) :
    ((cfg0.win 8).blk t).view.emb (ix2 r d) = ix2 (⟨256 * t.val + r.val, ht⟩ : Fin 1024) d := by
  blk_ext [idx8 t]
theorem emb9 (t : Fin cfg0.N) (r : Fin 256) (d : Fin 1024) (ht : 256 * t.val + r.val < 1024) :
    ((cfg0.win 9).blk t).view.emb (ix2 r d) = ix2 (⟨256 * t.val + r.val, ht⟩ : Fin 1024) d := by
  blk_ext [idx9 t]
theorem emb10 (t : Fin cfg0.N) (r : Fin 256) (d : Fin 1024) (ht : 256 * t.val + r.val < 1024) :
    ((cfg0.win 10).blk t).view.emb (ix2 r d) = ix2 (⟨256 * t.val + r.val, ht⟩ : Fin 1024) d := by
  blk_ext [idx10 t]
theorem emb11 (t : Fin cfg0.N) (r : Fin 256) (d : Fin 1024) (ht : 256 * t.val + r.val < 1024) :
    ((cfg0.win 11).blk t).view.emb (ix2 r d) = ix2 (⟨256 * t.val + r.val, ht⟩ : Fin 1024) d := by
  blk_ext [idx11 t]

theorem ix2_eta (y : S256x1024.Idx) : ∃ (r : Fin 256) (d : Fin 1024), y = ix2 r d := ⟨y 0, y 1, by
  funext a
  match a with
  | ⟨0, _⟩ => rfl
  | ⟨1, _⟩ => rfl⟩

/-- The reference's results. -/
def qR : FVec Ideal Cert.InSampRefIdeal.S1024x1024 .bf16 := Cert.InSampRefIdeal.InSamp.resQ (A0 m c) (A1 m c) (A2 m c) (A3 m c)
def kR : FVec Ideal Cert.InSampRefIdeal.S1024x1024 .f32 := Cert.InSampRefIdeal.InSamp.resK (A0 m c) (A1 m c) (A2 m c) (A3 m c)
def k16R : FVec Ideal Cert.InSampRefIdeal.S1024x1024 .bf16 := Cert.InSampRefIdeal.InSamp.resK16 (A0 m c) (A1 m c) (A2 m c) (A3 m c)
def vR : FVec Ideal Cert.InSampRefIdeal.S1024x1024 .f32 := Cert.InSampRefIdeal.InSamp.resV (A0 m c) (A2 m c) (A3 m c)
def v16R : FVec Ideal Cert.InSampRefIdeal.S1024x1024 .bf16 := Cert.InSampRefIdeal.InSamp.resV16 (A0 m c) (A2 m c) (A3 m c)
def gR : FVec Ideal Cert.InSampRefIdeal.S1024x1024 .f32 := Cert.InSampRefIdeal.InSamp.resG (A0 m c) (A2 m c) (A3 m c)

/-- What a point stores, as the reference's results there. -/
theorem after6_eq (t : Fin cfg0.N) (r : Fin 256) (d : Fin 1024) :
    (dats m 0 c).after 6 t (ix2 r d) = qR m c (((cfg0.win 6).blk t).view.emb (ix2 r d)) := by
  have ht : t.val < 4 := N_0 ▸ t.isLt
  have hr : 256 * t.val + r.val < 1024 := by omega
  rw [after0_6, emb6 t r d hr]
  exact q_point m c t r d hr

theorem after7_eq (t : Fin cfg0.N) (r : Fin 256) (d : Fin 1024) :
    (dats m 0 c).after 7 t (ix2 r d) = kR m c (((cfg0.win 7).blk t).view.emb (ix2 r d)) := by
  have ht : t.val < 4 := N_0 ▸ t.isLt
  have hr : 256 * t.val + r.val < 1024 := by omega
  rw [after0_7, emb7 t r d hr]
  exact k_point m c t r d hr

theorem after8_eq (t : Fin cfg0.N) (r : Fin 256) (d : Fin 1024) :
    (dats m 0 c).after 8 t (ix2 r d) = k16R m c (((cfg0.win 8).blk t).view.emb (ix2 r d)) := by
  have ht : t.val < 4 := N_0 ▸ t.isLt
  have hr : 256 * t.val + r.val < 1024 := by omega
  rw [after0_8, emb8 t r d hr]
  exact k16_point m c t r d hr

theorem after9_eq (t : Fin cfg0.N) (r : Fin 256) (d : Fin 1024) :
    (dats m 0 c).after 9 t (ix2 r d) = vR m c (((cfg0.win 9).blk t).view.emb (ix2 r d)) := by
  have ht : t.val < 4 := N_0 ▸ t.isLt
  have hr : 256 * t.val + r.val < 1024 := by omega
  rw [after0_9, emb9 t r d hr]
  exact v_point m c t r d hr

theorem after10_eq (t : Fin cfg0.N) (r : Fin 256) (d : Fin 1024) :
    (dats m 0 c).after 10 t (ix2 r d) = v16R m c (((cfg0.win 10).blk t).view.emb (ix2 r d)) := by
  have ht : t.val < 4 := N_0 ▸ t.isLt
  have hr : 256 * t.val + r.val < 1024 := by omega
  rw [after0_10, emb10 t r d hr]
  exact v16_point m c t r d hr

theorem after11_eq (t : Fin cfg0.N) (r : Fin 256) (d : Fin 1024) :
    (dats m 0 c).after 11 t (ix2 r d) = gR m c (((cfg0.win 11).blk t).view.emb (ix2 r d)) := by
  have ht : t.val < 4 := N_0 ▸ t.isLt
  have hr : 256 * t.val + r.val < 1024 := by omega
  rw [after0_11, emb11 t r d hr]
  exact g_point m c t r d hr

/-- The kernel's results are the reference's. -/
theorem tie_q : (dats m 0 c).arrAt 6 cfg0.N = qR m c := by
  refine (dats m 0 c).arrAt_eq_of_covers 6 (qR m c) covers6 fun t hf y => ?_
  obtain ⟨r, d, rfl⟩ := ix2_eta y
  exact after6_eq m c t r d

theorem tie_k : (dats m 0 c).arrAt 7 cfg0.N = kR m c := by
  refine (dats m 0 c).arrAt_eq_of_covers 7 (kR m c) covers7 fun t hf y => ?_
  obtain ⟨r, d, rfl⟩ := ix2_eta y
  exact after7_eq m c t r d

theorem tie_k16 : (dats m 0 c).arrAt 8 cfg0.N = k16R m c := by
  refine (dats m 0 c).arrAt_eq_of_covers 8 (k16R m c) covers8 fun t hf y => ?_
  obtain ⟨r, d, rfl⟩ := ix2_eta y
  exact after8_eq m c t r d

theorem tie_v : (dats m 0 c).arrAt 9 cfg0.N = vR m c := by
  refine (dats m 0 c).arrAt_eq_of_covers 9 (vR m c) covers9 fun t hf y => ?_
  obtain ⟨r, d, rfl⟩ := ix2_eta y
  exact after9_eq m c t r d

theorem tie_v16 : (dats m 0 c).arrAt 10 cfg0.N = v16R m c := by
  refine (dats m 0 c).arrAt_eq_of_covers 10 (v16R m c) covers10 fun t hf y => ?_
  obtain ⟨r, d, rfl⟩ := ix2_eta y
  exact after10_eq m c t r d

theorem tie_g : (dats m 0 c).arrAt 11 cfg0.N = gR m c := by
  refine (dats m 0 c).arrAt_eq_of_covers 11 (gR m c) covers11 fun t hf y => ?_
  obtain ⟨r, d, rfl⟩ := ix2_eta y
  exact after11_eq m c t r d

end Cert.InSampIdeal.InSamp

end
-- ==== Proof.InSamp.RefRun.lean ====
/- The reference's run, its results by name. -/
module

public import proofs.«01_k».proof.Proof.InSamp.Ref
public import proofs.«01_k».proof.Proof.Gen.InSampRefIdeal.Run

@[expose] public section

set_option maxRecDepth 1024

noncomputable section

namespace Cert.InSampRefIdeal.InSamp

open Idealize.ShloMosaic Idealize.ShloMosaic.TcCoe Idealize.SL.Sem Cert.InSampRefIdeal

theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v114) = resQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100) = resK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v115) = resK16 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v102) = resV (m ((c.tc : Thread nD τ).loc main_arg0)) (m ((c.tc : Thread nD τ).loc main_arg2)) (m ((c.tc : Thread nD τ).loc main_arg3))
      ∧ r.2.mem ((c.tc : Thread nD τ).loc main_v116) = resV16 (m ((c.tc : Thread nD τ).loc main_arg0)) (m ((c.tc : Thread nD τ).loc main_arg2)) (m ((c.tc : Thread nD τ).loc main_arg3))
      ∧ r.2.mem ((c.tc : Thread nD τ).loc main_v117) = resG (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (resQ_eq m c), (h c).2.1.trans (resK_eq m c), (h c).2.2.1.trans (resK16_eq m c), (h c).2.2.2.1.trans ?_, (h c).2.2.2.2.1.trans ?_, (h c).2.2.2.2.2.1.trans ?_, (h c).2.2.2.2.2.2⟩) (Cert.InSampRefIdeal.Value.run (F := Ideal) m ρ)
  · unfold resV vals proj norm; rfl
  · unfold resV16 resV vals proj norm; rfl
  · unfold resG glu proj norm; rfl

end Cert.InSampRefIdeal.InSamp
end
-- ==== Proof.InSamp.Claims.lean ====
/- The five claims about the input projection of the sample batch. -/
module

public import proofs.«01_k».proof.Defs
public import proofs.«01_k».proof.Proof.InSamp.Tie
public import proofs.«01_k».proof.Proof.InSamp.RefRun
public import proofs.«01_k».proof.Proof.Gen.InSamp.Frame
public import Idealize.ShloMosaic.Adequacy
public import Idealize.ShloMosaic.Init

@[expose] public section

set_option maxRecDepth 1024

noncomputable section

namespace Cert.InSampIdeal.InSamp

open Idealize.ShloMosaic Idealize.SL.Sem

theorem frame_p : Cert.quiescent_InSamp := fun m ρ _ => Cert.InSamp.Gen.frame m ρ
theorem frame_pi : Cert.quiescent_InSampIdeal := fun m ρ _ => Cert.InSampIdeal.Gen.frame m ρ
theorem frame_ri : Cert.quiescent_InSampRefIdeal := fun m ρ _ =>
  (θ_run Cert.InSampRefIdeal.defs _ _).mono (fun r h => ⟨fun c => (h c).2.2.2.2.2.2, Idealize.ShloMosaic.sem_eq_zero_of_no_sems (by decide) r.2⟩)
    (Cert.InSampRefIdeal.Value.run (F := Ideal) m ρ)
theorem preserves : Cert.preserves_InSamp_InSampIdeal :=
  IdealRules.named_const.statement Cert.InSampIdeal.κ "qscale" .f32 0x3E38AA3B#32 _ rfl

set_option maxHeartbeats 2000000 in
theorem algebraic : Cert.algebraic_InSampIdeal_InSampRefIdeal := by
  intro m ρ m' ρ' hp hagree
  refine ⟨fun c => (Cert.InSampIdeal.Gen.dats m 0 c).arrAt 6 Cert.InSampIdeal.cfg0.N, fun c => (Cert.InSampIdeal.Gen.dats m 0 c).arrAt 7 Cert.InSampIdeal.cfg0.N, fun c => (Cert.InSampIdeal.Gen.dats m 0 c).arrAt 8 Cert.InSampIdeal.cfg0.N, fun c => (Cert.InSampIdeal.Gen.dats m 0 c).arrAt 9 Cert.InSampIdeal.cfg0.N, fun c => (Cert.InSampIdeal.Gen.dats m 0 c).arrAt 10 Cert.InSampIdeal.cfg0.N, fun c => (Cert.InSampIdeal.Gen.dats m 0 c).arrAt 11 Cert.InSampIdeal.cfg0.N, ?_, ?_⟩
  · exact Cert.InSampIdeal.Value.run_blocks m ρ
  · refine (θ_run Cert.InSampRefIdeal.defs _ _).mono (fun _ h c => ⟨?_, ?_, ?_, ?_, ?_, ?_, (h c).2.2.2.2.2.2⟩) (Cert.InSampRefIdeal.InSamp.run_named m' ρ')
    all_goals obtain ⟨h0, h1, h2, h3⟩ := hagree c
    · rw [(h c).1, h0, h1, h2, h3]
      exact (tie_q m c).symm
    · rw [(h c).2.1, h0, h1, h2, h3]
      exact (tie_k m c).symm
    · rw [(h c).2.2.1, h0, h1, h2, h3]
      exact (tie_k16 m c).symm
    · rw [(h c).2.2.2.1, h0, h2, h3]
      exact (tie_v m c).symm
    · rw [(h c).2.2.2.2.1, h0, h2, h3]
      exact (tie_v16 m c).symm
    · rw [(h c).2.2.2.2.2.1, h0, h2, h3]
      exact (tie_g m c).symm

end Cert.InSampIdeal.InSamp

end
-- ==== Proof.MergeSamp.Blocks.lean ====
/- What the blocks of a merge grid point hold, in terms of the arguments. -/
module

public import proofs.«01_k».proof.Proof.Gen.MergeSampIdeal.Frame
public import Idealize.ShloMosaic.PureOps.Ideal.Laws
public import Idealize.ShloMosaic.Lib.Pointwise
public import Idealize.ShloMosaic.Lib.Pipeline.ValueKit

@[expose] public section

set_option maxRecDepth 1024

noncomputable section

namespace Cert.MergeSampIdeal.MergeSamp

open Idealize.ShloMosaic Idealize.ShloMosaic.TcCoe Idealize.ShloMosaic.Tactic Cert.MergeSampIdeal Cert.MergeSampIdeal.Gen

variable (m : (ℓ : Loc nD τ sig) → Buf (Elt Ideal) ℓ) (c : Dev nD)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val, 0] := by decide +kernel

/-- The batch entry of a row of a point. -/
def bOf (t : Fin cfg0.N) (r : Fin 256) : Fin 32 := ⟨8 * t.val + r.val / 32, by have : t.val < 4 := N_0 ▸ t.isLt; omega⟩
/-- The row in its batch entry. -/
def rOf (r : Fin 256) : Fin 32 := ⟨r.val % 32, by omega⟩
/-- A gate's column of the input projection. -/
def gCol (k : Fin 4096) : Fin 9216 := ⟨5120 + k.val, by omega⟩
/-- The head and the lane of a column of the heads side by side. -/
def hd (k : Fin 1024) : Fin 8 := ⟨k.val / 128, by omega⟩
def ln (k : Fin 1024) : Fin 128 := ⟨k.val % 128, by omega⟩

theorem x_blk (t : Fin cfg0.N) (r : Fin 256) (d : Fin 2048) :
    iblk m c 0 t (ix2 r d) = m ((c : Thread nD τ).loc main_arg0) (ix3 (bOf t r) (rOf r) d) := by
  have ht : t.val < 4 := N_0 ▸ t.isLt
  unfold bOf rOf
  blk_ext! [iblk, V, idx0 t]

theorem gpre_blk (t : Fin cfg0.N) (d : Fin 2048) :
    iblk m c 1 t (ix2 0 d) = m ((c : Thread nD τ).loc main_arg1) (ix1 d) := by
  have ht : t.val < 4 := N_0 ▸ t.isLt
  blk_ext! [iblk, V, idx1 t]

theorem gate_blk (t : Fin cfg0.N) (d : Fin 2048) (k : Fin 4096) :
    iblk m c 2 t (ix2 d k) = m ((c : Thread nD τ).loc main_arg2) (ix2 d (gCol k)) := by
  have ht : t.val < 4 := N_0 ▸ t.isLt
  unfold gCol
  blk_ext! [iblk, V, idx2 t]

theorem heads_blk (t : Fin cfg0.N) (r : Fin 256) (d : Fin 1024) :
    iblk m c 3 t (ix2 r d) = m ((c : Thread nD τ).loc main_arg3) (ix4 (bOf t r) (rOf r) (hd d) (ln d)) := by
  have ht : t.val < 4 := N_0 ▸ t.isLt
  unfold bOf rOf hd ln
  blk_ext! [iblk, V, idx3 t]

theorem conv_blk (t : Fin cfg0.N) (r : Fin 256) (d : Fin 1024) :
    iblk m c 4 t (ix2 r d) = m ((c : Thread nD τ).loc main_arg4) (ix3 (bOf t r) (rOf r) d) := by
  have ht : t.val < 4 := N_0 ▸ t.isLt
  unfold bOf rOf
  blk_ext! [iblk, V, idx4 t]

theorem wa_blk (t : Fin cfg0.N) (d : Fin 1024) (k : Fin 2048) :
    iblk m c 5 t (ix2 d k) = m ((c : Thread nD τ).loc main_arg5) (ix2 d k) := by
  have ht : t.val < 4 := N_0 ▸ t.isLt
  blk_ext! [iblk, V, idx5 t]

theorem wc_blk (t : Fin cfg0.N) (d : Fin 1024) (k : Fin 2048) :
    iblk m c 6 t (ix2 d k) = m ((c : Thread nD τ).loc main_arg6) (ix2 d k) := by
  have ht : t.val < 4 := N_0 ▸ t.isLt
  blk_ext! [iblk, V, idx6 t]

theorem bias_blk (t : Fin cfg0.N) (k : Fin 2048) :
    iblk m c 7 t (ix2 0 k) = m ((c : Thread nD τ).loc main_arg7) (ix1 k) := by
  have ht : t.val < 4 := N_0 ▸ t.isLt
  blk_ext! [iblk, V, idx7 t]

theorem wo_blk (t : Fin cfg0.N) (k d : Fin 2048) :
    iblk m c 8 t (ix2 k d) = m ((c : Thread nD τ).loc main_arg8) (ix2 k d) := by
  have ht : t.val < 4 := N_0 ▸ t.isLt
  blk_ext! [iblk, V, idx8 t]

theorem gpost_blk (t : Fin cfg0.N) (d : Fin 2048) :
    iblk m c 9 t (ix2 0 d) = m ((c : Thread nD τ).loc main_arg9) (ix1 d) := by
  have ht : t.val < 4 := N_0 ▸ t.isLt
  blk_ext! [iblk, V, idx9 t]

end Cert.MergeSampIdeal.MergeSamp

end
-- ==== Proof.MergeSamp.Point.lean ====
/- The merge kernel's arithmetic at an element. -/
module

public import proofs.«01_k».proof.Proof.Gen.MergeSampIdeal.Frame
public import Idealize.ShloMosaic.PureOps.Ideal.Laws
public import Idealize.ShloMosaic.Lib.Pointwise
public import Idealize.ShloMosaic.Lib.Pipeline.ValueKit

@[expose] public section

set_option maxRecDepth 1024

noncomputable section

namespace Cert.MergeSampIdeal.MergeSamp

open Idealize.ShloMosaic Idealize.ShloMosaic.Tactic Cert.MergeSampIdeal Cert.MergeSampIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

/-- The gated sum of the two branches at a row and a column: the row of the normed input, of the heads and of the
    convolution, then the columns of the two gates' weights, of the branches' weights, and the bias. -/
def mrg (h : Fin 2048 → EReal) (a c : Fin 1024 → EReal) (ga gb : Fin 2048 → EReal) (wa wc : Fin 1024 → EReal) (b : EReal) : EReal :=
  Ideal.div 1 (1 + Ideal.exp (-(∑ d, h d * ga d))) * (∑ d, a d * wa d) + Ideal.div 1 (1 + Ideal.exp (-(∑ d, h d * gb d))) * ((∑ d, c d * wc d) + b)

theorem h_apply (X : Vec Ideal S256x2048 .f32) (g : Vec Ideal S1x2048 .f32) (r : Fin 256) (d : Fin 2048) :
    k0_pay3 (F := Ideal) X g (ix2 r d) = X (ix2 r d) * inv (fun j => X (ix2 r j)) * g (ix2 0 d) := by
  unfold k0_pay3 k0_pay2 inv; pointwise

theorem tile0 (X : Vec Ideal S256x2048 .f32) (g : Vec Ideal S1x2048 .f32) (ga gb : Vec Ideal S2048x512 .bf16) (a c : Vec Ideal S256x1024 .bf16)
    (wa wc : Vec Ideal S1024x512 .bf16) (b : Vec Ideal S1x512 .f32) (r : Fin 256) (k : Fin 512) :
    k0_pay10 (F := Ideal) (k0_pay6 (F := Ideal) X g ga) (k0_pay7 (F := Ideal) X g gb) (k0_pay8 (F := Ideal) a wa) (k0_pay9 (F := Ideal) c wc) b (ix2 r k) =
      mrg (fun d => k0_pay3 (F := Ideal) X g (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay10 k0_pay6 k0_pay7 k0_pay8 k0_pay9 k0_pay4 k0_pay5 mrg; generalize k0_pay3 (F := Ideal) X g = h; pointwise
  simp only [zero_sub]

theorem tile1 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    k0_pay15 (F := Ideal) (k0_pay11 (F := Ideal) h gb) (k0_pay12 (F := Ideal) (k0_pay4 (F := Ideal) a) wa) (k0_pay13 (F := Ideal) (k0_pay5 (F := Ideal) c) wc b) (k0_pay14 (F := Ideal) h ga) (ix2 r k) =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay15 k0_pay11 k0_pay12 k0_pay13 k0_pay14 k0_pay4 k0_pay5 mrg; pointwise
  simp only [zero_sub]

theorem tile2 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    k0_pay21 (F := Ideal) (k0_pay16 (F := Ideal) h gb) (k0_pay17 (F := Ideal) (k0_pay4 (F := Ideal) a) wa) (k0_pay18 (F := Ideal) (k0_pay5 (F := Ideal) c) wc b) (k0_pay19 (F := Ideal) h ga) (k0_pay20 (F := Ideal)) (ix2 r k) =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold k0_pay21 k0_pay16 k0_pay17 k0_pay18 k0_pay19 k0_pay20 k0_pay4 k0_pay5 mrg; pointwise
  simp only [zero_sub]

/-- The last tile's gated sum, from its three parts. -/
def lastTile (v138 v146 v149 : FVec Ideal S256x512 .f32) (r : Fin 256) (k : Fin 512) : EReal :=
  v146 (ix2 r k) + Ideal.div 1 (1 + v149 (ix2 r k)) * v138 (ix2 r k)

theorem tile3 (h : FVec Ideal S256x2048 .bf16) (ga gb : Vec Ideal S2048x512 .bf16) (a c : Vec Ideal S256x1024 .bf16)
    (wa wc : Vec Ideal S1024x512 .bf16) (b : Vec Ideal S1x512 .f32) (r : Fin 256) (k : Fin 512) :
    lastTile (k0_pay22 (F := Ideal) (k0_pay5 (F := Ideal) c) wc b) (k0_pay23 (F := Ideal) h (k0_pay4 (F := Ideal) a) ga wa) (k0_pay24 (F := Ideal) h gb) r k =
      mrg (fun d => h (ix2 r d)) (fun d => a (ix2 r d)) (fun d => c (ix2 r d)) (fun d => ga (ix2 d k)) (fun d => gb (ix2 d k)) (fun d => wa (ix2 d k)) (fun d => wc (ix2 d k)) (b (ix2 0 k)) := by
  unfold lastTile k0_pay22 k0_pay23 k0_pay24 k0_pay4 k0_pay5 mrg; pointwise
  simp only [zero_sub]

/-- The stored rows, once the four tiles' columns are known: the input, plus the normed last projection. -/
theorem pay1_apply (x : Vec Ideal S256x2048 .f32) (v54 v88 v122 : FVec Ideal S256x512 .bf16) (v138 v146 v149 : FVec Ideal S256x512 .f32)
    (wo : Vec Ideal S2048x2048 .bf16) (g : Vec Ideal S1x2048 .f32) (r : Fin 256) (d : Fin 2048) (f : Fin 2048 → EReal)
    (h0 : ∀ k : Fin 512, v54 (ix2 r k) = f ⟨k.val, by omega⟩) (h1 : ∀ k : Fin 512, v88 (ix2 r k) = f ⟨512 + k.val, by omega⟩)
    (h2 : ∀ k : Fin 512, v122 (ix2 r k) = f ⟨1024 + k.val, by omega⟩) (h3 : ∀ k : Fin 512, lastTile v138 v146 v149 r k = f ⟨1536 + k.val, by omega⟩) :
    k0_pay1 (F := Ideal) (k0_pay2 (F := Ideal) x) v54 v88 v122 v138 v146 v149 wo g (ix2 r d) =
      x (ix2 r d) + (∑ k, f k * wo (ix2 k d)) * inv (fun j => ∑ k, f k * wo (ix2 k j)) * g (ix2 0 d) := by
  unfold k0_pay1 k0_pay2 inv
  dsimp only
  generalize hM : concatenate S256x2048 1 _ _ = M
  have hm : ∀ j, M (ix2 r j) = f j := by
    intro j
    rw [← hM]
    unfold lastTile at h3
    pointwise
    by_cases a1 : j.val < 512
    · rw [dif_pos a1]; exact (h0 _).trans (congrArg f (Fin.ext rfl))
    rw [dif_neg a1]
    by_cases a2 : j.val - 512 < 512
    · rw [dif_pos a2]; exact (h1 _).trans (congrArg f (Fin.ext (by show 512 + (j.val - 512) = j.val; omega)))
    rw [dif_neg a2]
    by_cases a3 : j.val - 512 - 512 < 512
    · rw [dif_pos a3]; exact (h2 _).trans (congrArg f (Fin.ext (by show 1024 + (j.val - 512 - 512) = j.val; omega)))
    rw [dif_neg a3]
    exact (h3 ⟨j.val - 512 - 512 - 512, by omega⟩).trans (congrArg f (Fin.ext (by show 1536 + (j.val - 512 - 512 - 512) = j.val; omega)))
  pointwise
  simp only [hm]

end Cert.MergeSampIdeal.MergeSamp

end
-- ==== Proof.MergeSamp.Ref.lean ====
/- The merge reference's operations by name, and its result as their composition. -/
module

public import proofs.«01_k».proof.Proof.Gen.MergeSampRefIdeal.Run
public import Idealize.ShloMosaic.PureOps.Ideal.Laws
public import Idealize.ShloMosaic.Lib.Pointwise

@[expose] public section

set_option maxRecDepth 1024

noncomputable section

namespace Cert.MergeSampRefIdeal.MergeSamp

open Idealize.ShloMosaic Idealize.ShloMosaic.Tactic Cert.MergeSampRefIdeal Cert.MergeSampRefIdeal.Gen Cert.MergeSampRefIdeal.Value

/-- Rows over the root of their mean square, times a gain. -/
def norm (x : FVec Ideal S32x32x2048 .f32) (g : FVec Ideal S2048 .f32) : FVec Ideal S32x32x2048 .f32 :=
  mulf (mulf x (broadcastInDim S32x32x2048 ![0, 1, 2] bcast_S32x32x1_S32x32x2048_0_1_2 (Host.rsqrt (addf (Host.divf (broadcastInDim S32x32x1 ![0, 1] bcast_S32x32_S32x32x1_0_1 (Host.reduceAdd (mulf x x) (constant S_ .f32 0x00000000#32) reducesTo_S32x32x2048_S32x32_d2 h_S_)) (broadcastInDim S32x32x1 ![] bcast_S_S32x32x1 (constant S_ .f32 0x45000000#32))) (broadcastInDim S32x32x1 ![] bcast_S_S32x32x1 (constant S_ .f32 0x358637BD#32)))))) (broadcastInDim S32x32x2048 ![0, 1, 2] bcast_S1x1x2048_S32x32x2048_0_1_2 (broadcastInDim S1x1x2048 ![2] bcast_S2048_S1x1x2048_2 g))

/-- The columns of the input projection that hold the gates. -/
def gates (h : FVec Ideal S32x32x2048 .f32) (w : FVec Ideal S2048x9216 .f32) : FVec Ideal S32x32x4096 .f32 :=
  extractStridedSlice S32x32x4096 ![0, 0, 5120] (Host.dotGeneral dot_S32x32x2048_S2048x9216_S32x32x9216_2_0_01_1_n_n none h w) slices_S32x32x9216_S32x32x4096_0_0_5120

/-- The logistic function. -/
def lgt (z : FVec Ideal S32x32x2048 .f32) : FVec Ideal S32x32x2048 .f32 :=
  Host.divf (broadcastInDim S32x32x2048 ![] bcast_S_S32x32x2048 (constant S_ .f32 0x3F800000#32)) (addf (broadcastInDim S32x32x2048 ![] bcast_S_S32x32x2048 (constant S_ .f32 0x3F800000#32)) (Host.exp (Host.negf z)))

/-- The attention branch's gate. -/
def gateA (z : FVec Ideal S32x32x4096 .f32) : FVec Ideal S32x32x2048 .f32 :=
  lgt (extractStridedSlice S32x32x2048 ![0, 0, 0] z slices_S32x32x4096_S32x32x2048_0_0_0)
/-- The convolution branch's gate. -/
def gateB (z : FVec Ideal S32x32x4096 .f32) : FVec Ideal S32x32x2048 .f32 :=
  lgt (extractStridedSlice S32x32x2048 ![0, 0, 2048] z slices_S32x32x4096_S32x32x2048_0_0_2048)

/-- The attention heads, side by side. -/
def heads (o : FVec Ideal S32x32x8x128 .f32) : FVec Ideal S32x32x1024 .f32 :=
  shapeCast _ o shapeCasts_S32x32x8x128_S32x32x1024
/-- A branch's projection. -/
def branch (o : FVec Ideal S32x32x1024 .f32) (w : FVec Ideal S1024x2048 .f32) : FVec Ideal S32x32x2048 .f32 :=
  Host.dotGeneral dot_S32x32x1024_S1024x2048_S32x32x2048_2_0_01_1_n_n none o w
/-- The convolution branch: its projection and a bias. -/
def cBranch (o : FVec Ideal S32x32x1024 .f32) (w : FVec Ideal S1024x2048 .f32) (b : FVec Ideal S2048 .f32) : FVec Ideal S32x32x2048 .f32 :=
  addf (branch o w) (broadcastInDim S32x32x2048 ![0, 1, 2] bcast_S1x1x2048_S32x32x2048_0_1_2 (broadcastInDim S1x1x2048 ![2] bcast_S2048_S1x1x2048_2 b))

/-- The gated sum of the branches. -/
def merged (ga a gb cb : FVec Ideal S32x32x2048 .f32) : FVec Ideal S32x32x2048 .f32 := addf (mulf ga a) (mulf gb cb)

/-- The last projection. -/
def back (t : FVec Ideal S32x32x2048 .f32) (w : FVec Ideal S2048x2048 .f32) : FVec Ideal S32x32x2048 .f32 :=
  Host.dotGeneral dot_S32x32x2048_S2048x2048_S32x32x2048_2_0_01_1_n_n none t w

/-- The sum with the input, as rows. -/
def rows (x f : FVec Ideal S32x32x2048 .f32) : FVec Ideal S1024x2048 .f32 :=
  shapeCast _ (addf x f) shapeCasts_S32x32x2048_S1024x2048

/-- The gated sum, from the arguments. -/
def mg (a0 : FVec Ideal S32x32x2048 .f32) (a1 : FVec Ideal S2048 .f32) (a2 : FVec Ideal S2048x9216 .f32) (a3 : FVec Ideal S32x32x8x128 .f32) (a4 : FVec Ideal S32x32x1024 .f32) (a5 a6 : FVec Ideal S1024x2048 .f32) (a7 : FVec Ideal S2048 .f32) : FVec Ideal S32x32x2048 .f32 :=
  merged (gateA (gates (norm a0 a1) a2)) (branch (heads a3) a5) (gateB (gates (norm a0 a1) a2)) (cBranch a4 a6 a7)

/-- The result, from the arguments. -/
def result (a0 : FVec Ideal S32x32x2048 .f32) (a1 : FVec Ideal S2048 .f32) (a2 : FVec Ideal S2048x9216 .f32) (a3 : FVec Ideal S32x32x8x128 .f32) (a4 : FVec Ideal S32x32x1024 .f32) (a5 a6 : FVec Ideal S1024x2048 .f32) (a7 : FVec Ideal S2048 .f32) (a8 : FVec Ideal S2048x2048 .f32) (a9 : FVec Ideal S2048 .f32) : FVec Ideal S1024x2048 .f32 :=
  rows a0 (norm (back (mg a0 a1 a2 a3 a4 a5 a6 a7) a8) a9)

set_option maxHeartbeats 4000000 in
theorem res_eq (m : (ℓ : Loc nD τ sig) → Buf (Elt Ideal) ℓ) (c : Dev nD) : res_main_v53 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := by
  unfold res_main_v53
  simp only [id_eq]
  unfold result rows norm back mg merged gateA gateB lgt gates cBranch branch heads norm
  rfl

theorem norm_apply (x : FVec Ideal S32x32x2048 .f32) (g : FVec Ideal S2048 .f32) (b : Fin 32) (r : Fin 32) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

/-- A gate's column of the input projection. -/
def colA (k : Fin 2048) : Fin 9216 := ⟨5120 + k.val, by omega⟩
def colB (k : Fin 2048) : Fin 9216 := ⟨5120 + (2048 + k.val), by omega⟩

theorem gateA_apply (h : FVec Ideal S32x32x2048 .f32) (w : FVec Ideal S2048x9216 .f32) (b : Fin 32) (r : Fin 32) (k : Fin 2048) :
    gateA (gates h w) (ix3 b r k) = Ideal.div 1 (1 + Ideal.exp (-(∑ d : Fin 2048, h (ix3 b r d) * w (ix2 d (colA k))))) := by
  unfold gateA gates lgt colA; pointwise

theorem gateB_apply (h : FVec Ideal S32x32x2048 .f32) (w : FVec Ideal S2048x9216 .f32) (b : Fin 32) (r : Fin 32) (k : Fin 2048) :
    gateB (gates h w) (ix3 b r k) = Ideal.div 1 (1 + Ideal.exp (-(∑ d : Fin 2048, h (ix3 b r d) * w (ix2 d (colB k))))) := by
  unfold gateB gates lgt colB; pointwise

theorem branch_apply (o : FVec Ideal S32x32x1024 .f32) (w : FVec Ideal S1024x2048 .f32) (b : Fin 32) (r : Fin 32) (k : Fin 2048) :
    branch o w (ix3 b r k) = ∑ d : Fin 1024, o (ix3 b r d) * w (ix2 d k) := by
  unfold branch; pointwise

theorem cBranch_apply (o : FVec Ideal S32x32x1024 .f32) (w : FVec Ideal S1024x2048 .f32) (g : FVec Ideal S2048 .f32) (b : Fin 32) (r : Fin 32) (k : Fin 2048) :
    cBranch o w g (ix3 b r k) = (∑ d : Fin 1024, o (ix3 b r d) * w (ix2 d k)) + g (ix1 k) := by
  unfold cBranch branch; pointwise

/-- The head and the lane of a column of the heads side by side. -/
def hd (k : Fin 1024) : Fin 8 := ⟨k.val / 128, by omega⟩
def ln (k : Fin 1024) : Fin 128 := ⟨k.val % 128, by omega⟩

theorem heads_apply (o : FVec Ideal S32x32x8x128 .f32) (b : Fin 32) (r : Fin 32) (k : Fin 1024) :
    heads o (ix3 b r k) = o (ix4 b r (hd k) (ln k)) := by
  unfold heads hd ln; pointwise

theorem back_apply (t : FVec Ideal S32x32x2048 .f32) (w : FVec Ideal S2048x2048 .f32) (b : Fin 32) (r : Fin 32) (d : Fin 2048) :
    back t w (ix3 b r d) = ∑ k : Fin 2048, t (ix3 b r k) * w (ix2 k d) := by
  unfold back; pointwise

theorem rows_apply (x f : FVec Ideal S32x32x2048 .f32) (b : Fin 32) (r : Fin 32) (d : Fin 2048) (i : Fin 1024) (hi : i.val = 32 * b.val + r.val) :
    rows x f (ix2 i d) = x (ix3 b r d) + f (ix3 b r d) := by
  obtain ⟨n, hn⟩ := i
  obtain rfl : n = 32 * b.val + r.val := hi
  unfold rows; pointwise

theorem mg_apply (a0 : FVec Ideal S32x32x2048 .f32) (a1 : FVec Ideal S2048 .f32) (a2 : FVec Ideal S2048x9216 .f32) (a3 : FVec Ideal S32x32x8x128 .f32) (a4 : FVec Ideal S32x32x1024 .f32) (a5 a6 : FVec Ideal S1024x2048 .f32) (a7 : FVec Ideal S2048 .f32) (b : Fin 32) (r : Fin 32) (k : Fin 2048) :
    mg a0 a1 a2 a3 a4 a5 a6 a7 (ix3 b r k) =
      Ideal.div 1 (1 + Ideal.exp (-(∑ d : Fin 2048, norm a0 a1 (ix3 b r d) * a2 (ix2 d (colA k))))) * (∑ d : Fin 1024, a3 (ix4 b r (hd d) (ln d)) * a5 (ix2 d k))
      + Ideal.div 1 (1 + Ideal.exp (-(∑ d : Fin 2048, norm a0 a1 (ix3 b r d) * a2 (ix2 d (colB k))))) * ((∑ d : Fin 1024, a4 (ix3 b r d) * a6 (ix2 d k)) + a7 (ix1 k)) := by
  unfold mg
  show gateA (gates (norm a0 a1) a2) (ix3 b r k) * branch (heads a3) a5 (ix3 b r k) + gateB (gates (norm a0 a1) a2) (ix3 b r k) * cBranch a4 a6 a7 (ix3 b r k) = _
  rw [gateA_apply, gateB_apply, branch_apply, cBranch_apply]
  simp only [heads_apply]

end Cert.MergeSampRefIdeal.MergeSamp

end
-- ==== Proof.MergeSamp.Tie.lean ====
/- The merge kernel's result is the reference's, at every index of the result. -/
module

public import proofs.«01_k».proof.Proof.MergeSamp.Blocks
public import proofs.«01_k».proof.Proof.MergeSamp.Point
public import proofs.«01_k».proof.Proof.MergeSamp.Ref
public import proofs.«01_k».proof.Proof.Gen.MergeSampIdeal.Value

@[expose] public section

set_option maxRecDepth 1024

noncomputable section

namespace Cert.MergeSampIdeal.MergeSamp

open Idealize.ShloMosaic Idealize.ShloMosaic.TcCoe Idealize.ShloMosaic.Tactic Cert.MergeSampIdeal Cert.MergeSampIdeal.Gen Cert.MergeSampIdeal.Value

variable (m : (ℓ : Loc nD τ sig) → Buf (Elt Ideal) ℓ) (c : Dev nD)

/-- The arguments, as arrays. -/
abbrev A0 : FVec Ideal Cert.MergeSampRefIdeal.S32x32x2048 .f32 := m ((c.tc : Thread nD τ).loc main_arg0)
abbrev A1 : FVec Ideal Cert.MergeSampRefIdeal.S2048 .f32 := m ((c.tc : Thread nD τ).loc main_arg1)
abbrev A2 : FVec Ideal Cert.MergeSampRefIdeal.S2048x9216 .f32 := m ((c.tc : Thread nD τ).loc main_arg2)
abbrev A3 : FVec Ideal Cert.MergeSampRefIdeal.S32x32x8x128 .f32 := m ((c.tc : Thread nD τ).loc main_arg3)
abbrev A4 : FVec Ideal Cert.MergeSampRefIdeal.S32x32x1024 .f32 := m ((c.tc : Thread nD τ).loc main_arg4)
abbrev A5 : FVec Ideal Cert.MergeSampRefIdeal.S1024x2048 .f32 := m ((c.tc : Thread nD τ).loc main_arg5)
abbrev A6 : FVec Ideal Cert.MergeSampRefIdeal.S1024x2048 .f32 := m ((c.tc : Thread nD τ).loc main_arg6)
abbrev A7 : FVec Ideal Cert.MergeSampRefIdeal.S2048 .f32 := m ((c.tc : Thread nD τ).loc main_arg7)
abbrev A8 : FVec Ideal Cert.MergeSampRefIdeal.S2048x2048 .f32 := m ((c.tc : Thread nD τ).loc main_arg8)
abbrev A9 : FVec Ideal Cert.MergeSampRefIdeal.S2048 .f32 := m ((c.tc : Thread nD τ).loc main_arg9)

/-- The reference's normed rows. -/
def hR : FVec Ideal Cert.MergeSampRefIdeal.S32x32x2048 .f32 := Cert.MergeSampRefIdeal.MergeSamp.norm (A0 m c) (A1 m c)
/-- The reference's gated sum. -/
def mR : FVec Ideal Cert.MergeSampRefIdeal.S32x32x2048 .f32 :=
  Cert.MergeSampRefIdeal.MergeSamp.mg (A0 m c) (A1 m c) (A2 m c) (A3 m c) (A4 m c) (A5 m c) (A6 m c) (A7 m c)

theorem mR_apply (b : Fin 32) (r : Fin 32) (k : Fin 2048) : mR m c (ix3 b r k) =
    mrg (fun d => hR m c (ix3 b r d)) (fun d => A3 m c (ix4 b r (hd d) (ln d))) (fun d => A4 m c (ix3 b r d))
      (fun d => A2 m c (ix2 d (gCol ⟨k.val, by omega⟩))) (fun d => A2 m c (ix2 d (gCol ⟨2048 + k.val, by omega⟩)))
      (fun d => A5 m c (ix2 d k)) (fun d => A6 m c (ix2 d k)) (A7 m c (ix1 k)) :=
  Cert.MergeSampRefIdeal.MergeSamp.mg_apply _ _ _ _ _ _ _ _ b r k

theorem h_eq (t : Fin cfg0.N) (r : Fin 256) (d : Fin 2048) :
    k0_pay3 (F := Ideal) (iblk m c 0 t) (iblk m c 1 t) (ix2 r d) = hR m c (ix3 (bOf t r) (rOf r) d) := by
  unfold hR
  rw [h_apply, gpre_blk, Cert.MergeSampRefIdeal.MergeSamp.norm_apply]
  unfold inv
  simp only [x_blk]

/-- A point's gated sum at a column, from slices of the point's blocks. -/
theorem mrg_eq (t : Fin cfg0.N) (r : Fin 256) (k : Fin 2048) (ga gb : Fin 2048 → EReal) (wa wc : Fin 1024 → EReal) (b : EReal)
    (hga : ∀ d, ga d = iblk m c 2 t (ix2 d ⟨k.val, by omega⟩)) (hgb : ∀ d, gb d = iblk m c 2 t (ix2 d ⟨2048 + k.val, by omega⟩))
    (hwa : ∀ d, wa d = iblk m c 5 t (ix2 d k)) (hwc : ∀ d, wc d = iblk m c 6 t (ix2 d k)) (hb : b = iblk m c 7 t (ix2 0 k)) :
    mrg (fun d => k0_pay3 (F := Ideal) (iblk m c 0 t) (iblk m c 1 t) (ix2 r d)) (fun d => iblk m c 3 t (ix2 r d)) (fun d => iblk m c 4 t (ix2 r d)) ga gb wa wc b
      = mR m c (ix3 (bOf t r) (rOf r) k) := by
  obtain rfl : ga = _ := funext hga
  obtain rfl : gb = _ := funext hgb
  obtain rfl : wa = _ := funext hwa
  obtain rfl : wc = _ := funext hwc
  subst hb
  simp only [h_eq, gate_blk, heads_blk, conv_blk, wa_blk, wc_blk, bias_blk]
  exact (mR_apply m c _ _ _).symm

theorem hz : (![0, 0] : Fin 2 → Nat) = fun _ => 0 := by
  funext a
  match a with
  | ⟨0, _⟩ => rfl
  | ⟨1, _⟩ => rfl

/-- What a point stores. -/
theorem point_eq (t : Fin cfg0.N) (r : Fin 256) (d : Fin 2048) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r d)
      = A0 m c (ix3 (bOf t r) (rOf r) d) + Cert.MergeSampRefIdeal.MergeSamp.norm (Cert.MergeSampRefIdeal.MergeSamp.back (mR m c) (A8 m c)) (A9 m c) (ix3 (bOf t r) (rOf r) d) := by
  unfold out0_10 k0_pay25 k0_pay26 k0_pay27
  rw [View.canon_unit_zero hz]
  simp only [View.ld_unit_zero (S := S256x2048) hz, View.ld_unit_zero (S := S1x2048) hz, View.ld_unit_zero (S := S256x1024) hz, View.ld_unit_zero (S := S2048x2048) hz]
  rw [pay1_apply (f := fun k => mR m c (ix3 (bOf t r) (rOf r) k))]
  · rw [Cert.MergeSampRefIdeal.MergeSamp.norm_apply, x_blk, gpost_blk]
    unfold inv
    simp only [wo_blk, Cert.MergeSampRefIdeal.MergeSamp.back_apply]
  · intro k
    rw [tile0]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp)
  · intro k
    rw [tile1]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)
  · intro k
    rw [tile2]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)
  · intro k
    rw [tile3]
    refine mrg_eq m c t r _ _ _ _ _ _ (fun d => ?_) (fun d => ?_) (fun d => ?_) (fun d => ?_) ?_
    all_goals (refine View.ld_unit_apply_of _ _ _ _ _ _ fun a => ?_; match a with
      | ⟨0, _⟩ => simp
      | ⟨1, _⟩ => simp; try omega)

theorem covers10 : (cfg0.win 10).Covers := by decide +kernel

theorem emb10 (t : Fin cfg0.N) (r : Fin 256) (d : Fin 2048) (ht : 256 * t.val + r.val < 1024) :
    ((cfg0.win 10).blk t).view.emb (ix2 r d) = ix2 (⟨256 * t.val + r.val, ht⟩ : Fin 1024) d := by
  blk_ext [idx10 t]

/-- The reference's result at a point's row. -/
theorem res_at (t : Fin cfg0.N) (r : Fin 256) (d : Fin 2048) (ht : 256 * t.val + r.val < 1024) :
    Cert.MergeSampRefIdeal.MergeSamp.result (A0 m c) (A1 m c) (A2 m c) (A3 m c) (A4 m c) (A5 m c) (A6 m c) (A7 m c) (A8 m c) (A9 m c) (ix2 ⟨256 * t.val + r.val, ht⟩ d)
      = A0 m c (ix3 (bOf t r) (rOf r) d) + Cert.MergeSampRefIdeal.MergeSamp.norm (Cert.MergeSampRefIdeal.MergeSamp.back (mR m c) (A8 m c)) (A9 m c) (ix3 (bOf t r) (rOf r) d) := by
  unfold Cert.MergeSampRefIdeal.MergeSamp.result mR
  exact Cert.MergeSampRefIdeal.MergeSamp.rows_apply _ _ (bOf t r) (rOf r) d ⟨256 * t.val + r.val, ht⟩ (by
    show 256 * t.val + r.val = 32 * (8 * t.val + r.val / 32) + r.val % 32
    omega)

theorem ix2_eta (y : S256x2048.Idx) : ∃ (r : Fin 256) (d : Fin 2048), y = ix2 r d := ⟨y 0, y 1, by
  funext a
  match a with
  | ⟨0, _⟩ => rfl
  | ⟨1, _⟩ => rfl⟩

/-- The reference's result. -/
def resR : FVec Ideal Cert.MergeSampRefIdeal.S1024x2048 .f32 :=
  Cert.MergeSampRefIdeal.MergeSamp.result (A0 m c) (A1 m c) (A2 m c) (A3 m c) (A4 m c) (A5 m c) (A6 m c) (A7 m c) (A8 m c) (A9 m c)

/-- What a point stores, as the reference's result there. -/
theorem after_eq (t : Fin cfg0.N) (r : Fin 256) (d : Fin 2048) :
    (dats m 0 c).after 10 t (ix2 r d) = resR m c (((cfg0.win 10).blk t).view.emb (ix2 r d)) := by
  have ht : t.val < 4 := N_0 ▸ t.isLt
  have hr : 256 * t.val + r.val < 1024 := by omega
  rw [after0_10, emb10 t r d hr]
  unfold resR
  rw [res_at]
  exact point_eq m c t r d

/-- The kernel's result is the reference's. -/
theorem tie : (dats m 0 c).arrAt 10 cfg0.N = resR m c := by
  refine (dats m 0 c).arrAt_eq_of_covers 10 (resR m c) covers10 fun t hf y => ?_
  obtain ⟨r, d, rfl⟩ := ix2_eta y
  exact after_eq m c t r d

end Cert.MergeSampIdeal.MergeSamp

end
-- ==== Proof.MergeSamp.Claims.lean ====
/- The five claims about the merge. -/
module

public import proofs.«01_k».proof.Defs
public import proofs.«01_k».proof.Proof.MergeSamp.Tie
public import proofs.«01_k».proof.Proof.Gen.MergeSamp.Frame
public import Idealize.ShloMosaic.Adequacy
public import Idealize.ShloMosaic.Init

@[expose] public section

set_option maxRecDepth 1024

noncomputable section

namespace Cert.MergeSampIdeal.MergeSamp

open Idealize.ShloMosaic Idealize.SL.Sem

theorem frame_p : Cert.quiescent_MergeSamp := fun m ρ _ => Cert.MergeSamp.Gen.frame m ρ
theorem frame_pi : Cert.quiescent_MergeSampIdeal := fun m ρ _ => Cert.MergeSampIdeal.Gen.frame m ρ
theorem frame_ri : Cert.quiescent_MergeSampRefIdeal := fun m ρ _ =>
  (θ_run Cert.MergeSampRefIdeal.defs _ _).mono (fun r h => ⟨fun c => (h c).2, Idealize.ShloMosaic.sem_eq_zero_of_no_sems (by decide) r.2⟩)
    (Cert.MergeSampRefIdeal.Value.run (F := Ideal) m ρ)
theorem preserves : Cert.preserves_MergeSamp_MergeSampIdeal := trivial

theorem algebraic : Cert.algebraic_MergeSampIdeal_MergeSampRefIdeal := by
  intro m ρ m' ρ' hp hagree
  refine ⟨fun c => (Cert.MergeSampIdeal.Gen.dats m 0 c).arrAt 10 Cert.MergeSampIdeal.cfg0.N, Cert.MergeSampIdeal.Value.run_blocks m ρ, ?_⟩
  refine (θ_run Cert.MergeSampRefIdeal.defs _ _).mono (fun _ h c => ⟨?_, (h c).2⟩) (Cert.MergeSampRefIdeal.Value.run (F := Ideal) m' ρ')
  obtain ⟨h0, h1, h2, h3, h4, h5, h6, h7, h8, h9⟩ := hagree c
  rw [(h c).1, Cert.MergeSampRefIdeal.MergeSamp.res_eq, h0, h1, h2, h3, h4, h5, h6, h7, h8, h9]
  exact (tie m c).symm

end Cert.MergeSampIdeal.MergeSamp

end
-- ==== Proof.FfnSamp.Blocks.lean ====
/- What the blocks of a feed-forward grid point hold, in terms of the arguments. -/
module

public import proofs.«01_k».proof.Proof.Gen.FfnSampIdeal.Frame
public import Idealize.ShloMosaic.PureOps.Ideal.Laws
public import Idealize.ShloMosaic.Lib.Pointwise
public import Idealize.ShloMosaic.Lib.Pipeline.ValueKit

@[expose] public section

set_option maxRecDepth 1024

noncomputable section

namespace Cert.FfnSampIdeal.FfnSamp

open Idealize.ShloMosaic Idealize.ShloMosaic.TcCoe Idealize.ShloMosaic.Tactic Cert.FfnSampIdeal Cert.FfnSampIdeal.Gen

variable (m : (ℓ : Loc nD τ sig) → Buf (Elt Ideal) ℓ) (c : Dev nD)

theorem idx0 : ∀ t : Fin cfg0.N, (cfg0.win 0).index t = ![t.val / 11, 0] := by decide +kernel
theorem idx1 : ∀ t : Fin cfg0.N, (cfg0.win 1).index t = ![0, 0] := by decide +kernel
theorem idx2 : ∀ t : Fin cfg0.N, (cfg0.win 2).index t = ![0, t.val % 11] := by decide +kernel
theorem idx3 : ∀ t : Fin cfg0.N, (cfg0.win 3).index t = ![0, t.val % 11] := by decide +kernel
theorem idx4 : ∀ t : Fin cfg0.N, (cfg0.win 4).index t = ![t.val % 11, 0] := by decide +kernel
theorem idx5 : ∀ t : Fin cfg0.N, (cfg0.win 5).index t = ![0, 0] := by decide +kernel

/-- The batch entry of a row of a point. -/
def bOf (t : Fin cfg0.N) (r : Fin 512) : Fin 32 := ⟨16 * (t.val / 11) + r.val / 32, by have : t.val < 22 := N_0 ▸ t.isLt; omega⟩
/-- The row in its batch entry. -/
def rOf (r : Fin 512) : Fin 32 := ⟨r.val % 32, by omega⟩
/-- A hidden column of a point. -/
def kOf (t : Fin cfg0.N) (k : Fin 512) : Fin 5632 := ⟨512 * (t.val % 11) + k.val, by omega⟩

theorem x_blk (t : Fin cfg0.N) (r : Fin 512) (d : Fin 2048) :
    iblk m c 0 t (ix2 r d) = m ((c : Thread nD τ).loc main_arg0) (ix3 (bOf t r) (rOf r) d) := by
  have ht : t.val < 22 := N_0 ▸ t.isLt
  unfold bOf rOf
  blk_ext! [iblk, V, idx0 t]

theorem gpre_blk (t : Fin cfg0.N) (d : Fin 2048) :
    iblk m c 1 t (ix2 0 d) = m ((c : Thread nD τ).loc main_arg1) (ix1 d) := by
  have ht : t.val < 22 := N_0 ▸ t.isLt
  blk_ext! [iblk, V, idx1 t]

theorem gate_blk (t : Fin cfg0.N) (d : Fin 2048) (k : Fin 512) :
    iblk m c 2 t (ix2 d k) = m ((c : Thread nD τ).loc main_arg2) (ix2 d (kOf t k)) := by
  have ht : t.val < 22 := N_0 ▸ t.isLt
  unfold kOf
  blk_ext! [iblk, V, idx2 t]

theorem up_blk (t : Fin cfg0.N) (d : Fin 2048) (k : Fin 512) :
    iblk m c 3 t (ix2 d k) = m ((c : Thread nD τ).loc main_arg3) (ix2 d (kOf t k)) := by
  have ht : t.val < 22 := N_0 ▸ t.isLt
  unfold kOf
  blk_ext! [iblk, V, idx3 t]

theorem down_blk (t : Fin cfg0.N) (k : Fin 512) (d : Fin 2048) :
    iblk m c 4 t (ix2 k d) = m ((c : Thread nD τ).loc main_arg4) (ix2 (kOf t k) d) := by
  have ht : t.val < 22 := N_0 ▸ t.isLt
  unfold kOf
  blk_ext! [iblk, V, idx4 t]

theorem gpost_blk (t : Fin cfg0.N) (d : Fin 2048) :
    iblk m c 5 t (ix2 0 d) = m ((c : Thread nD τ).loc main_arg5) (ix1 d) := by
  have ht : t.val < 22 := N_0 ▸ t.isLt
  blk_ext! [iblk, V, idx5 t]

end Cert.FfnSampIdeal.FfnSamp

end
-- ==== Proof.FfnSamp.Fold.lean ====
/- What a point of the feed-forward kernel leaves in its two buffers and in its output block. -/
module

public import proofs.«01_k».proof.Proof.Gen.FfnSampIdeal.Frame
public import Idealize.ShloMosaic.Lib.Pipeline.ValueKit

@[expose] public section

set_option maxRecDepth 1024

noncomputable section

namespace Cert.FfnSampIdeal.FfnSamp

open Idealize.ShloMosaic Idealize.ShloMosaic.TcCoe Idealize.ShloMosaic.Tactic Cert.FfnSampIdeal Cert.FfnSampIdeal.Gen

variable {F : FTy → Type} [FloatOps F] [Named F]
variable (m : (ℓ : Loc nD τ sig) → Buf (Elt F) ℓ)

theorem hz : (![0, 0] : Fin 2 → Nat) = fun _ => 0 := funext fun a => by fin_cases a <;> rfl

/-- The first point of a run leaves the normed rows. -/
theorem state_A_h (c : Dev nD) (t : Fin cfg0.N) (h0 : t.val % 11 = 0) :
    (outsAt0 m c t.val t.isLt).2.1 = k0_pay5 (iblk m c 0 t) (iblk m c 1 t) := by
  rw [outsAt0_A m c t h0 (by omega) (by omega)]
  dsimp only
  unfold sout0_A_0
  rw [View.read_writes_junk_eq_canon]
  unfold kernelRun0_A
  dsimp only
  rw [View.canon_unit_zero hz]
  simp only [View.readAt_eq_ld, Memref.IsWhole.read_unread, View.ld_unit_zero (S := S512x2048) hz, View.ld_unit_zero (S := S1x2048) hz]

/-- The first point of a run leaves its chunk's product. -/
theorem state_A_a (c : Dev nD) (t : Fin cfg0.N) (h0 : t.val % 11 = 0) :
    (outsAt0 m c t.val t.isLt).2.2 = k0_pay1 (k0_pay6 (iblk m c 0 t) (iblk m c 1 t) (iblk m c 2 t) (iblk m c 3 t)) (k0_pay7 (iblk m c 4 t)) (constant S512x2048 .f32 0x00000000#32) := by
  rw [outsAt0_A m c t h0 (by omega) (by omega)]
  dsimp only
  unfold sout0_A_1
  rw [View.read_writes_junk_eq_canon]
  unfold kernelRun0_A
  dsimp only
  sl_unfold_words
  rw [View.canon_unit_zero hz]
  simp only [View.readAt_eq_ld, Memref.IsWhole.read_unread, View.ld_unit_zero (S := S512x2048) hz, View.ld_unit_zero (S := S1x2048) hz, View.ld_unit_zero (S := S2048x512) hz]

/-- A middle point keeps the normed rows. -/
theorem state_B_h (c : Dev nD) (t t' : Fin cfg0.N) (h1 : 1 ≤ t.val % 11 ∧ t.val % 11 ≤ 9) (ht : t'.val + 1 = t.val) :
    (outsAt0 m c t.val t.isLt).2.1 = (outsAt0 m c t'.val t'.isLt).2.1 := by
  obtain ⟨n, hn⟩ := t
  obtain ⟨n', hn'⟩ := t'
  obtain rfl : n = n' + 1 := ht.symm
  rw [outsAt0_B m c ⟨n' + 1, hn⟩ (by omega) h1 (by omega)]
  rfl

/-- A middle point adds its chunk's product. -/
theorem state_B_a (c : Dev nD) (t t' : Fin cfg0.N) (h1 : 1 ≤ t.val % 11 ∧ t.val % 11 ≤ 9) (ht : t'.val + 1 = t.val) :
    (outsAt0 m c t.val t.isLt).2.2 = k0_pay2 (outsAt0 m c t'.val t'.isLt).2.2 (outsAt0 m c t'.val t'.isLt).2.1 (iblk m c 2 t) (iblk m c 3 t) (iblk m c 4 t) := by
  obtain ⟨n, hn⟩ := t
  obtain ⟨n', hn'⟩ := t'
  obtain rfl : n = n' + 1 := ht.symm
  rw [outsAt0_B m c ⟨n' + 1, hn⟩ (by omega) h1 (by omega)]
  dsimp only
  unfold sout0_B_1
  rw [View.read_writes_junk_eq_canon]
  unfold kernelRun0_B
  dsimp only
  rw [View.canon_unit_zero hz]
  simp only [View.readAt_eq_ld, Memref.IsWhole.read_unread, View.ld_unit_zero (S := S512x2048) hz, View.ld_unit_zero (S := S2048x512) hz]
  refine congrArg₂ (fun a b => k0_pay2 a b _ _ _) ?_ ?_
  · exact (Memref.isWhole_whole _).read_unread _
  · exact (Memref.isWhole_whole _).read_unread _

/-- The last point of a run writes the output block. -/
theorem state_C (c : Dev nD) (t t' : Fin cfg0.N) (h2 : t.val % 11 = 10) (ht : t'.val + 1 = t.val) :
    (outsAt0 m c t.val t.isLt).1 = k0_pay3 (k0_pay8 (iblk m c 0 t))
      (k0_pay9 (outsAt0 m c t'.val t'.isLt).2.2 (outsAt0 m c t'.val t'.isLt).2.1 (iblk m c 2 t) (iblk m c 3 t) (iblk m c 4 t)) (k0_pay10 (iblk m c 5 t)) := by
  obtain ⟨n, hn⟩ := t
  obtain ⟨n', hn'⟩ := t'
  obtain rfl : n = n' + 1 := ht.symm
  rw [outsAt0_C m c ⟨n' + 1, hn⟩ (by omega) (by omega) h2]
  dsimp only
  unfold out0_C_6
  rw [View.read_writes_junk_eq_canon]
  unfold kernelRun0_C
  dsimp only
  sl_unfold_words
  rw [View.canon_unit_zero hz]
  simp only [View.readAt_eq_ld, Memref.IsWhole.read_unread, View.ld_unit_zero (S := S512x2048) hz, View.ld_unit_zero (S := S2048x512) hz, View.ld_unit_zero (S := S1x2048) hz]
  refine congrArg₂ (fun a b => k0_pay3 _ (k0_pay9 a b _ _ _) _) ?_ ?_
  · exact (Memref.isWhole_whole _).read_unread _
  · exact (Memref.isWhole_whole _).read_unread _

end Cert.FfnSampIdeal.FfnSamp

end
-- ==== Proof.FfnSamp.Point.lean ====
/- The feed-forward kernel's arithmetic at an element. -/
module

public import proofs.«01_k».proof.Proof.Gen.FfnSampIdeal.Skeleton
public import Idealize.ShloMosaic.PureOps.Ideal.Laws
public import Idealize.ShloMosaic.Lib.Pointwise

@[expose] public section

set_option maxRecDepth 1024

noncomputable section

namespace Cert.FfnSampIdeal.FfnSamp

open Idealize.ShloMosaic Idealize.ShloMosaic.Tactic Cert.FfnSampIdeal Cert.FfnSampIdeal.Gen

/-- The factor of a row: one over the root of its mean square. -/
def inv (f : Fin 2048 → EReal) : EReal :=
  Ideal.rsqrt (Ideal.div (∑ j, f j * f j) (Ideal.ofBits .f32 0x45000000#32) + Ideal.ofBits .f32 0x358637BD#32)

/-- A gated hidden value of a row. -/
def hid (h wg wu : Fin 2048 → EReal) : EReal :=
  (∑ d, h d * wg d) * Ideal.div 1 (1 + Ideal.exp (-(∑ d, h d * wg d))) * ∑ d, h d * wu d

theorem pay5_apply (X : Vec Ideal S512x2048 .f32) (g : Vec Ideal S1x2048 .f32) (r : Fin 512) (d : Fin 2048) :
    k0_pay5 (F := Ideal) X g (ix2 r d) = X (ix2 r d) * inv (fun j => X (ix2 r j)) * g (ix2 0 d) := by
  unfold k0_pay5 k0_pay4 inv; pointwise

theorem pay4_eq (X : Vec Ideal S512x2048 .f32) (g : Vec Ideal S1x2048 .f32) : k0_pay4 (F := Ideal) X g = k0_pay5 (F := Ideal) X g := by
  unfold k0_pay5; rw [shapeCast_self]

theorem pay7_apply (W : Vec Ideal S512x2048 .bf16) (k : Fin 512) (d : Fin 2048) :
    k0_pay7 (F := Ideal) W (ix2 k d) = W (ix2 k d) := by
  unfold k0_pay7; pointwise

theorem pay6_apply (X : Vec Ideal S512x2048 .f32) (g : Vec Ideal S1x2048 .f32) (wg wu : Vec Ideal S2048x512 .bf16) (r k : Fin 512) :
    k0_pay6 (F := Ideal) X g wg wu (ix2 r k) = hid (fun d => k0_pay5 (F := Ideal) X g (ix2 r d)) (fun d => wg (ix2 d k)) (fun d => wu (ix2 d k)) := by
  unfold k0_pay6 hid; rw [pay4_eq]; generalize k0_pay5 (F := Ideal) X g = h; pointwise
  simp only [zero_sub]

theorem pay1_apply (t : FVec Ideal S512x512 .bf16) (w : FVec Ideal S512x2048 .bf16) (r : Fin 512) (d : Fin 2048) :
    k0_pay1 (F := Ideal) t w (constant S512x2048 .f32 0x00000000#32) (ix2 r d) = ∑ k : Fin 512, t (ix2 r k) * w (ix2 k d) := by
  unfold k0_pay1; pointwise

theorem pay2_apply (acc : Vec Ideal S512x2048 .f32) (h : Vec Ideal S512x2048 .bf16) (wg wu : Vec Ideal S2048x512 .bf16) (wd : Vec Ideal S512x2048 .bf16) (r : Fin 512) (d : Fin 2048) :
    k0_pay2 (F := Ideal) acc h wg wu wd (ix2 r d) = acc (ix2 r d) +
      ∑ k : Fin 512, hid (fun d => h (ix2 r d)) (fun d => wg (ix2 d k)) (fun d => wu (ix2 d k)) * wd (ix2 k d) := by
  unfold k0_pay2 hid; pointwise
  simp only [zero_sub]

theorem pay9_apply (acc : Vec Ideal S512x2048 .f32) (h : Vec Ideal S512x2048 .bf16) (wg wu : Vec Ideal S2048x512 .bf16) (wd : Vec Ideal S512x2048 .bf16) (r : Fin 512) (d : Fin 2048) :
    k0_pay9 (F := Ideal) acc h wg wu wd (ix2 r d) = k0_pay2 (F := Ideal) acc h wg wu wd (ix2 r d) * inv (fun j => k0_pay2 (F := Ideal) acc h wg wu wd (ix2 r j)) := by
  have e : ∀ j, k0_pay2 (F := Ideal) acc h wg wu wd (ix2 r j) = acc (ix2 r j) +
      ∑ k : Fin 512, hid (fun d => h (ix2 r d)) (fun d => wg (ix2 d k)) (fun d => wu (ix2 d k)) * wd (ix2 k j) := fun j => pay2_apply acc h wg wu wd r j
  simp only [e]
  unfold k0_pay9 hid inv; pointwise
  simp only [zero_sub]

theorem pay3_apply (x : Vec Ideal S512x2048 .f32) (f : FVec Ideal S512x2048 .f32) (g : Vec Ideal S1x2048 .f32) (r : Fin 512) (d : Fin 2048) :
    k0_pay3 (F := Ideal) (k0_pay8 (F := Ideal) x) f (k0_pay10 (F := Ideal) g) (ix2 r d) = x (ix2 r d) + f (ix2 r d) * g (ix2 0 d) := by
  unfold k0_pay3 k0_pay8 k0_pay10; pointwise

end Cert.FfnSampIdeal.FfnSamp

end
-- ==== Proof.FfnSamp.Ref.lean ====
/- The feed-forward reference's operations by name, and its result as their composition. -/
module

public import proofs.«01_k».proof.Proof.Gen.FfnSampRefIdeal.Run
public import Idealize.ShloMosaic.PureOps.Ideal.Laws
public import Idealize.ShloMosaic.Lib.Pointwise

@[expose] public section

set_option maxRecDepth 1024

noncomputable section

namespace Cert.FfnSampRefIdeal.FfnSamp

open Idealize.ShloMosaic Idealize.ShloMosaic.Tactic Cert.FfnSampRefIdeal Cert.FfnSampRefIdeal.Gen Cert.FfnSampRefIdeal.Value

/-- Rows over the root of their mean square, times a gain. -/
def norm (x : FVec Ideal S32x32x2048 .f32) (g : FVec Ideal S2048 .f32) : FVec Ideal S32x32x2048 .f32 :=
  mulf (mulf x (broadcastInDim S32x32x2048 ![0, 1, 2] bcast_S32x32x1_S32x32x2048_0_1_2 (Host.rsqrt (addf (Host.divf (broadcastInDim S32x32x1 ![0, 1] bcast_S32x32_S32x32x1_0_1 (Host.reduceAdd (mulf x x) (constant S_ .f32 0x00000000#32) reducesTo_S32x32x2048_S32x32_d2 h_S_)) (broadcastInDim S32x32x1 ![] bcast_S_S32x32x1 (constant S_ .f32 0x45000000#32))) (broadcastInDim S32x32x1 ![] bcast_S_S32x32x1 (constant S_ .f32 0x358637BD#32)))))) (broadcastInDim S32x32x2048 ![0, 1, 2] bcast_S1x1x2048_S32x32x2048_0_1_2 (broadcastInDim S1x1x2048 ![2] bcast_S2048_S1x1x2048_2 g))

/-- A projection to the hidden columns. -/
def proj (h : FVec Ideal S32x32x2048 .f32) (w : FVec Ideal S2048x5632 .f32) : FVec Ideal S32x32x5632 .f32 :=
  Host.dotGeneral dot_S32x32x2048_S2048x5632_S32x32x5632_2_0_01_1_n_n none h w

/-- The gated hidden columns. -/
def gated (a u : FVec Ideal S32x32x5632 .f32) : FVec Ideal S32x32x5632 .f32 :=
  mulf (mulf a (Host.divf (broadcastInDim S32x32x5632 ![] bcast_S_S32x32x5632 (constant S_ .f32 0x3F800000#32)) (addf (broadcastInDim S32x32x5632 ![] bcast_S_S32x32x5632 (constant S_ .f32 0x3F800000#32)) (Host.exp (Host.negf a))))) u

/-- The projection back. -/
def back (t : FVec Ideal S32x32x5632 .f32) (w : FVec Ideal S5632x2048 .f32) : FVec Ideal S32x32x2048 .f32 :=
  Host.dotGeneral dot_S32x32x5632_S5632x2048_S32x32x2048_2_0_01_1_n_n none t w

/-- The sum with the input, as rows. -/
def rows (x f : FVec Ideal S32x32x2048 .f32) : FVec Ideal S1024x2048 .f32 :=
  shapeCast _ (addf x f) shapeCasts_S32x32x2048_S1024x2048

/-- The result, from the arguments. -/
def result (a0 : FVec Ideal S32x32x2048 .f32) (a1 : FVec Ideal S2048 .f32) (a2 a3 : FVec Ideal S2048x5632 .f32) (a4 : FVec Ideal S5632x2048 .f32) (a5 : FVec Ideal S2048 .f32) : FVec Ideal S1024x2048 .f32 :=
  rows a0 (norm (back (gated (proj (norm a0 a1) a2) (proj (norm a0 a1) a3)) a4) a5)

set_option maxHeartbeats 4000000 in
theorem res_eq (m : (ℓ : Loc nD τ sig) → Buf (Elt Ideal) ℓ) (c : Dev nD) : res_main_v32 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v32
  simp only [id_eq]
  unfold result rows norm back gated proj
  rfl

theorem norm_apply (x : FVec Ideal S32x32x2048 .f32) (g : FVec Ideal S2048 .f32) (b : Fin 32) (r : Fin 32) (d : Fin 2048) :
    norm x g (ix3 b r d) = x (ix3 b r d) * Ideal.rsqrt (Ideal.div (∑ j : Fin 2048, x (ix3 b r j) * x (ix3 b r j)) (Ideal.ofBits .f32 0x45000000#32) + Ideal.ofBits .f32 0x358637BD#32) * g (ix1 d) := by
  unfold norm; pointwise

theorem proj_apply (h : FVec Ideal S32x32x2048 .f32) (w : FVec Ideal S2048x5632 .f32) (b : Fin 32) (r : Fin 32) (k : Fin 5632) :
    proj h w (ix3 b r k) = ∑ d : Fin 2048, h (ix3 b r d) * w (ix2 d k) := by
  unfold proj; pointwise

theorem gated_apply (a u : FVec Ideal S32x32x5632 .f32) (b : Fin 32) (r : Fin 32) (k : Fin 5632) :
    gated a u (ix3 b r k) = a (ix3 b r k) * Ideal.div 1 (1 + Ideal.exp (-(a (ix3 b r k)))) * u (ix3 b r k) := by
  unfold gated; pointwise

theorem back_apply (t : FVec Ideal S32x32x5632 .f32) (w : FVec Ideal S5632x2048 .f32) (b : Fin 32) (r : Fin 32) (d : Fin 2048) :
    back t w (ix3 b r d) = ∑ k : Fin 5632, t (ix3 b r k) * w (ix2 k d) := by
  unfold back; pointwise

theorem rows_apply (x f : FVec Ideal S32x32x2048 .f32) (b : Fin 32) (r : Fin 32) (d : Fin 2048) (i : Fin 1024) (hi : i.val = 32 * b.val + r.val) :
    rows x f (ix2 i d) = x (ix3 b r d) + f (ix3 b r d) := by
  obtain ⟨n, hn⟩ := i
  obtain rfl : n = 32 * b.val + r.val := hi
  unfold rows; pointwise

end Cert.FfnSampRefIdeal.FfnSamp

end
-- ==== Proof.FfnSamp.Tie.lean ====
/- The feed-forward kernel's result is the reference's, at every index of the result. -/
module

public import proofs.«01_k».proof.Proof.FfnSamp.Blocks
public import proofs.«01_k».proof.Proof.FfnSamp.Fold
public import proofs.«01_k».proof.Proof.FfnSamp.Point
public import proofs.«01_k».proof.Proof.FfnSamp.Ref
public import proofs.«01_k».proof.Proof.Gen.FfnSampIdeal.Value

@[expose] public section

set_option maxRecDepth 1024

noncomputable section

namespace Cert.FfnSampIdeal.FfnSamp

open Idealize.ShloMosaic Idealize.ShloMosaic.TcCoe Idealize.ShloMosaic.Tactic Cert.FfnSampIdeal Cert.FfnSampIdeal.Gen Cert.FfnSampIdeal.Value

variable (m : (ℓ : Loc nD τ sig) → Buf (Elt Ideal) ℓ) (c : Dev nD)

/-- The arguments, as arrays. -/
abbrev A0 : FVec Ideal Cert.FfnSampRefIdeal.S32x32x2048 .f32 := m ((c.tc : Thread nD τ).loc main_arg0)
abbrev A1 : FVec Ideal Cert.FfnSampRefIdeal.S2048 .f32 := m ((c.tc : Thread nD τ).loc main_arg1)
abbrev A2 : FVec Ideal Cert.FfnSampRefIdeal.S2048x5632 .f32 := m ((c.tc : Thread nD τ).loc main_arg2)
abbrev A3 : FVec Ideal Cert.FfnSampRefIdeal.S2048x5632 .f32 := m ((c.tc : Thread nD τ).loc main_arg3)
abbrev A4 : FVec Ideal Cert.FfnSampRefIdeal.S5632x2048 .f32 := m ((c.tc : Thread nD τ).loc main_arg4)
abbrev A5 : FVec Ideal Cert.FfnSampRefIdeal.S2048 .f32 := m ((c.tc : Thread nD τ).loc main_arg5)

/-- The reference's normed rows. -/
abbrev hR : FVec Ideal Cert.FfnSampRefIdeal.S32x32x2048 .f32 := Cert.FfnSampRefIdeal.FfnSamp.norm (A0 m c) (A1 m c)
/-- The reference's gated hidden columns. -/
abbrev tR : FVec Ideal Cert.FfnSampRefIdeal.S32x32x5632 .f32 :=
  Cert.FfnSampRefIdeal.FfnSamp.gated (Cert.FfnSampRefIdeal.FfnSamp.proj (hR m c) (A2 m c)) (Cert.FfnSampRefIdeal.FfnSamp.proj (hR m c) (A3 m c))

theorem tR_apply (b : Fin 32) (r : Fin 32) (k : Fin 5632) : tR m c (ix3 b r k) =
    hid (fun d => hR m c (ix3 b r d)) (fun d => A2 m c (ix2 d k)) (fun d => A3 m c (ix2 d k)) := by
  unfold tR hid
  rw [Cert.FfnSampRefIdeal.FfnSamp.gated_apply, Cert.FfnSampRefIdeal.FfnSamp.proj_apply, Cert.FfnSampRefIdeal.FfnSamp.proj_apply]

/-- One hidden column's part of a result. -/
def term (b : Fin 32) (r : Fin 32) (d : Fin 2048) (n : ℕ) : EReal :=
  if h : n < 5632 then tR m c (ix3 b r ⟨n, h⟩) * A4 m c (ix2 ⟨n, h⟩ d) else 0

theorem back_eq (b : Fin 32) (r : Fin 32) (d : Fin 2048) :
    Cert.FfnSampRefIdeal.FfnSamp.back (tR m c) (A4 m c) (ix3 b r d) = ∑ n ∈ Finset.range 5632, term m c b r d n := by
  rw [Cert.FfnSampRefIdeal.FfnSamp.back_apply, Finset.sum_range]
  refine Finset.sum_congr rfl fun k _ => ?_
  unfold term
  rw [dif_pos k.isLt]

/-- A point's chunk, from the reference's columns. -/
theorem chunk_eq (t : Fin cfg0.N) (h : Vec Ideal S512x2048 .bf16) (r : Fin 512) (d : Fin 2048)
    (hh : ∀ d, h (ix2 r d) = hR m c (ix3 (bOf t r) (rOf r) d)) :
    ∑ k : Fin 512, hid (fun d => h (ix2 r d)) (fun d => iblk m c 2 t (ix2 d k)) (fun d => iblk m c 3 t (ix2 d k)) * iblk m c 4 t (ix2 k d)
      = ∑ k ∈ Finset.range 512, term m c (bOf t r) (rOf r) d (512 * (t.val % 11) + k) := by
  rw [Finset.sum_range]
  refine Finset.sum_congr rfl fun k _ => ?_
  have hk : 512 * (t.val % 11) + k.val < 5632 := by omega
  unfold term
  rw [dif_pos hk, tR_apply, down_blk]
  refine congrArg₂ (· * ·) ?_ rfl
  refine congr (congr (congrArg hid (funext hh)) (funext fun d => ?_)) (funext fun d => ?_)
  · exact gate_blk m c t d k
  · exact up_blk m c t d k

theorem bOf_step (t t' : Fin cfg0.N) (h : ¬ t.val % 11 = 0) (ht : t'.val + 1 = t.val) (r : Fin 512) : bOf t' r = bOf t r := Fin.ext (by
  show 16 * (t'.val / 11) + r.val / 32 = 16 * (t.val / 11) + r.val / 32
  have : t'.val / 11 = t.val / 11 := by omega
  rw [this])

theorem first_h (t : Fin cfg0.N) (r : Fin 512) (d : Fin 2048) :
    k0_pay5 (F := Ideal) (iblk m c 0 t) (iblk m c 1 t) (ix2 r d) = hR m c (ix3 (bOf t r) (rOf r) d) := by
  unfold hR
  rw [pay5_apply, gpre_blk, Cert.FfnSampRefIdeal.FfnSamp.norm_apply]
  unfold inv
  simp only [x_blk]

/-- The two buffers after a point that is not the last of its run. -/
theorem state_eq : ∀ (n : ℕ) (hn : n < cfg0.N), n % 11 ≤ 9 → ∀ (r : Fin 512) (d : Fin 2048),
    (outsAt0 m c n hn).2.1 (ix2 r d) = hR m c (ix3 (bOf ⟨n, hn⟩ r) (rOf r) d) ∧
    (outsAt0 m c n hn).2.2 (ix2 r d) = ∑ k ∈ Finset.range (512 * (n % 11) + 512), term m c (bOf ⟨n, hn⟩ r) (rOf r) d k := by
  intro n
  induction n with
  | zero =>
    intro hn h9 r d
    refine ⟨?_, ?_⟩
    · exact (congrFun (state_A_h m c ⟨0, hn⟩ rfl) _).trans (first_h m c ⟨0, hn⟩ r d)
    · refine (congrFun (state_A_a m c ⟨0, hn⟩ rfl) _).trans ?_
      rw [pay1_apply]
      simp only [pay6_apply, pay7_apply]
      rw [chunk_eq m c ⟨0, hn⟩ _ r d (fun d => first_h m c ⟨0, hn⟩ r d), Finset.sum_range_add]
      simp
  | succ n ih =>
    intro hn h9 r d
    by_cases h0 : (n + 1) % 11 = 0
    · refine ⟨?_, ?_⟩
      · exact (congrFun (state_A_h m c ⟨n + 1, hn⟩ h0) _).trans (first_h m c ⟨n + 1, hn⟩ r d)
      · refine (congrFun (state_A_a m c ⟨n + 1, hn⟩ h0) _).trans ?_
        rw [pay1_apply]
        simp only [pay6_apply, pay7_apply]
        rw [chunk_eq m c ⟨n + 1, hn⟩ _ r d (fun d => first_h m c ⟨n + 1, hn⟩ r d), Finset.sum_range_add]
        simp [h0]
    · have hn' : n < cfg0.N := by omega
      have h1 : 1 ≤ (n + 1) % 11 ∧ (n + 1) % 11 ≤ 9 := ⟨by omega, h9⟩
      have hb := bOf_step ⟨n + 1, hn⟩ ⟨n, hn'⟩ h0 rfl r
      have hh : ∀ d, (outsAt0 m c n hn').2.1 (ix2 r d) = hR m c (ix3 (bOf ⟨n + 1, hn⟩ r) (rOf r) d) := fun d => by
        rw [(ih hn' (by omega) r d).1, hb]
      refine ⟨?_, ?_⟩
      · exact (congrFun (state_B_h m c ⟨n + 1, hn⟩ ⟨n, hn'⟩ h1 rfl) _).trans (hh d)
      · refine (congrFun (state_B_a m c ⟨n + 1, hn⟩ ⟨n, hn'⟩ h1 rfl) _).trans ?_
        rw [pay2_apply, chunk_eq m c ⟨n + 1, hn⟩ _ r d hh, (ih hn' (by omega) r d).2, hb, show 512 * (n % 11) + 512 = 512 * ((n + 1) % 11) by omega]
        exact (Finset.sum_range_add _ _ _).symm

/-- The last point's sum is the reference's. -/
theorem last_f (t t' : Fin cfg0.N) (h2 : t.val % 11 = 10) (ht : t'.val + 1 = t.val) (r : Fin 512) (d : Fin 2048) :
    k0_pay2 (F := Ideal) (outsAt0 m c t'.val t'.isLt).2.2 (outsAt0 m c t'.val t'.isLt).2.1 (iblk m c 2 t) (iblk m c 3 t) (iblk m c 4 t) (ix2 r d)
      = Cert.FfnSampRefIdeal.FfnSamp.back (tR m c) (A4 m c) (ix3 (bOf t r) (rOf r) d) := by
  have hb := bOf_step t t' (by omega) ht r
  have hh : ∀ d, (outsAt0 m c t'.val t'.isLt).2.1 (ix2 r d) = hR m c (ix3 (bOf t r) (rOf r) d) := fun d => by
    rw [(state_eq m c t'.val t'.isLt (by omega) r d).1]
    show hR m c (ix3 (bOf t' r) (rOf r) d) = _
    rw [hb]
  rw [pay2_apply, chunk_eq m c t _ r d hh, (state_eq m c t'.val t'.isLt (by omega) r d).2, back_eq]
  show ∑ k ∈ Finset.range (512 * (t'.val % 11) + 512), term m c (bOf t' r) (rOf r) d k + _ = _
  have e : 512 * (t'.val % 11) + 512 = 512 * (t.val % 11) := by omega
  rw [hb, e, ← Finset.sum_range_add, h2]

/-- An element of the kernel's result. -/
theorem elem_eq (q : Fin 2) (r : Fin 512) (d : Fin 2048) :
    G6 m c (ix2 ⟨512 * q.val + r.val, by omega⟩ d)
      = Cert.FfnSampRefIdeal.FfnSamp.result (A0 m c) (A1 m c) (A2 m c) (A3 m c) (A4 m c) (A5 m c) (ix2 ⟨512 * q.val + r.val, by omega⟩ d) := by
  have hN : cfg0.N = 22 := N_0
  have hb : 11 * q.val + 10 < cfg0.N := by omega
  have hb' : 11 * q.val + 9 < cfg0.N := by omega
  have h2 : (11 * q.val + 10) % 11 = 10 := by omega
  have hG : G6 m c (ix2 ⟨512 * q.val + r.val, by omega⟩ d) = (outsAt0 m c (11 * q.val + 10) hb).1 (ix2 r d) := by
    have hpt : pt6Of (ix2 ⟨512 * q.val + r.val, by omega⟩ d) = 11 * q.val + 10 := by
      show 11 * (1 * ((512 * q.val + r.val) / 512 - 0) + 1 * (d.val / 2048 - 0)) + 10 = 11 * q.val + 10
      omega
    have hloc : loc6Of (ix2 ⟨512 * q.val + r.val, by omega⟩ d) = ix2 r d := by
      funext a; apply Fin.ext
      match a with
      | ⟨0, _⟩ => show (512 * q.val + r.val) % 512 = r.val; omega
      | ⟨1, _⟩ => show d.val % 2048 = d.val; omega
    unfold G6
    rw [dif_pos (by rw [hpt]; exact hb), hloc, outsAt0_sweep, fold0_congr m c _ _ _ _ hpt]
  rw [hG]
  refine (congrFun (state_C m c ⟨11 * q.val + 10, hb⟩ ⟨11 * q.val + 9, hb'⟩ h2 rfl) _).trans ?_
  have hlast : ∀ j, _ := last_f m c ⟨11 * q.val + 10, hb⟩ ⟨11 * q.val + 9, hb'⟩ h2 rfl r
  rw [pay3_apply, pay9_apply, gpost_blk, x_blk]
  unfold inv
  simp only [hlast]
  unfold Cert.FfnSampRefIdeal.FfnSamp.result
  rw [Cert.FfnSampRefIdeal.FfnSamp.rows_apply _ _ (bOf ⟨11 * q.val + 10, hb⟩ r) (rOf r) d _ (by
    show 512 * q.val + r.val = 32 * (16 * ((11 * q.val + 10) / 11) + r.val / 32) + r.val % 32
    omega), Cert.FfnSampRefIdeal.FfnSamp.norm_apply]

/-- The kernel's result is the reference's. -/
theorem tie : G6 m c = Cert.FfnSampRefIdeal.FfnSamp.result (A0 m c) (A1 m c) (A2 m c) (A3 m c) (A4 m c) (A5 m c) := by
  funext i
  have h0 : (i 0).val < 1024 := (i 0).isLt
  have e : i = ix2 ⟨512 * ((i 0).val / 512) + (i 0).val % 512, by omega⟩ (i 1) := by
    funext a; apply Fin.ext
    match a with
    | ⟨0, _⟩ => show (i 0).val = 512 * ((i 0).val / 512) + (i 0).val % 512; omega
    | ⟨1, _⟩ => rfl
  rw [e]
  exact elem_eq m c ⟨(i 0).val / 512, by omega⟩ ⟨(i 0).val % 512, by omega⟩ (i 1)

end Cert.FfnSampIdeal.FfnSamp

end
-- ==== Proof.FfnSamp.Claims.lean ====
/- The claims about the feed-forward call. -/
module

public import proofs.«01_k».proof.Defs
public import proofs.«01_k».proof.Proof.FfnSamp.Tie
public import proofs.«01_k».proof.Proof.Gen.FfnSamp.Frame
public import Idealize.ShloMosaic.Adequacy
public import Idealize.ShloMosaic.Init

@[expose] public section

noncomputable section

namespace Cert.FfnSampIdeal.FfnSamp

open Idealize.ShloMosaic Idealize.SL.Sem

theorem frame_p : Cert.quiescent_FfnSamp := fun m ρ _ => Cert.FfnSamp.Gen.frame m ρ
theorem frame_pi : Cert.quiescent_FfnSampIdeal := fun m ρ _ => Cert.FfnSampIdeal.Gen.frame m ρ
theorem frame_ri : Cert.quiescent_FfnSampRefIdeal := fun m ρ _ =>
  (θ_run Cert.FfnSampRefIdeal.defs _ _).mono (fun r h => ⟨fun c => (h c).2, Idealize.ShloMosaic.sem_eq_zero_of_no_sems (by decide) r.2⟩)
    (Cert.FfnSampRefIdeal.Value.run (F := Ideal) m ρ)

theorem preserves : Cert.preserves_FfnSamp_FfnSampIdeal := trivial

theorem algebraic : Cert.algebraic_FfnSampIdeal_FfnSampRefIdeal := by
  intro m ρ m' ρ' hp hagree
  refine ⟨fun c => Cert.FfnSampIdeal.Value.G6 m c, Cert.FfnSampIdeal.Value.run m ρ, ?_⟩
  refine (θ_run Cert.FfnSampRefIdeal.defs _ _).mono (fun _ h c => ⟨?_, (h c).2⟩) (Cert.FfnSampRefIdeal.Value.run (F := Ideal) m' ρ')
  obtain ⟨h0, h1, h2, h3, h4, h5⟩ := hagree c
  rw [(h c).1, Cert.FfnSampRefIdeal.FfnSamp.res_eq, h0, h1, h2, h3, h4, h5]
  exact (tie m c).symm

end Cert.FfnSampIdeal.FfnSamp

end
-- ==== Proof.lean ====
/- The proof of the claim: the programs' stated facts, then the claims of each call. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Ffn
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InSamp
public import proofs.«01_k».proof.Proof.Gen.InSamp.Frame
public import proofs.«01_k».proof.Proof.Gen.InSampIdeal
public import proofs.«01_k».proof.Proof.Gen.InSampIdeal.Frame
public import proofs.«01_k».proof.Proof.Gen.InSampIdeal.Value
public import proofs.«01_k».proof.Proof.Gen.InSampRefIdeal
public import proofs.«01_k».proof.Proof.Gen.InSampRefIdeal.Run
public import proofs.«01_k».proof.Proof.Gen.MergeSamp
public import proofs.«01_k».proof.Proof.Gen.MergeSamp.Frame
public import proofs.«01_k».proof.Proof.Gen.MergeSampIdeal
public import proofs.«01_k».proof.Proof.Gen.MergeSampIdeal.Frame
public import proofs.«01_k».proof.Proof.Gen.MergeSampIdeal.Value
public import proofs.«01_k».proof.Proof.Gen.MergeSampRefIdeal
public import proofs.«01_k».proof.Proof.Gen.MergeSampRefIdeal.Run
public import proofs.«01_k».proof.Proof.Gen.FfnSamp
public import proofs.«01_k».proof.Proof.Gen.FfnSamp.Frame
public import proofs.«01_k».proof.Proof.Gen.FfnSampIdeal
public import proofs.«01_k».proof.Proof.Gen.FfnSampIdeal.Frame
public import proofs.«01_k».proof.Proof.Gen.FfnSampIdeal.Value
public import proofs.«01_k».proof.Proof.Gen.FfnSampRefIdeal
public import proofs.«01_k».proof.Proof.Gen.FfnSampRefIdeal.Run
public import proofs.«01_k».proof.Proof.Attn.Claims
public import proofs.«01_k».proof.Proof.Ffn.Claims
public import proofs.«01_k».proof.Proof.Merge.Claims
public import proofs.«01_k».proof.Proof.InProj.Claims
public import proofs.«01_k».proof.Proof.InSamp.Claims
public import proofs.«01_k».proof.Proof.MergeSamp.Claims
public import proofs.«01_k».proof.Proof.FfnSamp.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.InSamp.Gen.facts, Cert.InSampIdeal.Gen.facts, Cert.InSampRefIdeal.Gen.facts,
    Cert.MergeSamp.Gen.facts, Cert.MergeSampIdeal.Gen.facts, Cert.MergeSampRefIdeal.Gen.facts,
    Cert.FfnSamp.Gen.facts, Cert.FfnSampIdeal.Gen.facts, Cert.FfnSampRefIdeal.Gen.facts, Cert.Pre_finite.Gen.facts,
    Cert.Attn.frame_p, Cert.Attn.frame_pi, Cert.Attn.frame_pi_finite, Cert.Attn.frame_ri, Cert.Attn.frame_ri_finite,
    Cert.FfnIdeal.Ffn.frame_p, Cert.FfnIdeal.Ffn.frame_pi, Cert.FfnIdeal.Ffn.frame_ri,
    Cert.MergeIdeal.Merge.frame_p, Cert.MergeIdeal.Merge.frame_pi, Cert.MergeIdeal.Merge.frame_ri,
    Cert.InProjIdeal.InProj.frame_p, Cert.InProjIdeal.InProj.frame_pi, Cert.InProjIdeal.InProj.frame_ri,
    Cert.InSampIdeal.InSamp.frame_p, Cert.InSampIdeal.InSamp.frame_pi, Cert.InSampIdeal.InSamp.frame_ri,
    Cert.MergeSampIdeal.MergeSamp.frame_p, Cert.MergeSampIdeal.MergeSamp.frame_pi, Cert.MergeSampIdeal.MergeSamp.frame_ri,
    Cert.FfnSampIdeal.FfnSamp.frame_p, Cert.FfnSampIdeal.FfnSamp.frame_pi, Cert.FfnSampIdeal.FfnSamp.frame_ri,
    Cert.Attn.preserves, Cert.Attn.algebraic, Cert.FfnIdeal.Ffn.preserves, Cert.FfnIdeal.Ffn.algebraic,
    Cert.MergeIdeal.Merge.preserves, Cert.MergeIdeal.Merge.algebraic,
    Cert.InProjIdeal.InProj.preserves, Cert.InProjIdeal.InProj.algebraic,
    Cert.InSampIdeal.InSamp.preserves, Cert.InSampIdeal.InSamp.algebraic,
    Cert.MergeSampIdeal.MergeSamp.preserves, Cert.MergeSampIdeal.MergeSamp.algebraic,
    Cert.FfnSampIdeal.FfnSamp.preserves, Cert.FfnSampIdeal.FfnSamp.algebraic⟩

end Cert.Proof

end
